-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within [hPre_within : Cert.Pre_within.Facts] (m : (ℓ : Loc Cert.KernelIdeal.nD Cert.KernelIdeal.τ Cert.KernelIdeal.sig) → Buf (Elt Ideal) ℓ) : Prop :=
  ∀ c : Dev Cert.KernelIdeal.nD,
    (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_within.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within [hPre_within : Cert.Pre_within.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_within.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_within [hKernelIdeal : Cert.KernelIdeal.Facts] [hPre_within : Cert.Pre_within.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_within [hReferenceIdeal : Cert.ReferenceIdeal.Facts] [hPre_within : Cert.Pre_within.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_within [hKernelIdeal : Cert.KernelIdeal.Facts] [hReferenceIdeal : Cert.ReferenceIdeal.Facts] [hPre_within : Cert.Pre_within.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_2)) (v3 : (c : Dev Cert.KernelIdeal.nD) → Buf (Elt Ideal) ((c.tc : Thread Cert.KernelIdeal.nD Cert.KernelIdeal.τ).loc Cert.KernelIdeal.main_v12_3)) (v4 : (c : Dev Cert.KernelIdeal.nD) → Buf (Elt Ideal) ((c.tc : Thread Cert.KernelIdeal.nD Cert.KernelIdeal.τ).loc Cert.KernelIdeal.main_v12_4)) (v5 : (c : Dev Cert.KernelIdeal.nD) → Buf (Elt Ideal) ((c.tc : Thread Cert.KernelIdeal.nD Cert.KernelIdeal.τ).loc Cert.KernelIdeal.main_v12_5)) (v6 : (c : Dev Cert.KernelIdeal.nD) → Buf (Elt Ideal) ((c.tc : Thread Cert.KernelIdeal.nD Cert.KernelIdeal.τ).loc Cert.KernelIdeal.main_v12_6)) (v7 : (c : Dev Cert.KernelIdeal.nD) → Buf (Elt Ideal) ((c.tc : Thread Cert.KernelIdeal.nD Cert.KernelIdeal.τ).loc Cert.KernelIdeal.main_v12_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_2) = v2 c
          ∧ r.2.mem ((c.tc : Thread Cert.KernelIdeal.nD Cert.KernelIdeal.τ).loc Cert.KernelIdeal.main_v12_3) = v3 c
          ∧ r.2.mem ((c.tc : Thread Cert.KernelIdeal.nD Cert.KernelIdeal.τ).loc Cert.KernelIdeal.main_v12_4) = v4 c
          ∧ r.2.mem ((c.tc : Thread Cert.KernelIdeal.nD Cert.KernelIdeal.τ).loc Cert.KernelIdeal.main_v12_5) = v5 c
          ∧ r.2.mem ((c.tc : Thread Cert.KernelIdeal.nD Cert.KernelIdeal.τ).loc Cert.KernelIdeal.main_v12_6) = v6 c
          ∧ r.2.mem ((c.tc : Thread Cert.KernelIdeal.nD Cert.KernelIdeal.τ).loc Cert.KernelIdeal.main_v12_7) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v242) = v0 c
          ∧ r.2.mem ((c.tc : Thread Cert.ReferenceIdeal.nD Cert.ReferenceIdeal.τ).loc Cert.ReferenceIdeal.main_v245) = v1 c
          ∧ r.2.mem ((c.tc : Thread Cert.ReferenceIdeal.nD Cert.ReferenceIdeal.τ).loc Cert.ReferenceIdeal.main_v248) = v2 c
          ∧ r.2.mem ((c.tc : Thread Cert.ReferenceIdeal.nD Cert.ReferenceIdeal.τ).loc Cert.ReferenceIdeal.main_v250) = v3 c
          ∧ r.2.mem ((c.tc : Thread Cert.ReferenceIdeal.nD Cert.ReferenceIdeal.τ).loc Cert.ReferenceIdeal.main_v252) = v4 c
          ∧ r.2.mem ((c.tc : Thread Cert.ReferenceIdeal.nD Cert.ReferenceIdeal.τ).loc Cert.ReferenceIdeal.main_v254) = v5 c
          ∧ r.2.mem ((c.tc : Thread Cert.ReferenceIdeal.nD Cert.ReferenceIdeal.τ).loc Cert.ReferenceIdeal.main_v32) = v6 c
          ∧ r.2.mem ((c.tc : Thread Cert.ReferenceIdeal.nD Cert.ReferenceIdeal.τ).loc Cert.ReferenceIdeal.main_v239) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_within : Cert.Pre_within.Facts),
    quiescent_Kernel (hKernel := hKernel)
    ∧ quiescent_KernelIdeal (hKernelIdeal := hKernelIdeal)
    ∧ quiescent_KernelIdeal_pre_within (hKernelIdeal := hKernelIdeal) (hPre_within := hPre_within)
    ∧ quiescent_ReferenceIdeal (hReferenceIdeal := hReferenceIdeal)
    ∧ quiescent_ReferenceIdeal_pre_within (hReferenceIdeal := hReferenceIdeal) (hPre_within := hPre_within)
    ∧ preserves_Kernel_KernelIdeal
    ∧ algebraic_KernelIdeal_ReferenceIdeal_pre_within (hKernelIdeal := hKernelIdeal) (hReferenceIdeal := hReferenceIdeal) (hPre_within := hPre_within)
-- ==== Pre_within.lean ====
abbrev S9x8192x1024 : Shape := ⟨3, ![9, 8192, 1024]⟩
abbrev S9x8192 : Shape := ⟨2, ![9, 8192]⟩
abbrev S_ : Shape := ⟨0, ![]⟩
abbrev S9x8191 : Shape := ⟨2, ![9, 8191]⟩

class Facts : Prop where
  bitsLt_bf16_f32 : FTy.bits .bf16 < FTy.bits .f32
  bcast_S_S9x8192x1024 : S_.BroadcastsInDim S9x8192x1024 (![] : Fin 0 → Fin S9x8192x1024.rank)
  slices_S9x8192_S9x8191_0_0 : S9x8192.Slices ![0, 0] S9x8191
  slices_S9x8192_S9x8191_0_1 : S9x8192.Slices ![0, 1] S9x8191

variable [Facts]

def fn {F : FTy → Type} [FloatOps F] (main_arg0 : FVec F S9x8192x1024 .bf16) (main_arg1 : FVec F S9x8192x1024 .bf16) (main_arg2 : FVec F S9x8192x1024 .bf16) (main_arg3 : FVec F S9x8192x1024 .bf16) (main_arg4 : IVec S9x8192 32) : IVec S9x8192x1024 1 × IVec S9x8192x1024 1 × IVec S9x8192x1024 1 × IVec S9x8192x1024 1 × IVec S9x8191 1 :=
  let main_v0 : FVec F S9x8192x1024 .f32 := (extf .f32 · bitsLt_bf16_f32) main_arg0
  let main_v1 : FVec F S9x8192x1024 .f32 := Host.absf main_v0
  let main_cst : FVec F S_ .f32 := constant S_ .f32 0x53800000#32
  let main_v2 : FVec F S9x8192x1024 .f32 := broadcastInDim S9x8192x1024 ![] bcast_S_S9x8192x1024 main_cst
  let main_v3 : IVec S9x8192x1024 1 := cmpf .ole main_v1 main_v2
  let main_v4 : FVec F S9x8192x1024 .f32 := (extf .f32 · bitsLt_bf16_f32) main_arg1
  let main_v5 : FVec F S9x8192x1024 .f32 := Host.absf main_v4
  let main_cst_0 : FVec F S_ .f32 := constant S_ .f32 0x53800000#32
  let main_v6 : FVec F S9x8192x1024 .f32 := broadcastInDim S9x8192x1024 ![] bcast_S_S9x8192x1024 main_cst_0
  let main_v7 : IVec S9x8192x1024 1 := cmpf .ole main_v5 main_v6
  let main_v8 : FVec F S9x8192x1024 .f32 := (extf .f32 · bitsLt_bf16_f32) main_arg2
  let main_v9 : FVec F S9x8192x1024 .f32 := Host.absf main_v8
  let main_cst_1 : FVec F S_ .f32 := constant S_ .f32 0x53800000#32
  let main_v10 : FVec F S9x8192x1024 .f32 := broadcastInDim S9x8192x1024 ![] bcast_S_S9x8192x1024 main_cst_1
  let main_v11 : IVec S9x8192x1024 1 := cmpf .ole main_v9 main_v10
  let main_v12 : FVec F S9x8192x1024 .f32 := (extf .f32 · bitsLt_bf16_f32) main_arg3
  let main_v13 : FVec F S9x8192x1024 .f32 := Host.absf main_v12
  let main_cst_2 : FVec F S_ .f32 := constant S_ .f32 0x53800000#32
  let main_v14 : FVec F S9x8192x1024 .f32 := broadcastInDim S9x8192x1024 ![] bcast_S_S9x8192x1024 main_cst_2
  let main_v15 : IVec S9x8192x1024 1 := cmpf .ole main_v13 main_v14
  let main_v16 : IVec S9x8191 32 := (extractStridedSlice S9x8191 ![0, 0] · slices_S9x8192_S9x8191_0_0) main_arg4
  let main_v17 : IVec S9x8191 32 := (extractStridedSlice S9x8191 ![0, 1] · slices_S9x8192_S9x8191_0_1) main_arg4
  let main_v18 : IVec S9x8191 1 := cmpi .sle main_v16 main_v17
  (main_v3, main_v7, main_v11, main_v15, main_v18)
-- ==== Kernel.lean ====
abbrev S9x8192x1024 : Shape := ⟨3, ![9, 8192, 1024]⟩
abbrev S9x8192 : Shape := ⟨2, ![9, 8192]⟩
abbrev S8192 : Shape := ⟨1, ![8192]⟩
abbrev S1x8192 : Shape := ⟨2, ![1, 8192]⟩
abbrev S_ : Shape := ⟨0, ![]⟩
abbrev S9x1 : Shape := ⟨2, ![9, 1]⟩
abbrev S9x8191 : Shape := ⟨2, ![9, 8191]⟩
abbrev S9x32 : Shape := ⟨2, ![9, 32]⟩
abbrev S9x1x8192 : Shape := ⟨3, ![9, 1, 8192]⟩
abbrev S9x8x1x128 : Shape := ⟨4, ![9, 8, 1, 128]⟩
abbrev S1x8192x128 : Shape := ⟨3, ![1, 8192, 128]⟩
abbrev S1x1x8192 : Shape := ⟨3, ![1, 1, 8192]⟩
abbrev S1x1x1x128 : Shape := ⟨4, ![1, 1, 1, 128]⟩
abbrev S32x128x256 : Shape := ⟨3, ![32, 128, 256]⟩
abbrev S32x256x256 : Shape := ⟨3, ![32, 256, 256]⟩
abbrev S32x1x256 : Shape := ⟨3, ![32, 1, 256]⟩
abbrev S8192x128 : Shape := ⟨2, ![8192, 128]⟩
abbrev S16x128 : Shape := ⟨2, ![16, 128]⟩
abbrev S1x512x128 : Shape := ⟨3, ![1, 512, 128]⟩
abbrev S512x128 : Shape := ⟨2, ![512, 128]⟩
abbrev S32x16x128 : Shape := ⟨3, ![32, 16, 128]⟩
abbrev S1x16x128 : Shape := ⟨3, ![1, 16, 128]⟩
abbrev S1 : Shape := ⟨1, ![1]⟩
abbrev S1x1x1 : Shape := ⟨3, ![1, 1, 1]⟩
abbrev S1x1 : Shape := ⟨2, ![1, 1]⟩
abbrev S1x256 : Shape := ⟨2, ![1, 256]⟩
abbrev S1x128 : Shape := ⟨2, ![1, 128]⟩
abbrev S1x256x128 : Shape := ⟨3, ![1, 256, 128]⟩
abbrev S256x128 : Shape := ⟨2, ![256, 128]⟩
abbrev S128x256 : Shape := ⟨2, ![128, 256]⟩
abbrev S1x128x256 : Shape := ⟨3, ![1, 128, 256]⟩
abbrev S1x1x256 : Shape := ⟨3, ![1, 1, 256]⟩
abbrev S256x256 : Shape := ⟨2, ![256, 256]⟩
abbrev S256 : Shape := ⟨1, ![256]⟩
abbrev S1x256x256 : Shape := ⟨3, ![1, 256, 256]⟩

abbrev nBuf : Space → Nat
  | .hbm => 48
  | .vmem => 32
  | .smem => 1
  | _ => 0

abbrev bufTy : (tb : Table) → Fin (tcTables nBuf tb) → BufTy
  | .hbm, ⟨0, _⟩ => ⟨S9x8192x1024, .bf16⟩
  | .hbm, ⟨1, _⟩ => ⟨S9x8192x1024, .bf16⟩
  | .hbm, ⟨2, _⟩ => ⟨S9x8192x1024, .bf16⟩
  | .hbm, ⟨3, _⟩ => ⟨S9x8192x1024, .bf16⟩
  | .hbm, ⟨4, _⟩ => ⟨S9x8192, .i32⟩
  | .hbm, ⟨5, _⟩ => ⟨S8192, .i32⟩
  | .hbm, ⟨6, _⟩ => ⟨S1x8192, .i32⟩
  | .hbm, ⟨7, _⟩ => ⟨S_, .i1⟩
  | .hbm, ⟨8, _⟩ => ⟨S9x1, .i1⟩
  | .hbm, ⟨9, _⟩ => ⟨S9x8191, .i32⟩
  | .hbm, ⟨10, _⟩ => ⟨S9x8191, .i32⟩
  | .hbm, ⟨11, _⟩ => ⟨S9x8191, .i1⟩
  | .hbm, ⟨12, _⟩ => ⟨S9x8192, .i1⟩
  | .hbm, ⟨13, _⟩ => ⟨S_, .i32⟩
  | .hbm, ⟨14, _⟩ => ⟨S_, .i32⟩
  | .hbm, ⟨15, _⟩ => ⟨S9x8192, .i32⟩
  | .hbm, ⟨16, _⟩ => ⟨S9x8192, .i32⟩
  | .hbm, ⟨17, _⟩ => ⟨S9x8192, .i32⟩
  | .hbm, ⟨18, _⟩ => ⟨S_, .i32⟩
  | .hbm, ⟨19, _⟩ => ⟨S_, .i32⟩
  | .hbm, ⟨20, _⟩ => ⟨S9x8192, .i32⟩
  | .hbm, ⟨21, _⟩ => ⟨S9x32, .i32⟩
  | .hbm, ⟨22, _⟩ => ⟨S_, .i32⟩
  | .hbm, ⟨23, _⟩ => ⟨S_, .i32⟩
  | .hbm, ⟨24, _⟩ => ⟨S9x32, .i32⟩
  | .hbm, ⟨25, _⟩ => ⟨S9x32, .i32⟩
  | .hbm, ⟨26, _⟩ => ⟨S9x32, .i32⟩
  | .hbm, ⟨27, _⟩ => ⟨S_, .i32⟩
  | .hbm, ⟨28, _⟩ => ⟨S9x32, .i32⟩
  | .hbm, ⟨29, _⟩ => ⟨S9x32, .i1⟩
  | .hbm, ⟨30, _⟩ => ⟨S9x32, .i32⟩
  | .hbm, ⟨31, _⟩ => ⟨S9x32, .i32⟩
  | .hbm, ⟨32, _⟩ => ⟨S_, .i32⟩
  | .hbm, ⟨33, _⟩ => ⟨S9x32, .i32⟩
  | .hbm, ⟨34, _⟩ => ⟨S9x32, .i1⟩
  | .hbm, ⟨35, _⟩ => ⟨S9x32, .i1⟩
  | .hbm, ⟨36, _⟩ => ⟨S_, .i32⟩
  | .hbm, ⟨37, _⟩ => ⟨S9x32, .i32⟩
  | .hbm, ⟨38, _⟩ => ⟨S9x32, .i32⟩
  | .hbm, ⟨39, _⟩ => ⟨S9x1x8192, .i32⟩
  | .hbm, ⟨40, _⟩ => ⟨S9x8192x1024, .bf16⟩
  | .hbm, ⟨41, _⟩ => ⟨S9x8192x1024, .bf16⟩
  | .hbm, ⟨42, _⟩ => ⟨S9x8192x1024, .bf16⟩
  | .hbm, ⟨43, _⟩ => ⟨S9x8192x1024, .fp8e4m3⟩
  | .hbm, ⟨44, _⟩ => ⟨S9x8192x1024, .fp8e4m3⟩
  | .hbm, ⟨45, _⟩ => ⟨S9x8192x1024, .fp8e4m3⟩
  | .hbm, ⟨46, _⟩ => ⟨S9x8192x1024, .fp8e5m2⟩
  | .hbm, ⟨47, _⟩ => ⟨S9x8x1x128, .f32⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .bf16⟩
  | .local _ .vmem, ⟨7, _⟩ => ⟨S1x8192x128, .bf16⟩
  | .local _ .vmem, ⟨8, _⟩ => ⟨S1x1x8192, .i32⟩
  | .local _ .vmem, ⟨9, _⟩ => ⟨S1x1x8192, .i32⟩
  | .local _ .vmem, ⟨10, _⟩ => ⟨S1x8192x128, .bf16⟩
  | .local _ .vmem, ⟨11, _⟩ => ⟨S1x8192x128, .bf16⟩
  | .local _ .vmem, ⟨12, _⟩ => ⟨S1x8192x128, .bf16⟩
  | .local _ .vmem, ⟨13, _⟩ => ⟨S1x8192x128, .bf16⟩
  | .local _ .vmem, ⟨14, _⟩ => ⟨S1x8192x128, .bf16⟩
  | .local _ .vmem, ⟨15, _⟩ => ⟨S1x8192x128, .bf16⟩
  | .local _ .vmem, ⟨16, _⟩ => ⟨S1x8192x128, .fp8e4m3⟩
  | .local _ .vmem, ⟨17, _⟩ => ⟨S1x8192x128, .fp8e4m3⟩
  | .local _ .vmem, ⟨18, _⟩ => ⟨S1x8192x128, .fp8e4m3⟩
  | .local _ .vmem, ⟨19, _⟩ => ⟨S1x8192x128, .fp8e4m3⟩
  | .local _ .vmem, ⟨20, _⟩ => ⟨S1x8192x128, .fp8e4m3⟩
  | .local _ .vmem, ⟨21, _⟩ => ⟨S1x8192x128, .fp8e4m3⟩
  | .local _ .vmem, ⟨22, _⟩ => ⟨S1x8192x128, .fp8e5m2⟩
  | .local _ .vmem, ⟨23, _⟩ => ⟨S1x8192x128, .fp8e5m2⟩
  | .local _ .vmem, ⟨24, _⟩ => ⟨S1x1x1x128, .f32⟩
  | .local _ .vmem, ⟨25, _⟩ => ⟨S1x1x1x128, .f32⟩
  | .local _ .vmem, ⟨26, _⟩ => ⟨S32x128x256, .bf16⟩
  | .local _ .vmem, ⟨27, _⟩ => ⟨S32x128x256, .fp8e4m3⟩
  | .local _ .vmem, ⟨28, _⟩ => ⟨S32x256x256, .f32⟩
  | .local _ .vmem, ⟨29, _⟩ => ⟨S32x1x256, .f32⟩
  | .local _ .vmem, ⟨30, _⟩ => ⟨S8192x128, .f32⟩
  | .local _ .vmem, ⟨31, _⟩ => ⟨S8192x128, .f32⟩
  | .local _ .smem, ⟨0, _⟩ => ⟨S9x32, .i32⟩
  | _, _ => ⟨S9x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_0 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_v7 : Ref sig .tc := ⟨.hbm, 17, rfl⟩
abbrev main_call1_c : Ref sig .tc := ⟨.hbm, 18, rfl⟩
abbrev main_call1_v0 : Ref sig .tc := ⟨.hbm, 19, rfl⟩
abbrev main_v8 : Ref sig .tc := ⟨.hbm, 20, rfl⟩
abbrev main_v9 : Ref sig .tc := ⟨.hbm, 21, rfl⟩
abbrev main_c_1 : Ref sig .tc := ⟨.hbm, 22, rfl⟩
abbrev main_call2_v0 : Ref sig .tc := ⟨.hbm, 23, rfl⟩
abbrev main_call2_v1 : Ref sig .tc := ⟨.hbm, 24, rfl⟩
abbrev main_call2_v2 : Ref sig .tc := ⟨.hbm, 25, rfl⟩
abbrev main_call2_v3 : Ref sig .tc := ⟨.hbm, 26, rfl⟩
abbrev main_call2_v4 : Ref sig .tc := ⟨.hbm, 27, rfl⟩
abbrev main_call2_v5 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_c : Ref sig .tc := ⟨.hbm, 32, rfl⟩
abbrev main_call2_v9 : Ref sig .tc := ⟨.hbm, 33, rfl⟩
abbrev main_call2_v10 : Ref sig .tc := ⟨.hbm, 34, rfl⟩
abbrev main_call2_v11 : Ref sig .tc := ⟨.hbm, 35, rfl⟩
abbrev main_call2_c_0 : Ref sig .tc := ⟨.hbm, 36, rfl⟩
abbrev main_call2_v12 : Ref sig .tc := ⟨.hbm, 37, rfl⟩
abbrev main_call2_v13 : Ref sig .tc := ⟨.hbm, 38, rfl⟩
abbrev main_v11 : Ref sig .tc := ⟨.hbm, 39, rfl⟩
abbrev main_v12_0 : Ref sig .tc := ⟨.hbm, 40, rfl⟩
abbrev main_v12_1 : Ref sig .tc := ⟨.hbm, 41, rfl⟩
abbrev main_v12_2 : Ref sig .tc := ⟨.hbm, 42, rfl⟩
abbrev main_v12_3 : Ref sig .tc := ⟨.hbm, 43, rfl⟩
abbrev main_v12_4 : Ref sig .tc := ⟨.hbm, 44, rfl⟩
abbrev main_v12_5 : Ref sig .tc := ⟨.hbm, 45, rfl⟩
abbrev main_v12_6 : Ref sig .tc := ⟨.hbm, 46, rfl⟩
abbrev main_v12_7 : Ref sig .tc := ⟨.hbm, 47, rfl⟩
abbrev main_v10 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_scratch5 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![9, 8], ![false, false]⟩

abbrev pre0 : Pipeline.Prefetch sig := ⟨1, ![main_v10.idx], fun | 0 => main_v10.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg22 : BitVec 32 := Scf.iv c0_i32 c1_i32 k0_t1
  let c512_i32 : BitVec 32 := 512#32
  let v213 : BitVec 32 := Scalar.muli arg22 c512_i32
  v213
def k0_off1 (k0_t1 : Fin k0_t1_loop.trips) : Fin 3 → Nat :=
  let c0_110 : Index := 0#32
  let c0_i32 : BitVec 32 := 0#32
  let c1_i32 : BitVec 32 := 1#32
  let arg22 : BitVec 32 := Scf.iv c0_i32 c1_i32 k0_t1
  let c512_i32 : BitVec 32 := 512#32
  let v213 : BitVec 32 := Scalar.muli arg22 c512_i32
  let v214 : BitVec 32 := v213
  let v215 : Index := Scalar.indexCast v214
  let c0_111 : Index := 0#32
  ![0, v215.toNat, 0]
@[reducible] def k0_t2_loop : Scf.Loop 32 :=
  let c0_i32_12 : BitVec 32 := 0#32
  let c16_i32_13 : BitVec 32 := 16#32
  let v40 : BitVec 32 := Scalar.addi c0_i32_12 c16_i32_13
  let c1_i32_14 : BitVec 32 := 1#32
  ⟨c0_i32_12, v40, c1_i32_14⟩
def k0_mult2 (k0_t2 : Fin k0_t2_loop.trips) : BitVec 32 :=
  let c0_i32_12 : BitVec 32 := 0#32
  let c1_i32_14 : BitVec 32 := 1#32
  let arg22 : BitVec 32 := Scf.iv c0_i32_12 c1_i32_14 k0_t2
  let c512_i32 : BitVec 32 := 512#32
  let v213 : BitVec 32 := Scalar.muli arg22 c512_i32
  v213
def k0_off2 (k0_t2 : Fin k0_t2_loop.trips) : Fin 3 → Nat :=
  let c0_110 : Index := 0#32
  let c0_i32_12 : BitVec 32 := 0#32
  let c1_i32_14 : BitVec 32 := 1#32
  let arg22 : BitVec 32 := Scf.iv c0_i32_12 c1_i32_14 k0_t2
  let c512_i32 : BitVec 32 := 512#32
  let v213 : BitVec 32 := Scalar.muli arg22 c512_i32
  let v214 : BitVec 32 := v213
  let v215 : Index := Scalar.indexCast v214
  let c0_111 : Index := 0#32
  ![0, v215.toNat, 0]
@[reducible] def k0_t3_loop : Scf.Loop 32 :=
  let c0_i32_17 : BitVec 32 := 0#32
  let c16_i32_18 : BitVec 32 := 16#32
  let v42 : BitVec 32 := Scalar.addi c0_i32_17 c16_i32_18
  let c1_i32_19 : BitVec 32 := 1#32
  ⟨c0_i32_17, v42, c1_i32_19⟩
def k0_mult3 (k0_t3 : Fin k0_t3_loop.trips) : BitVec 32 :=
  let c0_i32_17 : BitVec 32 := 0#32
  let c1_i32_19 : BitVec 32 := 1#32
  let arg22 : BitVec 32 := Scf.iv c0_i32_17 c1_i32_19 k0_t3
  let c512_i32 : BitVec 32 := 512#32
  let v213 : BitVec 32 := Scalar.muli arg22 c512_i32
  v213
def k0_off3 (k0_t3 : Fin k0_t3_loop.trips) : Fin 3 → Nat :=
  let c0_110 : Index := 0#32
  let c0_i32_17 : BitVec 32 := 0#32
  let c1_i32_19 : BitVec 32 := 1#32
  let arg22 : BitVec 32 := Scf.iv c0_i32_17 c1_i32_19 k0_t3
  let c512_i32 : BitVec 32 := 512#32
  let v213 : BitVec 32 := Scalar.muli arg22 c512_i32
  let v214 : BitVec 32 := v213
  let v215 : Index := Scalar.indexCast v214
  let c0_111 : Index := 0#32
  ![0, v215.toNat, 0]
@[reducible] def k0_t4_loop : Scf.Loop 32 :=
  let c0_i32_34 : BitVec 32 := 0#32
  let c16_i32_35 : BitVec 32 := 16#32
  let v81 : BitVec 32 := Scalar.addi c0_i32_34 c16_i32_35
  let c1_i32_36 : BitVec 32 := 1#32
  ⟨c0_i32_34, v81, c1_i32_36⟩
def k0_mult4 (k0_t4 : Fin k0_t4_loop.trips) : BitVec 32 :=
  let c0_i32_34 : BitVec 32 := 0#32
  let c1_i32_36 : BitVec 32 := 1#32
  let arg22 : BitVec 32 := Scf.iv c0_i32_34 c1_i32_36 k0_t4
  let c512_i32 : BitVec 32 := 512#32
  let v213 : BitVec 32 := Scalar.muli arg22 c512_i32
  v213
def k0_off4 (k0_t4 : Fin k0_t4_loop.trips) : Fin 3 → Nat :=
  let c0_110 : Index := 0#32
  let c0_i32_34 : BitVec 32 := 0#32
  let c1_i32_36 : BitVec 32 := 1#32
  let arg22 : BitVec 32 := Scf.iv c0_i32_34 c1_i32_36 k0_t4
  let c512_i32 : BitVec 32 := 512#32
  let v213 : BitVec 32 := Scalar.muli arg22 c512_i32
  let v214 : BitVec 32 := v213
  let v215 : Index := Scalar.indexCast v214
  let c0_111 : Index := 0#32
  ![0, v215.toNat, 0]
@[reducible] def k0_t5_loop : Scf.Loop 32 :=
  let c0_i32_39 : BitVec 32 := 0#32
  let c16_i32_40 : BitVec 32 := 16#32
  let v83 : BitVec 32 := Scalar.addi c0_i32_39 c16_i32_40
  let c1_i32_41 : BitVec 32 := 1#32
  ⟨c0_i32_39, v83, c1_i32_41⟩
def k0_mult5 (k0_t5 : Fin k0_t5_loop.trips) : BitVec 32 :=
  let c0_i32_39 : BitVec 32 := 0#32
  let c1_i32_41 : BitVec 32 := 1#32
  let arg22 : BitVec 32 := Scf.iv c0_i32_39 c1_i32_41 k0_t5
  let c512_i32 : BitVec 32 := 512#32
  let v213 : BitVec 32 := Scalar.muli arg22 c512_i32
  v213
def k0_off5 (k0_t5 : Fin k0_t5_loop.trips) : Fin 3 → Nat :=
  let c0_110 : Index := 0#32
  let c0_i32_39 : BitVec 32 := 0#32
  let c1_i32_41 : BitVec 32 := 1#32
  let arg22 : BitVec 32 := Scf.iv c0_i32_39 c1_i32_41 k0_t5
  let c512_i32 : BitVec 32 := 512#32
  let v213 : BitVec 32 := Scalar.muli arg22 c512_i32
  let v214 : BitVec 32 := v213
  let v215 : Index := Scalar.indexCast v214
  let c0_111 : Index := 0#32
  ![0, v215.toNat, 0]
@[reducible] def k0_t6_loop : Scf.Loop 32 :=
  let c0_i32_56 : BitVec 32 := 0#32
  let c16_i32_57 : BitVec 32 := 16#32
  let v122 : BitVec 32 := Scalar.addi c0_i32_56 c16_i32_57
  let c1_i32_58 : BitVec 32 := 1#32
  ⟨c0_i32_56, v122, c1_i32_58⟩
def k0_mult6 (k0_t6 : Fin k0_t6_loop.trips) : BitVec 32 :=
  let c0_i32_56 : BitVec 32 := 0#32
  let c1_i32_58 : BitVec 32 := 1#32
  let arg22 : BitVec 32 := Scf.iv c0_i32_56 c1_i32_58 k0_t6
  let c512_i32 : BitVec 32 := 512#32
  let v213 : BitVec 32 := Scalar.muli arg22 c512_i32
  v213
def k0_off6 (k0_t6 : Fin k0_t6_loop.trips) : Fin 3 → Nat :=
  let c0_110 : Index := 0#32
  let c0_i32_56 : BitVec 32 := 0#32
  let c1_i32_58 : BitVec 32 := 1#32
  let arg22 : BitVec 32 := Scf.iv c0_i32_56 c1_i32_58 k0_t6
  let c512_i32 : BitVec 32 := 512#32
  let v213 : BitVec 32 := Scalar.muli arg22 c512_i32
  let v214 : BitVec 32 := v213
  let v215 : Index := Scalar.indexCast v214
  let c0_111 : Index := 0#32
  ![0, v215.toNat, 0]
@[reducible] def k0_t7_loop : Scf.Loop 32 :=
  let c0_i32_61 : BitVec 32 := 0#32
  let c16_i32_62 : BitVec 32 := 16#32
  let v124 : BitVec 32 := Scalar.addi c0_i32_61 c16_i32_62
  let c1_i32_63 : BitVec 32 := 1#32
  ⟨c0_i32_61, v124, c1_i32_63⟩
def k0_mult7 (k0_t7 : Fin k0_t7_loop.trips) : BitVec 32 :=
  let c0_i32_61 : BitVec 32 := 0#32
  let c1_i32_63 : BitVec 32 := 1#32
  let arg22 : BitVec 32 := Scf.iv c0_i32_61 c1_i32_63 k0_t7
  let c512_i32 : BitVec 32 := 512#32
  let v213 : BitVec 32 := Scalar.muli arg22 c512_i32
  v213
def k0_off7 (k0_t7 : Fin k0_t7_loop.trips) : Fin 3 → Nat :=
  let c0_110 : Index := 0#32
  let c0_i32_61 : BitVec 32 := 0#32
  let c1_i32_63 : BitVec 32 := 1#32
  let arg22 : BitVec 32 := Scf.iv c0_i32_61 c1_i32_63 k0_t7
  let c512_i32 : BitVec 32 := 512#32
  let v213 : BitVec 32 := Scalar.muli arg22 c512_i32
  let v214 : BitVec 32 := v213
  let v215 : Index := Scalar.indexCast v214
  let c0_111 : Index := 0#32
  ![0, v215.toNat, 0]
@[reducible] def k0_t8_loop : Scf.Loop 32 :=
  let c0_i32_78 : BitVec 32 := 0#32
  let c16_i32_79 : BitVec 32 := 16#32
  let v163 : BitVec 32 := Scalar.addi c0_i32_78 c16_i32_79
  let c1_i32_80 : BitVec 32 := 1#32
  ⟨c0_i32_78, v163, c1_i32_80⟩
def k0_mult8 (k0_t8 : Fin k0_t8_loop.trips) : BitVec 32 :=
  let c0_i32_78 : BitVec 32 := 0#32
  let c1_i32_80 : BitVec 32 := 1#32
  let arg22 : BitVec 32 := Scf.iv c0_i32_78 c1_i32_80 k0_t8
  let c512_i32 : BitVec 32 := 512#32
  let v213 : BitVec 32 := Scalar.muli arg22 c512_i32
  v213
def k0_off8 (k0_t8 : Fin k0_t8_loop.trips) : Fin 3 → Nat :=
  let c0_110 : Index := 0#32
  let c0_i32_78 : BitVec 32 := 0#32
  let c1_i32_80 : BitVec 32 := 1#32
  let arg22 : BitVec 32 := Scf.iv c0_i32_78 c1_i32_80 k0_t8
  let c512_i32 : BitVec 32 := 512#32
  let v213 : BitVec 32 := Scalar.muli arg22 c512_i32
  let v214 : BitVec 32 := v213
  let v215 : Index := Scalar.indexCast v214
  let c0_111 : Index := 0#32
  ![0, v215.toNat, 0]
@[reducible] def k0_t9_loop : Scf.Loop 32 :=
  let c0_i32_93 : BitVec 32 := 0#32
  let c32_i32 : BitVec 32 := 32#32
  let v202 : BitVec 32 := Scalar.addi c0_i32_93 c32_i32
  let c1_i32_94 : BitVec 32 := 1#32
  ⟨c0_i32_93, v202, c1_i32_94⟩
def k0_mult9 (k0_t9 : Fin k0_t9_loop.trips) : BitVec 32 :=
  let c0_i32_93 : BitVec 32 := 0#32
  let c1_i32_94 : BitVec 32 := 1#32
  let arg22 : BitVec 32 := Scf.iv c0_i32_93 c1_i32_94 k0_t9
  let c256_i32 : BitVec 32 := 256#32
  let v213 : BitVec 32 := Scalar.muli arg22 c256_i32
  v213
def k0_off9 (k0_t9 : Fin k0_t9_loop.trips) : Fin 3 → Nat :=
  let c0_110 : Index := 0#32
  let c0_i32_93 : BitVec 32 := 0#32
  let c1_i32_94 : BitVec 32 := 1#32
  let arg22 : BitVec 32 := Scf.iv c0_i32_93 c1_i32_94 k0_t9
  let c256_i32 : BitVec 32 := 256#32
  let v213 : BitVec 32 := Scalar.muli arg22 c256_i32
  let v214 : BitVec 32 := v213
  let v215 : Index := Scalar.indexCast v214
  let c0_111 : Index := 0#32
  ![0, v215.toNat, 0]
def k0_off10 (k0_t9 : Fin k0_t9_loop.trips) : Fin 3 → Nat :=
  let c0_i32_93 : BitVec 32 := 0#32
  let c1_i32_94 : BitVec 32 := 1#32
  let arg22 : BitVec 32 := Scf.iv c0_i32_93 c1_i32_94 k0_t9
  let v220 : Index := Scalar.indexCast arg22
  let c0_112 : Index := 0#32
  let c0_113 : Index := 0#32
  ![v220.toNat, 0, 0]
def k0_mult10 (k0_t9 : Fin k0_t9_loop.trips) : BitVec 32 :=
  let c0_i32_93 : BitVec 32 := 0#32
  let c1_i32_94 : BitVec 32 := 1#32
  let arg22 : BitVec 32 := Scf.iv c0_i32_93 c1_i32_94 k0_t9
  let c256_i32_114 : BitVec 32 := 256#32
  let v224 : BitVec 32 := Scalar.muli arg22 c256_i32_114
  v224
@[reducible] def k0_t10_loop : Scf.Loop 32 :=
  let c0_i32_102 : BitVec 32 := 0#32
  let c32_i32_103 : BitVec 32 := 32#32
  let v211 : BitVec 32 := Scalar.addi c0_i32_102 c32_i32_103
  let c1_i32_104 : BitVec 32 := 1#32
  ⟨c0_i32_102, v211, c1_i32_104⟩
def k0_off11 (i : grid0.Coords) (k0_t10 : Fin k0_t10_loop.trips) : Fin 2 → Nat :=
  let arg0 : BitVec 32 := BitVec.ofNat 32 (i 0).val
  let v213 : Index := Scalar.indexCast arg0
  let c0_i32_102 : BitVec 32 := 0#32
  let c1_i32_104 : BitVec 32 := 1#32
  let arg22 : BitVec 32 := Scf.iv c0_i32_102 c1_i32_104 k0_t10
  let v214 : Index := Scalar.indexCast arg22
  ![v213.toNat, v214.toNat]
def k0_mult11 (k0_t10 : Fin k0_t10_loop.trips) : BitVec 32 :=
  let c0_i32_102 : BitVec 32 := 0#32
  let c1_i32_104 : BitVec 32 := 1#32
  let arg22 : BitVec 32 := Scf.iv c0_i32_102 c1_i32_104 k0_t10
  let c256_i32 : BitVec 32 := 256#32
  let v218 : BitVec 32 := Scalar.muli arg22 c256_i32
  v218
def k0_off12 (k0_t10 : Fin k0_t10_loop.trips) : Fin 3 → Nat :=
  let c0_111 : Index := 0#32
  let c0_i32_102 : BitVec 32 := 0#32
  let c1_i32_104 : BitVec 32 := 1#32
  let arg22 : BitVec 32 := Scf.iv c0_i32_102 c1_i32_104 k0_t10
  let c256_i32 : BitVec 32 := 256#32
  let v218 : BitVec 32 := Scalar.muli arg22 c256_i32
  let v219 : BitVec 32 := v218
  let v220 : Index := Scalar.indexCast v219
  let c0_112 : Index := 0#32
  ![0, v220.toNat, 0]
def k0_mult12 (k0_t10 : Fin k0_t10_loop.trips) : BitVec 32 :=
  let c0_i32_102 : BitVec 32 := 0#32
  let c1_i32_104 : BitVec 32 := 1#32
  let arg22 : BitVec 32 := Scf.iv c0_i32_102 c1_i32_104 k0_t10
  let c256_i32_113 : BitVec 32 := 256#32
  let v223 : BitVec 32 := Scalar.muli arg22 c256_i32_113
  v223
def k0_mult13 (k0_t10 : Fin k0_t10_loop.trips) : BitVec 32 :=
  let c0_i32_102 : BitVec 32 := 0#32
  let c1_i32_104 : BitVec 32 := 1#32
  let arg22 : BitVec 32 := Scf.iv c0_i32_102 c1_i32_104 k0_t10
  let c256_i32_116 : BitVec 32 := 256#32
  let v228 : BitVec 32 := Scalar.muli arg22 c256_i32_116
  v228
def k0_off13 (k0_t10 : Fin k0_t10_loop.trips) : Fin 3 → Nat :=
  let c0_117 : Index := 0#32
  let c0_118 : Index := 0#32
  let c0_i32_102 : BitVec 32 := 0#32
  let c1_i32_104 : BitVec 32 := 1#32
  let arg22 : BitVec 32 := Scf.iv c0_i32_102 c1_i32_104 k0_t10
  let c256_i32_116 : BitVec 32 := 256#32
  let v228 : BitVec 32 := Scalar.muli arg22 c256_i32_116
  let v229 : BitVec 32 := v228
  let v230 : Index := Scalar.indexCast v229
  ![0, 0, v230.toNat]
@[reducible] def k0_t11_loop (k0_t10 : Fin k0_t10_loop.trips) (v215 : BitVec 32) : Scf.Loop 32 :=
  let c0_i32_122 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v239 : BitVec 32 := Scalar.subi v217 c0_i32_122
  let c1_i32_123 : BitVec 32 := 1#32
  let v241 : BitVec 32 := Scalar.divsi v239 c1_i32_123
  let v242 : BitVec 32 := Scalar.muli v241 c1_i32_123
  let v243 : BitVec 32 := Scalar.addi c0_i32_122 v242
  let c1_i32_124 : BitVec 32 := 1#32
  ⟨c0_i32_122, v243, c1_i32_124⟩

def k0_mult14 (k0_t10 : Fin k0_t10_loop.trips) (v215 : BitVec 32) (k0_t11 : Fin (k0_t11_loop k0_t10 v215).trips) : BitVec 32 :=
  let c0_i32_122 : BitVec 32 := 0#32
  let c1_i32_124 : BitVec 32 := 1#32
  let arg23 : BitVec 32 := Scf.iv c0_i32_122 c1_i32_124 k0_t11
  let v282 : BitVec 32 := Scalar.addi v215 arg23
  let c256_i32_142 : BitVec 32 := 256#32
  let v283 : BitVec 32 := Scalar.muli v282 c256_i32_142
  v283
def k0_off14 (k0_t10 : Fin k0_t10_loop.trips) (v215 : BitVec 32) (k0_t11 : Fin (k0_t11_loop k0_t10 v215).trips) : Fin 3 → Nat :=
  let c0_143 : Index := 0#32
  let c0_i32_122 : BitVec 32 := 0#32
  let c1_i32_124 : BitVec 32 := 1#32
  let arg23 : BitVec 32 := Scf.iv c0_i32_122 c1_i32_124 k0_t11
  let v282 : BitVec 32 := Scalar.addi v215 arg23
  let c256_i32_142 : BitVec 32 := 256#32
  let v283 : BitVec 32 := Scalar.muli v282 c256_i32_142
  let v284 : BitVec 32 := v283
  let v285 : Index := Scalar.indexCast v284
  let c0_144 : Index := 0#32
  ![0, v285.toNat, 0]
def k0_off15 (k0_t10 : Fin k0_t10_loop.trips) (v215 : BitVec 32) (k0_t11 : Fin (k0_t11_loop k0_t10 v215).trips) : Fin 3 → Nat :=
  let c0_i32_122 : BitVec 32 := 0#32
  let c1_i32_124 : BitVec 32 := 1#32
  let arg23 : BitVec 32 := Scf.iv c0_i32_122 c1_i32_124 k0_t11
  let v308 : Index := Scalar.indexCast arg23
  let c0_149 : Index := 0#32
  let c0_150 : Index := 0#32
  ![v308.toNat, 0, 0]
def k0_off16 (k0_t10 : Fin k0_t10_loop.trips) (v215 : BitVec 32) (k0_t11 : Fin (k0_t11_loop k0_t10 v215).trips) : Fin 3 → Nat :=
  let c0_i32_122 : BitVec 32 := 0#32
  let c1_i32_124 : BitVec 32 := 1#32
  let arg23 : BitVec 32 := Scf.iv c0_i32_122 c1_i32_124 k0_t11
  let v312 : Index := Scalar.indexCast arg23
  let c0_151 : Index := 0#32
  let c0_152 : Index := 0#32
  ![v312.toNat, 0, 0]
@[reducible] def k0_t12_loop (k0_t10 : Fin k0_t10_loop.trips) (v215 : BitVec 32) : Scf.Loop 32 :=
  let c0_i32_122 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v239 : BitVec 32 := Scalar.subi v217 c0_i32_122
  let c1_i32_123 : BitVec 32 := 1#32
  let v241 : BitVec 32 := Scalar.divsi v239 c1_i32_123
  let v242 : BitVec 32 := Scalar.muli v241 c1_i32_123
  let v243 : BitVec 32 := Scalar.addi c0_i32_122 v242
  let v240 : BitVec 32 := Scalar.addi c0_i32_122 v239
  let c1_i32_125 : BitVec 32 := 1#32
  ⟨v243, v240, c1_i32_125⟩
def k0_mult15 (k0_t10 : Fin k0_t10_loop.trips) (v215 : BitVec 32) (k0_t12 : Fin (k0_t12_loop k0_t10 v215).trips) : BitVec 32 :=
  let c0_i32_122 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v239 : BitVec 32 := Scalar.subi v217 c0_i32_122
  let c1_i32_123 : BitVec 32 := 1#32
  let v241 : BitVec 32 := Scalar.divsi v239 c1_i32_123
  let v242 : BitVec 32 := Scalar.muli v241 c1_i32_123
  let v243 : BitVec 32 := Scalar.addi c0_i32_122 v242
  let c1_i32_125 : BitVec 32 := 1#32
  let arg23 : BitVec 32 := Scf.iv v243 c1_i32_125 k0_t12
  let v282 : BitVec 32 := Scalar.addi v215 arg23
  let c256_i32_142 : BitVec 32 := 256#32
  let v283 : BitVec 32 := Scalar.muli v282 c256_i32_142
  v283
def k0_off17 (k0_t10 : Fin k0_t10_loop.trips) (v215 : BitVec 32) (k0_t12 : Fin (k0_t12_loop k0_t10 v215).trips) : Fin 3 → Nat :=
  let c0_143 : Index := 0#32
  let c0_i32_122 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v239 : BitVec 32 := Scalar.subi v217 c0_i32_122
  let c1_i32_123 : BitVec 32 := 1#32
  let v241 : BitVec 32 := Scalar.divsi v239 c1_i32_123
  let v242 : BitVec 32 := Scalar.muli v241 c1_i32_123
  let v243 : BitVec 32 := Scalar.addi c0_i32_122 v242
  let c1_i32_125 : BitVec 32 := 1#32
  let arg23 : BitVec 32 := Scf.iv v243 c1_i32_125 k0_t12
  let v282 : BitVec 32 := Scalar.addi v215 arg23
  let c256_i32_142 : BitVec 32 := 256#32
  let v283 : BitVec 32 := Scalar.muli v282 c256_i32_142
  let v284 : BitVec 32 := v283
  let v285 : Index := Scalar.indexCast v284
  let c0_144 : Index := 0#32
  ![0, v285.toNat, 0]
def k0_off18 (k0_t10 : Fin k0_t10_loop.trips) (v215 : BitVec 32) (k0_t12 : Fin (k0_t12_loop k0_t10 v215).trips) : Fin 3 → Nat :=
  let c0_i32_122 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v239 : BitVec 32 := Scalar.subi v217 c0_i32_122
  let c1_i32_123 : BitVec 32 := 1#32
  let v241 : BitVec 32 := Scalar.divsi v239 c1_i32_123
  let v242 : BitVec 32 := Scalar.muli v241 c1_i32_123
  let v243 : BitVec 32 := Scalar.addi c0_i32_122 v242
  let c1_i32_125 : BitVec 32 := 1#32
  let arg23 : BitVec 32 := Scf.iv v243 c1_i32_125 k0_t12
  let v308 : Index := Scalar.indexCast arg23
  let c0_149 : Index := 0#32
  let c0_150 : Index := 0#32
  ![v308.toNat, 0, 0]
def k0_off19 (k0_t10 : Fin k0_t10_loop.trips) (v215 : BitVec 32) (k0_t12 : Fin (k0_t12_loop k0_t10 v215).trips) : Fin 3 → Nat :=
  let c0_i32_122 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v239 : BitVec 32 := Scalar.subi v217 c0_i32_122
  let c1_i32_123 : BitVec 32 := 1#32
  let v241 : BitVec 32 := Scalar.divsi v239 c1_i32_123
  let v242 : BitVec 32 := Scalar.muli v241 c1_i32_123
  let v243 : BitVec 32 := Scalar.addi c0_i32_122 v242
  let c1_i32_125 : BitVec 32 := 1#32
  let arg23 : BitVec 32 := Scf.iv v243 c1_i32_125 k0_t12
  let v312 : Index := Scalar.indexCast arg23
  let c0_151 : Index := 0#32
  let c0_152 : Index := 0#32
  ![v312.toNat, 0, 0]
@[reducible] def k0_t13_loop (k0_t10 : Fin k0_t10_loop.trips) (v215 : BitVec 32) : Scf.Loop 32 :=
  let c0_i32_128 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v249 : BitVec 32 := Scalar.subi v217 c0_i32_128
  let c1_i32_129 : BitVec 32 := 1#32
  let v251 : BitVec 32 := Scalar.divsi v249 c1_i32_129
  let v252 : BitVec 32 := Scalar.muli v251 c1_i32_129
  let v253 : BitVec 32 := Scalar.addi c0_i32_128 v252
  let c1_i32_130 : BitVec 32 := 1#32
  ⟨c0_i32_128, v253, c1_i32_130⟩
def k0_off20 (k0_t10 : Fin k0_t10_loop.trips) (v215 : BitVec 32) (k0_t13 : Fin (k0_t13_loop k0_t10 v215).trips) : Fin 3 → Nat :=
  let c0_i32_128 : BitVec 32 := 0#32
  let c1_i32_130 : BitVec 32 := 1#32
  let arg23 : BitVec 32 := Scf.iv c0_i32_128 c1_i32_130 k0_t13
  let v283 : Index := Scalar.indexCast arg23
  let c0_142 : Index := 0#32
  let c0_143 : Index := 0#32
  ![v283.toNat, 0, 0]
def k0_off21 (k0_t10 : Fin k0_t10_loop.trips) (v215 : BitVec 32) (k0_t13 : Fin (k0_t13_loop k0_t10 v215).trips) : Fin 3 → Nat :=
  let c0_i32_128 : BitVec 32 := 0#32
  let c1_i32_130 : BitVec 32 := 1#32
  let arg23 : BitVec 32 := Scf.iv c0_i32_128 c1_i32_130 k0_t13
  let v291 : Index := Scalar.indexCast arg23
  let c0_145 : Index := 0#32
  let c0_146 : Index := 0#32
  ![v291.toNat, 0, 0]
def k0_mult16 (k0_t10 : Fin k0_t10_loop.trips) (v215 : BitVec 32) (k0_t13 : Fin (k0_t13_loop k0_t10 v215).trips) : BitVec 32 :=
  let c0_i32_128 : BitVec 32 := 0#32
  let c1_i32_130 : BitVec 32 := 1#32
  let arg23 : BitVec 32 := Scf.iv c0_i32_128 c1_i32_130 k0_t13
  let v282 : BitVec 32 := Scalar.addi v215 arg23
  let c256_i32_149 : BitVec 32 := 256#32
  let v301 : BitVec 32 := Scalar.muli v282 c256_i32_149
  v301
def k0_off22 (k0_t10 : Fin k0_t10_loop.trips) (v215 : BitVec 32) (k0_t13 : Fin (k0_t13_loop k0_t10 v215).trips) : Fin 2 → Nat :=
  let c0_i32_128 : BitVec 32 := 0#32
  let c1_i32_130 : BitVec 32 := 1#32
  let arg23 : BitVec 32 := Scf.iv c0_i32_128 c1_i32_130 k0_t13
  let v282 : BitVec 32 := Scalar.addi v215 arg23
  let c256_i32_149 : BitVec 32 := 256#32
  let v301 : BitVec 32 := Scalar.muli v282 c256_i32_149
  let v302 : BitVec 32 := v301
  let v303 : Index := Scalar.indexCast v302
  let c0_150 : Index := 0#32
  ![v303.toNat, 0]
def k0_mult17 (k0_t10 : Fin k0_t10_loop.trips) (v215 : BitVec 32) (k0_t13 : Fin (k0_t13_loop k0_t10 v215).trips) : BitVec 32 :=
  let c0_i32_128 : BitVec 32 := 0#32
  let c1_i32_130 : BitVec 32 := 1#32
  let arg23 : BitVec 32 := Scf.iv c0_i32_128 c1_i32_130 k0_t13
  let v282 : BitVec 32 := Scalar.addi v215 arg23
  let c256_i32_153 : BitVec 32 := 256#32
  let v313 : BitVec 32 := Scalar.muli v282 c256_i32_153
  v313
def k0_off23 (k0_t10 : Fin k0_t10_loop.trips) (v215 : BitVec 32) (k0_t13 : Fin (k0_t13_loop k0_t10 v215).trips) : Fin 3 → Nat :=
  let c0_154 : Index := 0#32
  let c0_i32_128 : BitVec 32 := 0#32
  let c1_i32_130 : BitVec 32 := 1#32
  let arg23 : BitVec 32 := Scf.iv c0_i32_128 c1_i32_130 k0_t13
  let v282 : BitVec 32 := Scalar.addi v215 arg23
  let c256_i32_153 : BitVec 32 := 256#32
  let v313 : BitVec 32 := Scalar.muli v282 c256_i32_153
  let v314 : BitVec 32 := v313
  let v315 : Index := Scalar.indexCast v314
  let c0_155 : Index := 0#32
  ![0, v315.toNat, 0]
@[reducible] def k0_t14_loop (k0_t10 : Fin k0_t10_loop.trips) (v215 : BitVec 32) : Scf.Loop 32 :=
  let c0_i32_128 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v249 : BitVec 32 := Scalar.subi v217 c0_i32_128
  let c1_i32_129 : BitVec 32 := 1#32
  let v251 : BitVec 32 := Scalar.divsi v249 c1_i32_129
  let v252 : BitVec 32 := Scalar.muli v251 c1_i32_129
  let v253 : BitVec 32 := Scalar.addi c0_i32_128 v252
  let v250 : BitVec 32 := Scalar.addi c0_i32_128 v249
  let c1_i32_131 : BitVec 32 := 1#32
  ⟨v253, v250, c1_i32_131⟩
def k0_off24 (k0_t10 : Fin k0_t10_loop.trips) (v215 : BitVec 32) (k0_t14 : Fin (k0_t14_loop k0_t10 v215).trips) : Fin 3 → Nat :=
  let c0_i32_128 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v249 : BitVec 32 := Scalar.subi v217 c0_i32_128
  let c1_i32_129 : BitVec 32 := 1#32
  let v251 : BitVec 32 := Scalar.divsi v249 c1_i32_129
  let v252 : BitVec 32 := Scalar.muli v251 c1_i32_129
  let v253 : BitVec 32 := Scalar.addi c0_i32_128 v252
  let c1_i32_131 : BitVec 32 := 1#32
  let arg23 : BitVec 32 := Scf.iv v253 c1_i32_131 k0_t14
  let v283 : Index := Scalar.indexCast arg23
  let c0_142 : Index := 0#32
  let c0_143 : Index := 0#32
  ![v283.toNat, 0, 0]
def k0_off25 (k0_t10 : Fin k0_t10_loop.trips) (v215 : BitVec 32) (k0_t14 : Fin (k0_t14_loop k0_t10 v215).trips) : Fin 3 → Nat :=
  let c0_i32_128 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v249 : BitVec 32 := Scalar.subi v217 c0_i32_128
  let c1_i32_129 : BitVec 32 := 1#32
  let v251 : BitVec 32 := Scalar.divsi v249 c1_i32_129
  let v252 : BitVec 32 := Scalar.muli v251 c1_i32_129
  let v253 : BitVec 32 := Scalar.addi c0_i32_128 v252
  let c1_i32_131 : BitVec 32 := 1#32
  let arg23 : BitVec 32 := Scf.iv v253 c1_i32_131 k0_t14
  let v291 : Index := Scalar.indexCast arg23
  let c0_145 : Index := 0#32
  let c0_146 : Index := 0#32
  ![v291.toNat, 0, 0]
def k0_mult18 (k0_t10 : Fin k0_t10_loop.trips) (v215 : BitVec 32) (k0_t14 : Fin (k0_t14_loop k0_t10 v215).trips) : BitVec 32 :=
  let c0_i32_128 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v249 : BitVec 32 := Scalar.subi v217 c0_i32_128
  let c1_i32_129 : BitVec 32 := 1#32
  let v251 : BitVec 32 := Scalar.divsi v249 c1_i32_129
  let v252 : BitVec 32 := Scalar.muli v251 c1_i32_129
  let v253 : BitVec 32 := Scalar.addi c0_i32_128 v252
  let c1_i32_131 : BitVec 32 := 1#32
  let arg23 : BitVec 32 := Scf.iv v253 c1_i32_131 k0_t14
  let v282 : BitVec 32 := Scalar.addi v215 arg23
  let c256_i32_149 : BitVec 32 := 256#32
  let v301 : BitVec 32 := Scalar.muli v282 c256_i32_149
  v301
def k0_off26 (k0_t10 : Fin k0_t10_loop.trips) (v215 : BitVec 32) (k0_t14 : Fin (k0_t14_loop k0_t10 v215).trips) : Fin 2 → Nat :=
  let c0_i32_128 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v249 : BitVec 32 := Scalar.subi v217 c0_i32_128
  let c1_i32_129 : BitVec 32 := 1#32
  let v251 : BitVec 32 := Scalar.divsi v249 c1_i32_129
  let v252 : BitVec 32 := Scalar.muli v251 c1_i32_129
  let v253 : BitVec 32 := Scalar.addi c0_i32_128 v252
  let c1_i32_131 : BitVec 32 := 1#32
  let arg23 : BitVec 32 := Scf.iv v253 c1_i32_131 k0_t14
  let v282 : BitVec 32 := Scalar.addi v215 arg23
  let c256_i32_149 : BitVec 32 := 256#32
  let v301 : BitVec 32 := Scalar.muli v282 c256_i32_149
  let v302 : BitVec 32 := v301
  let v303 : Index := Scalar.indexCast v302
  let c0_150 : Index := 0#32
  ![v303.toNat, 0]
def k0_mult19 (k0_t10 : Fin k0_t10_loop.trips) (v215 : BitVec 32) (k0_t14 : Fin (k0_t14_loop k0_t10 v215).trips) : BitVec 32 :=
  let c0_i32_128 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v249 : BitVec 32 := Scalar.subi v217 c0_i32_128
  let c1_i32_129 : BitVec 32 := 1#32
  let v251 : BitVec 32 := Scalar.divsi v249 c1_i32_129
  let v252 : BitVec 32 := Scalar.muli v251 c1_i32_129
  let v253 : BitVec 32 := Scalar.addi c0_i32_128 v252
  let c1_i32_131 : BitVec 32 := 1#32
  let arg23 : BitVec 32 := Scf.iv v253 c1_i32_131 k0_t14
  let v282 : BitVec 32 := Scalar.addi v215 arg23
  let c256_i32_153 : BitVec 32 := 256#32
  let v313 : BitVec 32 := Scalar.muli v282 c256_i32_153
  v313
def k0_off27 (k0_t10 : Fin k0_t10_loop.trips) (v215 : BitVec 32) (k0_t14 : Fin (k0_t14_loop k0_t10 v215).trips) : Fin 3 → Nat :=
  let c0_154 : Index := 0#32
  let c0_i32_128 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v249 : BitVec 32 := Scalar.subi v217 c0_i32_128
  let c1_i32_129 : BitVec 32 := 1#32
  let v251 : BitVec 32 := Scalar.divsi v249 c1_i32_129
  let v252 : BitVec 32 := Scalar.muli v251 c1_i32_129
  let v253 : BitVec 32 := Scalar.addi c0_i32_128 v252
  let c1_i32_131 : BitVec 32 := 1#32
  let arg23 : BitVec 32 := Scf.iv v253 c1_i32_131 k0_t14
  let v282 : BitVec 32 := Scalar.addi v215 arg23
  let c256_i32_153 : BitVec 32 := 256#32
  let v313 : BitVec 32 := Scalar.muli v282 c256_i32_153
  let v314 : BitVec 32 := v313
  let v315 : Index := Scalar.indexCast v314
  let c0_155 : Index := 0#32
  ![0, v315.toNat, 0]
@[reducible] def k0_t15_loop (k0_t10 : Fin k0_t10_loop.trips) (v215 : BitVec 32) : Scf.Loop 32 :=
  let c0_i32_135 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v265 : BitVec 32 := Scalar.subi v217 c0_i32_135
  let c1_i32_136 : BitVec 32 := 1#32
  let v267 : BitVec 32 := Scalar.divsi v265 c1_i32_136
  let v268 : BitVec 32 := Scalar.muli v267 c1_i32_136
  let v269 : BitVec 32 := Scalar.addi c0_i32_135 v268
  let c1_i32_137 : BitVec 32 := 1#32
  ⟨c0_i32_135, v269, c1_i32_137⟩
def k0_mult20 (k0_t10 : Fin k0_t10_loop.trips) (v215 : BitVec 32) (k0_t15 : Fin (k0_t15_loop k0_t10 v215).trips) : BitVec 32 :=
  let c0_i32_135 : BitVec 32 := 0#32
  let c1_i32_137 : BitVec 32 := 1#32
  let arg23 : BitVec 32 := Scf.iv c0_i32_135 c1_i32_137 k0_t15
  let v282 : BitVec 32 := Scalar.addi v215 arg23
  let c256_i32_142 : BitVec 32 := 256#32
  let v283 : BitVec 32 := Scalar.muli v282 c256_i32_142
  v283
def k0_off28 (k0_t10 : Fin k0_t10_loop.trips) (v215 : BitVec 32) (k0_t15 : Fin (k0_t15_loop k0_t10 v215).trips) : Fin 3 → Nat :=
  let c0_143 : Index := 0#32
  let c0_i32_135 : BitVec 32 := 0#32
  let c1_i32_137 : BitVec 32 := 1#32
  let arg23 : BitVec 32 := Scf.iv c0_i32_135 c1_i32_137 k0_t15
  let v282 : BitVec 32 := Scalar.addi v215 arg23
  let c256_i32_142 : BitVec 32 := 256#32
  let v283 : BitVec 32 := Scalar.muli v282 c256_i32_142
  let v284 : BitVec 32 := v283
  let v285 : Index := Scalar.indexCast v284
  let c0_144 : Index := 0#32
  ![0, v285.toNat, 0]
def k0_off29 (k0_t10 : Fin k0_t10_loop.trips) (v215 : BitVec 32) (k0_t15 : Fin (k0_t15_loop k0_t10 v215).trips) : Fin 3 → Nat :=
  let c0_i32_135 : BitVec 32 := 0#32
  let c1_i32_137 : BitVec 32 := 1#32
  let arg23 : BitVec 32 := Scf.iv c0_i32_135 c1_i32_137 k0_t15
  let v289 : Index := Scalar.indexCast arg23
  let c0_146 : Index := 0#32
  let c0_147 : Index := 0#32
  ![v289.toNat, 0, 0]
def k0_mult21 (k0_t10 : Fin k0_t10_loop.trips) (v215 : BitVec 32) (k0_t15 : Fin (k0_t15_loop k0_t10 v215).trips) : BitVec 32 :=
  let c0_i32_135 : BitVec 32 := 0#32
  let c1_i32_137 : BitVec 32 := 1#32
  let arg23 : BitVec 32 := Scf.iv c0_i32_135 c1_i32_137 k0_t15
  let v282 : BitVec 32 := Scalar.addi v215 arg23
  let c256_i32_148 : BitVec 32 := 256#32
  let v296 : BitVec 32 := Scalar.muli v282 c256_i32_148
  v296
def k0_off30 (k0_t10 : Fin k0_t10_loop.trips) (v215 : BitVec 32) (k0_t15 : Fin (k0_t15_loop k0_t10 v215).trips) : Fin 2 → Nat :=
  let c0_i32_135 : BitVec 32 := 0#32
  let c1_i32_137 : BitVec 32 := 1#32
  let arg23 : BitVec 32 := Scf.iv c0_i32_135 c1_i32_137 k0_t15
  let v282 : BitVec 32 := Scalar.addi v215 arg23
  let c256_i32_148 : BitVec 32 := 256#32
  let v296 : BitVec 32 := Scalar.muli v282 c256_i32_148
  let v297 : BitVec 32 := v296
  let v298 : Index := Scalar.indexCast v297
  let c0_149 : Index := 0#32
  ![v298.toNat, 0]
def k0_off31 (k0_t10 : Fin k0_t10_loop.trips) (v215 : BitVec 32) (k0_t15 : Fin (k0_t15_loop k0_t10 v215).trips) : Fin 3 → Nat :=
  let c0_i32_135 : BitVec 32 := 0#32
  let c1_i32_137 : BitVec 32 := 1#32
  let arg23 : BitVec 32 := Scf.iv c0_i32_135 c1_i32_137 k0_t15
  let v282 : BitVec 32 := Scalar.addi v215 arg23
  let v306 : Index := Scalar.indexCast v282
  let c0_152 : Index := 0#32
  let c0_153 : Index := 0#32
  ![v306.toNat, 0, 0]
@[reducible] def k0_t16_loop (k0_t10 : Fin k0_t10_loop.trips) (v215 : BitVec 32) : Scf.Loop 32 :=
  let c0_i32_135 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v265 : BitVec 32 := Scalar.subi v217 c0_i32_135
  let c1_i32_136 : BitVec 32 := 1#32
  let v267 : BitVec 32 := Scalar.divsi v265 c1_i32_136
  let v268 : BitVec 32 := Scalar.muli v267 c1_i32_136
  let v269 : BitVec 32 := Scalar.addi c0_i32_135 v268
  let v266 : BitVec 32 := Scalar.addi c0_i32_135 v265
  let c1_i32_138 : BitVec 32 := 1#32
  ⟨v269, v266, c1_i32_138⟩
def k0_mult22 (k0_t10 : Fin k0_t10_loop.trips) (v215 : BitVec 32) (k0_t16 : Fin (k0_t16_loop k0_t10 v215).trips) : BitVec 32 :=
  let c0_i32_135 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v265 : BitVec 32 := Scalar.subi v217 c0_i32_135
  let c1_i32_136 : BitVec 32 := 1#32
  let v267 : BitVec 32 := Scalar.divsi v265 c1_i32_136
  let v268 : BitVec 32 := Scalar.muli v267 c1_i32_136
  let v269 : BitVec 32 := Scalar.addi c0_i32_135 v268
  let c1_i32_138 : BitVec 32 := 1#32
  let arg23 : BitVec 32 := Scf.iv v269 c1_i32_138 k0_t16
  let v282 : BitVec 32 := Scalar.addi v215 arg23
  let c256_i32_142 : BitVec 32 := 256#32
  let v283 : BitVec 32 := Scalar.muli v282 c256_i32_142
  v283
def k0_off32 (k0_t10 : Fin k0_t10_loop.trips) (v215 : BitVec 32) (k0_t16 : Fin (k0_t16_loop k0_t10 v215).trips) : Fin 3 → Nat :=
  let c0_143 : Index := 0#32
  let c0_i32_135 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v265 : BitVec 32 := Scalar.subi v217 c0_i32_135
  let c1_i32_136 : BitVec 32 := 1#32
  let v267 : BitVec 32 := Scalar.divsi v265 c1_i32_136
  let v268 : BitVec 32 := Scalar.muli v267 c1_i32_136
  let v269 : BitVec 32 := Scalar.addi c0_i32_135 v268
  let c1_i32_138 : BitVec 32 := 1#32
  let arg23 : BitVec 32 := Scf.iv v269 c1_i32_138 k0_t16
  let v282 : BitVec 32 := Scalar.addi v215 arg23
  let c256_i32_142 : BitVec 32 := 256#32
  let v283 : BitVec 32 := Scalar.muli v282 c256_i32_142
  let v284 : BitVec 32 := v283
  let v285 : Index := Scalar.indexCast v284
  let c0_144 : Index := 0#32
  ![0, v285.toNat, 0]
def k0_off33 (k0_t10 : Fin k0_t10_loop.trips) (v215 : BitVec 32) (k0_t16 : Fin (k0_t16_loop k0_t10 v215).trips) : Fin 3 → Nat :=
  let c0_i32_135 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v265 : BitVec 32 := Scalar.subi v217 c0_i32_135
  let c1_i32_136 : BitVec 32 := 1#32
  let v267 : BitVec 32 := Scalar.divsi v265 c1_i32_136
  let v268 : BitVec 32 := Scalar.muli v267 c1_i32_136
  let v269 : BitVec 32 := Scalar.addi c0_i32_135 v268
  let c1_i32_138 : BitVec 32 := 1#32
  let arg23 : BitVec 32 := Scf.iv v269 c1_i32_138 k0_t16
  let v289 : Index := Scalar.indexCast arg23
  let c0_146 : Index := 0#32
  let c0_147 : Index := 0#32
  ![v289.toNat, 0, 0]
def k0_mult23 (k0_t10 : Fin k0_t10_loop.trips) (v215 : BitVec 32) (k0_t16 : Fin (k0_t16_loop k0_t10 v215).trips) : BitVec 32 :=
  let c0_i32_135 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v265 : BitVec 32 := Scalar.subi v217 c0_i32_135
  let c1_i32_136 : BitVec 32 := 1#32
  let v267 : BitVec 32 := Scalar.divsi v265 c1_i32_136
  let v268 : BitVec 32 := Scalar.muli v267 c1_i32_136
  let v269 : BitVec 32 := Scalar.addi c0_i32_135 v268
  let c1_i32_138 : BitVec 32 := 1#32
  let arg23 : BitVec 32 := Scf.iv v269 c1_i32_138 k0_t16
  let v282 : BitVec 32 := Scalar.addi v215 arg23
  let c256_i32_148 : BitVec 32 := 256#32
  let v296 : BitVec 32 := Scalar.muli v282 c256_i32_148
  v296
def k0_off34 (k0_t10 : Fin k0_t10_loop.trips) (v215 : BitVec 32) (k0_t16 : Fin (k0_t16_loop k0_t10 v215).trips) : Fin 2 → Nat :=
  let c0_i32_135 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v265 : BitVec 32 := Scalar.subi v217 c0_i32_135
  let c1_i32_136 : BitVec 32 := 1#32
  let v267 : BitVec 32 := Scalar.divsi v265 c1_i32_136
  let v268 : BitVec 32 := Scalar.muli v267 c1_i32_136
  let v269 : BitVec 32 := Scalar.addi c0_i32_135 v268
  let c1_i32_138 : BitVec 32 := 1#32
  let arg23 : BitVec 32 := Scf.iv v269 c1_i32_138 k0_t16
  let v282 : BitVec 32 := Scalar.addi v215 arg23
  let c256_i32_148 : BitVec 32 := 256#32
  let v296 : BitVec 32 := Scalar.muli v282 c256_i32_148
  let v297 : BitVec 32 := v296
  let v298 : Index := Scalar.indexCast v297
  let c0_149 : Index := 0#32
  ![v298.toNat, 0]
def k0_off35 (k0_t10 : Fin k0_t10_loop.trips) (v215 : BitVec 32) (k0_t16 : Fin (k0_t16_loop k0_t10 v215).trips) : Fin 3 → Nat :=
  let c0_i32_135 : BitVec 32 := 0#32
  let c0_i32_102 : BitVec 32 := 0#32
  let c1_i32_104 : BitVec 32 := 1#32
  let arg22 : BitVec 32 := Scf.iv c0_i32_102 c1_i32_104 k0_t10
  let c1_i32_110 : BitVec 32 := 1#32
  let v216 : BitVec 32 := Scalar.addi arg22 c1_i32_110
  let v217 : BitVec 32 := Scalar.subi v216 v215
  let v265 : BitVec 32 := Scalar.subi v217 c0_i32_135
  let c1_i32_136 : BitVec 32 := 1#32
  let v267 : BitVec 32 := Scalar.divsi v265 c1_i32_136
  let v268 : BitVec 32 := Scalar.muli v267 c1_i32_136
  let v269 : BitVec 32 := Scalar.addi c0_i32_135 v268
  let c1_i32_138 : BitVec 32 := 1#32
  let arg23 : BitVec 32 := Scf.iv v269 c1_i32_138 k0_t16
  let v282 : BitVec 32 := Scalar.addi v215 arg23
  let v306 : Index := Scalar.indexCast v282
  let c0_152 : Index := 0#32
  let c0_153 : Index := 0#32
  ![v306.toNat, 0, 0]

def k0_chk1_0 (k0_t10 : Fin k0_t10_loop.trips) (v215 : BitVec 32) : Prop :=
  ((k0_t11_loop k0_t10 v215).OK) ∧
  (∀ k0_t11 : Fin (k0_t11_loop k0_t10 v215).trips, 256 ∣ (k0_mult14 k0_t10 v215 k0_t11).toNat) ∧
  (∀ k0_t11 : Fin (k0_t11_loop k0_t10 v215).trips, ∀ a, (k0_off14 k0_t10 v215 k0_t11) a + S1x256x128.size a ≤ S1x8192x128.size a) ∧
  (∀ k0_t11 : Fin (k0_t11_loop k0_t10 v215).trips, ∀ a, (k0_off15 k0_t10 v215 k0_t11) a + S1x256x256.size a ≤ S32x256x256.size a) ∧
  (∀ k0_t11 : Fin (k0_t11_loop k0_t10 v215).trips, ∀ a, (k0_off16 k0_t10 v215 k0_t11) a + S1x1x256.size a ≤ S32x1x256.size a) ∧
  ((k0_t12_loop k0_t10 v215).OK) ∧
  (∀ k0_t12 : Fin (k0_t12_loop k0_t10 v215).trips, 256 ∣ (k0_mult15 k0_t10 v215 k0_t12).toNat) ∧
  (∀ k0_t12 : Fin (k0_t12_loop k0_t10 v215).trips, ∀ a, (k0_off17 k0_t10 v215 k0_t12) a + S1x256x128.size a ≤ S1x8192x128.size a) ∧
  (∀ k0_t12 : Fin (k0_t12_loop k0_t10 v215).trips, ∀ a, (k0_off18 k0_t10 v215 k0_t12) a + S1x256x256.size a ≤ S32x256x256.size a) ∧
  (∀ k0_t12 : Fin (k0_t12_loop k0_t10 v215).trips, ∀ a, (k0_off19 k0_t10 v215 k0_t12) a + S1x1x256.size a ≤ S32x1x256.size a) ∧
  ((k0_t13_loop k0_t10 v215).OK) ∧
  (∀ k0_t13 : Fin (k0_t13_loop k0_t10 v215).trips, ∀ a, (k0_off20 k0_t10 v215 k0_t13) a + S1x1x256.size a ≤ S32x1x256.size a) ∧
  (∀ k0_t13 : Fin (k0_t13_loop k0_t10 v215).trips, ∀ a, (k0_off21 k0_t10 v215 k0_t13) a + S1x256x256.size a ≤ S32x256x256.size a) ∧
  (∀ k0_t13 : Fin (k0_t13_loop k0_t10 v215).trips, 256 ∣ (k0_mult16 k0_t10 v215 k0_t13).toNat) ∧
  (∀ k0_t13 : Fin (k0_t13_loop k0_t10 v215).trips, ∀ a, (k0_off22 k0_t10 v215 k0_t13) a + S256x128.size a ≤ S8192x128.size a) ∧
  (∀ k0_t13 : Fin (k0_t13_loop k0_t10 v215).trips, 256 ∣ (k0_mult17 k0_t10 v215 k0_t13).toNat) ∧
  (∀ k0_t13 : Fin (k0_t13_loop k0_t10 v215).trips, ∀ a, (k0_off23 k0_t10 v215 k0_t13) a + S1x256x128.size a ≤ S1x8192x128.size a) ∧
  ((k0_t14_loop k0_t10 v215).OK) ∧
  (∀ k0_t14 : Fin (k0_t14_loop k0_t10 v215).trips, ∀ a, (k0_off24 k0_t10 v215 k0_t14) a + S1x1x256.size a ≤ S32x1x256.size a) ∧
  (∀ k0_t14 : Fin (k0_t14_loop k0_t10 v215).trips, ∀ a, (k0_off25 k0_t10 v215 k0_t14) a + S1x256x256.size a ≤ S32x256x256.size a) ∧
  (∀ k0_t14 : Fin (k0_t14_loop k0_t10 v215).trips, 256 ∣ (k0_mult18 k0_t10 v215 k0_t14).toNat) ∧
  (∀ k0_t14 : Fin (k0_t14_loop k0_t10 v215).trips, ∀ a, (k0_off26 k0_t10 v215 k0_t14) a + S256x128.size a ≤ S8192x128.size a) ∧
  (∀ k0_t14 : Fin (k0_t14_loop k0_t10 v215).trips, 256 ∣ (k0_mult19 k0_t10 v215 k0_t14).toNat) ∧
  (∀ k0_t14 : Fin (k0_t14_loop k0_t10 v215).trips, ∀ a, (k0_off27 k0_t10 v215 k0_t14) a + S1x256x128.size a ≤ S1x8192x128.size a) ∧
  ((k0_t15_loop k0_t10 v215).OK) ∧
  (∀ k0_t15 : Fin (k0_t15_loop k0_t10 v215).trips, 256 ∣ (k0_mult20 k0_t10 v215 k0_t15).toNat) ∧
  (∀ k0_t15 : Fin (k0_t15_loop k0_t10 v215).trips, ∀ a, (k0_off28 k0_t10 v215 k0_t15) a + S1x256x128.size a ≤ S1x8192x128.size a) ∧
  (∀ k0_t15 : Fin (k0_t15_loop k0_t10 v215).trips, ∀ a, (k0_off29 k0_t10 v215 k0_t15) a + S1x256x256.size a ≤ S32x256x256.size a) ∧
  (∀ k0_t15 : Fin (k0_t15_loop k0_t10 v215).trips, 256 ∣ (k0_mult21 k0_t10 v215 k0_t15).toNat) ∧
  (∀ k0_t15 : Fin (k0_t15_loop k0_t10 v215).trips, ∀ a, (k0_off30 k0_t10 v215 k0_t15) a + S256x128.size a ≤ S8192x128.size a) ∧
  (∀ k0_t15 : Fin (k0_t15_loop k0_t10 v215).trips, ∀ a, (k0_off31 k0_t10 v215 k0_t15) a + S1x128x256.size a ≤ S32x128x256.size a) ∧
  ((k0_t16_loop k0_t10 v215).OK)
def k0_chk1_1 (k0_t10 : Fin k0_t10_loop.trips) (v215 : BitVec 32) : Prop :=
  (∀ k0_t16 : Fin (k0_t16_loop k0_t10 v215).trips, 256 ∣ (k0_mult22 k0_t10 v215 k0_t16).toNat) ∧
  (∀ k0_t16 : Fin (k0_t16_loop k0_t10 v215).trips, ∀ a, (k0_off32 k0_t10 v215 k0_t16) a + S1x256x128.size a ≤ S1x8192x128.size a) ∧
  (∀ k0_t16 : Fin (k0_t16_loop k0_t10 v215).trips, ∀ a, (k0_off33 k0_t10 v215 k0_t16) a + S1x256x256.size a ≤ S32x256x256.size a) ∧
  (∀ k0_t16 : Fin (k0_t16_loop k0_t10 v215).trips, 256 ∣ (k0_mult23 k0_t10 v215 k0_t16).toNat) ∧
  (∀ k0_t16 : Fin (k0_t16_loop k0_t10 v215).trips, ∀ a, (k0_off34 k0_t10 v215 k0_t16) a + S256x128.size a ≤ S8192x128.size a) ∧
  (∀ k0_t16 : Fin (k0_t16_loop k0_t10 v215).trips, ∀ a, (k0_off35 k0_t10 v215 k0_t16) a + S1x128x256.size a ≤ S32x128x256.size a)
def k0_chk1 (k0_t10 : Fin k0_t10_loop.trips) (v215 : BitVec 32) : Prop :=
  k0_chk1_0 k0_t10 v215 ∧
  k0_chk1_1 k0_t10 v215
theorem k0_t11_ok : ∀ (k0_t10 : Fin k0_t10_loop.trips) (v215 : BitVec 32) (k0_hw1 : k0_chk1 k0_t10 v215), (k0_t11_loop k0_t10 v215).OK := fun k0_t10 v215 k0_hw1 => k0_hw1.1.1
theorem k0_mult14_dvd : ∀ (k0_t10 : Fin k0_t10_loop.trips) (v215 : BitVec 32) (k0_hw1 : k0_chk1 k0_t10 v215) (k0_t11 : Fin (k0_t11_loop k0_t10 v215).trips), 256 ∣ (k0_mult14 k0_t10 v215 k0_t11).toNat := fun k0_t10 v215 k0_hw1 k0_t11 => k0_hw1.1.2.1 k0_t11
theorem k0_off14_inb : ∀ (k0_t10 : Fin k0_t10_loop.trips) (v215 : BitVec 32) (k0_hw1 : k0_chk1 k0_t10 v215) (k0_t11 : Fin (k0_t11_loop k0_t10 v215).trips), ∀ a, (k0_off14 k0_t10 v215 k0_t11) a + S1x256x128.size a ≤ S1x8192x128.size a := fun k0_t10 v215 k0_hw1 k0_t11 => k0_hw1.1.2.2.1 k0_t11
theorem k0_off15_inb : ∀ (k0_t10 : Fin k0_t10_loop.trips) (v215 : BitVec 32) (k0_hw1 : k0_chk1 k0_t10 v215) (k0_t11 : Fin (k0_t11_loop k0_t10 v215).trips), ∀ a, (k0_off15 k0_t10 v215 k0_t11) a + S1x256x256.size a ≤ S32x256x256.size a := fun k0_t10 v215 k0_hw1 k0_t11 => k0_hw1.1.2.2.2.1 k0_t11
theorem k0_off16_inb : ∀ (k0_t10 : Fin k0_t10_loop.trips) (v215 : BitVec 32) (k0_hw1 : k0_chk1 k0_t10 v215) (k0_t11 : Fin (k0_t11_loop k0_t10 v215).trips), ∀ a, (k0_off16 k0_t10 v215 k0_t11) a + S1x1x256.size a ≤ S32x1x256.size a := fun k0_t10 v215 k0_hw1 k0_t11 => k0_hw1.1.2.2.2.2.1 k0_t11
theorem k0_t12_ok : ∀ (k0_t10 : Fin k0_t10_loop.trips) (v215 : BitVec 32) (k0_hw1 : k0_chk1 k0_t10 v215), (k0_t12_loop k0_t10 v215).OK := fun k0_t10 v215 k0_hw1 => k0_hw1.1.2.2.2.2.2.1
theorem k0_mult15_dvd : ∀ (k0_t10 : Fin k0_t10_loop.trips) (v215 : BitVec 32) (k0_hw1 : k0_chk1 k0_t10 v215) (k0_t12 : Fin (k0_t12_loop k0_t10 v215).trips), 256 ∣ (k0_mult15 k0_t10 v215 k0_t12).toNat := fun k0_t10 v215 k0_hw1 k0_t12 => k0_hw1.1.2.2.2.2.2.2.1 k0_t12
theorem k0_off17_inb : ∀ (k0_t10 : Fin k0_t10_loop.trips) (v215 : BitVec 32) (k0_hw1 : k0_chk1 k0_t10 v215) (k0_t12 : Fin (k0_t12_loop k0_t10 v215).trips), ∀ a, (k0_off17 k0_t10 v215 k0_t12) a + S1x256x128.size a ≤ S1x8192x128.size a := fun k0_t10 v215 k0_hw1 k0_t12 => k0_hw1.1.2.2.2.2.2.2.2.1 k0_t12
theorem k0_off18_inb : ∀ (k0_t10 : Fin k0_t10_loop.trips) (v215 : BitVec 32) (k0_hw1 : k0_chk1 k0_t10 v215) (k0_t12 : Fin (k0_t12_loop k0_t10 v215).trips), ∀ a, (k0_off18 k0_t10 v215 k0_t12) a + S1x256x256.size a ≤ S32x256x256.size a := fun k0_t10 v215 k0_hw1 k0_t12 => k0_hw1.1.2.2.2.2.2.2.2.2.1 k0_t12
theorem k0_off19_inb : ∀ (k0_t10 : Fin k0_t10_loop.trips) (v215 : BitVec 32) (k0_hw1 : k0_chk1 k0_t10 v215) (k0_t12 : Fin (k0_t12_loop k0_t10 v215).trips), ∀ a, (k0_off19 k0_t10 v215 k0_t12) a + S1x1x256.size a ≤ S32x1x256.size a := fun k0_t10 v215 k0_hw1 k0_t12 => k0_hw1.1.2.2.2.2.2.2.2.2.2.1 k0_t12
theorem k0_t13_ok : ∀ (k0_t10 : Fin k0_t10_loop.trips) (v215 : BitVec 32) (k0_hw1 : k0_chk1 k0_t10 v215), (k0_t13_loop k0_t10 v215).OK := fun k0_t10 v215 k0_hw1 => k0_hw1.1.2.2.2.2.2.2.2.2.2.2.1
theorem k0_off20_inb : ∀ (k0_t10 : Fin k0_t10_loop.trips) (v215 : BitVec 32) (k0_hw1 : k0_chk1 k0_t10 v215) (k0_t13 : Fin (k0_t13_loop k0_t10 v215).trips), ∀ a, (k0_off20 k0_t10 v215 k0_t13) a + S1x1x256.size a ≤ S32x1x256.size a := fun k0_t10 v215 k0_hw1 k0_t13 => k0_hw1.1.2.2.2.2.2.2.2.2.2.2.2.1 k0_t13
theorem k0_off21_inb : ∀ (k0_t10 : Fin k0_t10_loop.trips) (v215 : BitVec 32) (k0_hw1 : k0_chk1 k0_t10 v215) (k0_t13 : Fin (k0_t13_loop k0_t10 v215).trips), ∀ a, (k0_off21 k0_t10 v215 k0_t13) a + S1x256x256.size a ≤ S32x256x256.size a := fun k0_t10 v215 k0_hw1 k0_t13 => k0_hw1.1.2.2.2.2.2.2.2.2.2.2.2.2.1 k0_t13
theorem k0_mult16_dvd : ∀ (k0_t10 : Fin k0_t10_loop.trips) (v215 : BitVec 32) (k0_hw1 : k0_chk1 k0_t10 v215) (k0_t13 : Fin (k0_t13_loop k0_t10 v215).trips), 256 ∣ (k0_mult16 k0_t10 v215 k0_t13).toNat := fun k0_t10 v215 k0_hw1 k0_t13 => k0_hw1.1.2.2.2.2.2.2.2.2.2.2.2.2.2.1 k0_t13
theorem k0_off22_inb : ∀ (k0_t10 : Fin k0_t10_loop.trips) (v215 : BitVec 32) (k0_hw1 : k0_chk1 k0_t10 v215) (k0_t13 : Fin (k0_t13_loop k0_t10 v215).trips), ∀ a, (k0_off22 k0_t10 v215 k0_t13) a + S256x128.size a ≤ S8192x128.size a := fun k0_t10 v215 k0_hw1 k0_t13 => k0_hw1.1.2.2.2.2.2.2.2.2.2.2.2.2.2.2.1 k0_t13
theorem k0_mult17_dvd : ∀ (k0_t10 : Fin k0_t10_loop.trips) (v215 : BitVec 32) (k0_hw1 : k0_chk1 k0_t10 v215) (k0_t13 : Fin (k0_t13_loop k0_t10 v215).trips), 256 ∣ (k0_mult17 k0_t10 v215 k0_t13).toNat := fun k0_t10 v215 k0_hw1 k0_t13 => k0_hw1.1.2.2.2.2.2.2.2.2.2.2.2.2.2.2.2.1 k0_t13
theorem k0_off23_inb : ∀ (k0_t10 : Fin k0_t10_loop.trips) (v215 : BitVec 32) (k0_hw1 : k0_chk1 k0_t10 v215) (k0_t13 : Fin (k0_t13_loop k0_t10 v215).trips), ∀ a, (k0_off23 k0_t10 v215 k0_t13) a + S1x256x128.size a ≤ S1x8192x128.size a := fun k0_t10 v215 k0_hw1 k0_t13 => k0_hw1.1.2.2.2.2.2.2.2.2.2.2.2.2.2.2.2.2.1 k0_t13
theorem k0_t14_ok : ∀ (k0_t10 : Fin k0_t10_loop.trips) (v215 : BitVec 32) (k0_hw1 : k0_chk1 k0_t10 v215), (k0_t14_loop k0_t10 v215).OK := fun k0_t10 v215 k0_hw1 => k0_hw1.1.2.2.2.2.2.2.2.2.2.2.2.2.2.2.2.2.2.1
theorem k0_off24_inb : ∀ (k0_t10 : Fin k0_t10_loop.trips) (v215 : BitVec 32) (k0_hw1 : k0_chk1 k0_t10 v215) (k0_t14 : Fin (k0_t14_loop k0_t10 v215).trips), ∀ a, (k0_off24 k0_t10 v215 k0_t14) a + S1x1x256.size a ≤ S32x1x256.size a := fun k0_t10 v215 k0_hw1 k0_t14 => k0_hw1.1.2.2.2.2.2.2.2.2.2.2.2.2.2.2.2.2.2.2.1 k0_t14
theorem k0_off25_inb : ∀ (k0_t10 : Fin k0_t10_loop.trips) (v215 : BitVec 32) (k0_hw1 : k0_chk1 k0_t10 v215) (k0_t14 : Fin (k0_t14_loop k0_t10 v215).trips), ∀ a, (k0_off25 k0_t10 v215 k0_t14) a + S1x256x256.size a ≤ S32x256x256.size a := fun k0_t10 v215 k0_hw1 k0_t14 => k0_hw1.1.2.2.2.2.2.2.2.2.2.2.2.2.2.2.2.2.2.2.2.1 k0_t14
theorem k0_mult18_dvd : ∀ (k0_t10 : Fin k0_t10_loop.trips) (v215 : BitVec 32) (k0_hw1 : k0_chk1 k0_t10 v215) (k0_t14 : Fin (k0_t14_loop k0_t10 v215).trips), 256 ∣ (k0_mult18 k0_t10 v215 k0_t14).toNat := fun k0_t10 v215 k0_hw1 k0_t14 => k0_hw1.1.2.2.2.2.2.2.2.2.2.2.2.2.2.2.2.2.2.2.2.2.1 k0_t14
theorem k0_off26_inb : ∀ (k0_t10 : Fin k0_t10_loop.trips) (v215 : BitVec 32) (k0_hw1 : k0_chk1 k0_t10 v215) (k0_t14 : Fin (k0_t14_loop k0_t10 v215).trips), ∀ a, (k0_off26 k0_t10 v215 k0_t14) a + S256x128.size a ≤ S8192x128.size a := fun k0_t10 v215 k0_hw1 k0_t14 => k0_hw1.1.2.2.2.2.2.2.2.2.2.2.2.2.2.2.2.2.2.2.2.2.2.1 k0_t14
theorem k0_mult19_dvd : ∀ (k0_t10 : Fin k0_t10_loop.trips) (v215 : BitVec 32) (k0_hw1 : k0_chk1 k0_t10 v215) (k0_t14 : Fin (k0_t14_loop k0_t10 v215).trips), 256 ∣ (k0_mult19 k0_t10 v215 k0_t14).toNat := fun k0_t10 v215 k0_hw1 k0_t14 => k0_hw1.1.2.2.2.2.2.2.2.2.2.2.2.2.2.2.2.2.2.2.2.2.2.2.1 k0_t14
theorem k0_off27_inb : ∀ (k0_t10 : Fin k0_t10_loop.trips) (v215 : BitVec 32) (k0_hw1 : k0_chk1 k0_t10 v215) (k0_t14 : Fin (k0_t14_loop k0_t10 v215).trips), ∀ a, (k0_off27 k0_t10 v215 k0_t14) a + S1x256x128.size a ≤ S1x8192x128.size a := fun k0_t10 v215 k0_hw1 k0_t14 => k0_hw1.1.2.2.2.2.2.2.2.2.2.2.2.2.2.2.2.2.2.2.2.2.2.2.2.1 k0_t14
theorem k0_t15_ok : ∀ (k0_t10 : Fin k0_t10_loop.trips) (v215 : BitVec 32) (k0_hw1 : k0_chk1 k0_t10 v215), (k0_t15_loop k0_t10 v215).OK := fun k0_t10 v215 k0_hw1 => k0_hw1.1.2.2.2.2.2.2.2.2.2.2.2.2.2.2.2.2.2.2.2.2.2.2.2.2.1
theorem k0_mult20_dvd : ∀ (k0_t10 : Fin k0_t10_loop.trips) (v215 : BitVec 32) (k0_hw1 : k0_chk1 k0_t10 v215) (k0_t15 : Fin (k0_t15_loop k0_t10 v215).trips), 256 ∣ (k0_mult20 k0_t10 v215 k0_t15).toNat := fun k0_t10 v215 k0_hw1 k0_t15 => k0_hw1.1.2.2.2.2.2.2.2.2.2.2.2.2.2.2.2.2.2.2.2.2.2.2.2.2.2.1 k0_t15
theorem k0_off28_inb : ∀ (k0_t10 : Fin k0_t10_loop.trips) (v215 : BitVec 32) (k0_hw1 : k0_chk1 k0_t10 v215) (k0_t15 : Fin (k0_t15_loop k0_t10 v215).trips), ∀ a, (k0_off28 k0_t10 v215 k0_t15) a + S1x256x128.size a ≤ S1x8192x128.size a := fun k0_t10 v215 k0_hw1 k0_t15 => k0_hw1.1.2.2.2.2.2.2.2.2.2.2.2.2.2.2.2.2.2.2.2.2.2.2.2.2.2.2.1 k0_t15
theorem k0_off29_inb : ∀ (k0_t10 : Fin k0_t10_loop.trips) (v215 : BitVec 32) (k0_hw1 : k0_chk1 k0_t10 v215) (k0_t15 : Fin (k0_t15_loop k0_t10 v215).trips), ∀ a, (k0_off29 k0_t10 v215 k0_t15) a + S1x256x256.size a ≤ S32x256x256.size a := fun k0_t10 v215 k0_hw1 k0_t15 => k0_hw1.1.2.2.2.2.2.2.2.2.2.2.2.2.2.2.2.2.2.2.2.2.2.2.2.2.2.2.2.1 k0_t15
theorem k0_mult21_dvd : ∀ (k0_t10 : Fin k0_t10_loop.trips) (v215 : BitVec 32) (k0_hw1 : k0_chk1 k0_t10 v215) (k0_t15 : Fin (k0_t15_loop k0_t10 v215).trips), 256 ∣ (k0_mult21 k0_t10 v215 k0_t15).toNat := fun k0_t10 v215 k0_hw1 k0_t15 => k0_hw1.1.2.2.2.2.2.2.2.2.2.2.2.2.2.2.2.2.2.2.2.2.2.2.2.2.2.2.2.2.1 k0_t15
theorem k0_off30_inb : ∀ (k0_t10 : Fin k0_t10_loop.trips) (v215 : BitVec 32) (k0_hw1 : k0_chk1 k0_t10 v215) (k0_t15 : Fin (k0_t15_loop k0_t10 v215).trips), ∀ a, (k0_off30 k0_t10 v215 k0_t15) a + S256x128.size a ≤ S8192x128.size a := fun k0_t10 v215 k0_hw1 k0_t15 => k0_hw1.1.2.2.2.2.2.2.2.2.2.2.2.2.2.2.2.2.2.2.2.2.2.2.2.2.2.2.2.2.2.1 k0_t15
theorem k0_off31_inb : ∀ (k0_t10 : Fin k0_t10_loop.trips) (v215 : BitVec 32) (k0_hw1 : k0_chk1 k0_t10 v215) (k0_t15 : Fin (k0_t15_loop k0_t10 v215).trips), ∀ a, (k0_off31 k0_t10 v215 k0_t15) a + S1x128x256.size a ≤ S32x128x256.size a := fun k0_t10 v215 k0_hw1 k0_t15 => k0_hw1.1.2.2.2.2.2.2.2.2.2.2.2.2.2.2.2.2.2.2.2.2.2.2.2.2.2.2.2.2.2.2.1 k0_t15
theorem k0_t16_ok : ∀ (k0_t10 : Fin k0_t10_loop.trips) (v215 : BitVec 32) (k0_hw1 : k0_chk1 k0_t10 v215), (k0_t16_loop k0_t10 v215).OK := fun k0_t10 v215 k0_hw1 => k0_hw1.1.2.2.2.2.2.2.2.2.2.2.2.2.2.2.2.2.2.2.2.2.2.2.2.2.2.2.2.2.2.2.2
theorem k0_mult22_dvd : ∀ (k0_t10 : Fin k0_t10_loop.trips) (v215 : BitVec 32) (k0_hw1 : k0_chk1 k0_t10 v215) (k0_t16 : Fin (k0_t16_loop k0_t10 v215).trips), 256 ∣ (k0_mult22 k0_t10 v215 k0_t16).toNat := fun k0_t10 v215 k0_hw1 k0_t16 => k0_hw1.2.1 k0_t16
theorem k0_off32_inb : ∀ (k0_t10 : Fin k0_t10_loop.trips) (v215 : BitVec 32) (k0_hw1 : k0_chk1 k0_t10 v215) (k0_t16 : Fin (k0_t16_loop k0_t10 v215).trips), ∀ a, (k0_off32 k0_t10 v215 k0_t16) a + S1x256x128.size a ≤ S1x8192x128.size a := fun k0_t10 v215 k0_hw1 k0_t16 => k0_hw1.2.2.1 k0_t16
theorem k0_off33_inb : ∀ (k0_t10 : Fin k0_t10_loop.trips) (v215 : BitVec 32) (k0_hw1 : k0_chk1 k0_t10 v215) (k0_t16 : Fin (k0_t16_loop k0_t10 v215).trips), ∀ a, (k0_off33 k0_t10 v215 k0_t16) a + S1x256x256.size a ≤ S32x256x256.size a := fun k0_t10 v215 k0_hw1 k0_t16 => k0_hw1.2.2.2.1 k0_t16
theorem k0_mult23_dvd : ∀ (k0_t10 : Fin k0_t10_loop.trips) (v215 : BitVec 32) (k0_hw1 : k0_chk1 k0_t10 v215) (k0_t16 : Fin (k0_t16_loop k0_t10 v215).trips), 256 ∣ (k0_mult23 k0_t10 v215 k0_t16).toNat := fun k0_t10 v215 k0_hw1 k0_t16 => k0_hw1.2.2.2.2.1 k0_t16
theorem k0_off34_inb : ∀ (k0_t10 : Fin k0_t10_loop.trips) (v215 : BitVec 32) (k0_hw1 : k0_chk1 k0_t10 v215) (k0_t16 : Fin (k0_t16_loop k0_t10 v215).trips), ∀ a, (k0_off34 k0_t10 v215 k0_t16) a + S256x128.size a ≤ S8192x128.size a := fun k0_t10 v215 k0_hw1 k0_t16 => k0_hw1.2.2.2.2.2.1 k0_t16
theorem k0_off35_inb : ∀ (k0_t10 : Fin k0_t10_loop.trips) (v215 : BitVec 32) (k0_hw1 : k0_chk1 k0_t10 v215) (k0_t16 : Fin (k0_t16_loop k0_t10 v215).trips), ∀ a, (k0_off35 k0_t10 v215 k0_t16) a + S1x128x256.size a ≤ S32x128x256.size a := fun k0_t10 v215 k0_hw1 k0_t16 => k0_hw1.2.2.2.2.2.2 k0_t16

def k0_mult24 (k0_t10 : Fin k0_t10_loop.trips) : BitVec 32 :=
  let c0_i32_102 : BitVec 32 := 0#32
  let c1_i32_104 : BitVec 32 := 1#32
  let arg22 : BitVec 32 := Scf.iv c0_i32_102 c1_i32_104 k0_t10
  let c256_i32_139 : BitVec 32 := 256#32
  let v276 : BitVec 32 := Scalar.muli arg22 c256_i32_139
  v276
def k0_off36 (k0_t10 : Fin k0_t10_loop.trips) : Fin 3 → Nat :=
  let c0_140 : Index := 0#32
  let c0_i32_102 : BitVec 32 := 0#32
  let c1_i32_104 : BitVec 32 := 1#32
  let arg22 : BitVec 32 := Scf.iv c0_i32_102 c1_i32_104 k0_t10
  let c256_i32_139 : BitVec 32 := 256#32
  let v276 : BitVec 32 := Scalar.muli arg22 c256_i32_139
  let v277 : BitVec 32 := v276
  let v278 : Index := Scalar.indexCast v277
  let c0_141 : Index := 0#32
  ![0, v278.toNat, 0]
@[reducible] def k0_t17_loop : Scf.Loop 32 :=
  let c0_i32_106 : BitVec 32 := 0#32
  let c32_i32_107 : BitVec 32 := 32#32
  let v212 : BitVec 32 := Scalar.addi c0_i32_106 c32_i32_107
  let c1_i32_108 : BitVec 32 := 1#32
  ⟨c0_i32_106, v212, c1_i32_108⟩
def k0_mult25 (k0_t17 : Fin k0_t17_loop.trips) : BitVec 32 :=
  let c0_i32_106 : BitVec 32 := 0#32
  let c1_i32_108 : BitVec 32 := 1#32
  let arg22 : BitVec 32 := Scf.iv c0_i32_106 c1_i32_108 k0_t17
  let c256_i32 : BitVec 32 := 256#32
  let v213 : BitVec 32 := Scalar.muli arg22 c256_i32
  v213
def k0_off37 (k0_t17 : Fin k0_t17_loop.trips) : Fin 2 → Nat :=
  let c0_i32_106 : BitVec 32 := 0#32
  let c1_i32_108 : BitVec 32 := 1#32
  let arg22 : BitVec 32 := Scf.iv c0_i32_106 c1_i32_108 k0_t17
  let c256_i32 : BitVec 32 := 256#32
  let v213 : BitVec 32 := Scalar.muli arg22 c256_i32
  let v214 : BitVec 32 := v213
  let v215 : Index := Scalar.indexCast v214
  let c0_110 : Index := 0#32
  ![v215.toNat, 0]
def k0_mult26 (k0_t17 : Fin k0_t17_loop.trips) : BitVec 32 :=
  let c0_i32_106 : BitVec 32 := 0#32
  let c1_i32_108 : BitVec 32 := 1#32
  let arg22 : BitVec 32 := Scf.iv c0_i32_106 c1_i32_108 k0_t17
  let c256_i32_111 : BitVec 32 := 256#32
  let v220 : BitVec 32 := Scalar.muli arg22 c256_i32_111
  v220
def k0_off38 (k0_t17 : Fin k0_t17_loop.trips) : Fin 3 → Nat :=
  let c0_112 : Index := 0#32
  let c0_i32_106 : BitVec 32 := 0#32
  let c1_i32_108 : BitVec 32 := 1#32
  let arg22 : BitVec 32 := Scf.iv c0_i32_106 c1_i32_108 k0_t17
  let c256_i32_111 : BitVec 32 := 256#32
  let v220 : BitVec 32 := Scalar.muli arg22 c256_i32_111
  let v221 : BitVec 32 := v220
  let v222 : Index := Scalar.indexCast v221
  let c0_113 : Index := 0#32
  ![0, v222.toNat, 0]
def k0_mult27 (k0_t17 : Fin k0_t17_loop.trips) : BitVec 32 :=
  let c0_i32_106 : BitVec 32 := 0#32
  let c1_i32_108 : BitVec 32 := 1#32
  let arg22 : BitVec 32 := Scf.iv c0_i32_106 c1_i32_108 k0_t17
  let c256_i32_114 : BitVec 32 := 256#32
  let v226 : BitVec 32 := Scalar.muli arg22 c256_i32_114
  v226
def k0_mult28 (k0_t17 : Fin k0_t17_loop.trips) : BitVec 32 :=
  let c0_i32_106 : BitVec 32 := 0#32
  let c1_i32_108 : BitVec 32 := 1#32
  let arg22 : BitVec 32 := Scf.iv c0_i32_106 c1_i32_108 k0_t17
  let c256_i32_116 : BitVec 32 := 256#32
  let v233 : BitVec 32 := Scalar.muli arg22 c256_i32_116
  v233
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x8192 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8192x128 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8192x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8192x128 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x8192x128 .fp8e5m2 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x1x1x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== ReferenceIdeal.lean ====
abbrev S9x8192x1024 : Shape := ⟨3, ![9, 8192, 1024]⟩
abbrev S9x8192 : Shape := ⟨2, ![9, 8192]⟩
abbrev S9x8192x8x128 : Shape := ⟨4, ![9, 8192, 8, 128]⟩
abbrev S_ : Shape := ⟨0, ![]⟩
abbrev S9x8 : Shape := ⟨2, ![9, 8]⟩
abbrev S254 : Shape := ⟨1, ![254]⟩
abbrev S1x1x254 : Shape := ⟨3, ![1, 1, 254]⟩
abbrev S9x8x1 : Shape := ⟨3, ![9, 8, 1]⟩
abbrev S9x8x254 : Shape := ⟨3, ![9, 8, 254]⟩
abbrev S9x1x8x1 : Shape := ⟨4, ![9, 1, 8, 1]⟩
abbrev S8192 : Shape := ⟨1, ![8192]⟩
abbrev S1x1x8192 : Shape := ⟨3, ![1, 1, 8192]⟩
abbrev S1x8192x1 : Shape := ⟨3, ![1, 8192, 1]⟩
abbrev S1x8192x8192 : Shape := ⟨3, ![1, 8192, 8192]⟩
abbrev S9x8192x1 : Shape := ⟨3, ![9, 8192, 1]⟩
abbrev S9x1x8192 : Shape := ⟨3, ![9, 1, 8192]⟩
abbrev S9x8192x8192 : Shape := ⟨3, ![9, 8192, 8192]⟩
abbrev S9x8x8192x8192 : Shape := ⟨4, ![9, 8, 8192, 8192]⟩
abbrev S9x8x1x1 : Shape := ⟨4, ![9, 8, 1, 1]⟩
abbrev S9x1x8192x8192 : Shape := ⟨4, ![9, 1, 8192, 8192]⟩
abbrev S9x8x8192 : Shape := ⟨3, ![9, 8, 8192]⟩
abbrev S9x8x8192x1 : Shape := ⟨4, ![9, 8, 8192, 1]⟩
abbrev S9x8x8192x128 : Shape := ⟨4, ![9, 8, 8192, 128]⟩
abbrev S128 : Shape := ⟨1, ![128]⟩
abbrev S9x8x1x128 : Shape := ⟨4, ![9, 8, 1, 128]⟩

abbrev nBuf : Space → Nat
  | .hbm => 331
  | .vmem => 2
  | .smem => 0
  | _ => 0

abbrev hbmTy0_0 (i : Nat) : BufTy := match i % 128 with
  | 0 => ⟨S9x8192x1024, .bf16⟩
  | 1 => ⟨S9x8192x1024, .bf16⟩
  | 2 => ⟨S9x8192x1024, .bf16⟩
  | 3 => ⟨S9x8192x1024, .bf16⟩
  | 4 => ⟨S9x8192, .i32⟩
  | 5 => ⟨S9x8192x1024, .f32⟩
  | 6 => ⟨S9x8192x8x128, .f32⟩
  | 7 => ⟨S9x8192x8x128, .f32⟩
  | 8 => ⟨S_, .f32⟩
  | 9 => ⟨S9x8, .f32⟩
  | 10 => ⟨S254, .i32⟩
  | 11 => ⟨S_, .i32⟩
  | 12 => ⟨S254, .i32⟩
  | 13 => ⟨S254, .i32⟩
  | 14 => ⟨S254, .f32⟩
  | 15 => ⟨S_, .f32⟩
  | 16 => ⟨S254, .f32⟩
  | 17 => ⟨S254, .f32⟩
  | 18 => ⟨S1x1x254, .f32⟩
  | 19 => ⟨S_, .f32⟩
  | 20 => ⟨S9x8, .f32⟩
  | 21 => ⟨S9x8, .f32⟩
  | 22 => ⟨S9x8x1, .f32⟩
  | 23 => ⟨S9x8x254, .f32⟩
  | 24 => ⟨S9x8x254, .f32⟩
  | 25 => ⟨S9x8x254, .i1⟩
  | 26 => ⟨S1x1x254, .f32⟩
  | 27 => ⟨S_, .f32⟩
  | 28 => ⟨S_, .f32⟩
  | 29 => ⟨S9x8x254, .f32⟩
  | 30 => ⟨S9x8x254, .f32⟩
  | 31 => ⟨S9x8x254, .f32⟩
  | 32 => ⟨S_, .f32⟩
  | 33 => ⟨S9x8, .f32⟩
  | 34 => ⟨S_, .f32⟩
  | 35 => ⟨S9x8, .f32⟩
  | 36 => ⟨S9x8, .i1⟩
  | 37 => ⟨S_, .f32⟩
  | 38 => ⟨S9x8, .f32⟩
  | 39 => ⟨S9x8, .f32⟩
  | 40 => ⟨S9x1x8x1, .f32⟩
  | 41 => ⟨S9x8192x8x128, .f32⟩
  | 42 => ⟨S9x8192x8x128, .f32⟩
  | 43 => ⟨S_, .f32⟩
  | 44 => ⟨S9x8192x8x128, .f32⟩
  | 45 => ⟨S9x8192x8x128, .f32⟩
  | 46 => ⟨S_, .f32⟩
  | 47 => ⟨S9x8192x8x128, .f32⟩
  | 48 => ⟨S9x8192x8x128, .f32⟩
  | 49 => ⟨S9x8192x1024, .f32⟩
  | 50 => ⟨S9x8192x1024, .fp8e5m2⟩
  | 51 => ⟨S9x8192x1024, .f32⟩
  | 52 => ⟨S9x8192x8x128, .f32⟩
  | 53 => ⟨S9x8192x8x128, .f32⟩
  | 54 => ⟨S_, .f32⟩
  | 55 => ⟨S9x8, .f32⟩
  | 56 => ⟨S254, .i32⟩
  | 57 => ⟨S_, .i32⟩
  | 58 => ⟨S254, .i32⟩
  | 59 => ⟨S254, .i32⟩
  | 60 => ⟨S254, .f32⟩
  | 61 => ⟨S_, .f32⟩
  | 62 => ⟨S254, .f32⟩
  | 63 => ⟨S254, .f32⟩
  | 64 => ⟨S1x1x254, .f32⟩
  | 65 => ⟨S_, .f32⟩
  | 66 => ⟨S9x8, .f32⟩
  | 67 => ⟨S9x8, .f32⟩
  | 68 => ⟨S9x8x1, .f32⟩
  | 69 => ⟨S9x8x254, .f32⟩
  | 70 => ⟨S9x8x254, .f32⟩
  | 71 => ⟨S9x8x254, .i1⟩
  | 72 => ⟨S1x1x254, .f32⟩
  | 73 => ⟨S_, .f32⟩
  | 74 => ⟨S_, .f32⟩
  | 75 => ⟨S9x8x254, .f32⟩
  | 76 => ⟨S9x8x254, .f32⟩
  | 77 => ⟨S9x8x254, .f32⟩
  | 78 => ⟨S_, .f32⟩
  | 79 => ⟨S9x8, .f32⟩
  | 80 => ⟨S_, .f32⟩
  | 81 => ⟨S9x8, .f32⟩
  | 82 => ⟨S9x8, .i1⟩
  | 83 => ⟨S_, .f32⟩
  | 84 => ⟨S9x8, .f32⟩
  | 85 => ⟨S9x8, .f32⟩
  | 86 => ⟨S9x1x8x1, .f32⟩
  | 87 => ⟨S9x8192x8x128, .f32⟩
  | 88 => ⟨S9x8192x8x128, .f32⟩
  | 89 => ⟨S_, .f32⟩
  | 90 => ⟨S9x8192x8x128, .f32⟩
  | 91 => ⟨S9x8192x8x128, .f32⟩
  | 92 => ⟨S_, .f32⟩
  | 93 => ⟨S9x8192x8x128, .f32⟩
  | 94 => ⟨S9x8192x8x128, .f32⟩
  | 95 => ⟨S9x8192x1024, .f32⟩
  | 96 => ⟨S9x8192x8x128, .f32⟩
  | 97 => ⟨S9x8192x8x128, .f32⟩
  | 98 => ⟨S_, .f32⟩
  | 99 => ⟨S9x8, .f32⟩
  | 100 => ⟨S254, .i32⟩
  | 101 => ⟨S_, .i32⟩
  | 102 => ⟨S254, .i32⟩
  | 103 => ⟨S254, .i32⟩
  | 104 => ⟨S254, .f32⟩
  | 105 => ⟨S_, .f32⟩
  | 106 => ⟨S254, .f32⟩
  | 107 => ⟨S254, .f32⟩
  | 108 => ⟨S1x1x254, .f32⟩
  | 109 => ⟨S_, .f32⟩
  | 110 => ⟨S9x8, .f32⟩
  | 111 => ⟨S9x8, .f32⟩
  | 112 => ⟨S9x8x1, .f32⟩
  | 113 => ⟨S9x8x254, .f32⟩
  | 114 => ⟨S9x8x254, .f32⟩
  | 115 => ⟨S9x8x254, .i1⟩
  | 116 => ⟨S1x1x254, .f32⟩
  | 117 => ⟨S_, .f32⟩
  | 118 => ⟨S_, .f32⟩
  | 119 => ⟨S9x8x254, .f32⟩
  | 120 => ⟨S9x8x254, .f32⟩
  | 121 => ⟨S9x8x254, .f32⟩
  | 122 => ⟨S_, .f32⟩
  | 123 => ⟨S9x8, .f32⟩
  | 124 => ⟨S_, .f32⟩
  | 125 => ⟨S9x8, .f32⟩
  | 126 => ⟨S9x8, .i1⟩
  | 127 => ⟨S_, .f32⟩
  | _ => ⟨S9x8192x1024, .bf16⟩

abbrev hbmTy0_1 (i : Nat) : BufTy := match i % 128 with
  | 0 => ⟨S9x8, .f32⟩
  | 1 => ⟨S9x8, .f32⟩
  | 2 => ⟨S9x1x8x1, .f32⟩
  | 3 => ⟨S9x8192x8x128, .f32⟩
  | 4 => ⟨S9x8192x8x128, .f32⟩
  | 5 => ⟨S_, .f32⟩
  | 6 => ⟨S9x8192x8x128, .f32⟩
  | 7 => ⟨S9x8192x8x128, .f32⟩
  | 8 => ⟨S_, .f32⟩
  | 9 => ⟨S9x8192x8x128, .f32⟩
  | 10 => ⟨S9x8192x8x128, .f32⟩
  | 11 => ⟨S9x8192x1024, .f32⟩
  | 12 => ⟨S9x8192x8x128, .f32⟩
  | 13 => ⟨S9x8192x8x128, .f32⟩
  | 14 => ⟨S_, .f32⟩
  | 15 => ⟨S9x8, .f32⟩
  | 16 => ⟨S254, .i32⟩
  | 17 => ⟨S_, .i32⟩
  | 18 => ⟨S254, .i32⟩
  | 19 => ⟨S254, .i32⟩
  | 20 => ⟨S254, .f32⟩
  | 21 => ⟨S_, .f32⟩
  | 22 => ⟨S254, .f32⟩
  | 23 => ⟨S254, .f32⟩
  | 24 => ⟨S1x1x254, .f32⟩
  | 25 => ⟨S_, .f32⟩
  | 26 => ⟨S9x8, .f32⟩
  | 27 => ⟨S9x8, .f32⟩
  | 28 => ⟨S9x8x1, .f32⟩
  | 29 => ⟨S9x8x254, .f32⟩
  | 30 => ⟨S9x8x254, .f32⟩
  | 31 => ⟨S9x8x254, .i1⟩
  | 32 => ⟨S1x1x254, .f32⟩
  | 33 => ⟨S_, .f32⟩
  | 34 => ⟨S_, .f32⟩
  | 35 => ⟨S9x8x254, .f32⟩
  | 36 => ⟨S9x8x254, .f32⟩
  | 37 => ⟨S9x8x254, .f32⟩
  | 38 => ⟨S_, .f32⟩
  | 39 => ⟨S9x8, .f32⟩
  | 40 => ⟨S_, .f32⟩
  | 41 => ⟨S9x8, .f32⟩
  | 42 => ⟨S9x8, .i1⟩
  | 43 => ⟨S_, .f32⟩
  | 44 => ⟨S9x8, .f32⟩
  | 45 => ⟨S9x8, .f32⟩
  | 46 => ⟨S9x1x8x1, .f32⟩
  | 47 => ⟨S9x8192x8x128, .f32⟩
  | 48 => ⟨S9x8192x8x128, .f32⟩
  | 49 => ⟨S_, .f32⟩
  | 50 => ⟨S9x8192x8x128, .f32⟩
  | 51 => ⟨S9x8192x8x128, .f32⟩
  | 52 => ⟨S_, .f32⟩
  | 53 => ⟨S9x8192x8x128, .f32⟩
  | 54 => ⟨S9x8192x8x128, .f32⟩
  | 55 => ⟨S8192, .i32⟩
  | 56 => ⟨S1x1x8192, .i32⟩
  | 57 => ⟨S1x8192x1, .i32⟩
  | 58 => ⟨S1x8192x8192, .i32⟩
  | 59 => ⟨S1x8192x8192, .i32⟩
  | 60 => ⟨S1x8192x8192, .i1⟩
  | 61 => ⟨S9x8192x1, .i32⟩
  | 62 => ⟨S9x1x8192, .i32⟩
  | 63 => ⟨S9x8192x8192, .i32⟩
  | 64 => ⟨S9x8192x8192, .i32⟩
  | 65 => ⟨S9x8192x8192, .i1⟩
  | 66 => ⟨S9x8192x8192, .i1⟩
  | 67 => ⟨S9x8192x8192, .i1⟩
  | 68 => ⟨S9x8x8192x8192, .f32⟩
  | 69 => ⟨S9x8, .f32⟩
  | 70 => ⟨S_, .f32⟩
  | 71 => ⟨S9x8, .f32⟩
  | 72 => ⟨S9x8, .f32⟩
  | 73 => ⟨S9x8x1x1, .f32⟩
  | 74 => ⟨S9x8x8192x8192, .f32⟩
  | 75 => ⟨S9x8x8192x8192, .f32⟩
  | 76 => ⟨S9x1x8192x8192, .i1⟩
  | 77 => ⟨S_, .f32⟩
  | 78 => ⟨S9x8x8192x8192, .f32⟩
  | 79 => ⟨S9x8x8192x8192, .i1⟩
  | 80 => ⟨S9x8x8192x8192, .f32⟩
  | 81 => ⟨S_, .f32⟩
  | 82 => ⟨S9x8x8192, .f32⟩
  | 83 => ⟨S9x8x8192x1, .f32⟩
  | 84 => ⟨S9x8x8192x8192, .f32⟩
  | 85 => ⟨S9x8x8192x8192, .f32⟩
  | 86 => ⟨S9x8x8192x8192, .f32⟩
  | 87 => ⟨S_, .f32⟩
  | 88 => ⟨S9x8x8192, .f32⟩
  | 89 => ⟨S9x8x8192x1, .f32⟩
  | 90 => ⟨S9x8x8192x8192, .f32⟩
  | 91 => ⟨S9x8x8192x8192, .f32⟩
  | 92 => ⟨S9x8x8192x1, .f32⟩
  | 93 => ⟨S9x8x8192x1, .f32⟩
  | 94 => ⟨S_, .f32⟩
  | 95 => ⟨S9x8x8192x8192, .f32⟩
  | 96 => ⟨S9x8x8192x8192, .f32⟩
  | 97 => ⟨S_, .f32⟩
  | 98 => ⟨S9x8x8192x8192, .f32⟩
  | 99 => ⟨S9x8x8192x8192, .f32⟩
  | 100 => ⟨S_, .f32⟩
  | 101 => ⟨S9x8x8192x8192, .f32⟩
  | 102 => ⟨S9x8x8192x8192, .f32⟩
  | 103 => ⟨S9x8x8192x128, .f32⟩
  | 104 => ⟨S_, .f32⟩
  | 105 => ⟨S9x8, .f32⟩
  | 106 => ⟨S9x8, .f32⟩
  | 107 => ⟨S9x8x1x1, .f32⟩
  | 108 => ⟨S9x8x8192x128, .f32⟩
  | 109 => ⟨S9x8x8192x128, .f32⟩
  | 110 => ⟨S9x8x8192x128, .f32⟩
  | 111 => ⟨S9x8x1x1, .f32⟩
  | 112 => ⟨S9x8x8192x128, .f32⟩
  | 113 => ⟨S9x8x8192x128, .f32⟩
  | 114 => ⟨S9x8x8192x128, .f32⟩
  | 115 => ⟨S_, .f32⟩
  | 116 => ⟨S9x8x8192, .f32⟩
  | 117 => ⟨S9x8x8192x1, .f32⟩
  | 118 => ⟨S9x8x8192x8192, .f32⟩
  | 119 => ⟨S9x8, .f32⟩
  | 120 => ⟨S9x8x1x1, .f32⟩
  | 121 => ⟨S9x8x8192x8192, .f32⟩
  | 122 => ⟨S9x8x8192x8192, .f32⟩
  | 123 => ⟨S9x8x8192x8192, .f32⟩
  | 124 => ⟨S9x8x8192x8192, .f32⟩
  | 125 => ⟨S9x8x8192x8192, .f32⟩
  | 126 => ⟨S9x8x8192x8192, .bf16⟩
  | 127 => ⟨S9x8x8192x8192, .f32⟩
  | _ => ⟨S9x8192x1024, .bf16⟩

abbrev hbmTy0_2 (i : Nat) : BufTy := match i % 128 with
  | 0 => ⟨S9x8x8192x128, .f32⟩
  | 1 => ⟨S_, .f32⟩
  | 2 => ⟨S9x8, .f32⟩
  | 3 => ⟨S9x8, .f32⟩
  | 4 => ⟨S9x8x1x1, .f32⟩
  | 5 => ⟨S9x8x8192x128, .f32⟩
  | 6 => ⟨S9x8x8192x128, .f32⟩
  | 7 => ⟨S9x8x8192x8192, .f32⟩
  | 8 => ⟨S9x8x8192x8192, .f32⟩
  | 9 => ⟨S9x8x8192x8192, .f32⟩
  | 10 => ⟨S_, .f32⟩
  | 11 => ⟨S9x8x8192x8192, .f32⟩
  | 12 => ⟨S9x8x8192x8192, .f32⟩
  | 13 => ⟨S_, .f32⟩
  | 14 => ⟨S9x8x8192x8192, .f32⟩
  | 15 => ⟨S9x8x8192x8192, .f32⟩
  | 16 => ⟨S_, .f32⟩
  | 17 => ⟨S9x8x8192x8192, .f32⟩
  | 18 => ⟨S9x8x8192x8192, .f32⟩
  | 19 => ⟨S9x8x8192x8192, .f32⟩
  | 20 => ⟨S9x8x8192x8192, .f32⟩
  | 21 => ⟨S9x8x8192x8192, .f32⟩
  | 22 => ⟨S9x8x8192x8192, .bf16⟩
  | 23 => ⟨S9x8x8192x8192, .f32⟩
  | 24 => ⟨S9x8x8192x128, .f32⟩
  | 25 => ⟨S_, .f32⟩
  | 26 => ⟨S9x8, .f32⟩
  | 27 => ⟨S9x8, .f32⟩
  | 28 => ⟨S9x8x1x1, .f32⟩
  | 29 => ⟨S9x8x8192x128, .f32⟩
  | 30 => ⟨S9x8x8192x128, .f32⟩
  | 31 => ⟨S9x8x8192x128, .f32⟩
  | 32 => ⟨S_, .f32⟩
  | 33 => ⟨S9x8, .f32⟩
  | 34 => ⟨S9x8, .f32⟩
  | 35 => ⟨S9x8x1x1, .f32⟩
  | 36 => ⟨S9x8x8192x128, .f32⟩
  | 37 => ⟨S9x8x8192x128, .f32⟩
  | 38 => ⟨S128, .i32⟩
  | 39 => ⟨S9x8x1x128, .i32⟩
  | 40 => ⟨S_, .i32⟩
  | 41 => ⟨S9x8x1x128, .i32⟩
  | 42 => ⟨S9x8x1x128, .i1⟩
  | 43 => ⟨S9x8x1x1, .f32⟩
  | 44 => ⟨S9x8x1x128, .f32⟩
  | 45 => ⟨S_, .i32⟩
  | 46 => ⟨S9x8x1x128, .i32⟩
  | 47 => ⟨S9x8x1x128, .i1⟩
  | 48 => ⟨S9x8x1x1, .f32⟩
  | 49 => ⟨S9x8x1x128, .f32⟩
  | 50 => ⟨S_, .i32⟩
  | 51 => ⟨S9x8x1x128, .i32⟩
  | 52 => ⟨S9x8x1x128, .i1⟩
  | 53 => ⟨S9x8x1x1, .f32⟩
  | 54 => ⟨S9x8x1x128, .f32⟩
  | 55 => ⟨S9x8x1x1, .f32⟩
  | 56 => ⟨S9x8x1x128, .f32⟩
  | 57 => ⟨S9x8x1x128, .f32⟩
  | 58 => ⟨S9x8x1x128, .f32⟩
  | 59 => ⟨S9x8x1x128, .f32⟩
  | 60 => ⟨S9x8192x8x128, .f32⟩
  | 61 => ⟨S9x8192x8x128, .bf16⟩
  | 62 => ⟨S9x8192x1024, .bf16⟩
  | 63 => ⟨S9x8192x8x128, .f32⟩
  | 64 => ⟨S9x8192x8x128, .bf16⟩
  | 65 => ⟨S9x8192x1024, .bf16⟩
  | 66 => ⟨S9x8192x8x128, .f32⟩
  | 67 => ⟨S9x8192x8x128, .bf16⟩
  | 68 => ⟨S9x8192x1024, .bf16⟩
  | 69 => ⟨S9x8192x1024, .f32⟩
  | 70 => ⟨S9x8192x1024, .fp8e4m3⟩
  | 71 => ⟨S9x8192x1024, .f32⟩
  | 72 => ⟨S9x8192x1024, .fp8e4m3⟩
  | 73 => ⟨S9x8192x1024, .f32⟩
  | 74 => ⟨S9x8192x1024, .fp8e4m3⟩
  | _ => ⟨S9x8192x1024, .bf16⟩

abbrev hbmTy (i : Nat) : BufTy := match i / 128 with
  | 0 => hbmTy0_0 i
  | 1 => hbmTy0_1 i
  | 2 => hbmTy0_2 i
  | _ => ⟨S9x8192x1024, .bf16⟩

abbrev bufTy : (tb : Table) → Fin (tcTables nBuf tb) → BufTy
  | .hbm, ⟨i, _⟩ => hbmTy i
  | .local _ .vmem, ⟨0, _⟩ => ⟨S9x8192x1024, .f32⟩
  | .local _ .vmem, ⟨1, _⟩ => ⟨S9x8192x1024, .fp8e5m2⟩
  | _, _ => ⟨S9x8192x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_cst_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_c_9 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_10 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_11 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_12 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v51 : Ref sig .tc := ⟨.hbm, 77, rfl⟩
abbrev main_cst_13 : Ref sig .tc := ⟨.hbm, 78, rfl⟩
abbrev main_v52 : Ref sig .tc := ⟨.hbm, 79, rfl⟩
abbrev main_cst_14 : Ref sig .tc := ⟨.hbm, 80, rfl⟩
abbrev main_v53 : Ref sig .tc := ⟨.hbm, 81, rfl⟩
abbrev main_v54 : Ref sig .tc := ⟨.hbm, 82, rfl⟩
abbrev main_cst_15 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_16 : Ref sig .tc := ⟨.hbm, 89, rfl⟩
abbrev main_v60 : Ref sig .tc := ⟨.hbm, 90, rfl⟩
abbrev main_v61 : Ref sig .tc := ⟨.hbm, 91, rfl⟩
abbrev main_cst_17 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_18 : Ref sig .tc := ⟨.hbm, 98, rfl⟩
abbrev main_v67 : Ref sig .tc := ⟨.hbm, 99, rfl⟩
abbrev main_v68 : Ref sig .tc := ⟨.hbm, 100, rfl⟩
abbrev main_c_19 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_cst_20 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_21 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_22 : Ref sig .tc := ⟨.hbm, 117, rfl⟩
abbrev main_call4_v0 : Ref sig .tc := ⟨.hbm, 118, rfl⟩
abbrev main_call4_v1 : Ref sig .tc := ⟨.hbm, 119, rfl⟩
abbrev main_call4_v2 : Ref sig .tc := ⟨.hbm, 120, rfl⟩
abbrev main_v82 : Ref sig .tc := ⟨.hbm, 121, rfl⟩
abbrev main_cst_23 : Ref sig .tc := ⟨.hbm, 122, rfl⟩
abbrev main_v83 : Ref sig .tc := ⟨.hbm, 123, rfl⟩
abbrev main_cst_24 : Ref sig .tc := ⟨.hbm, 124, rfl⟩
abbrev main_v84 : Ref sig .tc := ⟨.hbm, 125, rfl⟩
abbrev main_v85 : Ref sig .tc := ⟨.hbm, 126, rfl⟩
abbrev main_cst_25 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_26 : Ref sig .tc := ⟨.hbm, 133, rfl⟩
abbrev main_v91 : Ref sig .tc := ⟨.hbm, 134, rfl⟩
abbrev main_v92 : Ref sig .tc := ⟨.hbm, 135, rfl⟩
abbrev main_cst_27 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_v97 : Ref sig .tc := ⟨.hbm, 141, rfl⟩
abbrev main_cst_28 : Ref sig .tc := ⟨.hbm, 142, rfl⟩
abbrev main_v98 : Ref sig .tc := ⟨.hbm, 143, rfl⟩
abbrev main_v99 : Ref sig .tc := ⟨.hbm, 144, rfl⟩
abbrev main_c_29 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_30 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_31 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_32 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_v113 : Ref sig .tc := ⟨.hbm, 165, rfl⟩
abbrev main_cst_33 : Ref sig .tc := ⟨.hbm, 166, rfl⟩
abbrev main_v114 : Ref sig .tc := ⟨.hbm, 167, rfl⟩
abbrev main_cst_34 : Ref sig .tc := ⟨.hbm, 168, rfl⟩
abbrev main_v115 : Ref sig .tc := ⟨.hbm, 169, rfl⟩
abbrev main_v116 : Ref sig .tc := ⟨.hbm, 170, rfl⟩
abbrev main_cst_35 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_cst_36 : Ref sig .tc := ⟨.hbm, 177, rfl⟩
abbrev main_v122 : Ref sig .tc := ⟨.hbm, 178, rfl⟩
abbrev main_v123 : Ref sig .tc := ⟨.hbm, 179, rfl⟩
abbrev main_cst_37 : Ref sig .tc := ⟨.hbm, 180, rfl⟩
abbrev main_v124 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_cst_38 : Ref sig .tc := ⟨.hbm, 198, rfl⟩
abbrev main_v141 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_cst_39 : Ref sig .tc := ⟨.hbm, 205, rfl⟩
abbrev main_v147 : Ref sig .tc := ⟨.hbm, 206, rfl⟩
abbrev main_call8_v0 : Ref sig .tc := ⟨.hbm, 207, rfl⟩
abbrev main_v148 : Ref sig .tc := ⟨.hbm, 208, rfl⟩
abbrev main_cst_40 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_41 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_v159 : Ref sig .tc := ⟨.hbm, 221, rfl⟩
abbrev main_cst_42 : Ref sig .tc := ⟨.hbm, 222, rfl⟩
abbrev main_v160 : Ref sig .tc := ⟨.hbm, 223, rfl⟩
abbrev main_v161 : Ref sig .tc := ⟨.hbm, 224, rfl⟩
abbrev main_cst_43 : Ref sig .tc := ⟨.hbm, 225, rfl⟩
abbrev main_v162 : Ref sig .tc := ⟨.hbm, 226, rfl⟩
abbrev main_v163 : Ref sig .tc := ⟨.hbm, 227, rfl⟩
abbrev main_cst_44 : Ref sig .tc := ⟨.hbm, 228, rfl⟩
abbrev main_v164 : Ref sig .tc := ⟨.hbm, 229, rfl⟩
abbrev main_v165 : Ref sig .tc := ⟨.hbm, 230, rfl⟩
abbrev main_v166 : Ref sig .tc := ⟨.hbm, 231, rfl⟩
abbrev main_cst_45 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩
abbrev main_v172 : Ref sig .tc := ⟨.hbm, 238, rfl⟩
abbrev main_v173 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_46 : Ref sig .tc := ⟨.hbm, 243, rfl⟩
abbrev main_v177 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_cst_47 : Ref sig .tc := ⟨.hbm, 257, rfl⟩
abbrev main_v190 : Ref sig .tc := ⟨.hbm, 258, rfl⟩
abbrev main_v191 : Ref sig .tc := ⟨.hbm, 259, rfl⟩
abbrev main_v192 : Ref sig .tc := ⟨.hbm, 260, rfl⟩
abbrev main_v193 : Ref sig .tc := ⟨.hbm, 261, rfl⟩
abbrev main_v194 : Ref sig .tc := ⟨.hbm, 262, rfl⟩
abbrev main_v195 : Ref sig .tc := ⟨.hbm, 263, rfl⟩
abbrev main_v196 : Ref sig .tc := ⟨.hbm, 264, rfl⟩
abbrev main_v197 : Ref sig .tc := ⟨.hbm, 265, rfl⟩
abbrev main_cst_48 : Ref sig .tc := ⟨.hbm, 266, rfl⟩
abbrev main_v198 : Ref sig .tc := ⟨.hbm, 267, rfl⟩
abbrev main_v199 : Ref sig .tc := ⟨.hbm, 268, rfl⟩
abbrev main_cst_49 : Ref sig .tc := ⟨.hbm, 269, rfl⟩
abbrev main_v200 : Ref sig .tc := ⟨.hbm, 270, rfl⟩
abbrev main_v201 : Ref sig .tc := ⟨.hbm, 271, rfl⟩
abbrev main_cst_50 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_cst_51 : Ref sig .tc := ⟨.hbm, 281, rfl⟩
abbrev main_v210 : Ref sig .tc := ⟨.hbm, 282, rfl⟩
abbrev main_v211 : Ref sig .tc := ⟨.hbm, 283, rfl⟩
abbrev main_v212 : Ref sig .tc := ⟨.hbm, 284, rfl⟩
abbrev main_v213 : Ref sig .tc := ⟨.hbm, 285, rfl⟩
abbrev main_v214 : Ref sig .tc := ⟨.hbm, 286, rfl⟩
abbrev main_v215 : Ref sig .tc := ⟨.hbm, 287, rfl⟩
abbrev main_cst_52 : Ref sig .tc := ⟨.hbm, 288, rfl⟩
abbrev main_v216 : Ref sig .tc := ⟨.hbm, 289, rfl⟩
abbrev main_v217 : Ref sig .tc := ⟨.hbm, 290, rfl⟩
abbrev main_v218 : Ref sig .tc := ⟨.hbm, 291, rfl⟩
abbrev main_v219 : Ref sig .tc := ⟨.hbm, 292, rfl⟩
abbrev main_v220 : Ref sig .tc := ⟨.hbm, 293, rfl⟩
abbrev main_v221 : Ref sig .tc := ⟨.hbm, 294, rfl⟩
abbrev main_v222 : Ref sig .tc := ⟨.hbm, 295, rfl⟩
abbrev main_c_53 : Ref sig .tc := ⟨.hbm, 296, rfl⟩
abbrev main_v223 : Ref sig .tc := ⟨.hbm, 297, rfl⟩
abbrev main_v224 : Ref sig .tc := ⟨.hbm, 298, rfl⟩
abbrev main_v225 : Ref sig .tc := ⟨.hbm, 299, rfl⟩
abbrev main_v226 : Ref sig .tc := ⟨.hbm, 300, rfl⟩
abbrev main_c_54 : Ref sig .tc := ⟨.hbm, 301, rfl⟩
abbrev main_v227 : Ref sig .tc := ⟨.hbm, 302, rfl⟩
abbrev main_v228 : Ref sig .tc := ⟨.hbm, 303, rfl⟩
abbrev main_v229 : Ref sig .tc := ⟨.hbm, 304, rfl⟩
abbrev main_v230 : Ref sig .tc := ⟨.hbm, 305, rfl⟩
abbrev main_c_55 : Ref sig .tc := ⟨.hbm, 306, rfl⟩
abbrev main_v231 : Ref sig .tc := ⟨.hbm, 307, rfl⟩
abbrev main_v232 : Ref sig .tc := ⟨.hbm, 308, rfl⟩
abbrev main_v233 : Ref sig .tc := ⟨.hbm, 309, rfl⟩
abbrev main_v234 : Ref sig .tc := ⟨.hbm, 310, rfl⟩
abbrev main_v235 : Ref sig .tc := ⟨.hbm, 311, rfl⟩
abbrev main_v236 : Ref sig .tc := ⟨.hbm, 312, rfl⟩
abbrev main_v237 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_v245 : Ref sig .tc := ⟨.hbm, 321, rfl⟩
abbrev main_v246 : Ref sig .tc := ⟨.hbm, 322, rfl⟩
abbrev main_v247 : Ref sig .tc := ⟨.hbm, 323, rfl⟩
abbrev main_v248 : Ref sig .tc := ⟨.hbm, 324, rfl⟩
abbrev main_v249 : Ref sig .tc := ⟨.hbm, 325, rfl⟩
abbrev main_v250 : Ref sig .tc := ⟨.hbm, 326, rfl⟩
abbrev main_v251 : Ref sig .tc := ⟨.hbm, 327, rfl⟩
abbrev main_v252 : Ref sig .tc := ⟨.hbm, 328, rfl⟩
abbrev main_v253 : Ref sig .tc := ⟨.hbm, 329, rfl⟩
abbrev main_v254 : Ref sig .tc := ⟨.hbm, 330, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S9x8192x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x8192x1024 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Owns.lean ====
/-
  Loads, stores and counted loops over memrefs held at what they READ as.

  `owns c m q X` says that core `c` holds the memref `m` and reads `X` through it. The rules below run a load, an unmasked
  store, a scalar load and a counted loop over such assertions: a load hands on `X` restricted to its rectangle, a store
  leaves `X` overlaid by its payload, and a counted loop leaves the state a pure recursion `iter` computes. No buffer
  contents, no write lists: a kernel body run with them ends in plain functions of the block contents.
-/
module

public import Idealize.ShloMosaic.Lib.Memref
public import Idealize.ShloMosaic.Lib.Writes
public import Idealize.ShloMosaic.Lib.Exec
public import Idealize.ShloMosaic.Lib.Tactic
public import Idealize.ShloMosaic.Lib.Scf

@[expose] public section

noncomputable section

namespace Cert.Proof

open Idealize.ShloMosaic
open Idealize.SL Idealize.SL.RA Idealize.SL.BI
open scoped Idealize.SL.BI
open Idealize.SL.BI.BIBase Idealize.SL.BI.Laws Idealize.SL.ProofMode Idealize.SL.Sem

/-- The values of `X` on a rectangle. -/
abbrev pull {s : Shape} {α : Type} (r : Rect s) (X : s.Idx → α) : r.shape.Idx → α := fun j => X (r.emb j)

/-! ## Counted recursion -/

/-- The state before trip `k` of a loop of `n` trips from `s₀`. -/
def iter {S : Type} (n : ℕ) (step : Fin n → S → S) (s₀ : S) : ℕ → S
  | 0 => s₀
  | k + 1 => if h : k < n then step ⟨k, h⟩ (iter n step s₀ k) else iter n step s₀ k

theorem iter_zero {S : Type} (n : ℕ) (step : Fin n → S → S) (s₀ : S) : iter n step s₀ 0 = s₀ := rfl

theorem iter_succ {S : Type} (n : ℕ) (step : Fin n → S → S) (s₀ : S) (k : Fin n) :
    iter n step s₀ (k.val + 1) = step k (iter n step s₀ k.val) := by
  show (if h : k.val < n then _ else _) = _
  rw [dif_pos k.isLt]

theorem iter_of_trips_zero {S : Type} (n : ℕ) (step : Fin n → S → S) (s₀ : S) (h : n = 0) : iter n step s₀ n = s₀ := by
  subst h; rfl

/-- Induction along the recursion. -/
theorem iter_ind {S : Type} (n : ℕ) (step : Fin n → S → S) (s₀ : S) (P : ℕ → S → Prop) (h0 : P 0 s₀)
    (hs : ∀ (k : Fin n) (s : S), P k.val s → P (k.val + 1) (step k s)) : ∀ k, k ≤ n → P k (iter n step s₀ k)
  | 0, _ => h0
  | k + 1, hk => by
    have := iter_ind n step s₀ P h0 hs k (Nat.le_of_succ_le hk)
    rw [show k + 1 = (⟨k, hk⟩ : Fin n).val + 1 from rfl, iter_succ]
    exact hs ⟨k, hk⟩ _ this

section Rules

variable {nD : Nat} {τ : Topo} {sig : RefSig} {Ix : Type} [DecidableEq Ix]
variable {Val : EltTy → Type} {Name : Type} [DecidableEq Name]
variable {U : Type} [URA U] {Lvl : Type} {Λ : Labels}
variable [Preorder Lvl] {defs : Defs nD τ sig Val Λ} (𝒱 : Variants) (c : Thread nD τ) (bd : Option 𝒱.V) (E : Set Name)
variable {s : Shape} {e : EltTy} {α : Type} {Q : α → sProp (MT nD τ sig Ix Val Name U Lvl)}

local notation "𝕄" => MT nD τ sig Ix Val Name U Lvl

theorem wp_ld {cs : CoreSpace} {m : Memref sig c.2.kind cs s e} {r : Rect s} {hl : m.view.LoadsAt r.toLoadRect}
    {k : (r.shape.Idx → Val e) → Prog (TpuEff nD τ sig Val Λ c.2) α} {q : PosShare TreeShare} (X : s.Idx → Val e) :
    (owns c m q X : sProp 𝕄)
      ⊢ iprop((owns c m q X -∗ wp frame (wpE defs 𝒱 c bd) E (k (pull r X)) Q)
        -∗ wp frame (wpE defs 𝒱 c bd) E (Prog.lift (.load m r.toLoadRect hl) >>= k) Q) := by
  iintro H HK
  ihave H' := (show owns c m q X ⊢ iprop(∃ g, ⌜m.view.read Val g = X⌝ ∗ m.view.loc c ↦[m.view.set]{q} g) from .rfl) $$ H
  icases H' with ⟨%g, %hg, H⟩
  have hk : m.view.readAt Val r.toLoadRect g = pull r X := by
    subst hg; rfl
  rw [← hk]
  iapply (wp_load 𝒱 c bd E (Q := Q) (m := m) (r := r.toLoadRect) (hl := hl) (k := k) (S := m.view.set) (q := q) (f := g)
    (Finset.map_subset_map.mpr (Finset.subset_univ _))) $$ H
  iintro H
  iapply HK
  unfold owns
  iexists g
  isplitr; · ipureintro; exact hg
  iexact H

theorem read_overlay {κ : Kind} {sp : Space} (v : View sig κ sp s e) (g : v.ty.Contents Val) (r : Rect s) (w : r.shape.Idx → Val e) :
    v.read Val ((v.slice r).write Val g w Finset.univ) = r.overlay (v.read Val g) w := by
  have h : (v.slice r).write Val g w Finset.univ = v.writes Val g [⟨r, w⟩] := rfl
  rw [h]
  funext y
  by_cases hy : y ∈ r.set
  · rw [← Rect.map_emb_univ] at hy
    obtain ⟨x, -, rfl⟩ := Finset.mem_map.mp hy
    rw [Rect.overlay_emb, View.read_writes_cons_emb]
  · rw [Rect.overlay_of_not_mem _ _ _ hy, View.read_writes_cons_miss _ _ _ _ _ hy, View.writes_nil]

theorem wp_st {cs : CoreSpace} {m : Memref sig c.2.kind cs s e} {r : Rect s} {w : r.shape.Idx → Val e}
    {hx : (m.access r).Stores Finset.univ} {hm : Finset.univ = Finset.univ ∨ ∀ a, r.stride a = 1}
    {k : PUnit → Prog (TpuEff nD τ sig Val Λ c.2) α} (X : s.Idx → Val e) :
    (owns c m fullShare X : sProp 𝕄)
      ⊢ iprop((owns c m fullShare (r.overlay X w) -∗ wp frame (wpE defs 𝒱 c bd) E (k ⟨⟩) Q)
        -∗ wp frame (wpE defs 𝒱 c bd) E (Prog.lift (.store m r w Finset.univ hx hm) >>= k) Q) := by
  iintro H HK
  ihave H' := (show owns c m fullShare X ⊢ iprop(∃ g, ⌜m.view.read Val g = X⌝ ∗ m.view.loc c ↦[m.view.set]{fullShare} g) from .rfl) $$ H
  icases H' with ⟨%g, %hg, H⟩
  iapply (wp_store 𝒱 c bd E (Q := Q) (m := m) (r := r) (w := w) (hx := hx) (hm := hm) (k := k) (Mk := Finset.univ) (f := g)
    (S := m.view.set) (m.view.set_slice_subset r)) $$ H
  iintro H
  iapply HK
  unfold owns
  iexists _
  isplitr; swap; · iexact H
  ipureintro; rw [← hg]; exact read_overlay m.view g r w

theorem wp_smem {m : Memref sig c.2.kind .smem s e} {r : Rect s} {h1 : r.shape.numel = 1} {hp : e.packing = 1}
    {k : Val e → Prog (TpuEff nD τ sig Val Λ c.2) α} {q : PosShare TreeShare} (X : s.Idx → Val e) :
    (owns c m q X : sProp 𝕄)
      ⊢ iprop((owns c m q X -∗ wp frame (wpE defs 𝒱 c bd) E (k (pull r X (Shape.Idx.first (h1.symm ▸ Nat.one_pos)))) Q)
        -∗ wp frame (wpE defs 𝒱 c bd) E (smemLoad m r h1 hp >>= k) Q) := by
  iintro H HK
  ihave H' := (show owns c m q X ⊢ iprop(∃ g, ⌜m.view.read Val g = X⌝ ∗ m.view.loc c ↦[m.view.set]{q} g) from .rfl) $$ H
  icases H' with ⟨%g, %hg, H⟩
  subst hg
  iapply (wp_smemLoadElt (defs := defs) 𝒱 c bd E (Q := Q) (m := m) (r := r) (hw := View.loads_smem_one hp h1)
    (x := Shape.Idx.first (h1.symm ▸ Nat.one_pos)) (k := k) (S := m.view.set) (q := q) (f := g)
    (m.view.set_slice_subset r)) $$ H
  iintro H
  iapply HK
  unfold owns
  iexists g
  isplitr; · ipureintro; rfl
  iexact H

theorem wp_asm {P : Prop} {d : Decidable P} {k : PLift P → Prog (TpuEff nD τ sig Val Λ c.2) α} (h : P) :
    wp (M := 𝕄) frame (wpE defs 𝒱 c bd) E (k ⟨h⟩) Q
      ⊢ wp frame (wpE defs 𝒱 c bd) E (Prog.lift (.assume P d) >>= k) Q :=
  wp_assume 𝒱 c bd E h

/-- A counted loop at the head of a program: before trip `k` the resources are `R k` and the carried value is `acc k`. -/
theorem wp_loop {σ : Type} (l : Scf.Loop 32) (hok : l.OK) (init : σ) (body : Fin l.trips → σ → Prog (TpuEff nD τ sig Val Λ c.2) σ)
    (acc : ℕ → σ) (R : ℕ → sProp 𝕄) (hinit : init = acc 0)
    (hbody : ∀ (k : Fin l.trips), R k.val ⊢ wp frame (wpE defs 𝒱 c bd) E (body k (acc k.val)) (fun y => iprop(⌜y = acc (k.val + 1)⌝ ∗ R (k.val + 1))))
    {k : σ → Prog (TpuEff nD τ sig Val Λ c.2) α} :
    R 0 ⊢ iprop((R l.trips -∗ wp frame (wpE defs 𝒱 c bd) E (k (acc l.trips)) Q)
        -∗ wp frame (wpE defs 𝒱 c bd) E (Scf.Loop.for l hok init body >>= k) Q) := by
  have := Scf.wp_for_bind (M := 𝕄) frame (wpE defs 𝒱 c bd) E l.lb l.ub l.st hok init body
    (fun k y => iprop(⌜y = acc k⌝ ∗ R k))
    (fun k y => by
      iintro ⟨%hy, HR⟩
      subst hy
      iapply (hbody k)
      iexact HR) (kk := k) (Q := Q)
  iintro HR HK
  iapply this $$ [HR]
  · isplitr; · ipureintro; exact hinit
    iexact HR
  iintro %y ⟨%hy, HR⟩
  subst hy
  iapply HK
  iexact HR

/-- A loop of no trips passes its initial value on. -/
theorem wp_loop_none {σ : Type} (l : Scf.Loop 32) (hok : l.OK) (init : σ) (body : Fin l.trips → σ → Prog (TpuEff nD τ sig Val Λ c.2) σ)
    (h0 : l.trips = 0) {k : σ → Prog (TpuEff nD τ sig Val Λ c.2) α} :
    wp (M := 𝕄) frame (wpE defs 𝒱 c bd) E (k init) Q ⊢ wp frame (wpE defs 𝒱 c bd) E (Scf.Loop.for l hok init body >>= k) Q := by
  have := Scf.wp_for_bind (M := 𝕄) frame (wpE defs 𝒱 c bd) E l.lb l.ub l.st hok init body
    (fun _ y => iprop(⌜y = init⌝))
    (fun k y => absurd k.isLt (by have h := h0; unfold Scf.Loop.trips at h; omega)) (kk := k) (Q := Q)
  iintro HK
  iapply this $$ []
  · ipureintro; rfl
  iintro %y %hy
  subst hy
  iexact HK

theorem wp_done (a : α) : Q a ⊢ wp frame (wpE defs 𝒱 c bd) E (pure a) Q := by
  show Q a ⊢ wp frame (wpE defs 𝒱 c bd) E (Prog.ret a) Q
  rw [wp_ret]
  iintro H
  imodintro
  iexact H

end Rules

end Cert.Proof

end
-- ==== Proof.Slabs.lean ====
/-
  Slabs: an array cut along one axis into consecutive equal blocks, each stored or loaded as a unit-stride rectangle.

  `pull_overlay_self` / `pull_overlay_ne` say what a store into one slab does to the slabs; `glue` is the array with given
  slabs, and an array whose slabs are all as given is it (`eq_glue`).
-/
module

public import proofs.«01_k».proof.Proof.Owns

@[expose] public section

noncomputable section

namespace Cert.Proof

open Idealize.ShloMosaic

variable {s : Shape} {α : Type}

theorem pull_overlay_self (r : Rect s) (X : s.Idx → α) (w : r.shape.Idx → α) : pull r (r.overlay X w) = w := by
  funext j; exact Rect.overlay_emb r X w j

/-- The rectangles `unit (off k) size` of `n` slabs of `b` along axis `a`. -/
structure IsSlabs (s : Shape) (n b : ℕ) (a : Fin s.rank) (off : Fin n → Fin s.rank → ℕ) (size : Fin s.rank → ℕ) : Prop where
  off_self : ∀ k, off k a = k.val * b
  size_self : size a = b
  off_other : ∀ k a', a' ≠ a → off k a' = 0
  size_other : ∀ a', a' ≠ a → size a' = s.size a'

variable {n b : ℕ} {a : Fin s.rank} {off : Fin n → Fin s.rank → ℕ} {size : Fin s.rank → ℕ}

theorem emb_unit_val (o : Fin s.rank → ℕ) (size : Fin s.rank → ℕ) (inb : ∀ a, o a + size a ≤ s.size a)
    (j : (Rect.unit (s := s) o size inb).shape.Idx) (a : Fin s.rank) :
    ((Rect.unit (s := s) o size inb).emb j a).val = o a + (j a).val := by
  rw [Rect.emb_apply]; simp [Rect.unit]

theorem IsSlabs.index_eq (h : IsSlabs s n b a off size) (inb : ∀ k a', off k a' + size a' ≤ s.size a') (k k' : Fin n)
    (j : (Rect.unit (s := s) (off k) size (inb k)).shape.Idx) (j' : (Rect.unit (s := s) (off k') size (inb k')).shape.Idx)
    (e : (Rect.unit (s := s) (off k) size (inb k)).emb j = (Rect.unit (s := s) (off k') size (inb k')).emb j') : k = k' := by
  have h1 := congrArg (fun y => (y a).val) e
  simp only [emb_unit_val, h.off_self] at h1
  have hj : (j a).val < b := by have := (j a).isLt; simpa [Rect.unit, h.size_self] using this
  have hj' : (j' a).val < b := by have := (j' a).isLt; simpa [Rect.unit, h.size_self] using this
  ext
  have hb : 0 < b := by omega
  have e1 : (k.val * b + (j a).val) / b = k.val := by
    rw [Nat.mul_comm, Nat.mul_add_div hb, Nat.div_eq_of_lt hj, Nat.add_zero]
  have e2 : (k'.val * b + (j' a).val) / b = k'.val := by
    rw [Nat.mul_comm, Nat.mul_add_div hb, Nat.div_eq_of_lt hj', Nat.add_zero]
  rw [← e1, ← e2, h1]

theorem IsSlabs.pull_overlay_ne (h : IsSlabs s n b a off size) (inb : ∀ k a', off k a' + size a' ≤ s.size a') {k k' : Fin n} (hk : k' ≠ k)
    (X : s.Idx → α) (w : (Rect.unit (s := s) (off k) size (inb k)).shape.Idx → α) :
    pull (Rect.unit (s := s) (off k') size (inb k')) ((Rect.unit (s := s) (off k) size (inb k)).overlay X w)
      = pull (Rect.unit (s := s) (off k') size (inb k')) X := by
  funext j
  refine Rect.overlay_of_not_mem _ _ _ fun hm => hk ?_
  rw [← Rect.map_emb_univ] at hm
  obtain ⟨x, -, e⟩ := Finset.mem_map.mp hm
  exact (h.index_eq inb k k' x j e).symm

theorem IsSlabs.cover (h : IsSlabs s n b a off size) (hn : s.size a = n * b) (hb : 0 < b) (inb : ∀ k a', off k a' + size a' ≤ s.size a') (y : s.Idx) :
    ∃ (k : Fin n) (j : (Rect.unit (s := s) (off k) size (inb k)).shape.Idx), (Rect.unit (s := s) (off k) size (inb k)).emb j = y := by
  have hy : (y a).val < n * b := hn ▸ (y a).isLt
  have hk : (y a).val / b < n := Nat.div_lt_of_lt_mul (by rwa [Nat.mul_comm] at hy)
  have hoff : ∀ a', off ⟨(y a).val / b, hk⟩ a' ≤ (y a').val ∧ (y a').val - off ⟨(y a).val / b, hk⟩ a' < size a' := by
    intro a'
    by_cases ha : a' = a
    · rw [ha, h.off_self, h.size_self]
      have h1 := Nat.div_mul_le_self (y a).val b
      have h2 := Nat.lt_div_mul_add hb (a := (y a).val)
      exact ⟨h1, by simp only; omega⟩
    · rw [h.off_other _ _ ha, h.size_other _ ha]; exact ⟨Nat.zero_le _, (y a').isLt⟩
  refine ⟨⟨(y a).val / b, hk⟩, fun a' => ⟨(y a').val - off ⟨(y a).val / b, hk⟩ a', (hoff a').2⟩, ?_⟩
  funext a'
  ext
  rw [emb_unit_val]
  have := (hoff a').1
  show _ + ((y a').val - _) = _
  omega

/-- The array whose slabs are `w`. -/
def glue (r : Fin n → Rect s) (cover : ∀ y : s.Idx, ∃ (k : Fin n) (j : (r k).shape.Idx), (r k).emb j = y) (w : (k : Fin n) → (r k).shape.Idx → α) :
    s.Idx → α := fun y => w (cover y).choose (cover y).choose_spec.choose

/-- An array whose slabs are all as given is the glued one. -/
theorem eq_glue (r : Fin n → Rect s) (cover : ∀ y : s.Idx, ∃ (k : Fin n) (j : (r k).shape.Idx), (r k).emb j = y)
    (w : (k : Fin n) → (r k).shape.Idx → α) (X : s.Idx → α) (h : ∀ k, pull (r k) X = w k) : X = glue r cover w := by
  funext y
  unfold glue
  rw [← h, pull]
  exact congrArg X (cover y).choose_spec.choose_spec.symm

/-- A slab of the glued array. -/
theorem glue_emb (r : Fin n → Rect s) (cover : ∀ y : s.Idx, ∃ (k : Fin n) (j : (r k).shape.Idx), (r k).emb j = y)
    (w : (k : Fin n) → (r k).shape.Idx → α)
    (hinj : ∀ (k k' : Fin n) (j : (r k).shape.Idx) (j' : (r k').shape.Idx), (r k).emb j = (r k').emb j' → k = k')
    (k : Fin n) (j : (r k).shape.Idx) : glue r cover w ((r k).emb j) = w k j := by
  have key : ∀ (k' : Fin n) (j' : (r k').shape.Idx), (r k').emb j' = (r k).emb j → w k' j' = w k j := by
    intro k' j' e
    have := hinj _ _ _ _ e
    subst this
    rw [(r k').emb.injective e]
  exact key _ _ (cover ((r k).emb j)).choose_spec.choose_spec

/-- The slabs below `k` are as given. -/
def Filled (r : Fin n → Rect s) (w : (k : Fin n) → (r k).shape.Idx → α) (k : ℕ) (X : s.Idx → α) : Prop :=
  ∀ k' : Fin n, k'.val < k → pull (r k') X = w k'

theorem Filled.zero (r : Fin n → Rect s) (w : (k : Fin n) → (r k).shape.Idx → α) (X : s.Idx → α) : Filled r w 0 X :=
  fun _ h => absurd h (Nat.not_lt_zero _)

theorem IsSlabs.filled_succ (h : IsSlabs s n b a off size) (inb : ∀ k a', off k a' + size a' ≤ s.size a')
    (w : (k : Fin n) → (Rect.unit (s := s) (off k) size (inb k)).shape.Idx → α) (k : Fin n) (X : s.Idx → α)
    (hX : Filled (fun k => Rect.unit (s := s) (off k) size (inb k)) w k.val X) :
    Filled (fun k => Rect.unit (s := s) (off k) size (inb k)) w (k.val + 1) ((Rect.unit (s := s) (off k) size (inb k)).overlay X (w k)) := by
  intro k' hk'
  by_cases e : k' = k
  · subst e; exact pull_overlay_self _ _ _
  · rw [h.pull_overlay_ne inb e]
    exact hX k' (by have : k'.val ≠ k.val := fun h => e (Fin.ext h); omega)

/-- The slabs below `k` are `w`, those from `k` on still `v`. -/
def Passed (r : Fin n → Rect s) (v w : (k : Fin n) → (r k).shape.Idx → α) (k : ℕ) (X : s.Idx → α) : Prop :=
  ∀ k' : Fin n, pull (r k') X = if k'.val < k then w k' else v k'

theorem IsSlabs.passed_succ (h : IsSlabs s n b a off size) (inb : ∀ k a', off k a' + size a' ≤ s.size a')
    (v w : (k : Fin n) → (Rect.unit (s := s) (off k) size (inb k)).shape.Idx → α) (k : Fin n) (X : s.Idx → α)
    (hX : Passed (fun k => Rect.unit (s := s) (off k) size (inb k)) v w k.val X) :
    Passed (fun k => Rect.unit (s := s) (off k) size (inb k)) v w (k.val + 1) ((Rect.unit (s := s) (off k) size (inb k)).overlay X (w k)) := by
  intro k'
  by_cases e : k' = k
  · subst e; rw [if_pos (Nat.lt_succ_self _)]; exact pull_overlay_self _ _ _
  · rw [h.pull_overlay_ne inb e, hX k']
    have : k'.val ≠ k.val := fun h => e (Fin.ext h)
    by_cases hlt : k'.val < k.val
    · rw [if_pos hlt, if_pos (by omega)]
    · rw [if_neg hlt, if_neg (by omega)]

end Cert.Proof

end
-- ==== Proof.Facts.lean ====
/-
  What the kernel's loop bounds and access offsets come to: the inner loops of query block `t` whose lowest key block is `w ≤ t` run
  `t + 1 - w` trips, their remainders none, and each family of accesses is a family of slabs.
-/
module

public import proofs.«01_k».proof.Kernel
public import proofs.«01_k».proof.Proof.Gen.Kernel
public import proofs.«01_k».proof.Proof.Slabs

@[expose] public section

noncomputable section

namespace Cert.Proof.Kernel

open Cert.Kernel
open Idealize.ShloMosaic Idealize.ShloMosaic.TcCoe

/-! ## Loops of a fixed trip count -/

set_option maxRecDepth 100000 in
theorem off2_eq : ∀ k : Fin k0_t2_loop.trips, k0_off2 k = ![0, k.val * 512, 0] := by decide +kernel
set_option maxRecDepth 100000 in
theorem off4_eq : ∀ k : Fin k0_t4_loop.trips, k0_off4 k = ![0, k.val * 512, 0] := by decide +kernel
set_option maxRecDepth 100000 in
theorem off6_eq : ∀ k : Fin k0_t6_loop.trips, k0_off6 k = ![0, k.val * 512, 0] := by decide +kernel
set_option maxRecDepth 100000 in
theorem off8_eq : ∀ k : Fin k0_t8_loop.trips, k0_off8 k = ![0, k.val * 512, 0] := by decide +kernel
set_option maxRecDepth 100000 in
theorem off9_eq : ∀ k : Fin k0_t9_loop.trips, k0_off9 k = ![0, k.val * 256, 0] := by decide +kernel
set_option maxRecDepth 100000 in
theorem off10_eq : ∀ k : Fin k0_t9_loop.trips, k0_off10 k = ![k.val, 0, 0] := by decide +kernel
set_option maxRecDepth 100000 in
theorem off12_eq : ∀ k : Fin k0_t10_loop.trips, k0_off12 k = ![0, k.val * 256, 0] := by decide +kernel
set_option maxRecDepth 100000 in
theorem off13_eq : ∀ k : Fin k0_t10_loop.trips, k0_off13 k = ![0, 0, k.val * 256] := by decide +kernel
set_option maxRecDepth 100000 in
theorem off36_eq : ∀ k : Fin k0_t10_loop.trips, k0_off36 k = ![0, k.val * 256, 0] := by decide +kernel
set_option maxRecDepth 100000 in
theorem off37_eq : ∀ k : Fin k0_t17_loop.trips, k0_off37 k = ![k.val * 256, 0] := by decide +kernel
set_option maxRecDepth 100000 in
theorem off38_eq : ∀ k : Fin k0_t17_loop.trips, k0_off38 k = ![0, k.val * 256, 0] := by decide +kernel

theorem trips2 : k0_t2_loop.trips = 16 := by decide +kernel
theorem trips4 : k0_t4_loop.trips = 16 := by decide +kernel
theorem trips6 : k0_t6_loop.trips = 16 := by decide +kernel
theorem trips8 : k0_t8_loop.trips = 16 := by decide +kernel
theorem trips9 : k0_t9_loop.trips = 32 := by decide +kernel
theorem trips10 : k0_t10_loop.trips = 32 := by decide +kernel
theorem trips17 : k0_t17_loop.trips = 32 := by decide +kernel

theorem slabs2 : IsSlabs S1x8192x128 k0_t2_loop.trips 512 1 k0_off2 S1x512x128.size where
  off_self k := by rw [off2_eq]; rfl
  size_self := rfl
  off_other k a h := by rw [off2_eq]; fin_cases a <;> first | rfl | exact absurd rfl h
  size_other a h := by fin_cases a <;> first | rfl | exact absurd rfl h
theorem slabs4 : IsSlabs S1x8192x128 k0_t4_loop.trips 512 1 k0_off4 S1x512x128.size where
  off_self k := by rw [off4_eq]; rfl
  size_self := rfl
  off_other k a h := by rw [off4_eq]; fin_cases a <;> first | rfl | exact absurd rfl h
  size_other a h := by fin_cases a <;> first | rfl | exact absurd rfl h
theorem slabs6 : IsSlabs S1x8192x128 k0_t6_loop.trips 512 1 k0_off6 S1x512x128.size where
  off_self k := by rw [off6_eq]; rfl
  size_self := rfl
  off_other k a h := by rw [off6_eq]; fin_cases a <;> first | rfl | exact absurd rfl h
  size_other a h := by fin_cases a <;> first | rfl | exact absurd rfl h
theorem slabs8 : IsSlabs S1x8192x128 k0_t8_loop.trips 512 1 k0_off8 S1x512x128.size where
  off_self k := by rw [off8_eq]; rfl
  size_self := rfl
  off_other k a h := by rw [off8_eq]; fin_cases a <;> first | rfl | exact absurd rfl h
  size_other a h := by fin_cases a <;> first | rfl | exact absurd rfl h
theorem slabs10 : IsSlabs S32x128x256 k0_t9_loop.trips 1 0 k0_off10 S1x128x256.size where
  off_self k := by rw [off10_eq]; exact (Nat.mul_one _).symm
  size_self := rfl
  off_other k a h := by rw [off10_eq]; fin_cases a <;> first | rfl | exact absurd rfl h
  size_other a h := by fin_cases a <;> first | rfl | exact absurd rfl h
theorem slabs36 : IsSlabs S1x8192x128 k0_t10_loop.trips 256 1 k0_off36 S1x256x128.size where
  off_self k := by rw [off36_eq]; rfl
  size_self := rfl
  off_other k a h := by rw [off36_eq]; fin_cases a <;> first | rfl | exact absurd rfl h
  size_other a h := by fin_cases a <;> first | rfl | exact absurd rfl h
theorem slabs38 : IsSlabs S1x8192x128 k0_t17_loop.trips 256 1 k0_off38 S1x256x128.size where
  off_self k := by rw [off38_eq]; rfl
  size_self := rfl
  off_other k a h := by rw [off38_eq]; fin_cases a <;> first | rfl | exact absurd rfl h
  size_other a h := by fin_cases a <;> first | rfl | exact absurd rfl h

/-! ## The key-block loops -/

theorem divsi_one (x : BitVec 32) : Scalar.divsi x 1#32 = x := by
  unfold Scalar.divsi IntOp.divsi
  rw [if_neg (by unfold IntOp.SDivCorner; simp), BitVec.sdiv_one]

theorem iv_one_toNat (k : ℕ) (hk : k < 2 ^ 32) : (Scf.iv 0#32 1#32 k).toNat = k := by
  unfold Scf.iv
  rw [BitVec.zero_add, BitVec.mul_one, BitVec.toNat_ofNat, Nat.mod_eq_of_lt hk]

theorem trips12 (t : Fin k0_t10_loop.trips) (v : BitVec 32) : (k0_t12_loop t v).trips = 0 := by
  show Scf.trips _ _ _ = 0
  simp only [divsi_one]
  unfold Scf.trips Scalar.muli Scalar.addi Scalar.subi IntOp.muli IntOp.addi IntOp.subi
  simp
theorem trips14 (t : Fin k0_t10_loop.trips) (v : BitVec 32) : (k0_t14_loop t v).trips = 0 := trips12 t v
theorem trips16 (t : Fin k0_t10_loop.trips) (v : BitVec 32) : (k0_t16_loop t v).trips = 0 := trips12 t v

theorem trip_lt (l : Scf.Loop 32) (h0 : l.lb = 0#32) (h1 : l.st = 1#32) (k : Fin l.trips) : k.val < 2 ^ 32 := by
  have := k.isLt
  simp only [Scf.Loop.trips, Scf.trips, h0, h1] at this
  have h2 := BitVec.toInt_lt (x := l.ub)
  have h3 : (1#32 : BitVec 32).toInt = 1 := by decide
  have h4 : (0#32 : BitVec 32).toInt = 0 := by decide
  rw [h3, h4] at this
  omega

theorem off15_eq (t : Fin k0_t10_loop.trips) (v : BitVec 32) (k : Fin (k0_t11_loop t v).trips) : k0_off15 t v k = ![k.val, 0, 0] := by
  unfold k0_off15
  simp only [Scalar.indexCast]
  rw [iv_one_toNat k.val (trip_lt _ rfl rfl k)]
theorem off16_eq (t : Fin k0_t10_loop.trips) (v : BitVec 32) (k : Fin (k0_t11_loop t v).trips) : k0_off16 t v k = ![k.val, 0, 0] :=
  off15_eq t v k

theorem slabs15 (t : Fin k0_t10_loop.trips) (v : BitVec 32) :
    IsSlabs S32x256x256 (k0_t11_loop t v).trips 1 0 (k0_off15 t v) S1x256x256.size where
  off_self k := by rw [off15_eq]; exact (Nat.mul_one _).symm
  size_self := rfl
  off_other k a h := by rw [off15_eq]; fin_cases a <;> first | rfl | exact absurd rfl h
  size_other a h := by fin_cases a <;> first | rfl | exact absurd rfl h
theorem slabs16 (t : Fin k0_t10_loop.trips) (v : BitVec 32) :
    IsSlabs S32x1x256 (k0_t11_loop t v).trips 1 0 (k0_off16 t v) S1x1x256.size where
  off_self k := by rw [off16_eq]; exact (Nat.mul_one _).symm
  size_self := rfl
  off_other k a h := by rw [off16_eq]; fin_cases a <;> first | rfl | exact absurd rfl h
  size_other a h := by fin_cases a <;> first | rfl | exact absurd rfl h

end Cert.Proof.Kernel

end
-- ==== Proof.Model.lean ====
/-
  What the kernel computes, as plain functions of the blocks of one grid point: `x`, `k`, `v`, `d` the four inputs' blocks, `st` the
  segment starts, `lo` the table of lowest key blocks.

  Each of the four inputs is quantised: a loop over slabs of 512 rows finds the largest magnitude, a second one writes the codes. Then
  every query block `t` passes over the key blocks from `lo` to `t` three times: scores with the running maximum and sum (`ml`,
  `scoreB`, `maxB`), the probabilities (`probB`) with the gradient of the values and the forward output (`dvS`, `outS`), the gradient of
  the keys and of the queries (`dkS`, `dqS`).
-/
module

public import proofs.«01_k».proof.Kernel
public import proofs.«01_k».proof.Proof.Gen.Kernel
public import proofs.«01_k».proof.Proof.Gen.Kernel.Skeleton
public import proofs.«01_k».proof.Proof.Facts
public import proofs.«01_k».proof.Proof.Slabs

@[expose] public section

noncomputable section

namespace Cert.Proof.Kernel

open Cert.Kernel Cert.Kernel.Gen
open Idealize.ShloMosaic Idealize.ShloMosaic.TcCoe

variable {F : FTy → Type} [FloatOps F]

/-! ## The rectangles -/

abbrev R1 (k : Fin k0_t1_loop.trips) : Rect S1x8192x128 := Rect.unit (s := S1x8192x128) (k0_off1 k) S1x512x128.size (k0_off1_inb k)
abbrev R2 (k : Fin k0_t2_loop.trips) : Rect S1x8192x128 := Rect.unit (s := S1x8192x128) (k0_off2 k) S1x512x128.size (k0_off2_inb k)
abbrev R3 (k : Fin k0_t3_loop.trips) : Rect S1x8192x128 := Rect.unit (s := S1x8192x128) (k0_off3 k) S1x512x128.size (k0_off3_inb k)
abbrev R4 (k : Fin k0_t4_loop.trips) : Rect S1x8192x128 := Rect.unit (s := S1x8192x128) (k0_off4 k) S1x512x128.size (k0_off4_inb k)
abbrev R5 (k : Fin k0_t5_loop.trips) : Rect S1x8192x128 := Rect.unit (s := S1x8192x128) (k0_off5 k) S1x512x128.size (k0_off5_inb k)
abbrev R6 (k : Fin k0_t6_loop.trips) : Rect S1x8192x128 := Rect.unit (s := S1x8192x128) (k0_off6 k) S1x512x128.size (k0_off6_inb k)
abbrev R7 (k : Fin k0_t7_loop.trips) : Rect S1x8192x128 := Rect.unit (s := S1x8192x128) (k0_off7 k) S1x512x128.size (k0_off7_inb k)
abbrev R8 (k : Fin k0_t8_loop.trips) : Rect S1x8192x128 := Rect.unit (s := S1x8192x128) (k0_off8 k) S1x512x128.size (k0_off8_inb k)
abbrev R9 (k : Fin k0_t9_loop.trips) : Rect S1x8192x128 := Rect.unit (s := S1x8192x128) (k0_off9 k) S1x256x128.size (k0_off9_inb k)
abbrev R10 (k : Fin k0_t9_loop.trips) : Rect S32x128x256 := Rect.unit (s := S32x128x256) (k0_off10 k) S1x128x256.size (k0_off10_inb k)
abbrev R11 (i : grid0.Coords) (t : Fin k0_t10_loop.trips) : Rect S9x32 := Rect.unit (s := S9x32) (k0_off11 i t) S1x1.size (k0_off11_inb i t)
abbrev R12 (t : Fin k0_t10_loop.trips) : Rect S1x8192x128 := Rect.unit (s := S1x8192x128) (k0_off12 t) S1x256x128.size (k0_off12_inb t)
abbrev R13 (t : Fin k0_t10_loop.trips) : Rect S1x1x8192 := Rect.unit (s := S1x1x8192) (k0_off13 t) S1x1x256.size (k0_off13_inb t)
abbrev R14 (t : Fin k0_t10_loop.trips) (w : BitVec 32) (hw : k0_chk1 t w) (k : Fin (k0_t11_loop t w).trips) : Rect S1x8192x128 := Rect.unit (s := S1x8192x128) (k0_off14 t w k) S1x256x128.size (k0_off14_inb t w hw k)
abbrev R15 (t : Fin k0_t10_loop.trips) (w : BitVec 32) (hw : k0_chk1 t w) (k : Fin (k0_t11_loop t w).trips) : Rect S32x256x256 := Rect.unit (s := S32x256x256) (k0_off15 t w k) S1x256x256.size (k0_off15_inb t w hw k)
abbrev R16 (t : Fin k0_t10_loop.trips) (w : BitVec 32) (hw : k0_chk1 t w) (k : Fin (k0_t11_loop t w).trips) : Rect S32x1x256 := Rect.unit (s := S32x1x256) (k0_off16 t w k) S1x1x256.size (k0_off16_inb t w hw k)
abbrev R22 (t : Fin k0_t10_loop.trips) (w : BitVec 32) (hw : k0_chk1 t w) (k : Fin (k0_t13_loop t w).trips) : Rect S8192x128 := Rect.unit (s := S8192x128) (k0_off22 t w k) S256x128.size (k0_off22_inb t w hw k)
abbrev R23 (t : Fin k0_t10_loop.trips) (w : BitVec 32) (hw : k0_chk1 t w) (k : Fin (k0_t13_loop t w).trips) : Rect S1x8192x128 := Rect.unit (s := S1x8192x128) (k0_off23 t w k) S1x256x128.size (k0_off23_inb t w hw k)
abbrev R28 (t : Fin k0_t10_loop.trips) (w : BitVec 32) (hw : k0_chk1 t w) (k : Fin (k0_t15_loop t w).trips) : Rect S1x8192x128 := Rect.unit (s := S1x8192x128) (k0_off28 t w k) S1x256x128.size (k0_off28_inb t w hw k)
abbrev R30 (t : Fin k0_t10_loop.trips) (w : BitVec 32) (hw : k0_chk1 t w) (k : Fin (k0_t15_loop t w).trips) : Rect S8192x128 := Rect.unit (s := S8192x128) (k0_off30 t w k) S256x128.size (k0_off30_inb t w hw k)
abbrev R31 (t : Fin k0_t10_loop.trips) (w : BitVec 32) (hw : k0_chk1 t w) (k : Fin (k0_t15_loop t w).trips) : Rect S32x128x256 := Rect.unit (s := S32x128x256) (k0_off31 t w k) S1x128x256.size (k0_off31_inb t w hw k)
abbrev R36 (t : Fin k0_t10_loop.trips) : Rect S1x8192x128 := Rect.unit (s := S1x8192x128) (k0_off36 t) S1x256x128.size (k0_off36_inb t)
abbrev R37 (k : Fin k0_t17_loop.trips) : Rect S8192x128 := Rect.unit (s := S8192x128) (k0_off37 k) S256x128.size (k0_off37_inb k)
abbrev R38 (k : Fin k0_t17_loop.trips) : Rect S1x8192x128 := Rect.unit (s := S1x8192x128) (k0_off38 k) S1x256x128.size (k0_off38_inb k)

/-! ## Their slabs cover -/

theorem cover2 : ∀ y : S1x8192x128.Idx, ∃ (k : Fin k0_t2_loop.trips) (j : (R2 k).shape.Idx), (R2 k).emb j = y :=
  slabs2.cover (by rw [trips2]; rfl) (by decide) k0_off2_inb
theorem cover4 : ∀ y : S1x8192x128.Idx, ∃ (k : Fin k0_t4_loop.trips) (j : (R4 k).shape.Idx), (R4 k).emb j = y :=
  slabs4.cover (by rw [trips4]; rfl) (by decide) k0_off4_inb
theorem cover6 : ∀ y : S1x8192x128.Idx, ∃ (k : Fin k0_t6_loop.trips) (j : (R6 k).shape.Idx), (R6 k).emb j = y :=
  slabs6.cover (by rw [trips6]; rfl) (by decide) k0_off6_inb
theorem cover8 : ∀ y : S1x8192x128.Idx, ∃ (k : Fin k0_t8_loop.trips) (j : (R8 k).shape.Idx), (R8 k).emb j = y :=
  slabs8.cover (by rw [trips8]; rfl) (by decide) k0_off8_inb
theorem cover10 : ∀ y : S32x128x256.Idx, ∃ (k : Fin k0_t9_loop.trips) (j : (R10 k).shape.Idx), (R10 k).emb j = y :=
  slabs10.cover (by rw [trips9]; rfl) (by decide) k0_off10_inb
theorem cover36 : ∀ y : S1x8192x128.Idx, ∃ (k : Fin k0_t10_loop.trips) (j : (R36 k).shape.Idx), (R36 k).emb j = y :=
  slabs36.cover (by rw [trips10]; rfl) (by decide) k0_off36_inb
theorem cover38 : ∀ y : S1x8192x128.Idx, ∃ (k : Fin k0_t17_loop.trips) (j : (R38 k).shape.Idx), (R38 k).emb j = y :=
  slabs38.cover (by rw [trips17]; rfl) (by decide) k0_off38_inb

/-! ## Quantising -/

section Quant

variable (x k v d : Vec F S1x8192x128 .bf16)

/-- The largest magnitude of `x`, by lanes. -/
def xTop : FVec F S16x128 .bf16 :=
  iter k0_t1_loop.trips (fun k' a => k0_pay46 a (pull (R1 k') x)) (k0_pay45 (F := F)) k0_t1_loop.trips
/-- The largest magnitude of `k`, by lanes. -/
def kTop : FVec F S16x128 .bf16 :=
  iter k0_t3_loop.trips (fun k' a => k0_pay52 a (pull (R3 k') k)) (k0_pay51 (F := F)) k0_t3_loop.trips
/-- The largest magnitude of `v`, by lanes. -/
def vTop : FVec F S16x128 .bf16 :=
  iter k0_t5_loop.trips (fun k' a => k0_pay58 a (pull (R5 k') v)) (k0_pay57 (F := F)) k0_t5_loop.trips
/-- The largest magnitude of `d`, by lanes. -/
def dTop : FVec F S16x128 .bf16 :=
  iter k0_t7_loop.trips (fun k' a => k0_pay63 a (pull (R7 k') d)) (k0_pay62 (F := F)) k0_t7_loop.trips

/-- The scales. -/
def xScale : FVec F S1x1 .f32 := k0_pay48 (xTop x)
def kScale : FVec F S1x1 .f32 := k0_pay54 (kTop k)
def vScale : FVec F S1x1 .f32 := k0_pay60 (vTop v)
def dBits : IVec S1x1 32 := k0_pay65 (dTop d)
def dScale : FVec F S1x1 .f32 := k0_pay66 (dBits d)

/-- The codes. -/
def xCode : Vec F S1x8192x128 .fp8e4m3 := glue R2 cover2 (fun k' => k0_pay50 (k0_pay49 (xTop x)) (pull (R2 k') x))
def kCode : Vec F S1x8192x128 .fp8e4m3 := glue R4 cover4 (fun k' => k0_pay56 (k0_pay55 (kTop k)) 23#32 (pull (R4 k') k))
def vCode : Vec F S1x8192x128 .fp8e4m3 := glue R6 cover6 (fun k' => k0_pay61 (k0_pay59 (vTop v)) (pull (R6 k') v))
def dCode : Vec F S1x8192x128 .fp8e5m2 := glue R8 cover8 (fun k' => k0_pay67 (k0_pay64 (dTop d)) (pull (R8 k') d))

/-- The scales as they are handed out, one row. -/
def scaleRow : Vec F S1x1x1x128 .f32 := k0_pay68 (xScale x) (kScale k) (vScale v) (dBits d)

/-- The factor of the scores, and that of the queries' gradient. -/
def scoreMul : FVec F S1x1 .f32 := k0_pay69 (xScale x) (kScale k)
def dqMul : FVec F S1x1 .f32 := k0_pay70 (kScale k) (vScale v) (dBits d)

/-- The keys' codes, block by block transposed. -/
def kFlip : Vec F S32x128x256 .bf16 := glue R10 cover10 (fun k' => k0_pay1 (pull (R9 k') (kCode k)))

end Quant

/-! ## One query block -/

section Block

variable (qc kc vc : Vec F S1x8192x128 .fp8e4m3) (dc : Vec F S1x8192x128 .fp8e5m2) (kt : Vec F S32x128x256 .bf16) (st : Vec F S1x1x8192 .i32)
variable (sm dm : FVec F S1x1 .f32)
variable (t : Fin k0_t10_loop.trips) (w : BitVec 32) (hw : k0_chk1 t w)

/-- The running maximum and sum before key block `k`. -/
def ml : ℕ → FVec F S1x256 .f32 × FVec F S1x256 .f32 :=
  iter (k0_t11_loop t w).trips (fun k a =>
    (k0_pay32 sm 0#32 1#32 t w (pull (R12 t) qc) (pull (R13 t) st) k a.1 (pull (R14 t w hw k) kc),
     k0_pay36 sm 0#32 1#32 t w (pull (R12 t) qc) (pull (R13 t) st) k a.1 a.2 (pull (R14 t w hw k) kc))) (k0_pay29 (F := F), k0_pay30 (F := F))
/-- The exponentials of key block `k`'s scores against the maximum so far, and that maximum. -/
def scoreB (k : Fin (k0_t11_loop t w).trips) : FVec F S1x256x256 .f32 :=
  k0_pay34 sm 0#32 1#32 t w (pull (R12 t) qc) (pull (R13 t) st) k (ml qc kc st sm t w hw k.val).1 (pull (R14 t w hw k) kc)
def maxB (k : Fin (k0_t11_loop t w).trips) : FVec F S1x1x256 .f32 :=
  k0_pay35 sm 0#32 1#32 t w (pull (R12 t) qc) (pull (R13 t) st) k (ml qc kc st sm t w hw k.val).1 (pull (R14 t w hw k) kc)
/-- The final maximum, and 256 over the final sum. -/
def topS : FVec F S1x256 .f32 := (ml qc kc st sm t w hw (k0_t11_loop t w).trips).1
def invS : FVec F S1x256 .f32 := k0_pay43 (ml qc kc st sm t w hw (k0_t11_loop t w).trips).2
/-- The probabilities of key block `k`, times 256. -/
def probB (k : Fin (k0_t11_loop t w).trips) : FVec F S1x256x256 .f32 :=
  k0_pay6 (topS qc kc st sm t w hw) (invS qc kc st sm t w hw) (maxB qc kc st sm t w hw k) (scoreB qc kc st sm t w hw k)
/-- The forward output of the query block before key block `k`. -/
def outS : ℕ → FVec F S256x128 .f32 :=
  iter (k0_t13_loop t w).trips (fun k a => k0_pay8 (topS qc kc st sm t w hw) (invS qc kc st sm t w hw) a (maxB qc kc st sm t w hw k)
    (scoreB qc kc st sm t w hw k) (pull (R23 t w hw k) vc)) (k0_pay44 (F := F))
/-- The values' gradient before key block `k`, from what the earlier query blocks left. -/
def dvS (A : Vec F S8192x128 .f32) : ℕ → Vec F S8192x128 .f32 :=
  iter (k0_t13_loop t w).trips (fun k X => (R22 t w hw k).overlay X (k0_pay7 (k0_pay26 (pull (R12 t) dc)) (topS qc kc st sm t w hw)
    (invS qc kc st sm t w hw) (maxB qc kc st sm t w hw k) (scoreB qc kc st sm t w hw k) (pull (R22 t w hw k) X))) A
/-- The keys' gradient likewise, -/
def dkS (A : Vec F S8192x128 .f32) : ℕ → Vec F S8192x128 .f32 :=
  iter (k0_t15_loop t w).trips (fun k X => (R30 t w hw k).overlay X (k0_pay17 (k0_pay25 (pull (R12 t) qc)) (k0_pay26 (pull (R12 t) dc))
    (outS qc kc vc st sm t w hw (k0_t13_loop t w).trips) (pull (R28 t w hw k) vc) (probB qc kc st sm t w hw k) (pull (R30 t w hw k) X))) A
/-- and the queries' gradient, transposed. -/
def dqS : ℕ → FVec F S128x256 .f32 :=
  iter (k0_t15_loop t w).trips (fun k a => k0_pay18 (k0_pay26 (pull (R12 t) dc)) (outS qc kc vc st sm t w hw (k0_t13_loop t w).trips) a
    (pull (R28 t w hw k) vc) (probB qc kc st sm t w hw k) (pull (R31 t w hw k) kt)) (k0_pay15 (F := F))
/-- The query block's rows of the first result. -/
def dqB : FVec F S1x256x128 .bf16 := k0_pay22 dm (dqS qc kc vc dc kt st sm t w hw (k0_t15_loop t w).trips)

end Block

/-! ## All query blocks -/

/-- The lowest key block of query block `t`, as the table has it. -/
abbrev word (lo : Vec F S9x32 .i32) (i : grid0.Coords) (t : Fin k0_t10_loop.trips) : BitVec 32 :=
  pull (R11 i t) lo (Shape.Idx.first (numel1_S1x1.symm ▸ Nat.one_pos))

section All

variable (x k v d : Vec F S1x8192x128 .bf16) (st : Vec F S1x1x8192 .i32) (lo : Vec F S9x32 .i32) (i : grid0.Coords)
variable (hw : ∀ t, k0_chk1 t (word lo i t))

/-- The values' and the keys' gradients before query block `t`, unscaled. -/
def dvA : ℕ → Vec F S8192x128 .f32 :=
  iter k0_t10_loop.trips (fun t A => dvS (xCode x) (kCode k) (dCode d) st (scoreMul x k) t (word lo i t) (hw t) A
    (k0_t13_loop t (word lo i t)).trips) (k0_pay4 (F := F))
def dkA : ℕ → Vec F S8192x128 .f32 :=
  iter k0_t10_loop.trips (fun t A => dkS (xCode x) (kCode k) (vCode v) (dCode d) st (scoreMul x k) t (word lo i t) (hw t) A
    (k0_t15_loop t (word lo i t)).trips) (k0_pay3 (F := F))

/-- The three gradients. -/
def dqOut : Vec F S1x8192x128 .bf16 := glue R36 cover36 (fun t =>
  dqB (xCode x) (kCode k) (vCode v) (dCode d) (kFlip k) st (scoreMul x k) (dqMul k v d) t (word lo i t) (hw t))
def dkOut : Vec F S1x8192x128 .bf16 := glue R38 cover38 (fun k' =>
  k0_pay23 (xScale x) (vScale v) (dScale d) (Scalar.ofBits .f32 0x3DB504F3#32) (pull (R37 k') (dkA x k v d st lo i hw k0_t10_loop.trips)))
def dvOut : Vec F S1x8192x128 .bf16 := glue R38 cover38 (fun k' =>
  k0_pay24 (dScale d) (pull (R37 k') (dvA x k d st lo i hw k0_t10_loop.trips)))

end All

end Cert.Proof.Kernel

end
-- ==== Proof.Run.lean ====
/-
  A grid point's run: from the blocks held as staged, the kernel body ends with its results at the functions of ModelIdeal.lean, the
  scratch arrays at something. One theorem per loop body, one per part of the body, then the whole.
-/
module

public import proofs.«01_k».proof.Proof.Model
public import proofs.«01_k».proof.Proof.Owns
public import Idealize.ShloMosaic.Lib.Pipeline.Kit

@[expose] public section

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The pipeline library's algebra is the certificate's. -/
abbrev UU : Type := UR sig nD τ

local notation "𝕄" => MT nD τ sig Unit (Elt F) ℕ UU ℕ

/-- Core `c` holds the memref `m` at share `q` and reads `X` through it. -/
abbrev ow (c : Dev nD) {sp : CoreSpace} {s : Shape} {e : EltTy} (m : Memref sig .tc sp s e) (q : PosShare TreeShare) (X : s.Idx → Elt F e) : sProp 𝕄 :=
  owns (c : Thread nD τ) m q X

abbrev 𝒱₀ : Variants := Variants.none

/-- A store over a whole array leaves what it stored. -/
theorem overlay_all {s : Shape} {α : Type} (o : Fin s.rank → ℕ) (inb : ∀ a, o a + s.size a ≤ s.size a) (ho : ∀ a, o a = 0)
    (X : s.Idx → α) (v : s.Idx → α) : (Rect.unit (s := s) o s.size inb).overlay X v = v := by
  funext y
  have e : (Rect.unit (s := s) o s.size inb).emb y = y := by
    funext a; ext; rw [emb_unit_val, ho, Nat.zero_add]
  exact (congrArg _ e.symm).trans (Rect.overlay_emb (Rect.unit (s := s) o s.size inb) X v y)

section Body

variable (c : Dev nD) (i : grid0.Coords)
variable (arg2 : Memref sig .tc .smem S9x32 .i32) (harg2 : arg2.IsWhole)
variable (arg3 : Memref sig .tc .vmem S1x8192x128 .bf16) (harg3 : arg3.IsWhole)
variable (arg4 : Memref sig .tc .vmem S1x8192x128 .bf16) (harg4 : arg4.IsWhole)
variable (arg5 : Memref sig .tc .vmem S1x8192x128 .bf16) (harg5 : arg5.IsWhole)
variable (arg6 : Memref sig .tc .vmem S1x8192x128 .bf16) (harg6 : arg6.IsWhole)
variable (arg7 : Memref sig .tc .vmem S1x1x8192 .i32) (harg7 : arg7.IsWhole)
variable (arg8 : Memref sig .tc .vmem S1x8192x128 .bf16) (harg8 : arg8.IsWhole)
variable (arg9 : Memref sig .tc .vmem S1x8192x128 .bf16) (harg9 : arg9.IsWhole)
variable (arg10 : Memref sig .tc .vmem S1x8192x128 .bf16) (harg10 : arg10.IsWhole)
variable (arg11 : Memref sig .tc .vmem S1x8192x128 .fp8e4m3) (harg11 : arg11.IsWhole)
variable (arg12 : Memref sig .tc .vmem S1x8192x128 .fp8e4m3) (harg12 : arg12.IsWhole)
variable (arg13 : Memref sig .tc .vmem S1x8192x128 .fp8e4m3) (harg13 : arg13.IsWhole)
variable (arg14 : Memref sig .tc .vmem S1x8192x128 .fp8e5m2) (harg14 : arg14.IsWhole)
variable (arg15 : Memref sig .tc .vmem S1x1x1x128 .f32) (harg15 : arg15.IsWhole)
variable (arg16 : Memref sig .tc .vmem S32x128x256 .bf16) (harg16 : arg16.IsWhole)
variable (arg17 : Memref sig .tc .vmem S32x128x256 .fp8e4m3) (harg17 : arg17.IsWhole)
variable (arg18 : Memref sig .tc .vmem S32x256x256 .f32) (harg18 : arg18.IsWhole)
variable (arg19 : Memref sig .tc .vmem S32x1x256 .f32) (harg19 : arg19.IsWhole)
variable (arg20 : Memref sig .tc .vmem S8192x128 .f32) (harg20 : arg20.IsWhole)
variable (arg21 : Memref sig .tc .vmem S8192x128 .f32) (harg21 : arg21.IsWhole)
variable (x k v d : Vec F S1x8192x128 .bf16)

/-! ## Quantising -/

theorem topBody1  (k' : Fin k0_t1_loop.trips) (a : FVec F S16x128 .bf16) :
    (ow c arg3 fullShare x : sProp 𝕄) ⊢ wp frame (wpE (defs₀ (F := F)) 𝒱₀ (c : Thread nD τ) none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21  k' a)
      (fun y => iprop(⌜y = k0_pay46 a (pull (R1 k') x)⌝ ∗ ow c arg3 fullShare x)) := by
  unfold k0_t1_body
  iintro H
  iapply (wp_ld 𝒱₀ (c : Thread nD τ) none Set.univ _) $$ H
  iintro H
  iapply (wp_done 𝒱₀ (c : Thread nD τ) none Set.univ _)
  isplitr; · ipureintro; rfl
  iexact H

theorem codeBody2 (v39 : FVec F S1x1 .bf16) (k' : Fin k0_t2_loop.trips) :
    (iprop(ow c arg3 fullShare x ∗ ∃ X, ⌜Filled R2 (fun k' => k0_pay50 v39 (pull (R2 k') x)) k'.val X⌝ ∗ ow c arg11 fullShare X) : sProp 𝕄)
      ⊢ wp frame (wpE (defs₀ (F := F)) 𝒱₀ (c : Thread nD τ) none) Set.univ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 k' ⟨⟩)
      (fun y => iprop(⌜y = ⟨⟩⌝ ∗ ow c arg3 fullShare x ∗ ∃ X, ⌜Filled R2 (fun k' => k0_pay50 v39 (pull (R2 k') x)) (k'.val + 1) X⌝ ∗ ow c arg11 fullShare X)) := by
  unfold k0_t2_body
  iintro ⟨H, %X, %hX, HX⟩
  iapply (wp_ld 𝒱₀ (c : Thread nD τ) none Set.univ _) $$ H
  iintro H
  iapply (wp_ld 𝒱₀ (c : Thread nD τ) none Set.univ _) $$ HX
  iintro HX
  iapply (wp_st 𝒱₀ (c : Thread nD τ) none Set.univ _) $$ HX
  iintro HX
  iapply (wp_done 𝒱₀ (c : Thread nD τ) none Set.univ _)
  isplitr; · ipureintro; rfl
  isplitl [H]; · iexact H
  iexists _
  isplitr; swap; · iexact HX
  ipureintro
  exact slabs2.filled_succ _ (fun k' => k0_pay50 v39 (pull (R2 k') x)) k' X hX

theorem topBody3 (v39 : FVec F S1x1 .bf16) (k' : Fin k0_t3_loop.trips) (a : FVec F S16x128 .bf16) :
    (ow c arg4 fullShare k : sProp 𝕄) ⊢ wp frame (wpE (defs₀ (F := F)) 𝒱₀ (c : Thread nD τ) none) Set.univ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 k' a)
      (fun y => iprop(⌜y = k0_pay52 a (pull (R3 k') k)⌝ ∗ ow c arg4 fullShare k)) := by
  unfold k0_t3_body
  iintro H
  iapply (wp_ld 𝒱₀ (c : Thread nD τ) none Set.univ _) $$ H
  iintro H
  iapply (wp_done 𝒱₀ (c : Thread nD τ) none Set.univ _)
  isplitr; · ipureintro; rfl
  iexact H

theorem codeBody4 (v76 : IVec S1x1 32) (c23 : BitVec 32) (k' : Fin k0_t4_loop.trips) :
    (iprop(ow c arg4 fullShare k ∗ ∃ X, ⌜Filled R4 (fun k' => k0_pay56 v76 c23 (pull (R4 k') k)) k'.val X⌝ ∗ ow c arg12 fullShare X) : sProp 𝕄)
      ⊢ wp frame (wpE (defs₀ (F := F)) 𝒱₀ (c : Thread nD τ) none) Set.univ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 c23 k' ⟨⟩)
      (fun y => iprop(⌜y = ⟨⟩⌝ ∗ ow c arg4 fullShare k ∗ ∃ X, ⌜Filled R4 (fun k' => k0_pay56 v76 c23 (pull (R4 k') k)) (k'.val + 1) X⌝ ∗ ow c arg12 fullShare X)) := by
  unfold k0_t4_body
  iintro ⟨H, %X, %hX, HX⟩
  iapply (wp_ld 𝒱₀ (c : Thread nD τ) none Set.univ _) $$ H
  iintro H
  iapply (wp_ld 𝒱₀ (c : Thread nD τ) none Set.univ _) $$ HX
  iintro HX
  iapply (wp_st 𝒱₀ (c : Thread nD τ) none Set.univ _) $$ HX
  iintro HX
  iapply (wp_done 𝒱₀ (c : Thread nD τ) none Set.univ _)
  isplitr; · ipureintro; rfl
  isplitl [H]; · iexact H
  iexists _
  isplitr; swap; · iexact HX
  ipureintro
  exact slabs4.filled_succ _ (fun k' => k0_pay56 v76 c23 (pull (R4 k') k)) k' X hX

theorem topBody5 (v76 : IVec S1x1 32) (c23 : BitVec 32) (k' : Fin k0_t5_loop.trips) (a : FVec F S16x128 .bf16) :
    (ow c arg5 fullShare v : sProp 𝕄) ⊢ wp frame (wpE (defs₀ (F := F)) 𝒱₀ (c : Thread nD τ) none) Set.univ (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 c23 k' a)
      (fun y => iprop(⌜y = k0_pay58 a (pull (R5 k') v)⌝ ∗ ow c arg5 fullShare v)) := by
  unfold k0_t5_body
  iintro H
  iapply (wp_ld 𝒱₀ (c : Thread nD τ) none Set.univ _) $$ H
  iintro H
  iapply (wp_done 𝒱₀ (c : Thread nD τ) none Set.univ _)
  isplitr; · ipureintro; rfl
  iexact H

theorem codeBody6 (v110 : IVec S1x1 32) (k' : Fin k0_t6_loop.trips) :
    (iprop(ow c arg5 fullShare v ∗ ∃ X, ⌜Filled R6 (fun k' => k0_pay61 v110 (pull (R6 k') v)) k'.val X⌝ ∗ ow c arg13 fullShare X) : sProp 𝕄)
      ⊢ wp frame (wpE (defs₀ (F := F)) 𝒱₀ (c : Thread nD τ) none) Set.univ (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v110 k' ⟨⟩)
      (fun y => iprop(⌜y = ⟨⟩⌝ ∗ ow c arg5 fullShare v ∗ ∃ X, ⌜Filled R6 (fun k' => k0_pay61 v110 (pull (R6 k') v)) (k'.val + 1) X⌝ ∗ ow c arg13 fullShare X)) := by
  unfold k0_t6_body
  iintro ⟨H, %X, %hX, HX⟩
  iapply (wp_ld 𝒱₀ (c : Thread nD τ) none Set.univ _) $$ H
  iintro H
  iapply (wp_ld 𝒱₀ (c : Thread nD τ) none Set.univ _) $$ HX
  iintro HX
  iapply (wp_st 𝒱₀ (c : Thread nD τ) none Set.univ _) $$ HX
  iintro HX
  iapply (wp_done 𝒱₀ (c : Thread nD τ) none Set.univ _)
  isplitr; · ipureintro; rfl
  isplitl [H]; · iexact H
  iexists _
  isplitr; swap; · iexact HX
  ipureintro
  exact slabs6.filled_succ _ (fun k' => k0_pay61 v110 (pull (R6 k') v)) k' X hX

theorem topBody7 (v110 : IVec S1x1 32) (k' : Fin k0_t7_loop.trips) (a : FVec F S16x128 .bf16) :
    (ow c arg6 fullShare d : sProp 𝕄) ⊢ wp frame (wpE (defs₀ (F := F)) 𝒱₀ (c : Thread nD τ) none) Set.univ (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v110 k' a)
      (fun y => iprop(⌜y = k0_pay63 a (pull (R7 k') d)⌝ ∗ ow c arg6 fullShare d)) := by
  unfold k0_t7_body
  iintro H
  iapply (wp_ld 𝒱₀ (c : Thread nD τ) none Set.univ _) $$ H
  iintro H
  iapply (wp_done 𝒱₀ (c : Thread nD τ) none Set.univ _)
  isplitr; · ipureintro; rfl
  iexact H

theorem codeBody8 (v33 v74 v115 : FVec F S1x1 .f32) (v151 v153 : IVec S1x1 32) (k' : Fin k0_t8_loop.trips) :
    (iprop(ow c arg6 fullShare d ∗ ∃ X, ⌜Filled R8 (fun k' => k0_pay67 v151 (pull (R8 k') d)) k'.val X⌝ ∗ ow c arg14 fullShare X) : sProp 𝕄)
      ⊢ wp frame (wpE (defs₀ (F := F)) 𝒱₀ (c : Thread nD τ) none) Set.univ (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v33 v74 v115 v151 v153 k' ⟨⟩)
      (fun y => iprop(⌜y = ⟨⟩⌝ ∗ ow c arg6 fullShare d ∗ ∃ X, ⌜Filled R8 (fun k' => k0_pay67 v151 (pull (R8 k') d)) (k'.val + 1) X⌝ ∗ ow c arg14 fullShare X)) := by
  unfold k0_t8_body
  iintro ⟨H, %X, %hX, HX⟩
  iapply (wp_ld 𝒱₀ (c : Thread nD τ) none Set.univ _) $$ H
  iintro H
  iapply (wp_ld 𝒱₀ (c : Thread nD τ) none Set.univ _) $$ HX
  iintro HX
  iapply (wp_st 𝒱₀ (c : Thread nD τ) none Set.univ _) $$ HX
  iintro HX
  iapply (wp_done 𝒱₀ (c : Thread nD τ) none Set.univ _)
  isplitr; · ipureintro; rfl
  isplitl [H]; · iexact H
  iexists _
  isplitr; swap; · iexact HX
  ipureintro
  exact slabs8.filled_succ _ (fun k' => k0_pay67 v151 (pull (R8 k') d)) k' X hX

theorem part2  {Q : (Σ' (arg0 : BitVec 32) (v33 : FVec F S1x1 .f32), FVec F S1x1 .bf16) → sProp 𝕄} :
    (iprop(ow c arg3 fullShare x) : sProp 𝕄) ⊢ iprop((iprop(ow c arg3 fullShare x) -∗ Q ⟨BitVec.ofNat 32 (i 0).val, xScale x, k0_pay49 (xTop x)⟩) -∗ wp frame (wpE (defs₀ (F := F)) 𝒱₀ (c : Thread nD τ) none) Set.univ (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ) Q) := by
  rw [k0_part2_eq_skeleton]
  unfold k0_part2_skel
  iintro H3 HK
  iapply (wp_loop 𝒱₀ (c : Thread nD τ) none Set.univ k0_t1_loop k0_t1_ok (k0_pay45 (F := F)) (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 )
    (iter k0_t1_loop.trips (fun k' a => k0_pay46 a (pull (R1 k') x)) (k0_pay45 (F := F)))
    (fun _ => iprop(ow c arg3 fullShare x)) rfl
    (fun k' => by rw [iter_succ]; exact topBody1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x  k' _)) $$ H3
  iintro H3
  iapply (wp_done 𝒱₀ (c : Thread nD τ) none Set.univ _)
  unfold xScale xTop
  iapply HK
  iexact H3

theorem part3 (v39 : FVec F S1x1 .bf16) {Q : (Σ' (v74 : FVec F S1x1 .f32) (v76 : IVec S1x1 32), BitVec 32) → sProp 𝕄} :
    (iprop(ow c arg3 fullShare x ∗ ow c arg4 fullShare k ∗ (∃ X11, ow c arg11 fullShare X11)) : sProp 𝕄) ⊢ iprop((iprop(ow c arg3 fullShare x ∗ ow c arg4 fullShare k ∗ ow c arg11 fullShare (glue R2 cover2 (fun k' => k0_pay50 v39 (pull (R2 k') x)))) -∗ Q ⟨kScale k, k0_pay55 (kTop k), 23#32⟩) -∗ wp frame (wpE (defs₀ (F := F)) 𝒱₀ (c : Thread nD τ) none) Set.univ (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39) Q) := by
  rw [k0_part3_eq_skeleton]
  unfold k0_part3_skel
  iintro ⟨H3, H4, %X11, H11⟩ HK
  iapply (wp_loop 𝒱₀ (c : Thread nD τ) none Set.univ k0_t2_loop k0_t2_ok PUnit.unit (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39) (fun _ => ⟨⟩)
    (fun k' => iprop(ow c arg3 fullShare x ∗ ∃ X, ⌜Filled R2 (fun k' => k0_pay50 v39 (pull (R2 k') x)) k' X⌝ ∗ ow c arg11 fullShare X)) rfl
    (fun k' => codeBody2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x v39 k')) $$ [H3 H11]
  · isplitl [H3]; · iexact H3
    iexists _
    isplitr; swap; · iexact H11
    ipureintro; exact Filled.zero _ _ _
  iintro ⟨H3, %X, %hX, H11⟩
  obtain rfl : X = glue R2 cover2 (fun k' => k0_pay50 v39 (pull (R2 k') x)) := eq_glue _ _ _ _ fun k' => hX k' k'.isLt
  iapply (wp_loop 𝒱₀ (c : Thread nD τ) none Set.univ k0_t3_loop k0_t3_ok (k0_pay51 (F := F)) (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39)
    (iter k0_t3_loop.trips (fun k' a => k0_pay52 a (pull (R3 k') k)) (k0_pay51 (F := F)))
    (fun _ => iprop(ow c arg4 fullShare k)) rfl
    (fun k' => by rw [iter_succ]; exact topBody3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k v39 k' _)) $$ H4
  iintro H4
  iapply (wp_done 𝒱₀ (c : Thread nD τ) none Set.univ _)
  unfold kScale kTop
  iapply HK
  isplitl [H3]; · iexact H3
  isplitl [H4]; · iexact H4
  iexact H11

theorem part4 (v76 : IVec S1x1 32) (c23 : BitVec 32) {Q : (Σ' (v110 : IVec S1x1 32), FVec F S1x1 .f32) → sProp 𝕄} :
    (iprop(ow c arg4 fullShare k ∗ ow c arg5 fullShare v ∗ (∃ X12, ow c arg12 fullShare X12)) : sProp 𝕄) ⊢ iprop((iprop(ow c arg4 fullShare k ∗ ow c arg5 fullShare v ∗ ow c arg12 fullShare (glue R4 cover4 (fun k' => k0_pay56 v76 c23 (pull (R4 k') k)))) -∗ Q ⟨k0_pay59 (vTop v), vScale v⟩) -∗ wp frame (wpE (defs₀ (F := F)) 𝒱₀ (c : Thread nD τ) none) Set.univ (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 c23) Q) := by
  rw [k0_part4_eq_skeleton]
  unfold k0_part4_skel
  iintro ⟨H4, H5, %X12, H12⟩ HK
  iapply (wp_loop 𝒱₀ (c : Thread nD τ) none Set.univ k0_t4_loop k0_t4_ok PUnit.unit (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 c23) (fun _ => ⟨⟩)
    (fun k' => iprop(ow c arg4 fullShare k ∗ ∃ X, ⌜Filled R4 (fun k' => k0_pay56 v76 c23 (pull (R4 k') k)) k' X⌝ ∗ ow c arg12 fullShare X)) rfl
    (fun k' => codeBody4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k v76 c23 k')) $$ [H4 H12]
  · isplitl [H4]; · iexact H4
    iexists _
    isplitr; swap; · iexact H12
    ipureintro; exact Filled.zero _ _ _
  iintro ⟨H4, %X, %hX, H12⟩
  obtain rfl : X = glue R4 cover4 (fun k' => k0_pay56 v76 c23 (pull (R4 k') k)) := eq_glue _ _ _ _ fun k' => hX k' k'.isLt
  iapply (wp_loop 𝒱₀ (c : Thread nD τ) none Set.univ k0_t5_loop k0_t5_ok (k0_pay57 (F := F)) (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 c23)
    (iter k0_t5_loop.trips (fun k' a => k0_pay58 a (pull (R5 k') v)) (k0_pay57 (F := F)))
    (fun _ => iprop(ow c arg5 fullShare v)) rfl
    (fun k' => by rw [iter_succ]; exact topBody5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v v76 c23 k' _)) $$ H5
  iintro H5
  iapply (wp_done 𝒱₀ (c : Thread nD τ) none Set.univ _)
  unfold vScale vTop
  iapply HK
  isplitl [H4]; · iexact H4
  isplitl [H5]; · iexact H5
  iexact H12

theorem part5 (v110 : IVec S1x1 32) {Q : (Σ' (v151 : IVec S1x1 32), IVec S1x1 32) → sProp 𝕄} :
    (iprop(ow c arg5 fullShare v ∗ ow c arg6 fullShare d ∗ (∃ X13, ow c arg13 fullShare X13)) : sProp 𝕄) ⊢ iprop((iprop(ow c arg5 fullShare v ∗ ow c arg6 fullShare d ∗ ow c arg13 fullShare (glue R6 cover6 (fun k' => k0_pay61 v110 (pull (R6 k') v)))) -∗ Q ⟨k0_pay64 (dTop d), dBits d⟩) -∗ wp frame (wpE (defs₀ (F := F)) 𝒱₀ (c : Thread nD τ) none) Set.univ (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v110) Q) := by
  rw [k0_part5_eq_skeleton]
  unfold k0_part5_skel
  iintro ⟨H5, H6, %X13, H13⟩ HK
  iapply (wp_loop 𝒱₀ (c : Thread nD τ) none Set.univ k0_t6_loop k0_t6_ok PUnit.unit (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v110) (fun _ => ⟨⟩)
    (fun k' => iprop(ow c arg5 fullShare v ∗ ∃ X, ⌜Filled R6 (fun k' => k0_pay61 v110 (pull (R6 k') v)) k' X⌝ ∗ ow c arg13 fullShare X)) rfl
    (fun k' => codeBody6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v v110 k')) $$ [H5 H13]
  · isplitl [H5]; · iexact H5
    iexists _
    isplitr; swap; · iexact H13
    ipureintro; exact Filled.zero _ _ _
  iintro ⟨H5, %X, %hX, H13⟩
  obtain rfl : X = glue R6 cover6 (fun k' => k0_pay61 v110 (pull (R6 k') v)) := eq_glue _ _ _ _ fun k' => hX k' k'.isLt
  iapply (wp_loop 𝒱₀ (c : Thread nD τ) none Set.univ k0_t7_loop k0_t7_ok (k0_pay62 (F := F)) (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v110)
    (iter k0_t7_loop.trips (fun k' a => k0_pay63 a (pull (R7 k') d)) (k0_pay62 (F := F)))
    (fun _ => iprop(ow c arg6 fullShare d)) rfl
    (fun k' => by rw [iter_succ]; exact topBody7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 d v110 k' _)) $$ H6
  iintro H6
  iapply (wp_done 𝒱₀ (c : Thread nD τ) none Set.univ _)
  unfold dBits dTop
  iapply HK
  isplitl [H5]; · iexact H5
  isplitl [H6]; · iexact H6
  iexact H13

theorem part6 (v33 v74 v115 : FVec F S1x1 .f32) (v151 v153 : IVec S1x1 32) {Q : (Σ' (v156 : FVec F S1x1 .f32) (v187 : FVec F S1x1 .f32) (v193 : FVec F S1x1 .f32), F .f32) → sProp 𝕄} :
    (iprop(ow c arg6 fullShare d ∗ (∃ X14, ow c arg14 fullShare X14) ∗ (∃ X15, ow c arg15 fullShare X15)) : sProp 𝕄) ⊢ iprop((iprop(ow c arg6 fullShare d ∗ ow c arg14 fullShare (glue R8 cover8 (fun k' => k0_pay67 v151 (pull (R8 k') d))) ∗ ow c arg15 fullShare (k0_pay68 v33 v74 v115 v153)) -∗ Q ⟨k0_pay66 (F := F) v153, k0_pay69 v33 v74, k0_pay70 v74 v115 v153, Scalar.ofBits .f32 0x3DB504F3#32⟩) -∗ wp frame (wpE (defs₀ (F := F)) 𝒱₀ (c : Thread nD τ) none) Set.univ (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v33 v74 v115 v151 v153) Q) := by
  rw [k0_part6_eq_skeleton]
  unfold k0_part6_skel
  iintro ⟨H6, ⟨%X14, H14⟩, %X15, H15⟩ HK
  iapply (wp_loop 𝒱₀ (c : Thread nD τ) none Set.univ k0_t8_loop k0_t8_ok PUnit.unit (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v33 v74 v115 v151 v153) (fun _ => ⟨⟩)
    (fun k' => iprop(ow c arg6 fullShare d ∗ ∃ X, ⌜Filled R8 (fun k' => k0_pay67 v151 (pull (R8 k') d)) k' X⌝ ∗ ow c arg14 fullShare X)) rfl
    (fun k' => codeBody8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 d v33 v74 v115 v151 v153 k')) $$ [H6 H14]
  · isplitl [H6]; · iexact H6
    iexists _
    isplitr; swap; · iexact H14
    ipureintro; exact Filled.zero _ _ _
  iintro ⟨H6, %X, %hX, H14⟩
  obtain rfl : X = glue R8 cover8 (fun k' => k0_pay67 v151 (pull (R8 k') d)) := eq_glue _ _ _ _ fun k' => hX k' k'.isLt
  iapply (wp_ld 𝒱₀ (c : Thread nD τ) none Set.univ _) $$ H15
  iintro H15
  iapply (wp_st 𝒱₀ (c : Thread nD τ) none Set.univ _) $$ H15
  iintro H15
  rw [overlay_all _ _ (by decide)]
  iapply (wp_done 𝒱₀ (c : Thread nD τ) none Set.univ _)
  iapply HK
  isplitl [H6]; · iexact H6
  isplitl [H14]; · iexact H14
  iexact H15

/-! ## The keys transposed -/

theorem flipBody (kc vc : Vec F S1x8192x128 .fp8e4m3) (k' : Fin k0_t9_loop.trips) :
    (iprop(ow c arg12 fullShare kc ∗ ow c arg13 fullShare vc ∗ (∃ X, ⌜Filled R10 (fun k' => k0_pay1 (pull (R9 k') kc)) k'.val X⌝ ∗ ow c arg16 fullShare X) ∗ (∃ X17, ow c arg17 fullShare X17)) : sProp 𝕄) ⊢ wp frame (wpE (defs₀ (F := F)) 𝒱₀ (c : Thread nD τ) none) Set.univ (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k' ⟨⟩) (fun y => iprop(⌜y = ⟨⟩⌝ ∗ ow c arg12 fullShare kc ∗ ow c arg13 fullShare vc ∗ (∃ X, ⌜Filled R10 (fun k' => k0_pay1 (pull (R9 k') kc)) (k'.val + 1) X⌝ ∗ ow c arg16 fullShare X) ∗ (∃ X17, ow c arg17 fullShare X17))) := by
  unfold k0_t9_body
  iintro ⟨H12, H13, ⟨%X, %hX, H16⟩, %Y, H17⟩
  iapply (wp_ld 𝒱₀ (c : Thread nD τ) none Set.univ _) $$ H12
  iintro H12
  iapply (wp_ld 𝒱₀ (c : Thread nD τ) none Set.univ _) $$ H16
  iintro H16
  iapply (wp_st 𝒱₀ (c : Thread nD τ) none Set.univ _) $$ H16
  iintro H16
  iapply (wp_ld 𝒱₀ (c : Thread nD τ) none Set.univ _) $$ H13
  iintro H13
  iapply (wp_ld 𝒱₀ (c : Thread nD τ) none Set.univ _) $$ H17
  iintro H17
  iapply (wp_st 𝒱₀ (c : Thread nD τ) none Set.univ _) $$ H17
  iintro H17
  iapply (wp_done 𝒱₀ (c : Thread nD τ) none Set.univ _)
  isplitr; · ipureintro; rfl
  isplitl [H12]; · iexact H12
  isplitl [H13]; · iexact H13
  isplitl [H16]
  · iexists _
    isplitr; swap; · iexact H16
    ipureintro
    exact slabs10.filled_succ _ (fun k' => k0_pay1 (pull (R9 k') kc)) k' X hX
  iexists _
  iexact H17

/-! ## One query block -/

section Block

variable (qc kc vc : Vec F S1x8192x128 .fp8e4m3) (dc : Vec F S1x8192x128 .fp8e5m2) (kt : Vec F S32x128x256 .bf16) (st : Vec F S1x1x8192 .i32)
variable (sm dm : FVec F S1x1 .f32) (arg0 : BitVec 32)
variable (t : Fin k0_t10_loop.trips) (w : BitVec 32) (hw : k0_chk1 t w)

theorem scoreBody (k : Fin (k0_t11_loop t w).trips) :
    (iprop(ow c arg12 fullShare kc ∗ (∃ X, ⌜Filled (R15 t w hw) (scoreB qc kc st sm t w hw) k.val X⌝ ∗ ow c arg18 fullShare X) ∗ (∃ X, ⌜Filled (R16 t w hw) (maxB qc kc st sm t w hw) k.val X⌝ ∗ ow c arg19 fullShare X)) : sProp 𝕄) ⊢ wp frame (wpE (defs₀ (F := F)) 𝒱₀ (c : Thread nD τ) none) Set.univ (k0_t11_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 sm 0#32 1#32 t w hw (pull (R12 t) qc) (pull (R13 t) st) k ((ml qc kc st sm t w hw k.val).1, (ml qc kc st sm t w hw k.val).2))
      (fun y => iprop(⌜y = ((ml qc kc st sm t w hw (k.val + 1)).1, (ml qc kc st sm t w hw (k.val + 1)).2)⌝ ∗ ow c arg12 fullShare kc ∗ (∃ X, ⌜Filled (R15 t w hw) (scoreB qc kc st sm t w hw) (k.val + 1) X⌝ ∗ ow c arg18 fullShare X) ∗ (∃ X, ⌜Filled (R16 t w hw) (maxB qc kc st sm t w hw) (k.val + 1) X⌝ ∗ ow c arg19 fullShare X))) := by
  unfold k0_t11_body
  iintro ⟨H12, ⟨%X, %hX, H18⟩, %Y, %hY, H19⟩
  iapply (wp_ld 𝒱₀ (c : Thread nD τ) none Set.univ _) $$ H12
  iintro H12
  iapply (wp_ld 𝒱₀ (c : Thread nD τ) none Set.univ _) $$ H18
  iintro H18
  iapply (wp_st 𝒱₀ (c : Thread nD τ) none Set.univ _) $$ H18
  iintro H18
  iapply (wp_ld 𝒱₀ (c : Thread nD τ) none Set.univ _) $$ H19
  iintro H19
  iapply (wp_st 𝒱₀ (c : Thread nD τ) none Set.univ _) $$ H19
  iintro H19
  iapply (wp_done 𝒱₀ (c : Thread nD τ) none Set.univ _)
  isplitr
  · ipureintro
    unfold ml
    rw [iter_succ]
  isplitl [H12]; · iexact H12
  isplitl [H18]
  · iexists _
    isplitr; swap; · iexact H18
    ipureintro
    exact (slabs15 t w).filled_succ _ (scoreB qc kc st sm t w hw) k X hX
  iexists _
  isplitr; swap; · iexact H19
  ipureintro
  exact (slabs16 t w).filled_succ _ (maxB qc kc st sm t w hw) k Y hY

theorem valueBody (B : Vec F S8192x128 .f32) (M : Vec F S32x1x256 .f32) (hM : ∀ k, pull (R16 t w hw k) M = (maxB qc kc st sm t w hw) k) (k : Fin (k0_t13_loop t w).trips) :
    (iprop(ow c arg13 fullShare vc ∗ ow c arg19 fullShare M ∗ (∃ X, ⌜Passed (R15 t w hw) (scoreB qc kc st sm t w hw) (probB qc kc st sm t w hw) k.val X⌝ ∗ ow c arg18 fullShare X) ∗ ow c arg21 fullShare (dvS qc kc dc st sm t w hw B k.val)) : sProp 𝕄) ⊢ wp frame (wpE (defs₀ (F := F)) 𝒱₀ (c : Thread nD τ) none) Set.univ (k0_t13_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t w hw (k0_pay26 (pull (R12 t) dc)) (topS qc kc st sm t w hw) (invS qc kc st sm t w hw) k (outS qc kc vc st sm t w hw k.val))
      (fun y => iprop(⌜y = (outS qc kc vc st sm t w hw (k.val + 1))⌝ ∗ ow c arg13 fullShare vc ∗ ow c arg19 fullShare M ∗ (∃ X, ⌜Passed (R15 t w hw) (scoreB qc kc st sm t w hw) (probB qc kc st sm t w hw) (k.val + 1) X⌝ ∗ ow c arg18 fullShare X) ∗ ow c arg21 fullShare (dvS qc kc dc st sm t w hw B (k.val + 1)))) := by
  unfold k0_t13_body
  iintro ⟨H13, H19, ⟨%X, %hX, H18⟩, H21⟩
  have eM : pull (Rect.unit (s := S32x1x256) (k0_off20 t w k) S1x1x256.size (k0_off20_inb t w hw k)) M = (maxB qc kc st sm t w hw) k := hM k
  have eX : pull (Rect.unit (s := S32x256x256) (k0_off21 t w k) S1x256x256.size (k0_off21_inb t w hw k)) X = (scoreB qc kc st sm t w hw) k :=
    (hX k).trans (if_neg (Nat.lt_irrefl _))
  iapply (wp_ld 𝒱₀ (c : Thread nD τ) none Set.univ _) $$ H19
  iintro H19
  iapply (wp_ld 𝒱₀ (c : Thread nD τ) none Set.univ _) $$ H18
  iintro H18
  iapply (wp_ld 𝒱₀ (c : Thread nD τ) none Set.univ _) $$ H18
  iintro H18
  rw [eM, eX]
  iapply (wp_st 𝒱₀ (c : Thread nD τ) none Set.univ _) $$ H18
  iintro H18
  iapply (wp_ld 𝒱₀ (c : Thread nD τ) none Set.univ _) $$ H21
  iintro H21
  iapply (wp_ld 𝒱₀ (c : Thread nD τ) none Set.univ _) $$ H21
  iintro H21
  iapply (wp_st 𝒱₀ (c : Thread nD τ) none Set.univ _) $$ H21
  iintro H21
  iapply (wp_ld 𝒱₀ (c : Thread nD τ) none Set.univ _) $$ H13
  iintro H13
  iapply (wp_done 𝒱₀ (c : Thread nD τ) none Set.univ _)
  isplitr
  · ipureintro
    unfold outS
    rw [iter_succ]
  isplitl [H13]; · iexact H13
  isplitl [H19]; · iexact H19
  isplitl [H18]
  · iexists _
    isplitr; swap; · iexact H18
    ipureintro
    exact (slabs15 t w).passed_succ _ (scoreB qc kc st sm t w hw) (probB qc kc st sm t w hw) k X hX
  unfold dvS
  rw [iter_succ]
  iexact H21

theorem gradBody (B : Vec F S8192x128 .f32) (P : Vec F S32x256x256 .f32) (hP : ∀ k, pull (R15 t w hw k) P = (probB qc kc st sm t w hw) k) (k : Fin (k0_t15_loop t w).trips) :
    (iprop(ow c arg13 fullShare vc ∗ ow c arg16 fullShare kt ∗ ow c arg18 fullShare P ∗ ow c arg20 fullShare (dkS qc kc vc dc st sm t w hw B k.val)) : sProp 𝕄) ⊢ wp frame (wpE (defs₀ (F := F)) 𝒱₀ (c : Thread nD τ) none) Set.univ (k0_t15_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t w hw (k0_pay25 (pull (R12 t) qc)) (k0_pay26 (pull (R12 t) dc)) (outS qc kc vc st sm t w hw (k0_t13_loop t w).trips) k (dqS qc kc vc dc kt st sm t w hw k.val))
      (fun y => iprop(⌜y = (dqS qc kc vc dc kt st sm t w hw (k.val + 1))⌝ ∗ ow c arg13 fullShare vc ∗ ow c arg16 fullShare kt ∗ ow c arg18 fullShare P ∗ ow c arg20 fullShare (dkS qc kc vc dc st sm t w hw B (k.val + 1)))) := by
  unfold k0_t15_body
  iintro ⟨H13, H16, H18, H20⟩
  have eP : pull (Rect.unit (s := S32x256x256) (k0_off29 t w k) S1x256x256.size (k0_off29_inb t w hw k)) P = (probB qc kc st sm t w hw) k := hP k
  iapply (wp_ld 𝒱₀ (c : Thread nD τ) none Set.univ _) $$ H13
  iintro H13
  iapply (wp_ld 𝒱₀ (c : Thread nD τ) none Set.univ _) $$ H18
  iintro H18
  rw [eP]
  iapply (wp_ld 𝒱₀ (c : Thread nD τ) none Set.univ _) $$ H20
  iintro H20
  iapply (wp_ld 𝒱₀ (c : Thread nD τ) none Set.univ _) $$ H20
  iintro H20
  iapply (wp_st 𝒱₀ (c : Thread nD τ) none Set.univ _) $$ H20
  iintro H20
  iapply (wp_ld 𝒱₀ (c : Thread nD τ) none Set.univ _) $$ H16
  iintro H16
  iapply (wp_done 𝒱₀ (c : Thread nD τ) none Set.univ _)
  isplitr
  · ipureintro
    unfold dqS
    rw [iter_succ]
  isplitl [H13]; · iexact H13
  isplitl [H16]; · iexact H16
  isplitl [H18]; · iexact H18
  unfold dkS
  rw [iter_succ]
  iexact H20

end Block

/-! ## All query blocks -/

section All

variable (qc kc vc : Vec F S1x8192x128 .fp8e4m3) (dc : Vec F S1x8192x128 .fp8e5m2) (kt : Vec F S32x128x256 .bf16) (st : Vec F S1x1x8192 .i32)
variable (sm dm : FVec F S1x1 .f32) (lo : Vec F S9x32 .i32) (q : PosShare TreeShare)

theorem part1 (hw : ∀ t, k0_chk1 t (word lo i t)) (arg0 : BitVec 32) (t : Fin k0_t10_loop.trips) {Q : (Σ' (arg22 : BitVec 32) (v215 : Elt F .i32) (k0_hw1 : k0_chk1 t v215) (v217 : BitVec 32) (v222 : FVec F S256x128 .fp8e4m3) (v227 : FVec F S256x128 .fp8e5m2) (v245_0 : FVec F S1x256 .f32) (v247 : FVec F S1x256 .f32) (v248 : FVec F S256x128 .f32) (c0_i32_128 : BitVec 32), BitVec 32) → sProp 𝕄} :
    (iprop(ow c arg2 q lo ∗ ow c arg7 fullShare st ∗ ow c arg11 fullShare qc ∗ ow c arg12 fullShare kc ∗ ow c arg14 fullShare dc ∗ (∃ X18, ow c arg18 fullShare X18) ∗ (∃ X19, ow c arg19 fullShare X19)) : sProp 𝕄)
      ⊢ iprop((iprop(ow c arg2 q lo ∗ ow c arg7 fullShare st ∗ ow c arg11 fullShare qc ∗ ow c arg12 fullShare kc ∗ ow c arg14 fullShare dc ∗ (∃ X, ⌜Filled (R15 t (word lo i t) (hw t)) (scoreB qc kc st sm t (word lo i t) (hw t)) (k0_t11_loop t (word lo i t)).trips X⌝ ∗ ow c arg18 fullShare X) ∗ (∃ X, ⌜Filled (R16 t (word lo i t) (hw t)) (maxB qc kc st sm t (word lo i t) (hw t)) (k0_t11_loop t (word lo i t)).trips X⌝ ∗ ow c arg19 fullShare X))
          -∗ Q ⟨Scf.iv 0#32 1#32 t.val, (word lo i t), hw t, Scalar.subi (Scalar.addi (Scf.iv 0#32 1#32 t.val) 1#32) (word lo i t), k0_pay25 (pull (R12 t) qc), k0_pay26 (pull (R12 t) dc),
            topS qc kc st sm t (word lo i t) (hw t), invS qc kc st sm t (word lo i t) (hw t), k0_pay44 (F := F), 0#32, Scalar.subi (Scalar.subi (Scalar.addi (Scf.iv 0#32 1#32 t.val) 1#32) (word lo i t)) 0#32⟩)
        -∗ wp frame (wpE (defs₀ (F := F)) 𝒱₀ (c : Thread nD τ) none) Set.univ (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 sm 0#32 1#32 t) Q) := by
  rw [k0_part1_eq_skeleton]
  unfold k0_part1_skel
  iintro ⟨H2, H7, H11, H12, H14, ⟨%X, H18⟩, %Y, H19⟩ HK
  iapply (wp_smem 𝒱₀ (c : Thread nD τ) none Set.univ _) $$ H2
  iintro H2
  iapply (wp_asm 𝒱₀ (c : Thread nD τ) none Set.univ (hw t))
  iapply (wp_ld 𝒱₀ (c : Thread nD τ) none Set.univ _) $$ H11
  iintro H11
  iapply (wp_ld 𝒱₀ (c : Thread nD τ) none Set.univ _) $$ H14
  iintro H14
  iapply (wp_ld 𝒱₀ (c : Thread nD τ) none Set.univ _) $$ H7
  iintro H7
  iapply (wp_loop 𝒱₀ (c : Thread nD τ) none Set.univ (k0_t11_loop t (word lo i t)) (k0_t11_ok t (word lo i t) (hw t)) (k0_pay29 (F := F), k0_pay30 (F := F))
    (k0_t11_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 sm 0#32 1#32 t (word lo i t) (hw t) (pull (R12 t) qc) (pull (R13 t) st)) (fun k => ((ml qc kc st sm t (word lo i t) (hw t) k).1, (ml qc kc st sm t (word lo i t) (hw t) k).2)) (fun k => iprop(ow c arg12 fullShare kc ∗ (∃ X, ⌜Filled (R15 t (word lo i t) (hw t)) (scoreB qc kc st sm t (word lo i t) (hw t)) k X⌝ ∗ ow c arg18 fullShare X) ∗ (∃ X, ⌜Filled (R16 t (word lo i t) (hw t)) (maxB qc kc st sm t (word lo i t) (hw t)) k X⌝ ∗ ow c arg19 fullShare X))) rfl
    (fun k => scoreBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 qc kc st sm arg0 t (word lo i t) (hw t) k)) $$ [H12 H18 H19]
  · isplitl [H12]; · iexact H12
    isplitl [H18]
    · iexists _
      isplitr; swap; · iexact H18
      ipureintro; exact Filled.zero _ _ _
    iexists _
    isplitr; swap; · iexact H19
    ipureintro; exact Filled.zero _ _ _
  iintro ⟨H12, ⟨%X, %hX, H18⟩, %Y, %hY, H19⟩
  iapply (wp_loop_none 𝒱₀ (c : Thread nD τ) none Set.univ (k0_t12_loop t (word lo i t)) (k0_t12_ok t (word lo i t) (hw t)) ((ml qc kc st sm t (word lo i t) (hw t) (k0_t11_loop t (word lo i t)).trips).1, (ml qc kc st sm t (word lo i t) (hw t) (k0_t11_loop t (word lo i t)).trips).2)
    (k0_t12_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 sm 0#32 1#32 t (word lo i t) (hw t) (pull (R12 t) qc) (pull (R13 t) st)) (trips12 t (word lo i t)))
  iapply (wp_done 𝒱₀ (c : Thread nD τ) none Set.univ _)
  unfold topS invS
  iapply HK
  isplitl [H2]; · iexact H2
  isplitl [H7]; · iexact H7
  isplitl [H11]; · iexact H11
  isplitl [H12]; · iexact H12
  isplitl [H14]; · iexact H14
  isplitl [H18]
  · iexists X
    isplitr; · ipureintro; exact hX
    iexact H18
  iexists Y
  isplitr; · ipureintro; exact hY
  iexact H19

theorem queryBody (hw : ∀ t, k0_chk1 t (word lo i t)) (arg0 : BitVec 32) (t : Fin k0_t10_loop.trips) :
    (iprop(ow c arg2 q lo ∗ ow c arg7 fullShare st ∗ ow c arg11 fullShare qc ∗ ow c arg12 fullShare kc ∗ ow c arg13 fullShare vc ∗ ow c arg14 fullShare dc ∗ ow c arg16 fullShare kt ∗ (∃ X, ⌜Filled R36 (fun t => dqB qc kc vc dc kt st sm dm t (word lo i t) (hw t)) t.val X⌝ ∗ ow c arg8 fullShare X) ∗ (∃ X18, ow c arg18 fullShare X18) ∗ (∃ X19, ow c arg19 fullShare X19) ∗ ow c arg20 fullShare (iter k0_t10_loop.trips (fun t A => dkS qc kc vc dc st sm t (word lo i t) (hw t) A (k0_t15_loop t (word lo i t)).trips) (k0_pay3 (F := F)) t.val) ∗ ow c arg21 fullShare (iter k0_t10_loop.trips (fun t A => dvS qc kc dc st sm t (word lo i t) (hw t) A (k0_t13_loop t (word lo i t)).trips) (k0_pay4 (F := F)) t.val)) : sProp 𝕄) ⊢ wp frame (wpE (defs₀ (F := F)) 𝒱₀ (c : Thread nD τ) none) Set.univ (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 sm dm t ⟨⟩)
      (fun y => iprop(⌜y = ⟨⟩⌝ ∗ ow c arg2 q lo ∗ ow c arg7 fullShare st ∗ ow c arg11 fullShare qc ∗ ow c arg12 fullShare kc ∗ ow c arg13 fullShare vc ∗ ow c arg14 fullShare dc ∗ ow c arg16 fullShare kt ∗ (∃ X, ⌜Filled R36 (fun t => dqB qc kc vc dc kt st sm dm t (word lo i t) (hw t)) (t.val + 1) X⌝ ∗ ow c arg8 fullShare X) ∗ (∃ X18, ow c arg18 fullShare X18) ∗ (∃ X19, ow c arg19 fullShare X19) ∗ ow c arg20 fullShare (iter k0_t10_loop.trips (fun t A => dkS qc kc vc dc st sm t (word lo i t) (hw t) A (k0_t15_loop t (word lo i t)).trips) (k0_pay3 (F := F)) (t.val + 1)) ∗ ow c arg21 fullShare (iter k0_t10_loop.trips (fun t A => dvS qc kc dc st sm t (word lo i t) (hw t) A (k0_t13_loop t (word lo i t)).trips) (k0_pay4 (F := F)) (t.val + 1)))) := by
  unfold k0_t10_body
  iintro ⟨H2, H7, H11, H12, H13, H14, H16, ⟨%X8, %hX8, H8⟩, H18, H19, H20, H21⟩
  generalize hA : (iter k0_t10_loop.trips (fun t A => dkS qc kc vc dc st sm t (word lo i t) (hw t) A (k0_t15_loop t (word lo i t)).trips) (k0_pay3 (F := F)) t.val) = AK at *
  generalize hB : (iter k0_t10_loop.trips (fun t A => dvS qc kc dc st sm t (word lo i t) (hw t) A (k0_t13_loop t (word lo i t)).trips) (k0_pay4 (F := F)) t.val) = AV at *
  rw [wp_bind]
  iapply (part1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 qc kc dc st sm lo q hw arg0 t) $$ [H2 H7 H11 H12 H14 H18 H19]
  · isplitl [H2]; · iexact H2
    isplitl [H7]; · iexact H7
    isplitl [H11]; · iexact H11
    isplitl [H12]; · iexact H12
    isplitl [H14]; · iexact H14
    isplitl [H18]; · iexact H18
    iexact H19
  iintro ⟨H2, H7, H11, H12, H14, ⟨%X, %hX, H18⟩, %Y, %hY, H19⟩
  dsimp only
  iapply (wp_loop 𝒱₀ (c : Thread nD τ) none Set.univ (k0_t13_loop t (word lo i t)) (k0_t13_ok t (word lo i t) (hw t)) (k0_pay44 (F := F))
    (k0_t13_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t (word lo i t) (hw t) (k0_pay26 (pull (R12 t) dc)) (topS qc kc st sm t (word lo i t) (hw t)) (invS qc kc st sm t (word lo i t) (hw t))) (fun k => (outS qc kc vc st sm t (word lo i t) (hw t) k)) (fun k => iprop(ow c arg13 fullShare vc ∗ ow c arg19 fullShare Y ∗ (∃ X, ⌜Passed (R15 t (word lo i t) (hw t)) (scoreB qc kc st sm t (word lo i t) (hw t)) (probB qc kc st sm t (word lo i t) (hw t)) k X⌝ ∗ ow c arg18 fullShare X) ∗ ow c arg21 fullShare (dvS qc kc dc st sm t (word lo i t) (hw t) AV k))) rfl
    (fun k => valueBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 qc kc vc dc st sm t (word lo i t) (hw t) AV Y (fun k => hY k k.isLt) k)) $$ [H13 H18 H19 H21]
  · isplitl [H13]; · iexact H13
    isplitl [H19]; · iexact H19
    isplitl [H18]
    · iexists X
      isplitr; swap; · iexact H18
      ipureintro; exact fun k => (hX k k.isLt).trans (if_neg (Nat.not_lt_zero _)).symm
    iexact H21
  iintro ⟨H13, H19, ⟨%P, %hP, H18⟩, H21⟩
  iapply (wp_loop_none 𝒱₀ (c : Thread nD τ) none Set.univ (k0_t14_loop t (word lo i t)) (k0_t14_ok t (word lo i t) (hw t)) (outS qc kc vc st sm t (word lo i t) (hw t) (k0_t13_loop t (word lo i t)).trips)
    (k0_t14_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t (word lo i t) (hw t) (k0_pay26 (pull (R12 t) dc)) (topS qc kc st sm t (word lo i t) (hw t)) (invS qc kc st sm t (word lo i t) (hw t))) (trips14 t (word lo i t)))
  iapply (wp_loop 𝒱₀ (c : Thread nD τ) none Set.univ (k0_t15_loop t (word lo i t)) (k0_t15_ok t (word lo i t) (hw t)) (k0_pay15 (F := F))
    (k0_t15_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t (word lo i t) (hw t) (k0_pay25 (pull (R12 t) qc)) (k0_pay26 (pull (R12 t) dc)) (outS qc kc vc st sm t (word lo i t) (hw t) (k0_t13_loop t (word lo i t)).trips)) (fun k => (dqS qc kc vc dc kt st sm t (word lo i t) (hw t) k)) (fun k => iprop(ow c arg13 fullShare vc ∗ ow c arg16 fullShare kt ∗ ow c arg18 fullShare P ∗ ow c arg20 fullShare (dkS qc kc vc dc st sm t (word lo i t) (hw t) AK k))) rfl
    (fun k => gradBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 qc kc vc dc kt st sm t (word lo i t) (hw t) AK P (fun k => (hP k).trans (if_pos k.isLt)) k)) $$ [H13 H16 H18 H20]
  · isplitl [H13]; · iexact H13
    isplitl [H16]; · iexact H16
    isplitl [H18]; · iexact H18
    iexact H20
  iintro ⟨H13, H16, H18, H20⟩
  iapply (wp_loop_none 𝒱₀ (c : Thread nD τ) none Set.univ (k0_t16_loop t (word lo i t)) (k0_t16_ok t (word lo i t) (hw t)) (dqS qc kc vc dc kt st sm t (word lo i t) (hw t) (k0_t15_loop t (word lo i t)).trips)
    (k0_t16_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t (word lo i t) (hw t) (k0_pay25 (pull (R12 t) qc)) (k0_pay26 (pull (R12 t) dc)) (outS qc kc vc st sm t (word lo i t) (hw t) (k0_t13_loop t (word lo i t)).trips)) (trips16 t (word lo i t)))
  iapply (wp_ld 𝒱₀ (c : Thread nD τ) none Set.univ _) $$ H8
  iintro H8
  iapply (wp_st 𝒱₀ (c : Thread nD τ) none Set.univ _) $$ H8
  iintro H8
  iapply (wp_done 𝒱₀ (c : Thread nD τ) none Set.univ _)
  isplitr; · ipureintro; rfl
  isplitl [H2]; · iexact H2
  isplitl [H7]; · iexact H7
  isplitl [H11]; · iexact H11
  isplitl [H12]; · iexact H12
  isplitl [H13]; · iexact H13
  isplitl [H14]; · iexact H14
  isplitl [H16]; · iexact H16
  isplitl [H8]
  · iexists _
    isplitr; swap; · iexact H8
    ipureintro
    exact slabs36.filled_succ _ (fun t => dqB qc kc vc dc kt st sm dm t (word lo i t) (hw t)) t X8 hX8
  isplitl [H18]; · iexists _; iexact H18
  isplitl [H19]; · iexists _; iexact H19
  subst hA
  subst hB
  rw [iter_succ, iter_succ]
  isplitl [H20]; · iexact H20
  iexact H21

theorem scaleBody (K V : Vec F S8192x128 .f32) (v33 v115 v156 : FVec F S1x1 .f32) (cst : F .f32) (k' : Fin k0_t17_loop.trips) :
    (iprop(ow c arg20 fullShare K ∗ ow c arg21 fullShare V ∗ (∃ X, ⌜Filled R38 (fun k' => k0_pay23 v33 v115 v156 cst (pull (R37 k') K)) k'.val X⌝ ∗ ow c arg9 fullShare X) ∗ (∃ X, ⌜Filled R38 (fun k' => k0_pay24 v156 (pull (R37 k') V)) k'.val X⌝ ∗ ow c arg10 fullShare X)) : sProp 𝕄) ⊢ wp frame (wpE (defs₀ (F := F)) 𝒱₀ (c : Thread nD τ) none) Set.univ (k0_t17_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v33 v115 v156 cst k' ⟨⟩)
      (fun y => iprop(⌜y = ⟨⟩⌝ ∗ ow c arg20 fullShare K ∗ ow c arg21 fullShare V ∗ (∃ X, ⌜Filled R38 (fun k' => k0_pay23 v33 v115 v156 cst (pull (R37 k') K)) (k'.val + 1) X⌝ ∗ ow c arg9 fullShare X) ∗ (∃ X, ⌜Filled R38 (fun k' => k0_pay24 v156 (pull (R37 k') V)) (k'.val + 1) X⌝ ∗ ow c arg10 fullShare X))) := by
  unfold k0_t17_body
  iintro ⟨H20, H21, ⟨%X, %hX, H9⟩, %Y, %hY, H10⟩
  iapply (wp_ld 𝒱₀ (c : Thread nD τ) none Set.univ _) $$ H20
  iintro H20
  iapply (wp_ld 𝒱₀ (c : Thread nD τ) none Set.univ _) $$ H9
  iintro H9
  iapply (wp_st 𝒱₀ (c : Thread nD τ) none Set.univ _) $$ H9
  iintro H9
  iapply (wp_ld 𝒱₀ (c : Thread nD τ) none Set.univ _) $$ H21
  iintro H21
  iapply (wp_ld 𝒱₀ (c : Thread nD τ) none Set.univ _) $$ H10
  iintro H10
  iapply (wp_st 𝒱₀ (c : Thread nD τ) none Set.univ _) $$ H10
  iintro H10
  iapply (wp_done 𝒱₀ (c : Thread nD τ) none Set.univ _)
  isplitr; · ipureintro; rfl
  isplitl [H20]; · iexact H20
  isplitl [H21]; · iexact H21
  isplitl [H9]
  · iexists _
    isplitr; swap; · iexact H9
    ipureintro
    exact slabs38.filled_succ _ (fun k' => k0_pay23 v33 v115 v156 cst (pull (R37 k') K)) k' X hX
  iexists _
  isplitr; swap; · iexact H10
  ipureintro
  exact slabs38.filled_succ _ (fun k' => k0_pay24 v156 (pull (R37 k') V)) k' Y hY

end All

/-- The whole body at one grid point. -/
theorem bodyRun (st : Vec F S1x1x8192 .i32) (lo : Vec F S9x32 .i32) (q : PosShare TreeShare) (hw : ∀ t, k0_chk1 t (word lo i t)) (Q : PUnit → sProp 𝕄) :
    (iprop(ow c arg2 q lo ∗ ow c arg3 fullShare x ∗ ow c arg4 fullShare k ∗ ow c arg5 fullShare v ∗ ow c arg6 fullShare d ∗ ow c arg7 fullShare st ∗ (∃ X8, ow c arg8 fullShare X8) ∗ (∃ X9, ow c arg9 fullShare X9) ∗ (∃ X10, ow c arg10 fullShare X10) ∗ (∃ X11, ow c arg11 fullShare X11) ∗ (∃ X12, ow c arg12 fullShare X12) ∗ (∃ X13, ow c arg13 fullShare X13) ∗ (∃ X14, ow c arg14 fullShare X14) ∗ (∃ X15, ow c arg15 fullShare X15) ∗ (∃ X16, ow c arg16 fullShare X16) ∗ (∃ X17, ow c arg17 fullShare X17) ∗ (∃ X18, ow c arg18 fullShare X18) ∗ (∃ X19, ow c arg19 fullShare X19) ∗ (∃ X20, ow c arg20 fullShare X20) ∗ (∃ X21, ow c arg21 fullShare X21)) : sProp 𝕄)
      ⊢ iprop((iprop(ow c arg2 q lo ∗ ow c arg3 fullShare x ∗ ow c arg4 fullShare k ∗ ow c arg5 fullShare v ∗ ow c arg6 fullShare d ∗ ow c arg7 fullShare st ∗ ow c arg8 fullShare (dqOut x k v d st lo i hw) ∗ ow c arg9 fullShare (dkOut x k v d st lo i hw) ∗ ow c arg10 fullShare (dvOut x k d st lo i hw) ∗ ow c arg11 fullShare (xCode x) ∗ ow c arg12 fullShare (kCode k) ∗ ow c arg13 fullShare (vCode v) ∗ ow c arg14 fullShare (dCode d) ∗ ow c arg15 fullShare (scaleRow x k v d) ∗ (∃ X16, ow c arg16 fullShare X16) ∗ (∃ X17, ow c arg17 fullShare X17) ∗ (∃ X18, ow c arg18 fullShare X18) ∗ (∃ X19, ow c arg19 fullShare X19) ∗ (∃ X20, ow c arg20 fullShare X20) ∗ (∃ X21, ow c arg21 fullShare X21)) -∗ Q ⟨⟩) -∗ wp frame (wpE (defs₀ (F := F)) 𝒱₀ (c : Thread nD τ) none) Set.univ (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q) := by
  rw [cc0_attn_bwd_eq_skeleton]
  unfold cc0_attn_bwd_skel
  iintro ⟨H2, H3, H4, H5, H6, H7, ⟨%X8, H8⟩, ⟨%X9, H9⟩, ⟨%X10, H10⟩, H11, H12, H13, H14, H15, ⟨%X16, H16⟩, H17, H18, H19, ⟨%X20, H20⟩, %X21, H21⟩ HK
  rw [wp_bind]
  iapply (part2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x) $$ [H3]
  · iexact H3
  iintro H3
  dsimp only
  rw [wp_bind]
  iapply (part3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x k (k0_pay49 (xTop x))) $$ [H3 H4 H11]
  · isplitl [H3]; · iexact H3
    isplitl [H4]; · iexact H4
    iexact H11
  iintro ⟨H3, H4, H11⟩
  dsimp only
  rw [wp_bind]
  iapply (part4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k v (k0_pay55 (kTop k)) 23#32) $$ [H4 H5 H12]
  · isplitl [H4]; · iexact H4
    isplitl [H5]; · iexact H5
    iexact H12
  iintro ⟨H4, H5, H12⟩
  dsimp only
  rw [wp_bind]
  iapply (part5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v d (k0_pay59 (vTop v))) $$ [H5 H6 H13]
  · isplitl [H5]; · iexact H5
    isplitl [H6]; · iexact H6
    iexact H13
  iintro ⟨H5, H6, H13⟩
  dsimp only
  rw [wp_bind]
  iapply (part6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 d (xScale x) (kScale k) (vScale v) (k0_pay64 (dTop d)) (dBits d)) $$ [H6 H14 H15]
  · isplitl [H6]; · iexact H6
    isplitl [H14]; · iexact H14
    iexact H15
  iintro ⟨H6, H14, H15⟩
  dsimp only
  iapply (wp_loop 𝒱₀ (c : Thread nD τ) none Set.univ k0_t9_loop k0_t9_ok PUnit.unit (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => ⟨⟩)
    (fun k' => iprop(ow c arg12 fullShare (kCode k) ∗ ow c arg13 fullShare (vCode v) ∗ (∃ X, ⌜Filled R10 (fun k' => k0_pay1 (pull (R9 k') (kCode k))) k' X⌝ ∗ ow c arg16 fullShare X) ∗ (∃ X17, ow c arg17 fullShare X17))) rfl
    (fun k' => flipBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (kCode k) (vCode v) k')) $$ [H12 H13 H16 H17]
  · isplitl [H12]; · iexact H12
    isplitl [H13]; · iexact H13
    isplitl [H16]
    · iexists _
      isplitr; swap; · iexact H16
      ipureintro; exact Filled.zero _ _ _
    iexact H17
  iintro ⟨H12, H13, ⟨%X, %hX, H16⟩, H17⟩
  obtain rfl : X = kFlip k := eq_glue _ cover10 _ _ fun k' => hX k' k'.isLt
  iapply (wp_ld 𝒱₀ (c : Thread nD τ) none Set.univ _) $$ H20
  iintro H20
  iapply (wp_st 𝒱₀ (c : Thread nD τ) none Set.univ _) $$ H20
  iintro H20
  rw [overlay_all _ _ (by decide)]
  iapply (wp_ld 𝒱₀ (c : Thread nD τ) none Set.univ _) $$ H21
  iintro H21
  iapply (wp_st 𝒱₀ (c : Thread nD τ) none Set.univ _) $$ H21
  iintro H21
  rw [overlay_all _ _ (by decide)]
  iapply (wp_loop 𝒱₀ (c : Thread nD τ) none Set.univ k0_t10_loop k0_t10_ok PUnit.unit (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 0).val) (scoreMul x k) (dqMul k v d)) (fun _ => ⟨⟩)
    (fun k' => iprop(ow c arg2 q lo ∗ ow c arg7 fullShare st ∗ ow c arg11 fullShare (xCode x) ∗ ow c arg12 fullShare (kCode k) ∗ ow c arg13 fullShare (vCode v) ∗ ow c arg14 fullShare (dCode d) ∗ ow c arg16 fullShare (kFlip k) ∗ (∃ X, ⌜Filled R36 (fun t => dqB (xCode x) (kCode k) (vCode v) (dCode d) (kFlip k) st (scoreMul x k) (dqMul k v d) t (word lo i t) (hw t)) k' X⌝ ∗ ow c arg8 fullShare X) ∗ (∃ X18, ow c arg18 fullShare X18) ∗ (∃ X19, ow c arg19 fullShare X19) ∗ ow c arg20 fullShare (iter k0_t10_loop.trips (fun t A => dkS (xCode x) (kCode k) (vCode v) (dCode d) st (scoreMul x k) t (word lo i t) (hw t) A (k0_t15_loop t (word lo i t)).trips) (k0_pay3 (F := F)) k') ∗ ow c arg21 fullShare (iter k0_t10_loop.trips (fun t A => dvS (xCode x) (kCode k) (dCode d) st (scoreMul x k) t (word lo i t) (hw t) A (k0_t13_loop t (word lo i t)).trips) (k0_pay4 (F := F)) k'))) rfl
    (fun k' => queryBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (xCode x) (kCode k) (vCode v) (dCode d) (kFlip k) st (scoreMul x k) (dqMul k v d) lo q hw (BitVec.ofNat 32 (i 0).val) k')) $$ [H2 H7 H11 H12 H13 H14 H16 H8 H18 H19 H20 H21]
  · isplitl [H2]; · iexact H2
    isplitl [H7]; · iexact H7
    isplitl [H11]; · iexact H11
    isplitl [H12]; · iexact H12
    isplitl [H13]; · iexact H13
    isplitl [H14]; · iexact H14
    isplitl [H16]; · iexact H16
    isplitl [H8]
    · iexists _
      isplitr; swap; · iexact H8
      ipureintro; exact Filled.zero _ _ _
    isplitl [H18]; · iexact H18
    isplitl [H19]; · iexact H19
    isplitl [H20]; · iexact H20
    iexact H21
  iintro ⟨H2, H7, H11, H12, H13, H14, H16, ⟨%X8, %hX8, H8⟩, H18, H19, H20, H21⟩
  obtain rfl : X8 = dqOut x k v d st lo i hw := eq_glue _ cover36 _ _ fun k' => hX8 k' k'.isLt
  iapply (wp_loop 𝒱₀ (c : Thread nD τ) none Set.univ k0_t17_loop k0_t17_ok PUnit.unit (k0_t17_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (xScale x) (vScale v) (dScale d) (Scalar.ofBits .f32 0x3DB504F3#32)) (fun _ => ⟨⟩)
    (fun k' => iprop(ow c arg20 fullShare (dkA x k v d st lo i hw k0_t10_loop.trips) ∗ ow c arg21 fullShare (dvA x k d st lo i hw k0_t10_loop.trips) ∗ (∃ X, ⌜Filled R38 (fun k' => k0_pay23 (xScale x) (vScale v) (dScale d) (Scalar.ofBits .f32 0x3DB504F3#32) (pull (R37 k') (dkA x k v d st lo i hw k0_t10_loop.trips))) k' X⌝ ∗ ow c arg9 fullShare X) ∗ (∃ X, ⌜Filled R38 (fun k' => k0_pay24 (dScale d) (pull (R37 k') (dvA x k d st lo i hw k0_t10_loop.trips))) k' X⌝ ∗ ow c arg10 fullShare X))) rfl
    (fun k' => scaleBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dkA x k v d st lo i hw k0_t10_loop.trips) (dvA x k d st lo i hw k0_t10_loop.trips) (xScale x) (vScale v) (dScale d) (Scalar.ofBits .f32 0x3DB504F3#32) k')) $$ [H20 H21 H9 H10]
  · isplitl [H20]; · iexact H20
    isplitl [H21]; · iexact H21
    isplitl [H9]
    · iexists _
      isplitr; swap; · iexact H9
      ipureintro; exact Filled.zero _ _ _
    iexists _
    isplitr; swap; · iexact H10
    ipureintro; exact Filled.zero _ _ _
  iintro ⟨H20, H21, ⟨%X9, %hX9, H9⟩, %X10, %hX10, H10⟩
  obtain rfl : X9 = dkOut x k v d st lo i hw := eq_glue _ cover38 _ _ fun k' => hX9 k' k'.isLt
  obtain rfl : X10 = dvOut x k d st lo i hw := eq_glue _ cover38 _ _ fun k' => hX10 k' k'.isLt
  iapply (wp_done 𝒱₀ (c : Thread nD τ) none Set.univ _)
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [H18]; · iexact H18
  isplitl [H19]; · iexact H19
  isplitl [H20]; · iexists _; iexact H20
  iexists _; iexact H21

end Body

end Cert.Proof.Kernel

end
-- ==== Proof.Chk.lean ====
/-
  What the kernel's loop bounds and access offsets come to: the inner loops of query block `t` whose lowest key block is `w ≤ t` run
  `t + 1 - w` trips, their remainders none, and every access is in bounds.
-/
module

public import proofs.«01_k».proof.Kernel
public import proofs.«01_k».proof.Proof.Owns

@[expose] public section

noncomputable section

namespace Cert.Proof.Kernel

open Cert.Kernel
open Idealize.ShloMosaic Idealize.ShloMosaic.TcCoe

set_option maxRecDepth 100000 in
theorem chk_of_le : ∀ (t : Fin k0_t10_loop.trips) (w : Fin 32), w.val ≤ t.val → k0_chk1 t (BitVec.ofNat 32 w.val) := by
  decide +kernel

end Cert.Proof.Kernel

end
-- ==== Proof.Starts.lean ====
/-
  The host's integer arrays: `marks` holds a position's own index where a document begins and 0 elsewhere, `starts` its running maximum
  along the sequence (the position where the document begins), `table` the key block that holds the start of each query block's first
  document. What each entry is, and that a query block's table entry is at most the block's own index.
-/
module

public import Idealize.ShloMosaic.PureOps.Contract
public import Idealize.ShloMosaic.Lib.ValueIdxCore
public import Idealize.ShloMosaic.Lib.ValueIdxCoords
public import Idealize.ShloMosaic.Lib.Pipeline.Value

@[expose] public section

noncomputable section

namespace Cert.Proof.Starts

open Idealize.ShloMosaic Idealize.ShloMosaic.ValueIdx

abbrev S9x8192 : Shape := ⟨2, ![9, 8192]⟩
abbrev S9x8191 : Shape := ⟨2, ![9, 8191]⟩
abbrev S1x8192 : Shape := ⟨2, ![1, 8192]⟩
abbrev S9x32 : Shape := ⟨2, ![9, 32]⟩
abbrev S9x1 : Shape := ⟨2, ![9, 1]⟩
abbrev S8192 : Shape := ⟨1, ![8192]⟩
abbrev S_ : Shape := ⟨0, ![]⟩

variable (seg : IVec S9x8192 32)

/-- Where a document begins: at position 0, and where the identifier differs from the one before. -/
def edge : IVec S9x8192 1 :=
  concatenate S9x8192 1 [⟨S9x1, broadcastInDim S9x1 ![] (by decide) (constantI S_ 1 1#1)⟩,
    ⟨S9x8191, cmpi .ne (extractStridedSlice S9x8191 ![0, 1] seg (by decide)) (extractStridedSlice S9x8191 ![0, 0] seg (by decide))⟩]
    (show Shape.Concatenates [S9x1, S9x8191] S9x8192 1 by decide)

/-- A position's own index where a document begins, 0 elsewhere. -/
def marks : IVec S9x8192 32 :=
  select (edge seg)
    (broadcastInDim S9x8192 ![0, 1] (by decide) (broadcastInDim S1x8192 ![1] (by decide) (iotaInDim S8192 32 0)))
    (broadcastInDim S9x8192 ![] (by decide) (constantI S_ 32 0#32))

/-- The running maximum of the marks. -/
def starts : IVec S9x8192 32 :=
  Host.reduceWindow IntOp.maxsi ![1, 8192] ![1, 1] ![0, 8191] ![0, 0] (marks seg)
    (broadcastInDim S_ ![] (by decide) (constantI S_ 32 2147483648#32)) (by decide) (by decide)

/-- The starts at the first position of each block. -/
def heads : IVec S9x32 32 := Host.slice S9x32 ![0, 0] ![1, 256] (starts seg) (by decide)

/-- Division by 256 rounding down, as the host spells it. -/
def floorDiv (x : IVec S9x32 32) : IVec S9x32 32 :=
  select (andi (cmpi .ne (signi x) (broadcastInDim S9x32 ![] (by decide) (signi (constantI S_ 32 256#32))))
      (cmpi .ne (Host.remsi x (broadcastInDim S9x32 ![] (by decide) (constantI S_ 32 256#32)))
        (broadcastInDim S9x32 ![] (by decide) (constantI S_ 32 0#32))))
    (subi (Host.divsi x (broadcastInDim S9x32 ![] (by decide) (constantI S_ 32 256#32))) (broadcastInDim S9x32 ![] (by decide) (constantI S_ 32 1#32)))
    (Host.divsi x (broadcastInDim S9x32 ![] (by decide) (constantI S_ 32 256#32)))

/-- The first key block of each query block. -/
def table : IVec S9x32 32 := floorDiv (heads seg)

/-- A document begins at position `k` of batch `b`. -/
def Begins (b : Fin 9) (k : Fin 8192) : Prop :=
  k.val = 0 ∨ ∃ h : k.val - 1 < 8192, seg (ix2 b k) ≠ seg (ix2 b ⟨k.val - 1, h⟩)

theorem ofBool_eq_one (p : Bool) : BitVec.ofBool p = 1#1 ↔ p = true := by cases p <;> decide

theorem edge_apply (b : Fin 9) (k : Fin 8192) : edge seg (ix2 b k) = 1#1 ↔ Begins seg b k := by
  unfold edge Begins
  by_cases hk : k.val = 0
  · refine iff_of_true ?_ (.inl hk)
    refine (concatenate_pair_apply_left (s₁ := S9x1) (s₂ := S9x8191) (t := S9x8192) 1 _ _ _ (ix2 b k) rfl (ix2 b (0 : Fin 1)) ?_).trans ?_
    · intro a
      match a with
      | ⟨0, _⟩ => rfl
      | ⟨1, _⟩ => exact hk.symm
    · rfl
  · have hlt : k.val - 1 < 8191 := by have := k.isLt; omega
    rw [concatenate_pair_apply_right (s₁ := S9x1) (s₂ := S9x8191) (t := S9x8192) 1 _ _ _ (ix2 b k) rfl rfl (ix2 b (⟨k.val - 1, hlt⟩ : Fin 8191))
      (by
        intro a ha
        match a with
        | ⟨0, _⟩ => rfl
        | ⟨1, _⟩ => exact absurd rfl ha)
      (by show k.val - 1 + 1 = k.val; omega)]
    have e1 : extractStridedSlice S9x8191 ![0, 1] seg (by decide) (ix2 b (⟨k.val - 1, hlt⟩ : Fin 8191)) = seg (ix2 b k) :=
      congrArg seg (funext fun a => Fin.ext (by
        match a with
        | ⟨0, _⟩ => show 0 + b.val = b.val; omega
        | ⟨1, _⟩ => show 1 + (k.val - 1) = k.val; omega))
    have e2 : extractStridedSlice S9x8191 ![0, 0] seg (by decide) (ix2 b (⟨k.val - 1, hlt⟩ : Fin 8191))
        = seg (ix2 b (⟨k.val - 1, by omega⟩ : Fin 8192)) :=
      congrArg seg (funext fun a => Fin.ext (by
        match a with
        | ⟨0, _⟩ => show 0 + b.val = b.val; omega
        | ⟨1, _⟩ => show 0 + (k.val - 1) = k.val - 1; omega))
    show IntOp.cmpi .ne _ _ = 1#1 ↔ _
    rw [e1, e2]
    show BitVec.ofBool _ = 1#1 ↔ _
    rw [ofBool_eq_one]
    simp only [bne_iff_ne, ne_eq]
    exact ⟨fun h => .inr ⟨by omega, h⟩, fun h => h.elim (fun h => absurd h hk) fun ⟨_, h⟩ => h⟩

theorem marks_of (b : Fin 9) (k : Fin 8192) (h : Begins seg b k) : marks seg (ix2 b k) = BitVec.ofNat 32 k.val := by
  have e : edge seg (ix2 b k) = 1#1 := (edge_apply seg b k).mpr h
  unfold marks select
  rw [e]
  rfl

theorem marks_of_not (b : Fin 9) (k : Fin 8192) (h : ¬ Begins seg b k) : marks seg (ix2 b k) = 0#32 := by
  have e : edge seg (ix2 b k) ≠ 1#1 := mt (edge_apply seg b k).mp h
  unfold marks select Scalar.select
  refine (if_neg e).trans ?_
  rfl

theorem toInt_ofNat (n : ℕ) (h : n < 8192) : (BitVec.ofNat 32 n).toInt = n := by
  rw [BitVec.toInt_eq_toNat_of_lt (by rw [BitVec.toNat_ofNat, Nat.mod_eq_of_lt (by omega)]; omega), BitVec.toNat_ofNat, Nat.mod_eq_of_lt (by omega)]

theorem toInt_max (x y : BitVec 32) : x.toInt ≤ (IntOp.maxsi x y).toInt ∧ y.toInt ≤ (IntOp.maxsi x y).toInt
    ∧ (IntOp.maxsi x y = x ∨ IntOp.maxsi x y = y) := by
  unfold IntOp.maxsi
  split
  · next h => rw [BitVec.slt_iff_toInt_lt] at h; exact ⟨le_refl _, h.le, .inl rfl⟩
  · next h => rw [BitVec.slt_iff_toInt_lt] at h; exact ⟨not_lt.mp h, le_refl _, .inr rfl⟩

/-- A running maximum is at least its start and every word met, and is one of them. -/
theorem foldl_max {β : Type} (g : β → BitVec 32) : ∀ (l : List β) (v : BitVec 32),
    v.toInt ≤ (l.foldl (fun r n => IntOp.maxsi r (g n)) v).toInt ∧ (∀ n ∈ l, (g n).toInt ≤ (l.foldl (fun r n => IntOp.maxsi r (g n)) v).toInt)
      ∧ (l.foldl (fun r n => IntOp.maxsi r (g n)) v = v ∨ ∃ n ∈ l, l.foldl (fun r n => IntOp.maxsi r (g n)) v = g n)
  | [], v => ⟨le_refl _, fun _ h => absurd h List.not_mem_nil, .inl rfl⟩
  | n :: l, v => by
    obtain ⟨h1, h2, h3⟩ := foldl_max g l (IntOp.maxsi v (g n))
    obtain ⟨m1, m2, m3⟩ := toInt_max v (g n)
    rw [List.foldl_cons]
    refine ⟨m1.trans h1, fun n' hn' => ?_, ?_⟩
    · rcases List.mem_cons.mp hn' with rfl | hn'
      · exact m2.trans h1
      · exact h2 n' hn'
    · rcases h3 with h3 | ⟨n', hn', h3⟩
      · rcases m3 with m3 | m3
        · exact .inl (h3.trans m3)
        · exact .inr ⟨n, List.mem_cons_self, h3.trans m3⟩
      · exact .inr ⟨n', List.mem_cons_of_mem _ hn', h3⟩

set_option maxHeartbeats 4000000 in
/-- A running maximum along the second axis, as a window of the whole length padded low by one less: it is its start or an element at or
    before the position, and at least every such element. -/
theorem cummax {A N Nm1 : ℕ} (hN : Nm1 + 1 = N) (x : IVec ⟨2, ![A, N]⟩ 32) (init : IVec S_ 32)
    (h : Shape.ReduceWindows ⟨2, ![A, N]⟩ (![1, N] : Fin 2 → ℕ) ![1, 1] ![0, Nm1] ![0, 0] ⟨2, ![A, N]⟩) (hu : 0 < S_.numel) (b : Fin A) (q : Fin N) :
    (Host.reduceWindow IntOp.maxsi ![1, N] ![1, 1] ![0, Nm1] ![0, 0] x init h hu (ix2 b q) = init (Shape.Idx.first hu)
        ∨ ∃ k : Fin N, k ≤ q ∧ Host.reduceWindow IntOp.maxsi ![1, N] ![1, 1] ![0, Nm1] ![0, 0] x init h hu (ix2 b q) = x (ix2 b k))
      ∧ ∀ k : Fin N, k ≤ q → (x (ix2 b k)).toInt ≤ (Host.reduceWindow IntOp.maxsi ![1, N] ![1, 1] ![0, Nm1] ![0, 0] x init h hu (ix2 b q)).toInt := by
  let W : Shape := ⟨2, ![1, N]⟩
  let p : Fin W.numel → Fin 2 → ℕ := fun n a => ((ix2 b q : (⟨2, ![A, N]⟩ : Shape).Idx) a).val * (![1, 1] : Fin 2 → ℕ) a + (W.rowMajor.symm n a).val
  let g : Fin W.numel → BitVec 32 := fun n =>
    if hin : ∀ a : Fin 2, (![0, Nm1] : Fin 2 → ℕ) a ≤ p n a ∧ p n a - (![0, Nm1] : Fin 2 → ℕ) a < (⟨2, ![A, N]⟩ : Shape).size a then
      x (fun a => ⟨p n a - (![0, Nm1] : Fin 2 → ℕ) a, (hin a).2⟩) else init (Shape.Idx.first hu)
  obtain ⟨-, h2, h3⟩ := foldl_max g (List.finRange W.numel) (init (Shape.Idx.first hu))
  have hdef : Host.reduceWindow IntOp.maxsi ![1, N] ![1, 1] ![0, Nm1] ![0, 0] x init h hu (ix2 b q)
      = (List.finRange W.numel).foldl (fun r n => IntOp.maxsi r (g n)) (init (Shape.Idx.first hu)) := by
    unfold Host.reduceWindow
    refine congrArg (fun f => List.foldl f (init (Shape.Idx.first hu)) (List.finRange W.numel)) (funext fun r => funext fun n => congrArg (IntOp.maxsi r) ?_)
    dsimp only [g]
    congr
  rw [← hdef] at h2 h3
  have hq := q.isLt
  have hsome : ∀ n, g n = init (Shape.Idx.first hu) ∨ ∃ k : Fin N, k ≤ q ∧ g n = x (ix2 b k) := fun n => by
    by_cases hin : ∀ a : Fin 2, (![0, Nm1] : Fin 2 → ℕ) a ≤ p n a ∧ p n a - (![0, Nm1] : Fin 2 → ℕ) a < (⟨2, ![A, N]⟩ : Shape).size a
    · right
      have hb : (W.rowMajor.symm n 0).val < 1 := (W.rowMajor.symm n 0).isLt
      have h1 : (W.rowMajor.symm n 1).val < N := (W.rowMajor.symm n 1).isLt
      have i1 : Nm1 ≤ q.val * 1 + (W.rowMajor.symm n 1).val ∧ q.val * 1 + (W.rowMajor.symm n 1).val - Nm1 < N := hin 1
      refine ⟨⟨q.val * 1 + (W.rowMajor.symm n 1).val - Nm1, i1.2⟩, ?_, ?_⟩
      · show _ - Nm1 ≤ q.val; omega
      · show (if hin : _ then _ else _) = _
        rw [dif_pos hin]
        refine congrArg x (funext fun a => Fin.ext ?_)
        match a with
        | ⟨0, _⟩ => show b.val * 1 + (W.rowMajor.symm n 0).val - 0 = b.val; omega
        | ⟨1, _⟩ => rfl
    · left; exact dif_neg hin
  refine ⟨?_, fun k hk => ?_⟩
  · rcases h3 with h3 | ⟨n, -, h3⟩
    · exact .inl h3
    · rcases hsome n with h | ⟨k, hk, h⟩
      · exact .inl (h3.trans h)
      · exact .inr ⟨k, hk, h3.trans h⟩
  · have hk' : k.val ≤ q.val := hk
    have hw : k.val + Nm1 - q.val < N := by omega
    let w : W.Idx := ix2 (0 : Fin 1) (⟨k.val + Nm1 - q.val, hw⟩ : Fin N)
    have hp : ∀ a, (W.rowMajor.symm (W.rowMajor w) a).val = (w a).val := fun a => by rw [Equiv.symm_apply_apply]
    have hp0 : p (W.rowMajor w) 0 = b.val := by show b.val * 1 + _ = _; rw [hp]; show b.val * 1 + 0 = _; omega
    have hp1 : p (W.rowMajor w) 1 = k.val + Nm1 := by show q.val * 1 + _ = _; rw [hp]; show q.val * 1 + (k.val + Nm1 - q.val) = _; omega
    have hin : ∀ a : Fin 2, (![0, Nm1] : Fin 2 → ℕ) a ≤ p (W.rowMajor w) a ∧ p (W.rowMajor w) a - (![0, Nm1] : Fin 2 → ℕ) a < (⟨2, ![A, N]⟩ : Shape).size a := by
      intro a
      match a with
      | ⟨0, _⟩ => show 0 ≤ p (W.rowMajor w) 0 ∧ p (W.rowMajor w) 0 - 0 < A; rw [hp0]; have := b.isLt; omega
      | ⟨1, _⟩ => show Nm1 ≤ p (W.rowMajor w) 1 ∧ p (W.rowMajor w) 1 - Nm1 < N; rw [hp1]; have := k.isLt; omega
    have hg : g (W.rowMajor w) = x (ix2 b k) := by
      refine (dif_pos hin).trans (congrArg x (funext fun a => Fin.ext ?_))
      match a with
      | ⟨0, _⟩ => show p (W.rowMajor w) 0 - 0 = b.val; rw [hp0]; rfl
      | ⟨1, _⟩ => show p (W.rowMajor w) 1 - Nm1 = k.val; rw [hp1]; omega
    rw [← hg]
    exact h2 _ (List.mem_finRange _)

/-- The running maximum of the marks is a mark at or before the position, and at least every mark up to there. -/
theorem starts_max (b : Fin 9) (q : Fin 8192) :
    (∃ k : Fin 8192, k ≤ q ∧ starts seg (ix2 b q) = marks seg (ix2 b k))
      ∧ ∀ k : Fin 8192, k ≤ q → (marks seg (ix2 b k)).toInt ≤ (starts seg (ix2 b q)).toInt := by
  obtain ⟨h3, hall⟩ := cummax (A := 9) (N := 8192) (Nm1 := 8191) rfl (marks seg) (broadcastInDim S_ ![] (by decide) (constantI S_ 32 2147483648#32)) (by decide) (by decide) b q
  have h0 : (0 : ℤ) ≤ (starts seg (ix2 b q)).toInt := by
    have := hall ⟨0, by omega⟩ (Nat.zero_le _)
    rw [marks_of seg b ⟨0, by omega⟩ (.inl rfl)] at this
    exact this
  have hne : starts seg (ix2 b q) ≠ 2147483648#32 := fun h => by rw [h] at h0; exact absurd h0 (by decide)
  exact ⟨h3.resolve_left hne, hall⟩

/-- Position `q`'s document starts at some `k ≤ q` where a document begins, and none begins after `k` up to `q`. -/
theorem starts_apply (b : Fin 9) (q : Fin 8192) : ∃ k : Fin 8192, k ≤ q ∧ Begins seg b k ∧ starts seg (ix2 b q) = BitVec.ofNat 32 k.val
    ∧ ∀ k' : Fin 8192, k' ≤ q → Begins seg b k' → k' ≤ k := by
  obtain ⟨⟨k, hk, e⟩, hall⟩ := starts_max seg b q
  have key : ∀ k : Fin 8192, k ≤ q → Begins seg b k → starts seg (ix2 b q) = BitVec.ofNat 32 k.val →
      ∃ k : Fin 8192, k ≤ q ∧ Begins seg b k ∧ starts seg (ix2 b q) = BitVec.ofNat 32 k.val
        ∧ ∀ k' : Fin 8192, k' ≤ q → Begins seg b k' → k' ≤ k := fun k hk hb e =>
    ⟨k, hk, hb, e, fun k' hk' hb' => by
      have := hall k' hk'
      rw [e, marks_of seg b k' hb', toInt_ofNat _ k'.isLt, toInt_ofNat _ k.isLt] at this
      exact Fin.le_def.mpr (by exact_mod_cast this)⟩
  by_cases hb : Begins seg b k
  · exact key k hk hb (e.trans (marks_of seg b k hb))
  · exact key ⟨0, by omega⟩ (Nat.zero_le _) (.inl rfl) (e.trans (marks_of_not seg b k hb))

theorem floorDiv_apply (x : IVec S9x32 32) (j : S9x32.Idx) (n : ℕ) (hn : n < 8192) (h : x j = BitVec.ofNat 32 n) :
    floorDiv x j = BitVec.ofNat 32 (n / 256) := by
  have key : ∀ n : Fin 8192, (if IntOp.andi (IntOp.cmpi .ne (if BitVec.ofNat 32 n.val = 0 then (0 : BitVec 32) else if (BitVec.ofNat 32 n.val).msb then -1 else 1)
        (if (256#32 : BitVec 32) = 0 then (0 : BitVec 32) else if (256#32 : BitVec 32).msb then -1 else 1)) (IntOp.cmpi .ne (IntOp.remsi .host (BitVec.ofNat 32 n.val) 256#32) 0#32) = 1#1
      then IntOp.subi (IntOp.divsi .host (BitVec.ofNat 32 n.val) 256#32) 1#32 else IntOp.divsi .host (BitVec.ofNat 32 n.val) 256#32)
      = BitVec.ofNat 32 (n.val / 256) := by decide +kernel
  refine Eq.trans ?_ (key ⟨n, hn⟩)
  rw [← h]
  rfl

/-- A query block's first key block: that of the start of its first position's document. -/
theorem table_apply (b : Fin 9) (t : Fin 32) : ∃ k : Fin 8192, k.val ≤ 256 * t.val ∧ Begins seg b k
    ∧ starts seg (ix2 b (⟨256 * t.val, by omega⟩ : Fin 8192)) = BitVec.ofNat 32 k.val
    ∧ table seg (ix2 b t) = BitVec.ofNat 32 (k.val / 256) := by
  obtain ⟨k, hk, hb, e, -⟩ := starts_apply seg b (⟨256 * t.val, by omega⟩ : Fin 8192)
  refine ⟨k, hk, hb, e, floorDiv_apply _ _ k.val k.isLt ?_⟩
  rw [← e]
  unfold heads Host.slice
  refine congrArg (starts seg) (funext fun a => Fin.ext ?_)
  match a with
  | ⟨0, _⟩ => show 0 + 1 * b.val = b.val; omega
  | ⟨1, _⟩ => show 0 + 256 * t.val = 256 * t.val; omega

end Cert.Proof.Starts

end
-- ==== Proof.Host.lean ====
/-
  What the host computes before the kernel: the document starts, and for each query block the lowest key block it must visit. So every
  word the kernel reads from the table is a block number at most the query block's.
-/
module

public import proofs.«01_k».proof.Proof.Facts
public import proofs.«01_k».proof.Proof.Chk
public import proofs.«01_k».proof.Proof.Model
public import proofs.«01_k».proof.Proof.Gen.Kernel.Launch
public import proofs.«01_k».proof.Proof.Starts
public import Idealize.ShloMosaic.Lib.Pipeline.Frame

@[expose] public section

set_option maxRecDepth 20000

noncomputable section

namespace Cert.Proof.Kernel

open Cert.Kernel Cert.Kernel.Gen
open Idealize.ShloMosaic Idealize.ShloMosaic.TcCoe
open ValueIdx

variable {F : FTy → Type} [FloatOps F]

/-- The host's operations before the kernel, stretch by stretch. -/
abbrev hostAll : List (List (HloOp τ sig (Elt F))) := [hostOps0, hostOps0_1, hostOps0_2, hostOps0_3, hostOps0_4, hostOps0_5]

section Stages

variable (W : Valuation τ sig (Elt F))

theorem at1_v6 : StableHlo.after (hostOps0 (F := F)) W (Proc.devRef .tc main_v6) = Starts.edge (W (Proc.devRef .tc main_arg4)) := by
  after_results_simp
  refine congrArg₂ (fun a b => concatenate S9x8192 1 [⟨S9x1, a⟩, ⟨S9x8191, b⟩] concatenates_S9x1_S9x8191_S9x8192_d1) ?_ ?_ <;> after_results_simp
theorem at1_v1 : StableHlo.after (hostOps0 (F := F)) W (Proc.devRef .tc main_v1) = broadcastInDim S1x8192 ![1] bcast_S8192_S1x8192_1 (iotaInDim S8192 32 0) := by
  after_results_simp
theorem at1_c0 : StableHlo.after (hostOps0 (F := F)) W (Proc.devRef .tc main_c_0) = constantI S_ 32 0#32 := by
  after_results_simp
theorem at2_v7 : StableHlo.after (hostOps0_1 (F := F)) W (Proc.devRef .tc main_v7) = select (W (Proc.devRef .tc main_v6))
    (broadcastInDim S9x8192 ![0, 1] bcast_S1x8192_S9x8192_0_1 (W (Proc.devRef .tc main_v1))) (broadcastInDim S9x8192 ![] bcast_S_S9x8192 (W (Proc.devRef .tc main_c_0))) := by
  after_results_simp; simp only [StableHlo.TRef.ofBuf_toBuf]; rfl
theorem at3_v8 : StableHlo.after (hostOps0_2 (F := F)) W (Proc.devRef .tc main_v8) =
    Host.reduceWindow IntOp.maxsi ![1, 8192] ![1, 1] ![0, 8191] ![0, 0] (W (Proc.devRef .tc main_v7)) (broadcastInDim S_ ![] bcast_S_S_ (constantI S_ 32 2147483648#32))
      reduceWindows_S9x8192_S9x8192_w1s1p0_0_w8192s1p8191_0 h_S_ := by
  after_results_simp; simp only [StableHlo.TRef.ofBuf_toBuf, StableHlo.TRef.toBuf, StableHlo.TRef.ofBuf, cast_eq]
theorem at4_v9 : StableHlo.after (hostOps0_3 (F := F)) W (Proc.devRef .tc main_v9) = Host.slice S9x32 ![0, 0] ![1, 256] (W (Proc.devRef .tc main_v8)) slicesBy_S9x8192_S9x32_0s1_0s256 := by
  after_results_simp
theorem at4_v8 : StableHlo.after (hostOps0_3 (F := F)) W (Proc.devRef .tc main_v8) = W (Proc.devRef .tc main_v8) := by
  after_results_simp
theorem at4_c1 : StableHlo.after (hostOps0_3 (F := F)) W (Proc.devRef .tc main_c_1) = constantI S_ 32 256#32 := by
  after_results_simp
theorem at5_v8 : StableHlo.after (hostOps0_4 (F := F)) W (Proc.devRef .tc main_v8) = W (Proc.devRef .tc main_v8) := by
  after_results_simp
theorem at5_v10 (hc : W (Proc.devRef .tc main_c_1) = constantI S_ 32 256#32) : StableHlo.after (hostOps0_4 (F := F)) W (Proc.devRef .tc main_v10) = Starts.floorDiv (W (Proc.devRef .tc main_v9)) := by
  after_results_simp; simp only [StableHlo.TRef.ofBuf_toBuf, hc]; rfl
theorem at6_v8 : StableHlo.after (hostOps0_5 (F := F)) W (Proc.devRef .tc main_v8) = W (Proc.devRef .tc main_v8) := by
  after_results_simp
theorem at6_v10 : StableHlo.after (hostOps0_5 (F := F)) W (Proc.devRef .tc main_v10) = W (Proc.devRef .tc main_v10) := by
  after_results_simp
theorem at6_v11 : StableHlo.after (hostOps0_5 (F := F)) W (Proc.devRef .tc main_v11) = shapeCast S9x1x8192 (W (Proc.devRef .tc main_v8)) shapeCasts_S9x8192_S9x1x8192 := by
  after_results_simp; rfl

end Stages

variable (m : (ℓ : Loc nD τ sig) → Buf (Elt F) ℓ) (c : Dev nD)

/-- The buffers when the kernel starts. -/
def V₀ : Valuation τ sig (Elt F) := StableHlo.after (hostAll (F := F)).flatten fun b => m (c, b)

/-- The document identifiers the program was given. -/
abbrev segs : IVec Starts.S9x8192 32 := m (c, Proc.devRef .tc main_arg4)

/-- Reading a buffer after all stretches, stretch by stretch. -/
theorem V₀_eq : V₀ m c = StableHlo.after hostOps0_5 (StableHlo.after hostOps0_4 (StableHlo.after hostOps0_3 (StableHlo.after hostOps0_2
    (StableHlo.after hostOps0_1 (StableHlo.after hostOps0 fun b => m (c, b)))))) := by
  unfold V₀
  rw [List.flatten_cons, List.flatten_cons, List.flatten_cons, List.flatten_cons, List.flatten_cons, List.flatten_cons, List.flatten_nil, List.append_nil]
  rw [StableHlo.after_append, StableHlo.after_append, StableHlo.after_append, StableHlo.after_append, StableHlo.after_append]

theorem V_v7 : StableHlo.after hostOps0_1 (StableHlo.after (hostOps0 (F := F)) fun b => m (c, b)) (Proc.devRef .tc main_v7) = Starts.marks (segs m c) := by
  rw [at2_v7, at1_v6, at1_v1, at1_c0]; rfl
theorem V_starts : StableHlo.after hostOps0_2 (StableHlo.after hostOps0_1 (StableHlo.after (hostOps0 (F := F)) fun b => m (c, b))) (Proc.devRef .tc main_v8) = Starts.starts (segs m c) := by
  rw [at3_v8, V_v7]; rfl
theorem V_v11 : V₀ m c (Proc.devRef .tc main_v11) = shapeCast S9x1x8192 (Starts.starts (segs m c)) shapeCasts_S9x8192_S9x1x8192 := by
  rw [V₀_eq, at6_v11, at5_v8, at4_v8, V_starts]
theorem V_v10 : V₀ m c (Proc.devRef .tc main_v10) = Starts.table (segs m c) := by
  rw [V₀_eq, at6_v10, at5_v10 _ (at4_c1 _), at4_v9, V_starts]; rfl
theorem V_arg0 : V₀ m c (Proc.devRef .tc main_arg0) = m (c, Proc.devRef .tc main_arg0) := by rw [V₀_eq]; after_results_simp
theorem V_arg1 : V₀ m c (Proc.devRef .tc main_arg1) = m (c, Proc.devRef .tc main_arg1) := by rw [V₀_eq]; after_results_simp
theorem V_arg2 : V₀ m c (Proc.devRef .tc main_arg2) = m (c, Proc.devRef .tc main_arg2) := by rw [V₀_eq]; after_results_simp
theorem V_arg3 : V₀ m c (Proc.devRef .tc main_arg3) = m (c, Proc.devRef .tc main_arg3) := by rw [V₀_eq]; after_results_simp
theorem V_arg4 : V₀ m c (Proc.devRef .tc main_arg4) = m (c, Proc.devRef .tc main_arg4) := by rw [V₀_eq]; after_results_simp

/-- The word of query block `t`: row `i 0`, column `t` of the table. -/
theorem word_eq (lo : Vec F S9x32 .i32) (i : grid0.Coords) (t : Fin k0_t10_loop.trips) :
    word lo i t = lo (ix2 (i 0) (⟨t.val, by have : k0_t10_loop.trips = 32 := by decide +kernel
                                            omega⟩ : Fin 32)) := by
  have h : ∀ (i0 : Fin 9) (t : Fin k0_t10_loop.trips), (BitVec.ofNat 32 i0.val).toNat = i0.val ∧ (Scf.iv 0#32 1#32 t).toNat = t.val := by decide +kernel
  refine congrArg lo (funext fun a => Fin.ext ?_)
  match a with
  | ⟨0, _⟩ => exact (h (i 0) t).1
  | ⟨1, _⟩ => exact (h (i 0) t).2

/-- Every word of the table the host built is within its query block. -/
theorem word_ok (i : grid0.Coords) (t : Fin k0_t10_loop.trips) : k0_chk1 t (word (F := F) (Starts.table (segs m c)) i t) := by
  have ht : t.val < 32 := by have := t.isLt; have h : k0_t10_loop.trips = 32 := by decide +kernel
                             omega
  obtain ⟨k, hk, -, -, e⟩ := Starts.table_apply (segs m c) (i 0) ⟨t.val, ht⟩
  rw [word_eq, e]
  have hk' : k.val / 256 ≤ t.val := by simp only at hk; omega
  exact chk_of_le t ⟨k.val / 256, by omega⟩ hk'

end Cert.Proof.Kernel

end
-- ==== Proof.Launch.lean ====
/-
  The whole program's run: the host's operations, then the kernel over its grid of 9 by 8 points. At every point the kernel leaves
  in its output blocks the functions of the point's input blocks that Model defines; so after the run every output array holds those
  blocks, the arguments are as they were, and every counter is at zero.
-/
module

public import proofs.«01_k».proof.Proof.Run
public import proofs.«01_k».proof.Proof.Host
public import Idealize.ShloMosaic.Lib.Pipeline.FrameSuffix
public import Idealize.ShloMosaic.Lib.Pipeline.FrameBody

@[expose] public section

set_option maxRecDepth 20000

noncomputable section

namespace Cert.Proof.Kernel

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-- The one core. -/
abbrev core : Dev nD := 0

/-- The table the kernel is launched with: the host's. -/
abbrev adm : (p : Fin 1) → (pcfgs (F := F) p).Adm := fun _ => ⟨fun k => V₀ m core (Proc.devRef .tc (pre0.ref k)), trivial⟩

abbrev pcf : Cfg sig Λ₀ := cfg0 (F := F) (adm m 0)

variable (c : Dev nD)

/-- The input blocks of grid point `t`. -/
def xB (t : Fin (pcf m).N) : Vec F S1x8192x128 .bf16 := (((pcf m).win 0).blk t).view.read (Elt F) (V₀ m c (Proc.devRef .tc main_arg0))
def kB (t : Fin (pcf m).N) : Vec F S1x8192x128 .bf16 := (((pcf m).win 1).blk t).view.read (Elt F) (V₀ m c (Proc.devRef .tc main_arg1))
def vB (t : Fin (pcf m).N) : Vec F S1x8192x128 .bf16 := (((pcf m).win 2).blk t).view.read (Elt F) (V₀ m c (Proc.devRef .tc main_arg2))
def dB (t : Fin (pcf m).N) : Vec F S1x8192x128 .bf16 := (((pcf m).win 3).blk t).view.read (Elt F) (V₀ m c (Proc.devRef .tc main_arg3))
def sB (t : Fin (pcf m).N) : Vec F S1x1x8192 .i32 := (((pcf m).win 4).blk t).view.read (Elt F) (V₀ m c (Proc.devRef .tc main_v11))

/-- The grid coordinates of a point. -/
abbrev pt (t : Fin (pcf m).N) : grid0.Coords := grid0.coords t

/-- The pipeline's data on a core: arrays as the host left them; after a point, inputs as staged and outputs at their functions. -/
def dats (_ : Fin 1) (c : Dev nD) : Dat τ (Elt F) Unit ℕ UU ℕ (pcf m) c where
  A w := V₀ m c (Proc.devRef .tc (Pipeline.arrRef spec0 w))
  after w t := match w with
    | ⟨0, _⟩ => xB m c t
    | ⟨1, _⟩ => kB m c t
    | ⟨2, _⟩ => vB m c t
    | ⟨3, _⟩ => dB m c t
    | ⟨4, _⟩ => sB m c t
    | ⟨5, _⟩ => dqOut (xB m c t) (kB m c t) (vB m c t) (dB m c t) (sB m c t) (Starts.table (segs m c)) (pt m t) (word_ok m c (pt m t))
    | ⟨6, _⟩ => dkOut (xB m c t) (kB m c t) (vB m c t) (dB m c t) (sB m c t) (Starts.table (segs m c)) (pt m t) (word_ok m c (pt m t))
    | ⟨7, _⟩ => dvOut (xB m c t) (kB m c t) (dB m c t) (sB m c t) (Starts.table (segs m c)) (pt m t) (word_ok m c (pt m t))
    | ⟨8, _⟩ => xCode (xB m c t)
    | ⟨9, _⟩ => kCode (kB m c t)
    | ⟨10, _⟩ => vCode (vB m c t)
    | ⟨11, _⟩ => dCode (dB m c t)
    | ⟨12, _⟩ => scaleRow (xB m c t) (kB m c t) (vB m c t) (dB m c t)
  Φ _ := iprop(Pipeline.ΦA spec0 c ∗ Pipeline.ΦT pre0 (adm m 0).1 c)
  q _ := fullShare
  owed _ := 0

section Before
variable (t : Fin (pcf m).N)

theorem before0 (d) : (dats m 0 c).before 0 t d = xB m c t :=
  (dats m 0 c).before_in_eq_fetched 0 rfl (fun _ => rfl) (fun _ _ _ => rfl) (fun _ => by dsimp only [dats]; rfl) t d
theorem before1 (d) : (dats m 0 c).before 1 t d = kB m c t :=
  (dats m 0 c).before_in_eq_fetched 1 rfl (fun _ => rfl) (fun _ _ _ => rfl) (fun _ => by dsimp only [dats]; rfl) t d
theorem before2 (d) : (dats m 0 c).before 2 t d = vB m c t :=
  (dats m 0 c).before_in_eq_fetched 2 rfl (fun _ => rfl) (fun _ _ _ => rfl) (fun _ => by dsimp only [dats]; rfl) t d
theorem before3 (d) : (dats m 0 c).before 3 t d = dB m c t :=
  (dats m 0 c).before_in_eq_fetched 3 rfl (fun _ => rfl) (fun _ _ _ => rfl) (fun _ => by dsimp only [dats]; rfl) t d
theorem after4 (t : Fin (pcf m).N) : (dats m 0 c).after 4 t = sB m c t := by
  show (dats m 0 c).after (⟨4, by decide⟩ : Fin 13) t = _
  dsimp only [dats]
theorem before4 (d) : (dats m 0 c).before 4 t d = sB m c t := by
  have h1 : ∀ t, ((pcf m).win 4).cut ((pcf m).grid.coords t) ((dats m 0 c).after 4 t) = (dats m 0 c).blockOf 4 t := fun t => by
    dsimp only [dats]
    unfold sB Dat.blockOf
    dsimp only
    rfl
  rw [(dats m 0 c).before_in_eq_fetched 4 rfl (fun _ => rfl) (fun _ _ _ => rfl) h1 t d]
  unfold Dat.fetched
  rw [← h1 t, Pipeline.fill_of_clip_none 4 _ (fun _ => rfl) d ((dats m 0 c).after 4 t), Window.fill_cut]
  exact after4 m c t

end Before

/-- The scratch rest and the table, as the kernel's run takes them. -/
abbrev Φ : sProp 𝕄 := iprop(Pipeline.ΦA spec0 c ∗ Pipeline.ΦT pre0 (adm m 0).1 c)

theorem table_core (k : Fin pre0.K) : (adm m 0).1 k = V₀ m c (Proc.devRef .tc (pre0.ref k)) := by
  rw [show c = core from Subsingleton.elim _ _]

theorem ΦT_eq : (Pipeline.ΦT pre0 (adm m 0).1 c : sProp 𝕄)
    = ((c : Thread nD τ).loc main_v10) ↦{fullShare.right} (Starts.table (segs m c) : Buf (Elt F) ((c : Thread nD τ).loc main_v10)) := by
  unfold Pipeline.ΦT Pipeline.prefHeld
  rw [show (Finset.univ : Finset (Fin pre0.K)) = {(0 : Fin 1)} from rfl, bigSep_singleton, table_core m c 0]
  exact congrArg (fun X => (((c : Thread nD τ).loc main_v10) ↦{fullShare.right} X : sProp 𝕄)) (V_v10 m c)

theorem own_intro (b : Ref sig .tc) (q : PosShare TreeShare) (f : Buf (Elt F) ((c : Thread nD τ).loc b)) :
    (((c : Thread nD τ).loc b) ↦{q} f : sProp 𝕄) ⊢ owns (c : Thread nD τ) (Memref.whole b) q f := by
  rw [owns_whole_eq]
  iintro H
  iexists f
  isplitr
  · ipureintro; rfl
  iexact H

theorem own_elim (b : Ref sig .tc) (q : PosShare TreeShare) (f : Buf (Elt F) ((c : Thread nD τ).loc b)) :
    (owns (c : Thread nD τ) (Memref.whole b) q f : sProp 𝕄) ⊢ ((c : Thread nD τ).loc b) ↦{q} f := by
  rw [owns_whole_eq]
  iintro ⟨%f', %h, H⟩
  subst h
  iexact H

set_option maxHeartbeats 4000000 in
set_option backward.isDefEq.respectTransparency.types false in
/-- At every grid point the kernel's body does what the data say. -/
theorem body_obligation : BodyObligation (dats m 0 c) (defs₀ (F := F)) 𝒱₀ () Set.univ := fun t => by
  rw [bigSep_W0, bigSep_W0]
  simp only [before0, before1, before2, before3, before4]
  rw [show (dats m 0 c).Φ t.castSucc = Φ m c from rfl, show (dats m 0 c).Φ t.succ = Φ m c from rfl]
  unfold Φ Pipeline.ΦA Dat.owesAt Pipeline.owesWithin
  rw [ΦT_eq, scopedRest0_eq]
  rw [show (dats m 0 c).owed t.castSucc = 0 from rfl, show (dats m 0 c).owed t.succ = 0 from rfl]
  iintro ⟨⟨⟨⟨⟨%f0, S0⟩, ⟨%f1, S1⟩, ⟨%f2, S2⟩, ⟨%f3, S3⟩, ⟨%f4, S4⟩, ⟨%f5, S5⟩⟩, Hp⟩, Ht⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave T0 := (own_intro c cc0_scratch0 fullShare f0) $$ S0
  ihave T1 := (own_intro c cc0_scratch1 fullShare f1) $$ S1
  ihave T2 := (own_intro c cc0_scratch2 fullShare f2) $$ S2
  ihave T3 := (own_intro c cc0_scratch3 fullShare f3) $$ S3
  ihave T4 := (own_intro c cc0_scratch4 fullShare f4) $$ S4
  ihave T5 := (own_intro c cc0_scratch5 fullShare f5) $$ S5
  ihave T6 := (own_intro c main_v10 fullShare.right (Starts.table (segs m c))) $$ Ht
  iapply (bodyRun c (pt m t) (Memref.whole main_v10) (Memref.isWhole_whole _) (spec0_0.stage ((pcf m).slots t 0)) (hstage0_0 (((pcf m).slots t 0).cast nbuf0_0)) (spec0_1.stage ((pcf m).slots t 1)) (hstage0_1 (((pcf m).slots t 1).cast nbuf0_1)) (spec0_2.stage ((pcf m).slots t 2)) (hstage0_2 (((pcf m).slots t 2).cast nbuf0_2)) (spec0_3.stage ((pcf m).slots t 3)) (hstage0_3 (((pcf m).slots t 3).cast nbuf0_3)) (spec0_4.stage ((pcf m).slots t 4)) (hstage0_4 (((pcf m).slots t 4).cast nbuf0_4)) (spec0_5.stage ((pcf m).slots t 5)) (hstage0_5 (((pcf m).slots t 5).cast nbuf0_5)) (spec0_6.stage ((pcf m).slots t 6)) (hstage0_6 (((pcf m).slots t 6).cast nbuf0_6)) (spec0_7.stage ((pcf m).slots t 7)) (hstage0_7 (((pcf m).slots t 7).cast nbuf0_7)) (spec0_8.stage ((pcf m).slots t 8)) (hstage0_8 (((pcf m).slots t 8).cast nbuf0_8)) (spec0_9.stage ((pcf m).slots t 9)) (hstage0_9 (((pcf m).slots t 9).cast nbuf0_9)) (spec0_10.stage ((pcf m).slots t 10)) (hstage0_10 (((pcf m).slots t 10).cast nbuf0_10)) (spec0_11.stage ((pcf m).slots t 11)) (hstage0_11 (((pcf m).slots t 11).cast nbuf0_11)) (spec0_12.stage ((pcf m).slots t 12)) (hstage0_12 (((pcf m).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (xB m c t) (kB m c t) (vB m c t) (dB m c t) (sB m c t) (Starts.table (segs m c)) fullShare.right (word_ok m c (pt m t)) _) $$ [H0 H1 H2 H3 H4 H5 H6 H7 H8 H9 H10 H11 H12 T0 T1 T2 T3 T4 T5 T6]
  · isplitl [T6]; · iexact T6
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [T0]; · iexists _; iexact T0
    isplitl [T1]; · iexists _; iexact T1
    isplitl [T2]; · iexists _; iexact T2
    isplitl [T3]; · iexists _; iexact T3
    isplitl [T4]; · iexists _; iexact T4
    iexists _; iexact T5
  iintro ⟨T6, H0, H1, H2, H3, H4, H5, H6, H7, H8, H9, H10, H11, H12, ⟨%g0, T0⟩, ⟨%g1, T1⟩, ⟨%g2, T2⟩, ⟨%g3, T3⟩, ⟨%g4, T4⟩, ⟨%g5, T5⟩⟩
  ihave S0 := (own_elim c cc0_scratch0 fullShare g0) $$ T0
  ihave S1 := (own_elim c cc0_scratch1 fullShare g1) $$ T1
  ihave S2 := (own_elim c cc0_scratch2 fullShare g2) $$ T2
  ihave S3 := (own_elim c cc0_scratch3 fullShare g3) $$ T3
  ihave S4 := (own_elim c cc0_scratch4 fullShare g4) $$ T4
  ihave S5 := (own_elim c cc0_scratch5 fullShare g5) $$ T5
  ihave Ht := (own_elim c main_v10 fullShare.right (Starts.table (segs m c))) $$ T6
  isplitl [S0 S1 S2 S3 S4 S5 Hp Ht]
  · isplitr [Ht]; swap; · iexact Ht
    isplitr [Hp]; swap; · iexact Hp
    isplitl [S0]; · iexists _; iexact S0
    isplitl [S1]; · iexists _; iexact S1
    isplitl [S2]; · iexists _; iexact S2
    isplitl [S3]; · iexists _; iexact S3
    isplitl [S4]; · iexists _; iexact S4
    iexists _; iexact S5
  isplitl [HO]
  · iexists W; isplitr; · ipureintro; exact hW
    iexact HO
  isplitl [H0]; · iexact H0
  isplitl [H1]; · iexact H1
  isplitl [H2]; · iexact H2
  isplitl [H3]; · iexact H3
  isplitl [H4]; · (rw [show (dats m 0 c).after 4 t = sB m c t from after4 m c t]; iexact H4)
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- What is known after the whole run: every output array holds its blocks, the arguments are as they were. -/
def Post (m : (ℓ : Loc nD τ sig) → Buf (Elt F) ℓ) (r : PUnit × MemSt nD τ sig (Elt F)) : Prop :=
  (∀ c : Dev nD, (∀ w, r.2.mem ((spec0 w).arr.view.loc (c : Thread nD τ)) = (dats m 0 c).arrAt w (pcf m).N)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

theorem hmain : Pipeline.HMainPK (Ix := Unit) (Name := ℕ) (U := UU) (Lvl := ℕ) (pcfgs (F := F)) 0 (defs₀ (F := F)) 𝒱₀ m (main (F := F))
    (fun c b => V₀ m c (Proc.devRef .tc b)) (fun _ => Pipeline.chain (([] : List (List (HloOp τ sig (Elt F)))).map StableHlo.seq)) :=
  Pipeline.hmainP_around (pcfgs (F := F)) 0 (defs₀ (F := F)) 𝒱₀ m (main (F := F)) hostAll []
    ⟨hostOps0_sub, hostOps0_1_sub, hostOps0_2_sub, hostOps0_3_sub, hostOps0_4_sub, hostOps0_5_sub⟩
    ⟨StableHlo.forall_fresh_of_map rfl, StableHlo.forall_fresh_of_map rfl, StableHlo.forall_fresh_of_map rfl, StableHlo.forall_fresh_of_map rfl, StableHlo.forall_fresh_of_map rfl, StableHlo.forall_fresh_of_map rfl⟩
    main_chain

theorem arg4_no_array : ∀ w : Fin 13, Pipeline.arrRef spec0 w ≠ main_arg4 := by decide

theorem tail_arg4 : Pipeline.afterTail (pcfgs (F := F)) (adm m) (dats m) 0 (V₀ m) [] c main_arg4 = V₀ m c (Proc.devRef .tc main_arg4) := by
  unfold Pipeline.afterTail
  rw [List.flatten_nil, StableHlo.after_nil]
  exact Pipeline.withArrays_of_ne _ c _ _ main_arg4 arg4_no_array

/-- The run of the whole program. -/
theorem run (g : Dev nD → PrngReg) :
    θ_run (defs (F := F)) (onTc (τ := τ) (main (F := F))) ⟨m, fun _ => 0, g⟩ (Post m) := by
  refine Pipeline.θ_run_frameP_around_track (pcfgs (F := F)) (adm m) (dats m) 0 launch0 (defs₀ (F := F)) 𝒱₀ m g (main (F := F))
    (fun c => (body_obligation m c).loose) (fun c => (dats m 0 c).share_full fun _ => rfl) (fun _ _ => rfl) (V₀ m) []
    (fun _ h => absurd h List.not_mem_nil) (fun _ h => absurd h List.not_mem_nil) (fun _ h => absurd h List.not_mem_nil)
    (hmain m) (fun c w => by dsimp only [dats]) (fun c k => (table_core m c k).symm) (fun c => .rfl) (fun c => sep_elim_left) (Post m) ?_
  rintro r ⟨h, hs⟩
  refine ⟨fun c => ⟨(h c).1, ?_, ?_, ?_, ?_, ?_⟩, hs⟩
  · exact ((h c).1 0).trans (((dats m 0 c).arrAt_in 0 rfl _).trans (V_arg0 m c))
  · exact ((h c).1 1).trans (((dats m 0 c).arrAt_in 1 rfl _).trans (V_arg1 m c))
  · exact ((h c).1 2).trans (((dats m 0 c).arrAt_in 2 rfl _).trans (V_arg2 m c))
  · exact ((h c).1 3).trans (((dats m 0 c).arrAt_in 3 rfl _).trans (V_arg3 m c))
  · refine ((h c).2 main_arg4 (show main_arg4 ∈ Pipeline.restRefs sig spec0 by decide)).trans (Eq.trans ?_ (V_arg4 m c))
    exact tail_arg4 m c

end Cert.Proof.Kernel

end
-- ==== Proof.FactsIdeal.lean ====
/-
  What the kernel's loop bounds and access offsets come to: the inner loops of query block `t` whose lowest key block is `w ≤ t` run
  `t + 1 - w` trips, their remainders none, and each family of accesses is a family of slabs.
-/
module

public import proofs.«01_k».proof.KernelIdeal
public import proofs.«01_k».proof.Proof.Gen.KernelIdeal
public import proofs.«01_k».proof.Proof.Slabs

@[expose] public section

noncomputable section

namespace Cert.Proof.KernelIdeal

open Cert.KernelIdeal
open Idealize.ShloMosaic Idealize.ShloMosaic.TcCoe

/-! ## Loops of a fixed trip count -/

set_option maxRecDepth 100000 in
theorem off2_eq : ∀ k : Fin k0_t2_loop.trips, k0_off2 k = ![0, k.val * 512, 0] := by decide +kernel
set_option maxRecDepth 100000 in
theorem off4_eq : ∀ k : Fin k0_t4_loop.trips, k0_off4 k = ![0, k.val * 512, 0] := by decide +kernel
set_option maxRecDepth 100000 in
theorem off6_eq : ∀ k : Fin k0_t6_loop.trips, k0_off6 k = ![0, k.val * 512, 0] := by decide +kernel
set_option maxRecDepth 100000 in
theorem off8_eq : ∀ k : Fin k0_t8_loop.trips, k0_off8 k = ![0, k.val * 512, 0] := by decide +kernel
set_option maxRecDepth 100000 in
theorem off9_eq : ∀ k : Fin k0_t9_loop.trips, k0_off9 k = ![0, k.val * 256, 0] := by decide +kernel
set_option maxRecDepth 100000 in
theorem off10_eq : ∀ k : Fin k0_t9_loop.trips, k0_off10 k = ![k.val, 0, 0] := by decide +kernel
set_option maxRecDepth 100000 in
theorem off12_eq : ∀ k : Fin k0_t10_loop.trips, k0_off12 k = ![0, k.val * 256, 0] := by decide +kernel
set_option maxRecDepth 100000 in
theorem off13_eq : ∀ k : Fin k0_t10_loop.trips, k0_off13 k = ![0, 0, k.val * 256] := by decide +kernel
set_option maxRecDepth 100000 in
theorem off36_eq : ∀ k : Fin k0_t10_loop.trips, k0_off36 k = ![0, k.val * 256, 0] := by decide +kernel
set_option maxRecDepth 100000 in
theorem off37_eq : ∀ k : Fin k0_t17_loop.trips, k0_off37 k = ![k.val * 256, 0] := by decide +kernel
set_option maxRecDepth 100000 in
theorem off38_eq : ∀ k : Fin k0_t17_loop.trips, k0_off38 k = ![0, k.val * 256, 0] := by decide +kernel

theorem trips2 : k0_t2_loop.trips = 16 := by decide +kernel
theorem trips4 : k0_t4_loop.trips = 16 := by decide +kernel
theorem trips6 : k0_t6_loop.trips = 16 := by decide +kernel
theorem trips8 : k0_t8_loop.trips = 16 := by decide +kernel
theorem trips9 : k0_t9_loop.trips = 32 := by decide +kernel
theorem trips10 : k0_t10_loop.trips = 32 := by decide +kernel
theorem trips17 : k0_t17_loop.trips = 32 := by decide +kernel

theorem slabs2 : IsSlabs S1x8192x128 k0_t2_loop.trips 512 1 k0_off2 S1x512x128.size where
  off_self k := by rw [off2_eq]; rfl
  size_self := rfl
  off_other k a h := by rw [off2_eq]; fin_cases a <;> first | rfl | exact absurd rfl h
  size_other a h := by fin_cases a <;> first | rfl | exact absurd rfl h
theorem slabs4 : IsSlabs S1x8192x128 k0_t4_loop.trips 512 1 k0_off4 S1x512x128.size where
  off_self k := by rw [off4_eq]; rfl
  size_self := rfl
  off_other k a h := by rw [off4_eq]; fin_cases a <;> first | rfl | exact absurd rfl h
  size_other a h := by fin_cases a <;> first | rfl | exact absurd rfl h
theorem slabs6 : IsSlabs S1x8192x128 k0_t6_loop.trips 512 1 k0_off6 S1x512x128.size where
  off_self k := by rw [off6_eq]; rfl
  size_self := rfl
  off_other k a h := by rw [off6_eq]; fin_cases a <;> first | rfl | exact absurd rfl h
  size_other a h := by fin_cases a <;> first | rfl | exact absurd rfl h
theorem slabs8 : IsSlabs S1x8192x128 k0_t8_loop.trips 512 1 k0_off8 S1x512x128.size where
  off_self k := by rw [off8_eq]; rfl
  size_self := rfl
  off_other k a h := by rw [off8_eq]; fin_cases a <;> first | rfl | exact absurd rfl h
  size_other a h := by fin_cases a <;> first | rfl | exact absurd rfl h
theorem slabs10 : IsSlabs S32x128x256 k0_t9_loop.trips 1 0 k0_off10 S1x128x256.size where
  off_self k := by rw [off10_eq]; exact (Nat.mul_one _).symm
  size_self := rfl
  off_other k a h := by rw [off10_eq]; fin_cases a <;> first | rfl | exact absurd rfl h
  size_other a h := by fin_cases a <;> first | rfl | exact absurd rfl h
theorem slabs36 : IsSlabs S1x8192x128 k0_t10_loop.trips 256 1 k0_off36 S1x256x128.size where
  off_self k := by rw [off36_eq]; rfl
  size_self := rfl
  off_other k a h := by rw [off36_eq]; fin_cases a <;> first | rfl | exact absurd rfl h
  size_other a h := by fin_cases a <;> first | rfl | exact absurd rfl h
theorem slabs38 : IsSlabs S1x8192x128 k0_t17_loop.trips 256 1 k0_off38 S1x256x128.size where
  off_self k := by rw [off38_eq]; rfl
  size_self := rfl
  off_other k a h := by rw [off38_eq]; fin_cases a <;> first | rfl | exact absurd rfl h
  size_other a h := by fin_cases a <;> first | rfl | exact absurd rfl h

/-! ## The key-block loops -/

theorem divsi_one (x : BitVec 32) : Scalar.divsi x 1#32 = x := by
  unfold Scalar.divsi IntOp.divsi
  rw [if_neg (by unfold IntOp.SDivCorner; simp), BitVec.sdiv_one]

theorem iv_one_toNat (k : ℕ) (hk : k < 2 ^ 32) : (Scf.iv 0#32 1#32 k).toNat = k := by
  unfold Scf.iv
  rw [BitVec.zero_add, BitVec.mul_one, BitVec.toNat_ofNat, Nat.mod_eq_of_lt hk]

theorem trips12 (t : Fin k0_t10_loop.trips) (v : BitVec 32) : (k0_t12_loop t v).trips = 0 := by
  show Scf.trips _ _ _ = 0
  simp only [divsi_one]
  unfold Scf.trips Scalar.muli Scalar.addi Scalar.subi IntOp.muli IntOp.addi IntOp.subi
  simp
theorem trips14 (t : Fin k0_t10_loop.trips) (v : BitVec 32) : (k0_t14_loop t v).trips = 0 := trips12 t v
theorem trips16 (t : Fin k0_t10_loop.trips) (v : BitVec 32) : (k0_t16_loop t v).trips = 0 := trips12 t v

theorem trip_lt (l : Scf.Loop 32) (h0 : l.lb = 0#32) (h1 : l.st = 1#32) (k : Fin l.trips) : k.val < 2 ^ 32 := by
  have := k.isLt
  simp only [Scf.Loop.trips, Scf.trips, h0, h1] at this
  have h2 := BitVec.toInt_lt (x := l.ub)
  have h3 : (1#32 : BitVec 32).toInt = 1 := by decide
  have h4 : (0#32 : BitVec 32).toInt = 0 := by decide
  rw [h3, h4] at this
  omega

theorem off15_eq (t : Fin k0_t10_loop.trips) (v : BitVec 32) (k : Fin (k0_t11_loop t v).trips) : k0_off15 t v k = ![k.val, 0, 0] := by
  unfold k0_off15
  simp only [Scalar.indexCast]
  rw [iv_one_toNat k.val (trip_lt _ rfl rfl k)]
theorem off16_eq (t : Fin k0_t10_loop.trips) (v : BitVec 32) (k : Fin (k0_t11_loop t v).trips) : k0_off16 t v k = ![k.val, 0, 0] :=
  off15_eq t v k

theorem slabs15 (t : Fin k0_t10_loop.trips) (v : BitVec 32) :
    IsSlabs S32x256x256 (k0_t11_loop t v).trips 1 0 (k0_off15 t v) S1x256x256.size where
  off_self k := by rw [off15_eq]; exact (Nat.mul_one _).symm
  size_self := rfl
  off_other k a h := by rw [off15_eq]; fin_cases a <;> first | rfl | exact absurd rfl h
  size_other a h := by fin_cases a <;> first | rfl | exact absurd rfl h
theorem slabs16 (t : Fin k0_t10_loop.trips) (v : BitVec 32) :
    IsSlabs S32x1x256 (k0_t11_loop t v).trips 1 0 (k0_off16 t v) S1x1x256.size where
  off_self k := by rw [off16_eq]; exact (Nat.mul_one _).symm
  size_self := rfl
  off_other k a h := by rw [off16_eq]; fin_cases a <;> first | rfl | exact absurd rfl h
  size_other a h := by fin_cases a <;> first | rfl | exact absurd rfl h

end Cert.Proof.KernelIdeal

end
-- ==== Proof.ModelIdeal.lean ====
/-
  What the kernel computes, as plain functions of the blocks of one grid point: `x`, `k`, `v`, `d` the four inputs' blocks, `st` the
  segment starts, `lo` the table of lowest key blocks.

  Each of the four inputs is quantised: a loop over slabs of 512 rows finds the largest magnitude, a second one writes the codes. Then
  every query block `t` passes over the key blocks from `lo` to `t` three times: scores with the running maximum and sum (`ml`,
  `scoreB`, `maxB`), the probabilities (`probB`) with the gradient of the values and the forward output (`dvS`, `outS`), the gradient of
  the keys and of the queries (`dkS`, `dqS`).
-/
module

public import proofs.«01_k».proof.KernelIdeal
public import proofs.«01_k».proof.Proof.Gen.KernelIdeal
public import proofs.«01_k».proof.Proof.Gen.KernelIdeal.Skeleton
public import proofs.«01_k».proof.Proof.FactsIdeal
public import proofs.«01_k».proof.Proof.Slabs

@[expose] public section

noncomputable section

namespace Cert.Proof.KernelIdeal

open Cert.KernelIdeal Cert.KernelIdeal.Gen
open Idealize.ShloMosaic Idealize.ShloMosaic.TcCoe

variable {F : FTy → Type} [FloatOps F]

/-! ## The rectangles -/

abbrev R1 (k : Fin k0_t1_loop.trips) : Rect S1x8192x128 := Rect.unit (s := S1x8192x128) (k0_off1 k) S1x512x128.size (k0_off1_inb k)
abbrev R2 (k : Fin k0_t2_loop.trips) : Rect S1x8192x128 := Rect.unit (s := S1x8192x128) (k0_off2 k) S1x512x128.size (k0_off2_inb k)
abbrev R3 (k : Fin k0_t3_loop.trips) : Rect S1x8192x128 := Rect.unit (s := S1x8192x128) (k0_off3 k) S1x512x128.size (k0_off3_inb k)
abbrev R4 (k : Fin k0_t4_loop.trips) : Rect S1x8192x128 := Rect.unit (s := S1x8192x128) (k0_off4 k) S1x512x128.size (k0_off4_inb k)
abbrev R5 (k : Fin k0_t5_loop.trips) : Rect S1x8192x128 := Rect.unit (s := S1x8192x128) (k0_off5 k) S1x512x128.size (k0_off5_inb k)
abbrev R6 (k : Fin k0_t6_loop.trips) : Rect S1x8192x128 := Rect.unit (s := S1x8192x128) (k0_off6 k) S1x512x128.size (k0_off6_inb k)
abbrev R7 (k : Fin k0_t7_loop.trips) : Rect S1x8192x128 := Rect.unit (s := S1x8192x128) (k0_off7 k) S1x512x128.size (k0_off7_inb k)
abbrev R8 (k : Fin k0_t8_loop.trips) : Rect S1x8192x128 := Rect.unit (s := S1x8192x128) (k0_off8 k) S1x512x128.size (k0_off8_inb k)
abbrev R9 (k : Fin k0_t9_loop.trips) : Rect S1x8192x128 := Rect.unit (s := S1x8192x128) (k0_off9 k) S1x256x128.size (k0_off9_inb k)
abbrev R10 (k : Fin k0_t9_loop.trips) : Rect S32x128x256 := Rect.unit (s := S32x128x256) (k0_off10 k) S1x128x256.size (k0_off10_inb k)
abbrev R11 (i : grid0.Coords) (t : Fin k0_t10_loop.trips) : Rect S9x32 := Rect.unit (s := S9x32) (k0_off11 i t) S1x1.size (k0_off11_inb i t)
abbrev R12 (t : Fin k0_t10_loop.trips) : Rect S1x8192x128 := Rect.unit (s := S1x8192x128) (k0_off12 t) S1x256x128.size (k0_off12_inb t)
abbrev R13 (t : Fin k0_t10_loop.trips) : Rect S1x1x8192 := Rect.unit (s := S1x1x8192) (k0_off13 t) S1x1x256.size (k0_off13_inb t)
abbrev R14 (t : Fin k0_t10_loop.trips) (w : BitVec 32) (hw : k0_chk1 t w) (k : Fin (k0_t11_loop t w).trips) : Rect S1x8192x128 := Rect.unit (s := S1x8192x128) (k0_off14 t w k) S1x256x128.size (k0_off14_inb t w hw k)
abbrev R15 (t : Fin k0_t10_loop.trips) (w : BitVec 32) (hw : k0_chk1 t w) (k : Fin (k0_t11_loop t w).trips) : Rect S32x256x256 := Rect.unit (s := S32x256x256) (k0_off15 t w k) S1x256x256.size (k0_off15_inb t w hw k)
abbrev R16 (t : Fin k0_t10_loop.trips) (w : BitVec 32) (hw : k0_chk1 t w) (k : Fin (k0_t11_loop t w).trips) : Rect S32x1x256 := Rect.unit (s := S32x1x256) (k0_off16 t w k) S1x1x256.size (k0_off16_inb t w hw k)
abbrev R22 (t : Fin k0_t10_loop.trips) (w : BitVec 32) (hw : k0_chk1 t w) (k : Fin (k0_t13_loop t w).trips) : Rect S8192x128 := Rect.unit (s := S8192x128) (k0_off22 t w k) S256x128.size (k0_off22_inb t w hw k)
abbrev R23 (t : Fin k0_t10_loop.trips) (w : BitVec 32) (hw : k0_chk1 t w) (k : Fin (k0_t13_loop t w).trips) : Rect S1x8192x128 := Rect.unit (s := S1x8192x128) (k0_off23 t w k) S1x256x128.size (k0_off23_inb t w hw k)
abbrev R28 (t : Fin k0_t10_loop.trips) (w : BitVec 32) (hw : k0_chk1 t w) (k : Fin (k0_t15_loop t w).trips) : Rect S1x8192x128 := Rect.unit (s := S1x8192x128) (k0_off28 t w k) S1x256x128.size (k0_off28_inb t w hw k)
abbrev R30 (t : Fin k0_t10_loop.trips) (w : BitVec 32) (hw : k0_chk1 t w) (k : Fin (k0_t15_loop t w).trips) : Rect S8192x128 := Rect.unit (s := S8192x128) (k0_off30 t w k) S256x128.size (k0_off30_inb t w hw k)
abbrev R31 (t : Fin k0_t10_loop.trips) (w : BitVec 32) (hw : k0_chk1 t w) (k : Fin (k0_t15_loop t w).trips) : Rect S32x128x256 := Rect.unit (s := S32x128x256) (k0_off31 t w k) S1x128x256.size (k0_off31_inb t w hw k)
abbrev R36 (t : Fin k0_t10_loop.trips) : Rect S1x8192x128 := Rect.unit (s := S1x8192x128) (k0_off36 t) S1x256x128.size (k0_off36_inb t)
abbrev R37 (k : Fin k0_t17_loop.trips) : Rect S8192x128 := Rect.unit (s := S8192x128) (k0_off37 k) S256x128.size (k0_off37_inb k)
abbrev R38 (k : Fin k0_t17_loop.trips) : Rect S1x8192x128 := Rect.unit (s := S1x8192x128) (k0_off38 k) S1x256x128.size (k0_off38_inb k)

/-! ## Their slabs cover -/

theorem cover2 : ∀ y : S1x8192x128.Idx, ∃ (k : Fin k0_t2_loop.trips) (j : (R2 k).shape.Idx), (R2 k).emb j = y :=
  slabs2.cover (by rw [trips2]; rfl) (by decide) k0_off2_inb
theorem cover4 : ∀ y : S1x8192x128.Idx, ∃ (k : Fin k0_t4_loop.trips) (j : (R4 k).shape.Idx), (R4 k).emb j = y :=
  slabs4.cover (by rw [trips4]; rfl) (by decide) k0_off4_inb
theorem cover6 : ∀ y : S1x8192x128.Idx, ∃ (k : Fin k0_t6_loop.trips) (j : (R6 k).shape.Idx), (R6 k).emb j = y :=
  slabs6.cover (by rw [trips6]; rfl) (by decide) k0_off6_inb
theorem cover8 : ∀ y : S1x8192x128.Idx, ∃ (k : Fin k0_t8_loop.trips) (j : (R8 k).shape.Idx), (R8 k).emb j = y :=
  slabs8.cover (by rw [trips8]; rfl) (by decide) k0_off8_inb
theorem cover10 : ∀ y : S32x128x256.Idx, ∃ (k : Fin k0_t9_loop.trips) (j : (R10 k).shape.Idx), (R10 k).emb j = y :=
  slabs10.cover (by rw [trips9]; rfl) (by decide) k0_off10_inb
theorem cover36 : ∀ y : S1x8192x128.Idx, ∃ (k : Fin k0_t10_loop.trips) (j : (R36 k).shape.Idx), (R36 k).emb j = y :=
  slabs36.cover (by rw [trips10]; rfl) (by decide) k0_off36_inb
theorem cover38 : ∀ y : S1x8192x128.Idx, ∃ (k : Fin k0_t17_loop.trips) (j : (R38 k).shape.Idx), (R38 k).emb j = y :=
  slabs38.cover (by rw [trips17]; rfl) (by decide) k0_off38_inb

/-! ## Quantising -/

section Quant

variable (x k v d : Vec F S1x8192x128 .bf16)

/-- The largest magnitude of `x`, by lanes. -/
def xTop : FVec F S16x128 .bf16 :=
  iter k0_t1_loop.trips (fun k' a => k0_pay46 a (pull (R1 k') x)) (k0_pay45 (F := F)) k0_t1_loop.trips
/-- The largest magnitude of `k`, by lanes. -/
def kTop : FVec F S16x128 .bf16 :=
  iter k0_t3_loop.trips (fun k' a => k0_pay52 a (pull (R3 k') k)) (k0_pay51 (F := F)) k0_t3_loop.trips
/-- The largest magnitude of `v`, by lanes. -/
def vTop : FVec F S16x128 .bf16 :=
  iter k0_t5_loop.trips (fun k' a => k0_pay58 a (pull (R5 k') v)) (k0_pay57 (F := F)) k0_t5_loop.trips
/-- The largest magnitude of `d`, by lanes. -/
def dTop : FVec F S16x128 .bf16 :=
  iter k0_t7_loop.trips (fun k' a => k0_pay63 a (pull (R7 k') d)) (k0_pay62 (F := F)) k0_t7_loop.trips

/-- The scales. -/
def xScale : FVec F S1x1 .f32 := k0_pay48 (xTop x)
def kScale : FVec F S1x1 .f32 := k0_pay54 (kTop k)
def vScale : FVec F S1x1 .f32 := k0_pay60 (vTop v)
def dBits : IVec S1x1 32 := k0_pay65 (dTop d)
def dScale : FVec F S1x1 .f32 := k0_pay66 (dBits d)

/-- The codes. -/
def xCode : Vec F S1x8192x128 .fp8e4m3 := glue R2 cover2 (fun k' => k0_pay50 (k0_pay49 (xTop x)) (pull (R2 k') x))
def kCode : Vec F S1x8192x128 .fp8e4m3 := glue R4 cover4 (fun k' => k0_pay56 (k0_pay55 (kTop k)) 23#32 (pull (R4 k') k))
def vCode : Vec F S1x8192x128 .fp8e4m3 := glue R6 cover6 (fun k' => k0_pay61 (k0_pay59 (vTop v)) (pull (R6 k') v))
def dCode : Vec F S1x8192x128 .fp8e5m2 := glue R8 cover8 (fun k' => k0_pay67 (k0_pay64 (dTop d)) (pull (R8 k') d))

/-- The scales as they are handed out, one row. -/
def scaleRow : Vec F S1x1x1x128 .f32 := k0_pay68 (xScale x) (kScale k) (vScale v) (dBits d)

/-- The factor of the scores, and that of the queries' gradient. -/
def scoreMul : FVec F S1x1 .f32 := k0_pay69 (xScale x) (kScale k)
def dqMul : FVec F S1x1 .f32 := k0_pay70 (kScale k) (vScale v) (dBits d)

/-- The keys' codes, block by block transposed. -/
def kFlip : Vec F S32x128x256 .bf16 := glue R10 cover10 (fun k' => k0_pay1 (pull (R9 k') (kCode k)))

end Quant

/-! ## One query block -/

section Block

variable (qc kc vc : Vec F S1x8192x128 .fp8e4m3) (dc : Vec F S1x8192x128 .fp8e5m2) (kt : Vec F S32x128x256 .bf16) (st : Vec F S1x1x8192 .i32)
variable (sm dm : FVec F S1x1 .f32)
variable (t : Fin k0_t10_loop.trips) (w : BitVec 32) (hw : k0_chk1 t w)

/-- The running maximum and sum before key block `k`. -/
def ml : ℕ → FVec F S1x256 .f32 × FVec F S1x256 .f32 :=
  iter (k0_t11_loop t w).trips (fun k a =>
    (k0_pay32 sm 0#32 1#32 t w (pull (R12 t) qc) (pull (R13 t) st) k a.1 (pull (R14 t w hw k) kc),
     k0_pay36 sm 0#32 1#32 t w (pull (R12 t) qc) (pull (R13 t) st) k a.1 a.2 (pull (R14 t w hw k) kc))) (k0_pay29 (F := F), k0_pay30 (F := F))
/-- The exponentials of key block `k`'s scores against the maximum so far, and that maximum. -/
def scoreB (k : Fin (k0_t11_loop t w).trips) : FVec F S1x256x256 .f32 :=
  k0_pay34 sm 0#32 1#32 t w (pull (R12 t) qc) (pull (R13 t) st) k (ml qc kc st sm t w hw k.val).1 (pull (R14 t w hw k) kc)
def maxB (k : Fin (k0_t11_loop t w).trips) : FVec F S1x1x256 .f32 :=
  k0_pay35 sm 0#32 1#32 t w (pull (R12 t) qc) (pull (R13 t) st) k (ml qc kc st sm t w hw k.val).1 (pull (R14 t w hw k) kc)
/-- The final maximum, and 256 over the final sum. -/
def topS : FVec F S1x256 .f32 := (ml qc kc st sm t w hw (k0_t11_loop t w).trips).1
def invS : FVec F S1x256 .f32 := k0_pay43 (ml qc kc st sm t w hw (k0_t11_loop t w).trips).2
/-- The probabilities of key block `k`, times 256. -/
def probB (k : Fin (k0_t11_loop t w).trips) : FVec F S1x256x256 .f32 :=
  k0_pay6 (topS qc kc st sm t w hw) (invS qc kc st sm t w hw) (maxB qc kc st sm t w hw k) (scoreB qc kc st sm t w hw k)
/-- The forward output of the query block before key block `k`. -/
def outS : ℕ → FVec F S256x128 .f32 :=
  iter (k0_t13_loop t w).trips (fun k a => k0_pay8 (topS qc kc st sm t w hw) (invS qc kc st sm t w hw) a (maxB qc kc st sm t w hw k)
    (scoreB qc kc st sm t w hw k) (pull (R23 t w hw k) vc)) (k0_pay44 (F := F))
/-- The values' gradient before key block `k`, from what the earlier query blocks left. -/
def dvS (A : Vec F S8192x128 .f32) : ℕ → Vec F S8192x128 .f32 :=
  iter (k0_t13_loop t w).trips (fun k X => (R22 t w hw k).overlay X (k0_pay7 (k0_pay26 (pull (R12 t) dc)) (topS qc kc st sm t w hw)
    (invS qc kc st sm t w hw) (maxB qc kc st sm t w hw k) (scoreB qc kc st sm t w hw k) (pull (R22 t w hw k) X))) A
/-- The keys' gradient likewise, -/
def dkS (A : Vec F S8192x128 .f32) : ℕ → Vec F S8192x128 .f32 :=
  iter (k0_t15_loop t w).trips (fun k X => (R30 t w hw k).overlay X (k0_pay17 (k0_pay25 (pull (R12 t) qc)) (k0_pay26 (pull (R12 t) dc))
    (outS qc kc vc st sm t w hw (k0_t13_loop t w).trips) (pull (R28 t w hw k) vc) (probB qc kc st sm t w hw k) (pull (R30 t w hw k) X))) A
/-- and the queries' gradient, transposed. -/
def dqS : ℕ → FVec F S128x256 .f32 :=
  iter (k0_t15_loop t w).trips (fun k a => k0_pay18 (k0_pay26 (pull (R12 t) dc)) (outS qc kc vc st sm t w hw (k0_t13_loop t w).trips) a
    (pull (R28 t w hw k) vc) (probB qc kc st sm t w hw k) (pull (R31 t w hw k) kt)) (k0_pay15 (F := F))
/-- The query block's rows of the first result. -/
def dqB : FVec F S1x256x128 .bf16 := k0_pay22 dm (dqS qc kc vc dc kt st sm t w hw (k0_t15_loop t w).trips)

end Block

/-! ## All query blocks -/

/-- The lowest key block of query block `t`, as the table has it. -/
abbrev word (lo : Vec F S9x32 .i32) (i : grid0.Coords) (t : Fin k0_t10_loop.trips) : BitVec 32 :=
  pull (R11 i t) lo (Shape.Idx.first (numel1_S1x1.symm ▸ Nat.one_pos))

section All

variable (x k v d : Vec F S1x8192x128 .bf16) (st : Vec F S1x1x8192 .i32) (lo : Vec F S9x32 .i32) (i : grid0.Coords)
variable (hw : ∀ t, k0_chk1 t (word lo i t))

/-- The values' and the keys' gradients before query block `t`, unscaled. -/
def dvA : ℕ → Vec F S8192x128 .f32 :=
  iter k0_t10_loop.trips (fun t A => dvS (xCode x) (kCode k) (dCode d) st (scoreMul x k) t (word lo i t) (hw t) A
    (k0_t13_loop t (word lo i t)).trips) (k0_pay4 (F := F))
def dkA : ℕ → Vec F S8192x128 .f32 :=
  iter k0_t10_loop.trips (fun t A => dkS (xCode x) (kCode k) (vCode v) (dCode d) st (scoreMul x k) t (word lo i t) (hw t) A
    (k0_t15_loop t (word lo i t)).trips) (k0_pay3 (F := F))

/-- The three gradients. -/
def dqOut : Vec F S1x8192x128 .bf16 := glue R36 cover36 (fun t =>
  dqB (xCode x) (kCode k) (vCode v) (dCode d) (kFlip k) st (scoreMul x k) (dqMul k v d) t (word lo i t) (hw t))
def dkOut : Vec F S1x8192x128 .bf16 := glue R38 cover38 (fun k' =>
  k0_pay23 (xScale x) (vScale v) (dScale d) (Scalar.ofBits .f32 0x3DB504F3#32) (pull (R37 k') (dkA x k v d st lo i hw k0_t10_loop.trips)))
def dvOut : Vec F S1x8192x128 .bf16 := glue R38 cover38 (fun k' =>
  k0_pay24 (dScale d) (pull (R37 k') (dvA x k d st lo i hw k0_t10_loop.trips)))

end All

end Cert.Proof.KernelIdeal

end
-- ==== Proof.RunIdeal.lean ====
/-
  A grid point's run: from the blocks held as staged, the kernel body ends with its results at the functions of ModelIdeal.lean, the
  scratch arrays at something. One theorem per loop body, one per part of the body, then the whole.
-/
module

public import proofs.«01_k».proof.Proof.ModelIdeal
public import proofs.«01_k».proof.Proof.Owns
public import Idealize.ShloMosaic.Lib.Pipeline.Kit

@[expose] public section

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.ShloMosaic.Rounds
open Idealize.SL.BI.BIBase Idealize.SL.BI.Laws Idealize.SL.ProofMode Idealize.SL.Sem

variable {F : FTy → Type} [FloatOps F]

/-- The pipeline library's algebra is the certificate's. -/
abbrev UU : Type := UR sig nD τ

local notation "𝕄" => MT nD τ sig Unit (Elt F) ℕ UU ℕ

/-- Core `c` holds the memref `m` at share `q` and reads `X` through it. -/
abbrev ow (c : Dev nD) {sp : CoreSpace} {s : Shape} {e : EltTy} (m : Memref sig .tc sp s e) (q : PosShare TreeShare) (X : s.Idx → Elt F e) : sProp 𝕄 :=
  owns (c : Thread nD τ) m q X

abbrev 𝒱₀ : Variants := Variants.none

/-- A store over a whole array leaves what it stored. -/
theorem overlay_all {s : Shape} {α : Type} (o : Fin s.rank → ℕ) (inb : ∀ a, o a + s.size a ≤ s.size a) (ho : ∀ a, o a = 0)
    (X : s.Idx → α) (v : s.Idx → α) : (Rect.unit (s := s) o s.size inb).overlay X v = v := by
  funext y
  have e : (Rect.unit (s := s) o s.size inb).emb y = y := by
    funext a; ext; rw [emb_unit_val, ho, Nat.zero_add]
  exact (congrArg _ e.symm).trans (Rect.overlay_emb (Rect.unit (s := s) o s.size inb) X v y)

section Body

variable (c : Dev nD) (i : grid0.Coords)
variable (arg2 : Memref sig .tc .smem S9x32 .i32) (harg2 : arg2.IsWhole)
variable (arg3 : Memref sig .tc .vmem S1x8192x128 .bf16) (harg3 : arg3.IsWhole)
variable (arg4 : Memref sig .tc .vmem S1x8192x128 .bf16) (harg4 : arg4.IsWhole)
variable (arg5 : Memref sig .tc .vmem S1x8192x128 .bf16) (harg5 : arg5.IsWhole)
variable (arg6 : Memref sig .tc .vmem S1x8192x128 .bf16) (harg6 : arg6.IsWhole)
variable (arg7 : Memref sig .tc .vmem S1x1x8192 .i32) (harg7 : arg7.IsWhole)
variable (arg8 : Memref sig .tc .vmem S1x8192x128 .bf16) (harg8 : arg8.IsWhole)
variable (arg9 : Memref sig .tc .vmem S1x8192x128 .bf16) (harg9 : arg9.IsWhole)
variable (arg10 : Memref sig .tc .vmem S1x8192x128 .bf16) (harg10 : arg10.IsWhole)
variable (arg11 : Memref sig .tc .vmem S1x8192x128 .fp8e4m3) (harg11 : arg11.IsWhole)
variable (arg12 : Memref sig .tc .vmem S1x8192x128 .fp8e4m3) (harg12 : arg12.IsWhole)
variable (arg13 : Memref sig .tc .vmem S1x8192x128 .fp8e4m3) (harg13 : arg13.IsWhole)
variable (arg14 : Memref sig .tc .vmem S1x8192x128 .fp8e5m2) (harg14 : arg14.IsWhole)
variable (arg15 : Memref sig .tc .vmem S1x1x1x128 .f32) (harg15 : arg15.IsWhole)
variable (arg16 : Memref sig .tc .vmem S32x128x256 .bf16) (harg16 : arg16.IsWhole)
variable (arg17 : Memref sig .tc .vmem S32x128x256 .fp8e4m3) (harg17 : arg17.IsWhole)
variable (arg18 : Memref sig .tc .vmem S32x256x256 .f32) (harg18 : arg18.IsWhole)
variable (arg19 : Memref sig .tc .vmem S32x1x256 .f32) (harg19 : arg19.IsWhole)
variable (arg20 : Memref sig .tc .vmem S8192x128 .f32) (harg20 : arg20.IsWhole)
variable (arg21 : Memref sig .tc .vmem S8192x128 .f32) (harg21 : arg21.IsWhole)
variable (x k v d : Vec F S1x8192x128 .bf16)

/-! ## Quantising -/

theorem topBody1  (k' : Fin k0_t1_loop.trips) (a : FVec F S16x128 .bf16) :
    (ow c arg3 fullShare x : sProp 𝕄) ⊢ wp frame (wpE (defs₀ (F := F)) 𝒱₀ (c : Thread nD τ) none) Set.univ (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21  k' a)
      (fun y => iprop(⌜y = k0_pay46 a (pull (R1 k') x)⌝ ∗ ow c arg3 fullShare x)) := by
  unfold k0_t1_body
  iintro H
  iapply (wp_ld 𝒱₀ (c : Thread nD τ) none Set.univ _) $$ H
  iintro H
  iapply (wp_done 𝒱₀ (c : Thread nD τ) none Set.univ _)
  isplitr; · ipureintro; rfl
  iexact H

theorem codeBody2 (v39 : FVec F S1x1 .bf16) (k' : Fin k0_t2_loop.trips) :
    (iprop(ow c arg3 fullShare x ∗ ∃ X, ⌜Filled R2 (fun k' => k0_pay50 v39 (pull (R2 k') x)) k'.val X⌝ ∗ ow c arg11 fullShare X) : sProp 𝕄)
      ⊢ wp frame (wpE (defs₀ (F := F)) 𝒱₀ (c : Thread nD τ) none) Set.univ (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 k' ⟨⟩)
      (fun y => iprop(⌜y = ⟨⟩⌝ ∗ ow c arg3 fullShare x ∗ ∃ X, ⌜Filled R2 (fun k' => k0_pay50 v39 (pull (R2 k') x)) (k'.val + 1) X⌝ ∗ ow c arg11 fullShare X)) := by
  unfold k0_t2_body
  iintro ⟨H, %X, %hX, HX⟩
  iapply (wp_ld 𝒱₀ (c : Thread nD τ) none Set.univ _) $$ H
  iintro H
  iapply (wp_ld 𝒱₀ (c : Thread nD τ) none Set.univ _) $$ HX
  iintro HX
  iapply (wp_st 𝒱₀ (c : Thread nD τ) none Set.univ _) $$ HX
  iintro HX
  iapply (wp_done 𝒱₀ (c : Thread nD τ) none Set.univ _)
  isplitr; · ipureintro; rfl
  isplitl [H]; · iexact H
  iexists _
  isplitr; swap; · iexact HX
  ipureintro
  exact slabs2.filled_succ _ (fun k' => k0_pay50 v39 (pull (R2 k') x)) k' X hX

theorem topBody3 (v39 : FVec F S1x1 .bf16) (k' : Fin k0_t3_loop.trips) (a : FVec F S16x128 .bf16) :
    (ow c arg4 fullShare k : sProp 𝕄) ⊢ wp frame (wpE (defs₀ (F := F)) 𝒱₀ (c : Thread nD τ) none) Set.univ (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39 k' a)
      (fun y => iprop(⌜y = k0_pay52 a (pull (R3 k') k)⌝ ∗ ow c arg4 fullShare k)) := by
  unfold k0_t3_body
  iintro H
  iapply (wp_ld 𝒱₀ (c : Thread nD τ) none Set.univ _) $$ H
  iintro H
  iapply (wp_done 𝒱₀ (c : Thread nD τ) none Set.univ _)
  isplitr; · ipureintro; rfl
  iexact H

theorem codeBody4 (v76 : IVec S1x1 32) (c23 : BitVec 32) (k' : Fin k0_t4_loop.trips) :
    (iprop(ow c arg4 fullShare k ∗ ∃ X, ⌜Filled R4 (fun k' => k0_pay56 v76 c23 (pull (R4 k') k)) k'.val X⌝ ∗ ow c arg12 fullShare X) : sProp 𝕄)
      ⊢ wp frame (wpE (defs₀ (F := F)) 𝒱₀ (c : Thread nD τ) none) Set.univ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 c23 k' ⟨⟩)
      (fun y => iprop(⌜y = ⟨⟩⌝ ∗ ow c arg4 fullShare k ∗ ∃ X, ⌜Filled R4 (fun k' => k0_pay56 v76 c23 (pull (R4 k') k)) (k'.val + 1) X⌝ ∗ ow c arg12 fullShare X)) := by
  unfold k0_t4_body
  iintro ⟨H, %X, %hX, HX⟩
  iapply (wp_ld 𝒱₀ (c : Thread nD τ) none Set.univ _) $$ H
  iintro H
  iapply (wp_ld 𝒱₀ (c : Thread nD τ) none Set.univ _) $$ HX
  iintro HX
  iapply (wp_st 𝒱₀ (c : Thread nD τ) none Set.univ _) $$ HX
  iintro HX
  iapply (wp_done 𝒱₀ (c : Thread nD τ) none Set.univ _)
  isplitr; · ipureintro; rfl
  isplitl [H]; · iexact H
  iexists _
  isplitr; swap; · iexact HX
  ipureintro
  exact slabs4.filled_succ _ (fun k' => k0_pay56 v76 c23 (pull (R4 k') k)) k' X hX

theorem topBody5 (v76 : IVec S1x1 32) (c23 : BitVec 32) (k' : Fin k0_t5_loop.trips) (a : FVec F S16x128 .bf16) :
    (ow c arg5 fullShare v : sProp 𝕄) ⊢ wp frame (wpE (defs₀ (F := F)) 𝒱₀ (c : Thread nD τ) none) Set.univ (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 c23 k' a)
      (fun y => iprop(⌜y = k0_pay58 a (pull (R5 k') v)⌝ ∗ ow c arg5 fullShare v)) := by
  unfold k0_t5_body
  iintro H
  iapply (wp_ld 𝒱₀ (c : Thread nD τ) none Set.univ _) $$ H
  iintro H
  iapply (wp_done 𝒱₀ (c : Thread nD τ) none Set.univ _)
  isplitr; · ipureintro; rfl
  iexact H

theorem codeBody6 (v110 : IVec S1x1 32) (k' : Fin k0_t6_loop.trips) :
    (iprop(ow c arg5 fullShare v ∗ ∃ X, ⌜Filled R6 (fun k' => k0_pay61 v110 (pull (R6 k') v)) k'.val X⌝ ∗ ow c arg13 fullShare X) : sProp 𝕄)
      ⊢ wp frame (wpE (defs₀ (F := F)) 𝒱₀ (c : Thread nD τ) none) Set.univ (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v110 k' ⟨⟩)
      (fun y => iprop(⌜y = ⟨⟩⌝ ∗ ow c arg5 fullShare v ∗ ∃ X, ⌜Filled R6 (fun k' => k0_pay61 v110 (pull (R6 k') v)) (k'.val + 1) X⌝ ∗ ow c arg13 fullShare X)) := by
  unfold k0_t6_body
  iintro ⟨H, %X, %hX, HX⟩
  iapply (wp_ld 𝒱₀ (c : Thread nD τ) none Set.univ _) $$ H
  iintro H
  iapply (wp_ld 𝒱₀ (c : Thread nD τ) none Set.univ _) $$ HX
  iintro HX
  iapply (wp_st 𝒱₀ (c : Thread nD τ) none Set.univ _) $$ HX
  iintro HX
  iapply (wp_done 𝒱₀ (c : Thread nD τ) none Set.univ _)
  isplitr; · ipureintro; rfl
  isplitl [H]; · iexact H
  iexists _
  isplitr; swap; · iexact HX
  ipureintro
  exact slabs6.filled_succ _ (fun k' => k0_pay61 v110 (pull (R6 k') v)) k' X hX

theorem topBody7 (v110 : IVec S1x1 32) (k' : Fin k0_t7_loop.trips) (a : FVec F S16x128 .bf16) :
    (ow c arg6 fullShare d : sProp 𝕄) ⊢ wp frame (wpE (defs₀ (F := F)) 𝒱₀ (c : Thread nD τ) none) Set.univ (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v110 k' a)
      (fun y => iprop(⌜y = k0_pay63 a (pull (R7 k') d)⌝ ∗ ow c arg6 fullShare d)) := by
  unfold k0_t7_body
  iintro H
  iapply (wp_ld 𝒱₀ (c : Thread nD τ) none Set.univ _) $$ H
  iintro H
  iapply (wp_done 𝒱₀ (c : Thread nD τ) none Set.univ _)
  isplitr; · ipureintro; rfl
  iexact H

theorem codeBody8 (v33 v74 v115 : FVec F S1x1 .f32) (v151 v153 : IVec S1x1 32) (k' : Fin k0_t8_loop.trips) :
    (iprop(ow c arg6 fullShare d ∗ ∃ X, ⌜Filled R8 (fun k' => k0_pay67 v151 (pull (R8 k') d)) k'.val X⌝ ∗ ow c arg14 fullShare X) : sProp 𝕄)
      ⊢ wp frame (wpE (defs₀ (F := F)) 𝒱₀ (c : Thread nD τ) none) Set.univ (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v33 v74 v115 v151 v153 k' ⟨⟩)
      (fun y => iprop(⌜y = ⟨⟩⌝ ∗ ow c arg6 fullShare d ∗ ∃ X, ⌜Filled R8 (fun k' => k0_pay67 v151 (pull (R8 k') d)) (k'.val + 1) X⌝ ∗ ow c arg14 fullShare X)) := by
  unfold k0_t8_body
  iintro ⟨H, %X, %hX, HX⟩
  iapply (wp_ld 𝒱₀ (c : Thread nD τ) none Set.univ _) $$ H
  iintro H
  iapply (wp_ld 𝒱₀ (c : Thread nD τ) none Set.univ _) $$ HX
  iintro HX
  iapply (wp_st 𝒱₀ (c : Thread nD τ) none Set.univ _) $$ HX
  iintro HX
  iapply (wp_done 𝒱₀ (c : Thread nD τ) none Set.univ _)
  isplitr; · ipureintro; rfl
  isplitl [H]; · iexact H
  iexists _
  isplitr; swap; · iexact HX
  ipureintro
  exact slabs8.filled_succ _ (fun k' => k0_pay67 v151 (pull (R8 k') d)) k' X hX

theorem part2  {Q : (Σ' (arg0 : BitVec 32) (v33 : FVec F S1x1 .f32), FVec F S1x1 .bf16) → sProp 𝕄} :
    (iprop(ow c arg3 fullShare x) : sProp 𝕄) ⊢ iprop((iprop(ow c arg3 fullShare x) -∗ Q ⟨BitVec.ofNat 32 (i 0).val, xScale x, k0_pay49 (xTop x)⟩) -∗ wp frame (wpE (defs₀ (F := F)) 𝒱₀ (c : Thread nD τ) none) Set.univ (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 ) Q) := by
  rw [k0_part2_eq_skeleton]
  unfold k0_part2_skel
  iintro H3 HK
  iapply (wp_loop 𝒱₀ (c : Thread nD τ) none Set.univ k0_t1_loop k0_t1_ok (k0_pay45 (F := F)) (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 )
    (iter k0_t1_loop.trips (fun k' a => k0_pay46 a (pull (R1 k') x)) (k0_pay45 (F := F)))
    (fun _ => iprop(ow c arg3 fullShare x)) rfl
    (fun k' => by rw [iter_succ]; exact topBody1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x  k' _)) $$ H3
  iintro H3
  iapply (wp_done 𝒱₀ (c : Thread nD τ) none Set.univ _)
  unfold xScale xTop
  iapply HK
  iexact H3

theorem part3 (v39 : FVec F S1x1 .bf16) {Q : (Σ' (v74 : FVec F S1x1 .f32) (v76 : IVec S1x1 32), BitVec 32) → sProp 𝕄} :
    (iprop(ow c arg3 fullShare x ∗ ow c arg4 fullShare k ∗ (∃ X11, ow c arg11 fullShare X11)) : sProp 𝕄) ⊢ iprop((iprop(ow c arg3 fullShare x ∗ ow c arg4 fullShare k ∗ ow c arg11 fullShare (glue R2 cover2 (fun k' => k0_pay50 v39 (pull (R2 k') x)))) -∗ Q ⟨kScale k, k0_pay55 (kTop k), 23#32⟩) -∗ wp frame (wpE (defs₀ (F := F)) 𝒱₀ (c : Thread nD τ) none) Set.univ (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39) Q) := by
  rw [k0_part3_eq_skeleton]
  unfold k0_part3_skel
  iintro ⟨H3, H4, %X11, H11⟩ HK
  iapply (wp_loop 𝒱₀ (c : Thread nD τ) none Set.univ k0_t2_loop k0_t2_ok PUnit.unit (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39) (fun _ => ⟨⟩)
    (fun k' => iprop(ow c arg3 fullShare x ∗ ∃ X, ⌜Filled R2 (fun k' => k0_pay50 v39 (pull (R2 k') x)) k' X⌝ ∗ ow c arg11 fullShare X)) rfl
    (fun k' => codeBody2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x v39 k')) $$ [H3 H11]
  · isplitl [H3]; · iexact H3
    iexists _
    isplitr; swap; · iexact H11
    ipureintro; exact Filled.zero _ _ _
  iintro ⟨H3, %X, %hX, H11⟩
  obtain rfl : X = glue R2 cover2 (fun k' => k0_pay50 v39 (pull (R2 k') x)) := eq_glue _ _ _ _ fun k' => hX k' k'.isLt
  iapply (wp_loop 𝒱₀ (c : Thread nD τ) none Set.univ k0_t3_loop k0_t3_ok (k0_pay51 (F := F)) (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v39)
    (iter k0_t3_loop.trips (fun k' a => k0_pay52 a (pull (R3 k') k)) (k0_pay51 (F := F)))
    (fun _ => iprop(ow c arg4 fullShare k)) rfl
    (fun k' => by rw [iter_succ]; exact topBody3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k v39 k' _)) $$ H4
  iintro H4
  iapply (wp_done 𝒱₀ (c : Thread nD τ) none Set.univ _)
  unfold kScale kTop
  iapply HK
  isplitl [H3]; · iexact H3
  isplitl [H4]; · iexact H4
  iexact H11

theorem part4 (v76 : IVec S1x1 32) (c23 : BitVec 32) {Q : (Σ' (v110 : IVec S1x1 32), FVec F S1x1 .f32) → sProp 𝕄} :
    (iprop(ow c arg4 fullShare k ∗ ow c arg5 fullShare v ∗ (∃ X12, ow c arg12 fullShare X12)) : sProp 𝕄) ⊢ iprop((iprop(ow c arg4 fullShare k ∗ ow c arg5 fullShare v ∗ ow c arg12 fullShare (glue R4 cover4 (fun k' => k0_pay56 v76 c23 (pull (R4 k') k)))) -∗ Q ⟨k0_pay59 (vTop v), vScale v⟩) -∗ wp frame (wpE (defs₀ (F := F)) 𝒱₀ (c : Thread nD τ) none) Set.univ (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 c23) Q) := by
  rw [k0_part4_eq_skeleton]
  unfold k0_part4_skel
  iintro ⟨H4, H5, %X12, H12⟩ HK
  iapply (wp_loop 𝒱₀ (c : Thread nD τ) none Set.univ k0_t4_loop k0_t4_ok PUnit.unit (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 c23) (fun _ => ⟨⟩)
    (fun k' => iprop(ow c arg4 fullShare k ∗ ∃ X, ⌜Filled R4 (fun k' => k0_pay56 v76 c23 (pull (R4 k') k)) k' X⌝ ∗ ow c arg12 fullShare X)) rfl
    (fun k' => codeBody4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k v76 c23 k')) $$ [H4 H12]
  · isplitl [H4]; · iexact H4
    iexists _
    isplitr; swap; · iexact H12
    ipureintro; exact Filled.zero _ _ _
  iintro ⟨H4, %X, %hX, H12⟩
  obtain rfl : X = glue R4 cover4 (fun k' => k0_pay56 v76 c23 (pull (R4 k') k)) := eq_glue _ _ _ _ fun k' => hX k' k'.isLt
  iapply (wp_loop 𝒱₀ (c : Thread nD τ) none Set.univ k0_t5_loop k0_t5_ok (k0_pay57 (F := F)) (k0_t5_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 c23)
    (iter k0_t5_loop.trips (fun k' a => k0_pay58 a (pull (R5 k') v)) (k0_pay57 (F := F)))
    (fun _ => iprop(ow c arg5 fullShare v)) rfl
    (fun k' => by rw [iter_succ]; exact topBody5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v v76 c23 k' _)) $$ H5
  iintro H5
  iapply (wp_done 𝒱₀ (c : Thread nD τ) none Set.univ _)
  unfold vScale vTop
  iapply HK
  isplitl [H4]; · iexact H4
  isplitl [H5]; · iexact H5
  iexact H12

theorem part5 (v110 : IVec S1x1 32) {Q : (Σ' (v151 : IVec S1x1 32), IVec S1x1 32) → sProp 𝕄} :
    (iprop(ow c arg5 fullShare v ∗ ow c arg6 fullShare d ∗ (∃ X13, ow c arg13 fullShare X13)) : sProp 𝕄) ⊢ iprop((iprop(ow c arg5 fullShare v ∗ ow c arg6 fullShare d ∗ ow c arg13 fullShare (glue R6 cover6 (fun k' => k0_pay61 v110 (pull (R6 k') v)))) -∗ Q ⟨k0_pay64 (dTop d), dBits d⟩) -∗ wp frame (wpE (defs₀ (F := F)) 𝒱₀ (c : Thread nD τ) none) Set.univ (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v110) Q) := by
  rw [k0_part5_eq_skeleton]
  unfold k0_part5_skel
  iintro ⟨H5, H6, %X13, H13⟩ HK
  iapply (wp_loop 𝒱₀ (c : Thread nD τ) none Set.univ k0_t6_loop k0_t6_ok PUnit.unit (k0_t6_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v110) (fun _ => ⟨⟩)
    (fun k' => iprop(ow c arg5 fullShare v ∗ ∃ X, ⌜Filled R6 (fun k' => k0_pay61 v110 (pull (R6 k') v)) k' X⌝ ∗ ow c arg13 fullShare X)) rfl
    (fun k' => codeBody6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v v110 k')) $$ [H5 H13]
  · isplitl [H5]; · iexact H5
    iexists _
    isplitr; swap; · iexact H13
    ipureintro; exact Filled.zero _ _ _
  iintro ⟨H5, %X, %hX, H13⟩
  obtain rfl : X = glue R6 cover6 (fun k' => k0_pay61 v110 (pull (R6 k') v)) := eq_glue _ _ _ _ fun k' => hX k' k'.isLt
  iapply (wp_loop 𝒱₀ (c : Thread nD τ) none Set.univ k0_t7_loop k0_t7_ok (k0_pay62 (F := F)) (k0_t7_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v110)
    (iter k0_t7_loop.trips (fun k' a => k0_pay63 a (pull (R7 k') d)) (k0_pay62 (F := F)))
    (fun _ => iprop(ow c arg6 fullShare d)) rfl
    (fun k' => by rw [iter_succ]; exact topBody7 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 d v110 k' _)) $$ H6
  iintro H6
  iapply (wp_done 𝒱₀ (c : Thread nD τ) none Set.univ _)
  unfold dBits dTop
  iapply HK
  isplitl [H5]; · iexact H5
  isplitl [H6]; · iexact H6
  iexact H13

theorem part6 (v33 v74 v115 : FVec F S1x1 .f32) (v151 v153 : IVec S1x1 32) {Q : (Σ' (v156 : FVec F S1x1 .f32) (v187 : FVec F S1x1 .f32) (v193 : FVec F S1x1 .f32), F .f32) → sProp 𝕄} :
    (iprop(ow c arg6 fullShare d ∗ (∃ X14, ow c arg14 fullShare X14) ∗ (∃ X15, ow c arg15 fullShare X15)) : sProp 𝕄) ⊢ iprop((iprop(ow c arg6 fullShare d ∗ ow c arg14 fullShare (glue R8 cover8 (fun k' => k0_pay67 v151 (pull (R8 k') d))) ∗ ow c arg15 fullShare (k0_pay68 v33 v74 v115 v153)) -∗ Q ⟨k0_pay66 (F := F) v153, k0_pay69 v33 v74, k0_pay70 v74 v115 v153, Scalar.ofBits .f32 0x3DB504F3#32⟩) -∗ wp frame (wpE (defs₀ (F := F)) 𝒱₀ (c : Thread nD τ) none) Set.univ (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v33 v74 v115 v151 v153) Q) := by
  rw [k0_part6_eq_skeleton]
  unfold k0_part6_skel
  iintro ⟨H6, ⟨%X14, H14⟩, %X15, H15⟩ HK
  iapply (wp_loop 𝒱₀ (c : Thread nD τ) none Set.univ k0_t8_loop k0_t8_ok PUnit.unit (k0_t8_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v33 v74 v115 v151 v153) (fun _ => ⟨⟩)
    (fun k' => iprop(ow c arg6 fullShare d ∗ ∃ X, ⌜Filled R8 (fun k' => k0_pay67 v151 (pull (R8 k') d)) k' X⌝ ∗ ow c arg14 fullShare X)) rfl
    (fun k' => codeBody8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 d v33 v74 v115 v151 v153 k')) $$ [H6 H14]
  · isplitl [H6]; · iexact H6
    iexists _
    isplitr; swap; · iexact H14
    ipureintro; exact Filled.zero _ _ _
  iintro ⟨H6, %X, %hX, H14⟩
  obtain rfl : X = glue R8 cover8 (fun k' => k0_pay67 v151 (pull (R8 k') d)) := eq_glue _ _ _ _ fun k' => hX k' k'.isLt
  iapply (wp_ld 𝒱₀ (c : Thread nD τ) none Set.univ _) $$ H15
  iintro H15
  iapply (wp_st 𝒱₀ (c : Thread nD τ) none Set.univ _) $$ H15
  iintro H15
  rw [overlay_all _ _ (by decide)]
  iapply (wp_done 𝒱₀ (c : Thread nD τ) none Set.univ _)
  iapply HK
  isplitl [H6]; · iexact H6
  isplitl [H14]; · iexact H14
  iexact H15

/-! ## The keys transposed -/

theorem flipBody (kc vc : Vec F S1x8192x128 .fp8e4m3) (k' : Fin k0_t9_loop.trips) :
    (iprop(ow c arg12 fullShare kc ∗ ow c arg13 fullShare vc ∗ (∃ X, ⌜Filled R10 (fun k' => k0_pay1 (pull (R9 k') kc)) k'.val X⌝ ∗ ow c arg16 fullShare X) ∗ (∃ X17, ow c arg17 fullShare X17)) : sProp 𝕄) ⊢ wp frame (wpE (defs₀ (F := F)) 𝒱₀ (c : Thread nD τ) none) Set.univ (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k' ⟨⟩) (fun y => iprop(⌜y = ⟨⟩⌝ ∗ ow c arg12 fullShare kc ∗ ow c arg13 fullShare vc ∗ (∃ X, ⌜Filled R10 (fun k' => k0_pay1 (pull (R9 k') kc)) (k'.val + 1) X⌝ ∗ ow c arg16 fullShare X) ∗ (∃ X17, ow c arg17 fullShare X17))) := by
  unfold k0_t9_body
  iintro ⟨H12, H13, ⟨%X, %hX, H16⟩, %Y, H17⟩
  iapply (wp_ld 𝒱₀ (c : Thread nD τ) none Set.univ _) $$ H12
  iintro H12
  iapply (wp_ld 𝒱₀ (c : Thread nD τ) none Set.univ _) $$ H16
  iintro H16
  iapply (wp_st 𝒱₀ (c : Thread nD τ) none Set.univ _) $$ H16
  iintro H16
  iapply (wp_ld 𝒱₀ (c : Thread nD τ) none Set.univ _) $$ H13
  iintro H13
  iapply (wp_ld 𝒱₀ (c : Thread nD τ) none Set.univ _) $$ H17
  iintro H17
  iapply (wp_st 𝒱₀ (c : Thread nD τ) none Set.univ _) $$ H17
  iintro H17
  iapply (wp_done 𝒱₀ (c : Thread nD τ) none Set.univ _)
  isplitr; · ipureintro; rfl
  isplitl [H12]; · iexact H12
  isplitl [H13]; · iexact H13
  isplitl [H16]
  · iexists _
    isplitr; swap; · iexact H16
    ipureintro
    exact slabs10.filled_succ _ (fun k' => k0_pay1 (pull (R9 k') kc)) k' X hX
  iexists _
  iexact H17

/-! ## One query block -/

section Block

variable (qc kc vc : Vec F S1x8192x128 .fp8e4m3) (dc : Vec F S1x8192x128 .fp8e5m2) (kt : Vec F S32x128x256 .bf16) (st : Vec F S1x1x8192 .i32)
variable (sm dm : FVec F S1x1 .f32) (arg0 : BitVec 32)
variable (t : Fin k0_t10_loop.trips) (w : BitVec 32) (hw : k0_chk1 t w)

theorem scoreBody (k : Fin (k0_t11_loop t w).trips) :
    (iprop(ow c arg12 fullShare kc ∗ (∃ X, ⌜Filled (R15 t w hw) (scoreB qc kc st sm t w hw) k.val X⌝ ∗ ow c arg18 fullShare X) ∗ (∃ X, ⌜Filled (R16 t w hw) (maxB qc kc st sm t w hw) k.val X⌝ ∗ ow c arg19 fullShare X)) : sProp 𝕄) ⊢ wp frame (wpE (defs₀ (F := F)) 𝒱₀ (c : Thread nD τ) none) Set.univ (k0_t11_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 sm 0#32 1#32 t w hw (pull (R12 t) qc) (pull (R13 t) st) k ((ml qc kc st sm t w hw k.val).1, (ml qc kc st sm t w hw k.val).2))
      (fun y => iprop(⌜y = ((ml qc kc st sm t w hw (k.val + 1)).1, (ml qc kc st sm t w hw (k.val + 1)).2)⌝ ∗ ow c arg12 fullShare kc ∗ (∃ X, ⌜Filled (R15 t w hw) (scoreB qc kc st sm t w hw) (k.val + 1) X⌝ ∗ ow c arg18 fullShare X) ∗ (∃ X, ⌜Filled (R16 t w hw) (maxB qc kc st sm t w hw) (k.val + 1) X⌝ ∗ ow c arg19 fullShare X))) := by
  unfold k0_t11_body
  iintro ⟨H12, ⟨%X, %hX, H18⟩, %Y, %hY, H19⟩
  iapply (wp_ld 𝒱₀ (c : Thread nD τ) none Set.univ _) $$ H12
  iintro H12
  iapply (wp_ld 𝒱₀ (c : Thread nD τ) none Set.univ _) $$ H18
  iintro H18
  iapply (wp_st 𝒱₀ (c : Thread nD τ) none Set.univ _) $$ H18
  iintro H18
  iapply (wp_ld 𝒱₀ (c : Thread nD τ) none Set.univ _) $$ H19
  iintro H19
  iapply (wp_st 𝒱₀ (c : Thread nD τ) none Set.univ _) $$ H19
  iintro H19
  iapply (wp_done 𝒱₀ (c : Thread nD τ) none Set.univ _)
  isplitr
  · ipureintro
    unfold ml
    rw [iter_succ]
  isplitl [H12]; · iexact H12
  isplitl [H18]
  · iexists _
    isplitr; swap; · iexact H18
    ipureintro
    exact (slabs15 t w).filled_succ _ (scoreB qc kc st sm t w hw) k X hX
  iexists _
  isplitr; swap; · iexact H19
  ipureintro
  exact (slabs16 t w).filled_succ _ (maxB qc kc st sm t w hw) k Y hY

theorem valueBody (B : Vec F S8192x128 .f32) (M : Vec F S32x1x256 .f32) (hM : ∀ k, pull (R16 t w hw k) M = (maxB qc kc st sm t w hw) k) (k : Fin (k0_t13_loop t w).trips) :
    (iprop(ow c arg13 fullShare vc ∗ ow c arg19 fullShare M ∗ (∃ X, ⌜Passed (R15 t w hw) (scoreB qc kc st sm t w hw) (probB qc kc st sm t w hw) k.val X⌝ ∗ ow c arg18 fullShare X) ∗ ow c arg21 fullShare (dvS qc kc dc st sm t w hw B k.val)) : sProp 𝕄) ⊢ wp frame (wpE (defs₀ (F := F)) 𝒱₀ (c : Thread nD τ) none) Set.univ (k0_t13_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t w hw (k0_pay26 (pull (R12 t) dc)) (topS qc kc st sm t w hw) (invS qc kc st sm t w hw) k (outS qc kc vc st sm t w hw k.val))
      (fun y => iprop(⌜y = (outS qc kc vc st sm t w hw (k.val + 1))⌝ ∗ ow c arg13 fullShare vc ∗ ow c arg19 fullShare M ∗ (∃ X, ⌜Passed (R15 t w hw) (scoreB qc kc st sm t w hw) (probB qc kc st sm t w hw) (k.val + 1) X⌝ ∗ ow c arg18 fullShare X) ∗ ow c arg21 fullShare (dvS qc kc dc st sm t w hw B (k.val + 1)))) := by
  unfold k0_t13_body
  iintro ⟨H13, H19, ⟨%X, %hX, H18⟩, H21⟩
  have eM : pull (Rect.unit (s := S32x1x256) (k0_off20 t w k) S1x1x256.size (k0_off20_inb t w hw k)) M = (maxB qc kc st sm t w hw) k := hM k
  have eX : pull (Rect.unit (s := S32x256x256) (k0_off21 t w k) S1x256x256.size (k0_off21_inb t w hw k)) X = (scoreB qc kc st sm t w hw) k :=
    (hX k).trans (if_neg (Nat.lt_irrefl _))
  iapply (wp_ld 𝒱₀ (c : Thread nD τ) none Set.univ _) $$ H19
  iintro H19
  iapply (wp_ld 𝒱₀ (c : Thread nD τ) none Set.univ _) $$ H18
  iintro H18
  iapply (wp_ld 𝒱₀ (c : Thread nD τ) none Set.univ _) $$ H18
  iintro H18
  rw [eM, eX]
  iapply (wp_st 𝒱₀ (c : Thread nD τ) none Set.univ _) $$ H18
  iintro H18
  iapply (wp_ld 𝒱₀ (c : Thread nD τ) none Set.univ _) $$ H21
  iintro H21
  iapply (wp_ld 𝒱₀ (c : Thread nD τ) none Set.univ _) $$ H21
  iintro H21
  iapply (wp_st 𝒱₀ (c : Thread nD τ) none Set.univ _) $$ H21
  iintro H21
  iapply (wp_ld 𝒱₀ (c : Thread nD τ) none Set.univ _) $$ H13
  iintro H13
  iapply (wp_done 𝒱₀ (c : Thread nD τ) none Set.univ _)
  isplitr
  · ipureintro
    unfold outS
    rw [iter_succ]
  isplitl [H13]; · iexact H13
  isplitl [H19]; · iexact H19
  isplitl [H18]
  · iexists _
    isplitr; swap; · iexact H18
    ipureintro
    exact (slabs15 t w).passed_succ _ (scoreB qc kc st sm t w hw) (probB qc kc st sm t w hw) k X hX
  unfold dvS
  rw [iter_succ]
  iexact H21

theorem gradBody (B : Vec F S8192x128 .f32) (P : Vec F S32x256x256 .f32) (hP : ∀ k, pull (R15 t w hw k) P = (probB qc kc st sm t w hw) k) (k : Fin (k0_t15_loop t w).trips) :
    (iprop(ow c arg13 fullShare vc ∗ ow c arg16 fullShare kt ∗ ow c arg18 fullShare P ∗ ow c arg20 fullShare (dkS qc kc vc dc st sm t w hw B k.val)) : sProp 𝕄) ⊢ wp frame (wpE (defs₀ (F := F)) 𝒱₀ (c : Thread nD τ) none) Set.univ (k0_t15_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t w hw (k0_pay25 (pull (R12 t) qc)) (k0_pay26 (pull (R12 t) dc)) (outS qc kc vc st sm t w hw (k0_t13_loop t w).trips) k (dqS qc kc vc dc kt st sm t w hw k.val))
      (fun y => iprop(⌜y = (dqS qc kc vc dc kt st sm t w hw (k.val + 1))⌝ ∗ ow c arg13 fullShare vc ∗ ow c arg16 fullShare kt ∗ ow c arg18 fullShare P ∗ ow c arg20 fullShare (dkS qc kc vc dc st sm t w hw B (k.val + 1)))) := by
  unfold k0_t15_body
  iintro ⟨H13, H16, H18, H20⟩
  have eP : pull (Rect.unit (s := S32x256x256) (k0_off29 t w k) S1x256x256.size (k0_off29_inb t w hw k)) P = (probB qc kc st sm t w hw) k := hP k
  iapply (wp_ld 𝒱₀ (c : Thread nD τ) none Set.univ _) $$ H13
  iintro H13
  iapply (wp_ld 𝒱₀ (c : Thread nD τ) none Set.univ _) $$ H18
  iintro H18
  rw [eP]
  iapply (wp_ld 𝒱₀ (c : Thread nD τ) none Set.univ _) $$ H20
  iintro H20
  iapply (wp_ld 𝒱₀ (c : Thread nD τ) none Set.univ _) $$ H20
  iintro H20
  iapply (wp_st 𝒱₀ (c : Thread nD τ) none Set.univ _) $$ H20
  iintro H20
  iapply (wp_ld 𝒱₀ (c : Thread nD τ) none Set.univ _) $$ H16
  iintro H16
  iapply (wp_done 𝒱₀ (c : Thread nD τ) none Set.univ _)
  isplitr
  · ipureintro
    unfold dqS
    rw [iter_succ]
  isplitl [H13]; · iexact H13
  isplitl [H16]; · iexact H16
  isplitl [H18]; · iexact H18
  unfold dkS
  rw [iter_succ]
  iexact H20

end Block

/-! ## All query blocks -/

section All

variable (qc kc vc : Vec F S1x8192x128 .fp8e4m3) (dc : Vec F S1x8192x128 .fp8e5m2) (kt : Vec F S32x128x256 .bf16) (st : Vec F S1x1x8192 .i32)
variable (sm dm : FVec F S1x1 .f32) (lo : Vec F S9x32 .i32) (q : PosShare TreeShare)

theorem part1 (hw : ∀ t, k0_chk1 t (word lo i t)) (arg0 : BitVec 32) (t : Fin k0_t10_loop.trips) {Q : (Σ' (arg22 : BitVec 32) (v215 : Elt F .i32) (k0_hw1 : k0_chk1 t v215) (v217 : BitVec 32) (v222 : FVec F S256x128 .fp8e4m3) (v227 : FVec F S256x128 .fp8e5m2) (v245_0 : FVec F S1x256 .f32) (v247 : FVec F S1x256 .f32) (v248 : FVec F S256x128 .f32) (c0_i32_128 : BitVec 32), BitVec 32) → sProp 𝕄} :
    (iprop(ow c arg2 q lo ∗ ow c arg7 fullShare st ∗ ow c arg11 fullShare qc ∗ ow c arg12 fullShare kc ∗ ow c arg14 fullShare dc ∗ (∃ X18, ow c arg18 fullShare X18) ∗ (∃ X19, ow c arg19 fullShare X19)) : sProp 𝕄)
      ⊢ iprop((iprop(ow c arg2 q lo ∗ ow c arg7 fullShare st ∗ ow c arg11 fullShare qc ∗ ow c arg12 fullShare kc ∗ ow c arg14 fullShare dc ∗ (∃ X, ⌜Filled (R15 t (word lo i t) (hw t)) (scoreB qc kc st sm t (word lo i t) (hw t)) (k0_t11_loop t (word lo i t)).trips X⌝ ∗ ow c arg18 fullShare X) ∗ (∃ X, ⌜Filled (R16 t (word lo i t) (hw t)) (maxB qc kc st sm t (word lo i t) (hw t)) (k0_t11_loop t (word lo i t)).trips X⌝ ∗ ow c arg19 fullShare X))
          -∗ Q ⟨Scf.iv 0#32 1#32 t.val, (word lo i t), hw t, Scalar.subi (Scalar.addi (Scf.iv 0#32 1#32 t.val) 1#32) (word lo i t), k0_pay25 (pull (R12 t) qc), k0_pay26 (pull (R12 t) dc),
            topS qc kc st sm t (word lo i t) (hw t), invS qc kc st sm t (word lo i t) (hw t), k0_pay44 (F := F), 0#32, Scalar.subi (Scalar.subi (Scalar.addi (Scf.iv 0#32 1#32 t.val) 1#32) (word lo i t)) 0#32⟩)
        -∗ wp frame (wpE (defs₀ (F := F)) 𝒱₀ (c : Thread nD τ) none) Set.univ (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 sm 0#32 1#32 t) Q) := by
  rw [k0_part1_eq_skeleton]
  unfold k0_part1_skel
  iintro ⟨H2, H7, H11, H12, H14, ⟨%X, H18⟩, %Y, H19⟩ HK
  iapply (wp_smem 𝒱₀ (c : Thread nD τ) none Set.univ _) $$ H2
  iintro H2
  iapply (wp_asm 𝒱₀ (c : Thread nD τ) none Set.univ (hw t))
  iapply (wp_ld 𝒱₀ (c : Thread nD τ) none Set.univ _) $$ H11
  iintro H11
  iapply (wp_ld 𝒱₀ (c : Thread nD τ) none Set.univ _) $$ H14
  iintro H14
  iapply (wp_ld 𝒱₀ (c : Thread nD τ) none Set.univ _) $$ H7
  iintro H7
  iapply (wp_loop 𝒱₀ (c : Thread nD τ) none Set.univ (k0_t11_loop t (word lo i t)) (k0_t11_ok t (word lo i t) (hw t)) (k0_pay29 (F := F), k0_pay30 (F := F))
    (k0_t11_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 sm 0#32 1#32 t (word lo i t) (hw t) (pull (R12 t) qc) (pull (R13 t) st)) (fun k => ((ml qc kc st sm t (word lo i t) (hw t) k).1, (ml qc kc st sm t (word lo i t) (hw t) k).2)) (fun k => iprop(ow c arg12 fullShare kc ∗ (∃ X, ⌜Filled (R15 t (word lo i t) (hw t)) (scoreB qc kc st sm t (word lo i t) (hw t)) k X⌝ ∗ ow c arg18 fullShare X) ∗ (∃ X, ⌜Filled (R16 t (word lo i t) (hw t)) (maxB qc kc st sm t (word lo i t) (hw t)) k X⌝ ∗ ow c arg19 fullShare X))) rfl
    (fun k => scoreBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 qc kc st sm arg0 t (word lo i t) (hw t) k)) $$ [H12 H18 H19]
  · isplitl [H12]; · iexact H12
    isplitl [H18]
    · iexists _
      isplitr; swap; · iexact H18
      ipureintro; exact Filled.zero _ _ _
    iexists _
    isplitr; swap; · iexact H19
    ipureintro; exact Filled.zero _ _ _
  iintro ⟨H12, ⟨%X, %hX, H18⟩, %Y, %hY, H19⟩
  iapply (wp_loop_none 𝒱₀ (c : Thread nD τ) none Set.univ (k0_t12_loop t (word lo i t)) (k0_t12_ok t (word lo i t) (hw t)) ((ml qc kc st sm t (word lo i t) (hw t) (k0_t11_loop t (word lo i t)).trips).1, (ml qc kc st sm t (word lo i t) (hw t) (k0_t11_loop t (word lo i t)).trips).2)
    (k0_t12_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 sm 0#32 1#32 t (word lo i t) (hw t) (pull (R12 t) qc) (pull (R13 t) st)) (trips12 t (word lo i t)))
  iapply (wp_done 𝒱₀ (c : Thread nD τ) none Set.univ _)
  unfold topS invS
  iapply HK
  isplitl [H2]; · iexact H2
  isplitl [H7]; · iexact H7
  isplitl [H11]; · iexact H11
  isplitl [H12]; · iexact H12
  isplitl [H14]; · iexact H14
  isplitl [H18]
  · iexists X
    isplitr; · ipureintro; exact hX
    iexact H18
  iexists Y
  isplitr; · ipureintro; exact hY
  iexact H19

theorem queryBody (hw : ∀ t, k0_chk1 t (word lo i t)) (arg0 : BitVec 32) (t : Fin k0_t10_loop.trips) :
    (iprop(ow c arg2 q lo ∗ ow c arg7 fullShare st ∗ ow c arg11 fullShare qc ∗ ow c arg12 fullShare kc ∗ ow c arg13 fullShare vc ∗ ow c arg14 fullShare dc ∗ ow c arg16 fullShare kt ∗ (∃ X, ⌜Filled R36 (fun t => dqB qc kc vc dc kt st sm dm t (word lo i t) (hw t)) t.val X⌝ ∗ ow c arg8 fullShare X) ∗ (∃ X18, ow c arg18 fullShare X18) ∗ (∃ X19, ow c arg19 fullShare X19) ∗ ow c arg20 fullShare (iter k0_t10_loop.trips (fun t A => dkS qc kc vc dc st sm t (word lo i t) (hw t) A (k0_t15_loop t (word lo i t)).trips) (k0_pay3 (F := F)) t.val) ∗ ow c arg21 fullShare (iter k0_t10_loop.trips (fun t A => dvS qc kc dc st sm t (word lo i t) (hw t) A (k0_t13_loop t (word lo i t)).trips) (k0_pay4 (F := F)) t.val)) : sProp 𝕄) ⊢ wp frame (wpE (defs₀ (F := F)) 𝒱₀ (c : Thread nD τ) none) Set.univ (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 sm dm t ⟨⟩)
      (fun y => iprop(⌜y = ⟨⟩⌝ ∗ ow c arg2 q lo ∗ ow c arg7 fullShare st ∗ ow c arg11 fullShare qc ∗ ow c arg12 fullShare kc ∗ ow c arg13 fullShare vc ∗ ow c arg14 fullShare dc ∗ ow c arg16 fullShare kt ∗ (∃ X, ⌜Filled R36 (fun t => dqB qc kc vc dc kt st sm dm t (word lo i t) (hw t)) (t.val + 1) X⌝ ∗ ow c arg8 fullShare X) ∗ (∃ X18, ow c arg18 fullShare X18) ∗ (∃ X19, ow c arg19 fullShare X19) ∗ ow c arg20 fullShare (iter k0_t10_loop.trips (fun t A => dkS qc kc vc dc st sm t (word lo i t) (hw t) A (k0_t15_loop t (word lo i t)).trips) (k0_pay3 (F := F)) (t.val + 1)) ∗ ow c arg21 fullShare (iter k0_t10_loop.trips (fun t A => dvS qc kc dc st sm t (word lo i t) (hw t) A (k0_t13_loop t (word lo i t)).trips) (k0_pay4 (F := F)) (t.val + 1)))) := by
  unfold k0_t10_body
  iintro ⟨H2, H7, H11, H12, H13, H14, H16, ⟨%X8, %hX8, H8⟩, H18, H19, H20, H21⟩
  generalize hA : (iter k0_t10_loop.trips (fun t A => dkS qc kc vc dc st sm t (word lo i t) (hw t) A (k0_t15_loop t (word lo i t)).trips) (k0_pay3 (F := F)) t.val) = AK at *
  generalize hB : (iter k0_t10_loop.trips (fun t A => dvS qc kc dc st sm t (word lo i t) (hw t) A (k0_t13_loop t (word lo i t)).trips) (k0_pay4 (F := F)) t.val) = AV at *
  rw [wp_bind]
  iapply (part1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 qc kc dc st sm lo q hw arg0 t) $$ [H2 H7 H11 H12 H14 H18 H19]
  · isplitl [H2]; · iexact H2
    isplitl [H7]; · iexact H7
    isplitl [H11]; · iexact H11
    isplitl [H12]; · iexact H12
    isplitl [H14]; · iexact H14
    isplitl [H18]; · iexact H18
    iexact H19
  iintro ⟨H2, H7, H11, H12, H14, ⟨%X, %hX, H18⟩, %Y, %hY, H19⟩
  dsimp only
  iapply (wp_loop 𝒱₀ (c : Thread nD τ) none Set.univ (k0_t13_loop t (word lo i t)) (k0_t13_ok t (word lo i t) (hw t)) (k0_pay44 (F := F))
    (k0_t13_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t (word lo i t) (hw t) (k0_pay26 (pull (R12 t) dc)) (topS qc kc st sm t (word lo i t) (hw t)) (invS qc kc st sm t (word lo i t) (hw t))) (fun k => (outS qc kc vc st sm t (word lo i t) (hw t) k)) (fun k => iprop(ow c arg13 fullShare vc ∗ ow c arg19 fullShare Y ∗ (∃ X, ⌜Passed (R15 t (word lo i t) (hw t)) (scoreB qc kc st sm t (word lo i t) (hw t)) (probB qc kc st sm t (word lo i t) (hw t)) k X⌝ ∗ ow c arg18 fullShare X) ∗ ow c arg21 fullShare (dvS qc kc dc st sm t (word lo i t) (hw t) AV k))) rfl
    (fun k => valueBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 qc kc vc dc st sm t (word lo i t) (hw t) AV Y (fun k => hY k k.isLt) k)) $$ [H13 H18 H19 H21]
  · isplitl [H13]; · iexact H13
    isplitl [H19]; · iexact H19
    isplitl [H18]
    · iexists X
      isplitr; swap; · iexact H18
      ipureintro; exact fun k => (hX k k.isLt).trans (if_neg (Nat.not_lt_zero _)).symm
    iexact H21
  iintro ⟨H13, H19, ⟨%P, %hP, H18⟩, H21⟩
  iapply (wp_loop_none 𝒱₀ (c : Thread nD τ) none Set.univ (k0_t14_loop t (word lo i t)) (k0_t14_ok t (word lo i t) (hw t)) (outS qc kc vc st sm t (word lo i t) (hw t) (k0_t13_loop t (word lo i t)).trips)
    (k0_t14_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t (word lo i t) (hw t) (k0_pay26 (pull (R12 t) dc)) (topS qc kc st sm t (word lo i t) (hw t)) (invS qc kc st sm t (word lo i t) (hw t))) (trips14 t (word lo i t)))
  iapply (wp_loop 𝒱₀ (c : Thread nD τ) none Set.univ (k0_t15_loop t (word lo i t)) (k0_t15_ok t (word lo i t) (hw t)) (k0_pay15 (F := F))
    (k0_t15_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t (word lo i t) (hw t) (k0_pay25 (pull (R12 t) qc)) (k0_pay26 (pull (R12 t) dc)) (outS qc kc vc st sm t (word lo i t) (hw t) (k0_t13_loop t (word lo i t)).trips)) (fun k => (dqS qc kc vc dc kt st sm t (word lo i t) (hw t) k)) (fun k => iprop(ow c arg13 fullShare vc ∗ ow c arg16 fullShare kt ∗ ow c arg18 fullShare P ∗ ow c arg20 fullShare (dkS qc kc vc dc st sm t (word lo i t) (hw t) AK k))) rfl
    (fun k => gradBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 qc kc vc dc kt st sm t (word lo i t) (hw t) AK P (fun k => (hP k).trans (if_pos k.isLt)) k)) $$ [H13 H16 H18 H20]
  · isplitl [H13]; · iexact H13
    isplitl [H16]; · iexact H16
    isplitl [H18]; · iexact H18
    iexact H20
  iintro ⟨H13, H16, H18, H20⟩
  iapply (wp_loop_none 𝒱₀ (c : Thread nD τ) none Set.univ (k0_t16_loop t (word lo i t)) (k0_t16_ok t (word lo i t) (hw t)) (dqS qc kc vc dc kt st sm t (word lo i t) (hw t) (k0_t15_loop t (word lo i t)).trips)
    (k0_t16_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 t (word lo i t) (hw t) (k0_pay25 (pull (R12 t) qc)) (k0_pay26 (pull (R12 t) dc)) (outS qc kc vc st sm t (word lo i t) (hw t) (k0_t13_loop t (word lo i t)).trips)) (trips16 t (word lo i t)))
  iapply (wp_ld 𝒱₀ (c : Thread nD τ) none Set.univ _) $$ H8
  iintro H8
  iapply (wp_st 𝒱₀ (c : Thread nD τ) none Set.univ _) $$ H8
  iintro H8
  iapply (wp_done 𝒱₀ (c : Thread nD τ) none Set.univ _)
  isplitr; · ipureintro; rfl
  isplitl [H2]; · iexact H2
  isplitl [H7]; · iexact H7
  isplitl [H11]; · iexact H11
  isplitl [H12]; · iexact H12
  isplitl [H13]; · iexact H13
  isplitl [H14]; · iexact H14
  isplitl [H16]; · iexact H16
  isplitl [H8]
  · iexists _
    isplitr; swap; · iexact H8
    ipureintro
    exact slabs36.filled_succ _ (fun t => dqB qc kc vc dc kt st sm dm t (word lo i t) (hw t)) t X8 hX8
  isplitl [H18]; · iexists _; iexact H18
  isplitl [H19]; · iexists _; iexact H19
  subst hA
  subst hB
  rw [iter_succ, iter_succ]
  isplitl [H20]; · iexact H20
  iexact H21

theorem scaleBody (K V : Vec F S8192x128 .f32) (v33 v115 v156 : FVec F S1x1 .f32) (cst : F .f32) (k' : Fin k0_t17_loop.trips) :
    (iprop(ow c arg20 fullShare K ∗ ow c arg21 fullShare V ∗ (∃ X, ⌜Filled R38 (fun k' => k0_pay23 v33 v115 v156 cst (pull (R37 k') K)) k'.val X⌝ ∗ ow c arg9 fullShare X) ∗ (∃ X, ⌜Filled R38 (fun k' => k0_pay24 v156 (pull (R37 k') V)) k'.val X⌝ ∗ ow c arg10 fullShare X)) : sProp 𝕄) ⊢ wp frame (wpE (defs₀ (F := F)) 𝒱₀ (c : Thread nD τ) none) Set.univ (k0_t17_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v33 v115 v156 cst k' ⟨⟩)
      (fun y => iprop(⌜y = ⟨⟩⌝ ∗ ow c arg20 fullShare K ∗ ow c arg21 fullShare V ∗ (∃ X, ⌜Filled R38 (fun k' => k0_pay23 v33 v115 v156 cst (pull (R37 k') K)) (k'.val + 1) X⌝ ∗ ow c arg9 fullShare X) ∗ (∃ X, ⌜Filled R38 (fun k' => k0_pay24 v156 (pull (R37 k') V)) (k'.val + 1) X⌝ ∗ ow c arg10 fullShare X))) := by
  unfold k0_t17_body
  iintro ⟨H20, H21, ⟨%X, %hX, H9⟩, %Y, %hY, H10⟩
  iapply (wp_ld 𝒱₀ (c : Thread nD τ) none Set.univ _) $$ H20
  iintro H20
  iapply (wp_ld 𝒱₀ (c : Thread nD τ) none Set.univ _) $$ H9
  iintro H9
  iapply (wp_st 𝒱₀ (c : Thread nD τ) none Set.univ _) $$ H9
  iintro H9
  iapply (wp_ld 𝒱₀ (c : Thread nD τ) none Set.univ _) $$ H21
  iintro H21
  iapply (wp_ld 𝒱₀ (c : Thread nD τ) none Set.univ _) $$ H10
  iintro H10
  iapply (wp_st 𝒱₀ (c : Thread nD τ) none Set.univ _) $$ H10
  iintro H10
  iapply (wp_done 𝒱₀ (c : Thread nD τ) none Set.univ _)
  isplitr; · ipureintro; rfl
  isplitl [H20]; · iexact H20
  isplitl [H21]; · iexact H21
  isplitl [H9]
  · iexists _
    isplitr; swap; · iexact H9
    ipureintro
    exact slabs38.filled_succ _ (fun k' => k0_pay23 v33 v115 v156 cst (pull (R37 k') K)) k' X hX
  iexists _
  isplitr; swap; · iexact H10
  ipureintro
  exact slabs38.filled_succ _ (fun k' => k0_pay24 v156 (pull (R37 k') V)) k' Y hY

end All

/-- The whole body at one grid point. -/
theorem bodyRun (st : Vec F S1x1x8192 .i32) (lo : Vec F S9x32 .i32) (q : PosShare TreeShare) (hw : ∀ t, k0_chk1 t (word lo i t)) (Q : PUnit → sProp 𝕄) :
    (iprop(ow c arg2 q lo ∗ ow c arg3 fullShare x ∗ ow c arg4 fullShare k ∗ ow c arg5 fullShare v ∗ ow c arg6 fullShare d ∗ ow c arg7 fullShare st ∗ (∃ X8, ow c arg8 fullShare X8) ∗ (∃ X9, ow c arg9 fullShare X9) ∗ (∃ X10, ow c arg10 fullShare X10) ∗ (∃ X11, ow c arg11 fullShare X11) ∗ (∃ X12, ow c arg12 fullShare X12) ∗ (∃ X13, ow c arg13 fullShare X13) ∗ (∃ X14, ow c arg14 fullShare X14) ∗ (∃ X15, ow c arg15 fullShare X15) ∗ (∃ X16, ow c arg16 fullShare X16) ∗ (∃ X17, ow c arg17 fullShare X17) ∗ (∃ X18, ow c arg18 fullShare X18) ∗ (∃ X19, ow c arg19 fullShare X19) ∗ (∃ X20, ow c arg20 fullShare X20) ∗ (∃ X21, ow c arg21 fullShare X21)) : sProp 𝕄)
      ⊢ iprop((iprop(ow c arg2 q lo ∗ ow c arg3 fullShare x ∗ ow c arg4 fullShare k ∗ ow c arg5 fullShare v ∗ ow c arg6 fullShare d ∗ ow c arg7 fullShare st ∗ ow c arg8 fullShare (dqOut x k v d st lo i hw) ∗ ow c arg9 fullShare (dkOut x k v d st lo i hw) ∗ ow c arg10 fullShare (dvOut x k d st lo i hw) ∗ ow c arg11 fullShare (xCode x) ∗ ow c arg12 fullShare (kCode k) ∗ ow c arg13 fullShare (vCode v) ∗ ow c arg14 fullShare (dCode d) ∗ ow c arg15 fullShare (scaleRow x k v d) ∗ (∃ X16, ow c arg16 fullShare X16) ∗ (∃ X17, ow c arg17 fullShare X17) ∗ (∃ X18, ow c arg18 fullShare X18) ∗ (∃ X19, ow c arg19 fullShare X19) ∗ (∃ X20, ow c arg20 fullShare X20) ∗ (∃ X21, ow c arg21 fullShare X21)) -∗ Q ⟨⟩) -∗ wp frame (wpE (defs₀ (F := F)) 𝒱₀ (c : Thread nD τ) none) Set.univ (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) Q) := by
  rw [cc0_attn_bwd_eq_skeleton]
  unfold cc0_attn_bwd_skel
  iintro ⟨H2, H3, H4, H5, H6, H7, ⟨%X8, H8⟩, ⟨%X9, H9⟩, ⟨%X10, H10⟩, H11, H12, H13, H14, H15, ⟨%X16, H16⟩, H17, H18, H19, ⟨%X20, H20⟩, %X21, H21⟩ HK
  rw [wp_bind]
  iapply (part2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x) $$ [H3]
  · iexact H3
  iintro H3
  dsimp only
  rw [wp_bind]
  iapply (part3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x k (k0_pay49 (xTop x))) $$ [H3 H4 H11]
  · isplitl [H3]; · iexact H3
    isplitl [H4]; · iexact H4
    iexact H11
  iintro ⟨H3, H4, H11⟩
  dsimp only
  rw [wp_bind]
  iapply (part4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k v (k0_pay55 (kTop k)) 23#32) $$ [H4 H5 H12]
  · isplitl [H4]; · iexact H4
    isplitl [H5]; · iexact H5
    iexact H12
  iintro ⟨H4, H5, H12⟩
  dsimp only
  rw [wp_bind]
  iapply (part5 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v d (k0_pay59 (vTop v))) $$ [H5 H6 H13]
  · isplitl [H5]; · iexact H5
    isplitl [H6]; · iexact H6
    iexact H13
  iintro ⟨H5, H6, H13⟩
  dsimp only
  rw [wp_bind]
  iapply (part6 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 d (xScale x) (kScale k) (vScale v) (k0_pay64 (dTop d)) (dBits d)) $$ [H6 H14 H15]
  · isplitl [H6]; · iexact H6
    isplitl [H14]; · iexact H14
    iexact H15
  iintro ⟨H6, H14, H15⟩
  dsimp only
  iapply (wp_loop 𝒱₀ (c : Thread nD τ) none Set.univ k0_t9_loop k0_t9_ok PUnit.unit (k0_t9_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) (fun _ => ⟨⟩)
    (fun k' => iprop(ow c arg12 fullShare (kCode k) ∗ ow c arg13 fullShare (vCode v) ∗ (∃ X, ⌜Filled R10 (fun k' => k0_pay1 (pull (R9 k') (kCode k))) k' X⌝ ∗ ow c arg16 fullShare X) ∗ (∃ X17, ow c arg17 fullShare X17))) rfl
    (fun k' => flipBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (kCode k) (vCode v) k')) $$ [H12 H13 H16 H17]
  · isplitl [H12]; · iexact H12
    isplitl [H13]; · iexact H13
    isplitl [H16]
    · iexists _
      isplitr; swap; · iexact H16
      ipureintro; exact Filled.zero _ _ _
    iexact H17
  iintro ⟨H12, H13, ⟨%X, %hX, H16⟩, H17⟩
  obtain rfl : X = kFlip k := eq_glue _ cover10 _ _ fun k' => hX k' k'.isLt
  iapply (wp_ld 𝒱₀ (c : Thread nD τ) none Set.univ _) $$ H20
  iintro H20
  iapply (wp_st 𝒱₀ (c : Thread nD τ) none Set.univ _) $$ H20
  iintro H20
  rw [overlay_all _ _ (by decide)]
  iapply (wp_ld 𝒱₀ (c : Thread nD τ) none Set.univ _) $$ H21
  iintro H21
  iapply (wp_st 𝒱₀ (c : Thread nD τ) none Set.univ _) $$ H21
  iintro H21
  rw [overlay_all _ _ (by decide)]
  iapply (wp_loop 𝒱₀ (c : Thread nD τ) none Set.univ k0_t10_loop k0_t10_ok PUnit.unit (k0_t10_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (BitVec.ofNat 32 (i 0).val) (scoreMul x k) (dqMul k v d)) (fun _ => ⟨⟩)
    (fun k' => iprop(ow c arg2 q lo ∗ ow c arg7 fullShare st ∗ ow c arg11 fullShare (xCode x) ∗ ow c arg12 fullShare (kCode k) ∗ ow c arg13 fullShare (vCode v) ∗ ow c arg14 fullShare (dCode d) ∗ ow c arg16 fullShare (kFlip k) ∗ (∃ X, ⌜Filled R36 (fun t => dqB (xCode x) (kCode k) (vCode v) (dCode d) (kFlip k) st (scoreMul x k) (dqMul k v d) t (word lo i t) (hw t)) k' X⌝ ∗ ow c arg8 fullShare X) ∗ (∃ X18, ow c arg18 fullShare X18) ∗ (∃ X19, ow c arg19 fullShare X19) ∗ ow c arg20 fullShare (iter k0_t10_loop.trips (fun t A => dkS (xCode x) (kCode k) (vCode v) (dCode d) st (scoreMul x k) t (word lo i t) (hw t) A (k0_t15_loop t (word lo i t)).trips) (k0_pay3 (F := F)) k') ∗ ow c arg21 fullShare (iter k0_t10_loop.trips (fun t A => dvS (xCode x) (kCode k) (dCode d) st (scoreMul x k) t (word lo i t) (hw t) A (k0_t13_loop t (word lo i t)).trips) (k0_pay4 (F := F)) k'))) rfl
    (fun k' => queryBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (xCode x) (kCode k) (vCode v) (dCode d) (kFlip k) st (scoreMul x k) (dqMul k v d) lo q hw (BitVec.ofNat 32 (i 0).val) k')) $$ [H2 H7 H11 H12 H13 H14 H16 H8 H18 H19 H20 H21]
  · isplitl [H2]; · iexact H2
    isplitl [H7]; · iexact H7
    isplitl [H11]; · iexact H11
    isplitl [H12]; · iexact H12
    isplitl [H13]; · iexact H13
    isplitl [H14]; · iexact H14
    isplitl [H16]; · iexact H16
    isplitl [H8]
    · iexists _
      isplitr; swap; · iexact H8
      ipureintro; exact Filled.zero _ _ _
    isplitl [H18]; · iexact H18
    isplitl [H19]; · iexact H19
    isplitl [H20]; · iexact H20
    iexact H21
  iintro ⟨H2, H7, H11, H12, H13, H14, H16, ⟨%X8, %hX8, H8⟩, H18, H19, H20, H21⟩
  obtain rfl : X8 = dqOut x k v d st lo i hw := eq_glue _ cover36 _ _ fun k' => hX8 k' k'.isLt
  iapply (wp_loop 𝒱₀ (c : Thread nD τ) none Set.univ k0_t17_loop k0_t17_ok PUnit.unit (k0_t17_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (xScale x) (vScale v) (dScale d) (Scalar.ofBits .f32 0x3DB504F3#32)) (fun _ => ⟨⟩)
    (fun k' => iprop(ow c arg20 fullShare (dkA x k v d st lo i hw k0_t10_loop.trips) ∗ ow c arg21 fullShare (dvA x k d st lo i hw k0_t10_loop.trips) ∗ (∃ X, ⌜Filled R38 (fun k' => k0_pay23 (xScale x) (vScale v) (dScale d) (Scalar.ofBits .f32 0x3DB504F3#32) (pull (R37 k') (dkA x k v d st lo i hw k0_t10_loop.trips))) k' X⌝ ∗ ow c arg9 fullShare X) ∗ (∃ X, ⌜Filled R38 (fun k' => k0_pay24 (dScale d) (pull (R37 k') (dvA x k d st lo i hw k0_t10_loop.trips))) k' X⌝ ∗ ow c arg10 fullShare X))) rfl
    (fun k' => scaleBody c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 (dkA x k v d st lo i hw k0_t10_loop.trips) (dvA x k d st lo i hw k0_t10_loop.trips) (xScale x) (vScale v) (dScale d) (Scalar.ofBits .f32 0x3DB504F3#32) k')) $$ [H20 H21 H9 H10]
  · isplitl [H20]; · iexact H20
    isplitl [H21]; · iexact H21
    isplitl [H9]
    · iexists _
      isplitr; swap; · iexact H9
      ipureintro; exact Filled.zero _ _ _
    iexists _
    isplitr; swap; · iexact H10
    ipureintro; exact Filled.zero _ _ _
  iintro ⟨H20, H21, ⟨%X9, %hX9, H9⟩, %X10, %hX10, H10⟩
  obtain rfl : X9 = dkOut x k v d st lo i hw := eq_glue _ cover38 _ _ fun k' => hX9 k' k'.isLt
  obtain rfl : X10 = dvOut x k d st lo i hw := eq_glue _ cover38 _ _ fun k' => hX10 k' k'.isLt
  iapply (wp_done 𝒱₀ (c : Thread nD τ) none Set.univ _)
  iapply HK
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexact H17
  isplitl [H18]; · iexact H18
  isplitl [H19]; · iexact H19
  isplitl [H20]; · iexists _; iexact H20
  iexists _; iexact H21

end Body

end Cert.Proof.KernelIdeal

end
-- ==== Proof.ChkIdeal.lean ====
/-
  What the kernel's loop bounds and access offsets come to: the inner loops of query block `t` whose lowest key block is `w ≤ t` run
  `t + 1 - w` trips, their remainders none, and every access is in bounds.
-/
module

public import proofs.«01_k».proof.KernelIdeal
public import proofs.«01_k».proof.Proof.Owns

@[expose] public section

noncomputable section

namespace Cert.Proof.KernelIdeal

open Cert.KernelIdeal
open Idealize.ShloMosaic Idealize.ShloMosaic.TcCoe

set_option maxRecDepth 100000 in
theorem chk_of_le : ∀ (t : Fin k0_t10_loop.trips) (w : Fin 32), w.val ≤ t.val → k0_chk1 t (BitVec.ofNat 32 w.val) := by
  decide +kernel

end Cert.Proof.KernelIdeal

end
-- ==== Proof.HostIdeal.lean ====
/-
  What the host computes before the kernel: the document starts, and for each query block the lowest key block it must visit. So every
  word the kernel reads from the table is a block number at most the query block's.
-/
module

public import proofs.«01_k».proof.Proof.FactsIdeal
public import proofs.«01_k».proof.Proof.ChkIdeal
public import proofs.«01_k».proof.Proof.ModelIdeal
public import proofs.«01_k».proof.Proof.Gen.KernelIdeal.Launch
public import proofs.«01_k».proof.Proof.Starts
public import Idealize.ShloMosaic.Lib.Pipeline.Frame

@[expose] public section

set_option maxRecDepth 20000

noncomputable section

namespace Cert.Proof.KernelIdeal

open Cert.KernelIdeal Cert.KernelIdeal.Gen
open Idealize.ShloMosaic Idealize.ShloMosaic.TcCoe
open ValueIdx

variable {F : FTy → Type} [FloatOps F]

/-- The host's operations before the kernel, stretch by stretch. -/
abbrev hostAll : List (List (HloOp τ sig (Elt F))) := [hostOps0, hostOps0_1, hostOps0_2, hostOps0_3, hostOps0_4, hostOps0_5]

section Stages

variable (W : Valuation τ sig (Elt F))

theorem at1_v6 : StableHlo.after (hostOps0 (F := F)) W (Proc.devRef .tc main_v6) = Starts.edge (W (Proc.devRef .tc main_arg4)) := by
  after_results_simp
  refine congrArg₂ (fun a b => concatenate S9x8192 1 [⟨S9x1, a⟩, ⟨S9x8191, b⟩] concatenates_S9x1_S9x8191_S9x8192_d1) ?_ ?_ <;> after_results_simp
theorem at1_v1 : StableHlo.after (hostOps0 (F := F)) W (Proc.devRef .tc main_v1) = broadcastInDim S1x8192 ![1] bcast_S8192_S1x8192_1 (iotaInDim S8192 32 0) := by
  after_results_simp
theorem at1_c0 : StableHlo.after (hostOps0 (F := F)) W (Proc.devRef .tc main_c_0) = constantI S_ 32 0#32 := by
  after_results_simp
theorem at2_v7 : StableHlo.after (hostOps0_1 (F := F)) W (Proc.devRef .tc main_v7) = select (W (Proc.devRef .tc main_v6))
    (broadcastInDim S9x8192 ![0, 1] bcast_S1x8192_S9x8192_0_1 (W (Proc.devRef .tc main_v1))) (broadcastInDim S9x8192 ![] bcast_S_S9x8192 (W (Proc.devRef .tc main_c_0))) := by
  after_results_simp; simp only [StableHlo.TRef.ofBuf_toBuf]; rfl
theorem at3_v8 : StableHlo.after (hostOps0_2 (F := F)) W (Proc.devRef .tc main_v8) =
    Host.reduceWindow IntOp.maxsi ![1, 8192] ![1, 1] ![0, 8191] ![0, 0] (W (Proc.devRef .tc main_v7)) (broadcastInDim S_ ![] bcast_S_S_ (constantI S_ 32 2147483648#32))
      reduceWindows_S9x8192_S9x8192_w1s1p0_0_w8192s1p8191_0 h_S_ := by
  after_results_simp; simp only [StableHlo.TRef.ofBuf_toBuf, StableHlo.TRef.toBuf, StableHlo.TRef.ofBuf, cast_eq]
theorem at4_v9 : StableHlo.after (hostOps0_3 (F := F)) W (Proc.devRef .tc main_v9) = Host.slice S9x32 ![0, 0] ![1, 256] (W (Proc.devRef .tc main_v8)) slicesBy_S9x8192_S9x32_0s1_0s256 := by
  after_results_simp
theorem at4_v8 : StableHlo.after (hostOps0_3 (F := F)) W (Proc.devRef .tc main_v8) = W (Proc.devRef .tc main_v8) := by
  after_results_simp
theorem at4_c1 : StableHlo.after (hostOps0_3 (F := F)) W (Proc.devRef .tc main_c_1) = constantI S_ 32 256#32 := by
  after_results_simp
theorem at5_v8 : StableHlo.after (hostOps0_4 (F := F)) W (Proc.devRef .tc main_v8) = W (Proc.devRef .tc main_v8) := by
  after_results_simp
theorem at5_v10 (hc : W (Proc.devRef .tc main_c_1) = constantI S_ 32 256#32) : StableHlo.after (hostOps0_4 (F := F)) W (Proc.devRef .tc main_v10) = Starts.floorDiv (W (Proc.devRef .tc main_v9)) := by
  after_results_simp; simp only [StableHlo.TRef.ofBuf_toBuf, hc]; rfl
theorem at6_v8 : StableHlo.after (hostOps0_5 (F := F)) W (Proc.devRef .tc main_v8) = W (Proc.devRef .tc main_v8) := by
  after_results_simp
theorem at6_v10 : StableHlo.after (hostOps0_5 (F := F)) W (Proc.devRef .tc main_v10) = W (Proc.devRef .tc main_v10) := by
  after_results_simp
theorem at6_v11 : StableHlo.after (hostOps0_5 (F := F)) W (Proc.devRef .tc main_v11) = shapeCast S9x1x8192 (W (Proc.devRef .tc main_v8)) shapeCasts_S9x8192_S9x1x8192 := by
  after_results_simp; rfl

end Stages

variable (m : (ℓ : Loc nD τ sig) → Buf (Elt F) ℓ) (c : Dev nD)

/-- The buffers when the kernel starts. -/
def V₀ : Valuation τ sig (Elt F) := StableHlo.after (hostAll (F := F)).flatten fun b => m (c, b)

/-- The document identifiers the program was given. -/
abbrev segs : IVec Starts.S9x8192 32 := m (c, Proc.devRef .tc main_arg4)

/-- Reading a buffer after all stretches, stretch by stretch. -/
theorem V₀_eq : V₀ m c = StableHlo.after hostOps0_5 (StableHlo.after hostOps0_4 (StableHlo.after hostOps0_3 (StableHlo.after hostOps0_2
    (StableHlo.after hostOps0_1 (StableHlo.after hostOps0 fun b => m (c, b)))))) := by
  unfold V₀
  rw [List.flatten_cons, List.flatten_cons, List.flatten_cons, List.flatten_cons, List.flatten_cons, List.flatten_cons, List.flatten_nil, List.append_nil]
  rw [StableHlo.after_append, StableHlo.after_append, StableHlo.after_append, StableHlo.after_append, StableHlo.after_append]

theorem V_v7 : StableHlo.after hostOps0_1 (StableHlo.after (hostOps0 (F := F)) fun b => m (c, b)) (Proc.devRef .tc main_v7) = Starts.marks (segs m c) := by
  rw [at2_v7, at1_v6, at1_v1, at1_c0]; rfl
theorem V_starts : StableHlo.after hostOps0_2 (StableHlo.after hostOps0_1 (StableHlo.after (hostOps0 (F := F)) fun b => m (c, b))) (Proc.devRef .tc main_v8) = Starts.starts (segs m c) := by
  rw [at3_v8, V_v7]; rfl
theorem V_v11 : V₀ m c (Proc.devRef .tc main_v11) = shapeCast S9x1x8192 (Starts.starts (segs m c)) shapeCasts_S9x8192_S9x1x8192 := by
  rw [V₀_eq, at6_v11, at5_v8, at4_v8, V_starts]
theorem V_v10 : V₀ m c (Proc.devRef .tc main_v10) = Starts.table (segs m c) := by
  rw [V₀_eq, at6_v10, at5_v10 _ (at4_c1 _), at4_v9, V_starts]; rfl
theorem V_arg0 : V₀ m c (Proc.devRef .tc main_arg0) = m (c, Proc.devRef .tc main_arg0) := by rw [V₀_eq]; after_results_simp
theorem V_arg1 : V₀ m c (Proc.devRef .tc main_arg1) = m (c, Proc.devRef .tc main_arg1) := by rw [V₀_eq]; after_results_simp
theorem V_arg2 : V₀ m c (Proc.devRef .tc main_arg2) = m (c, Proc.devRef .tc main_arg2) := by rw [V₀_eq]; after_results_simp
theorem V_arg3 : V₀ m c (Proc.devRef .tc main_arg3) = m (c, Proc.devRef .tc main_arg3) := by rw [V₀_eq]; after_results_simp
theorem V_arg4 : V₀ m c (Proc.devRef .tc main_arg4) = m (c, Proc.devRef .tc main_arg4) := by rw [V₀_eq]; after_results_simp

/-- The word of query block `t`: row `i 0`, column `t` of the table. -/
theorem word_eq (lo : Vec F S9x32 .i32) (i : grid0.Coords) (t : Fin k0_t10_loop.trips) :
    word lo i t = lo (ix2 (i 0) (⟨t.val, by have : k0_t10_loop.trips = 32 := by decide +kernel
                                            omega⟩ : Fin 32)) := by
  have h : ∀ (i0 : Fin 9) (t : Fin k0_t10_loop.trips), (BitVec.ofNat 32 i0.val).toNat = i0.val ∧ (Scf.iv 0#32 1#32 t).toNat = t.val := by decide +kernel
  refine congrArg lo (funext fun a => Fin.ext ?_)
  match a with
  | ⟨0, _⟩ => exact (h (i 0) t).1
  | ⟨1, _⟩ => exact (h (i 0) t).2

/-- Every word of the table the host built is within its query block. -/
theorem word_ok (i : grid0.Coords) (t : Fin k0_t10_loop.trips) : k0_chk1 t (word (F := F) (Starts.table (segs m c)) i t) := by
  have ht : t.val < 32 := by have := t.isLt; have h : k0_t10_loop.trips = 32 := by decide +kernel
                             omega
  obtain ⟨k, hk, -, -, e⟩ := Starts.table_apply (segs m c) (i 0) ⟨t.val, ht⟩
  rw [word_eq, e]
  have hk' : k.val / 256 ≤ t.val := by simp only at hk; omega
  exact chk_of_le t ⟨k.val / 256, by omega⟩ hk'

end Cert.Proof.KernelIdeal

end
-- ==== Proof.LaunchIdeal.lean ====
/-
  The whole program's run: the host's operations, then the kernel over its grid of 9 by 8 points. At every point the kernel leaves
  in its output blocks the functions of the point's input blocks that Model defines; so after the run every output array holds those
  blocks, the arguments are as they were, and every counter is at zero.
-/
module

public import proofs.«01_k».proof.Proof.RunIdeal
public import proofs.«01_k».proof.Proof.HostIdeal
public import Idealize.ShloMosaic.Lib.Pipeline.FrameSuffix
public import Idealize.ShloMosaic.Lib.Pipeline.FrameBody

@[expose] public section

set_option maxRecDepth 20000

noncomputable section

namespace Cert.Proof.KernelIdeal

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ UU ℕ

variable (m : (ℓ : Loc nD τ sig) → Buf (Elt F) ℓ)

/-- The one core. -/
abbrev core : Dev nD := 0

/-- The table the kernel is launched with: the host's. -/
abbrev adm : (p : Fin 1) → (pcfgs (F := F) p).Adm := fun _ => ⟨fun k => V₀ m core (Proc.devRef .tc (pre0.ref k)), trivial⟩

abbrev pcf : Cfg sig Λ₀ := cfg0 (F := F) (adm m 0)

variable (c : Dev nD)

/-- The input blocks of grid point `t`. -/
def xB (t : Fin (pcf m).N) : Vec F S1x8192x128 .bf16 := (((pcf m).win 0).blk t).view.read (Elt F) (V₀ m c (Proc.devRef .tc main_arg0))
def kB (t : Fin (pcf m).N) : Vec F S1x8192x128 .bf16 := (((pcf m).win 1).blk t).view.read (Elt F) (V₀ m c (Proc.devRef .tc main_arg1))
def vB (t : Fin (pcf m).N) : Vec F S1x8192x128 .bf16 := (((pcf m).win 2).blk t).view.read (Elt F) (V₀ m c (Proc.devRef .tc main_arg2))
def dB (t : Fin (pcf m).N) : Vec F S1x8192x128 .bf16 := (((pcf m).win 3).blk t).view.read (Elt F) (V₀ m c (Proc.devRef .tc main_arg3))
def sB (t : Fin (pcf m).N) : Vec F S1x1x8192 .i32 := (((pcf m).win 4).blk t).view.read (Elt F) (V₀ m c (Proc.devRef .tc main_v11))

/-- The grid coordinates of a point. -/
abbrev pt (t : Fin (pcf m).N) : grid0.Coords := grid0.coords t

/-- The pipeline's data on a core: arrays as the host left them; after a point, inputs as staged and outputs at their functions. -/
def dats (_ : Fin 1) (c : Dev nD) : Dat τ (Elt F) Unit ℕ UU ℕ (pcf m) c where
  A w := V₀ m c (Proc.devRef .tc (Pipeline.arrRef spec0 w))
  after w t := match w with
    | ⟨0, _⟩ => xB m c t
    | ⟨1, _⟩ => kB m c t
    | ⟨2, _⟩ => vB m c t
    | ⟨3, _⟩ => dB m c t
    | ⟨4, _⟩ => sB m c t
    | ⟨5, _⟩ => dqOut (xB m c t) (kB m c t) (vB m c t) (dB m c t) (sB m c t) (Starts.table (segs m c)) (pt m t) (word_ok m c (pt m t))
    | ⟨6, _⟩ => dkOut (xB m c t) (kB m c t) (vB m c t) (dB m c t) (sB m c t) (Starts.table (segs m c)) (pt m t) (word_ok m c (pt m t))
    | ⟨7, _⟩ => dvOut (xB m c t) (kB m c t) (dB m c t) (sB m c t) (Starts.table (segs m c)) (pt m t) (word_ok m c (pt m t))
    | ⟨8, _⟩ => xCode (xB m c t)
    | ⟨9, _⟩ => kCode (kB m c t)
    | ⟨10, _⟩ => vCode (vB m c t)
    | ⟨11, _⟩ => dCode (dB m c t)
    | ⟨12, _⟩ => scaleRow (xB m c t) (kB m c t) (vB m c t) (dB m c t)
  Φ _ := iprop(Pipeline.ΦA spec0 c ∗ Pipeline.ΦT pre0 (adm m 0).1 c)
  q _ := fullShare
  owed _ := 0

section Before
variable (t : Fin (pcf m).N)

theorem before0 (d) : (dats m 0 c).before 0 t d = xB m c t :=
  (dats m 0 c).before_in_eq_fetched 0 rfl (fun _ => rfl) (fun _ _ _ => rfl) (fun _ => by dsimp only [dats]; rfl) t d
theorem before1 (d) : (dats m 0 c).before 1 t d = kB m c t :=
  (dats m 0 c).before_in_eq_fetched 1 rfl (fun _ => rfl) (fun _ _ _ => rfl) (fun _ => by dsimp only [dats]; rfl) t d
theorem before2 (d) : (dats m 0 c).before 2 t d = vB m c t :=
  (dats m 0 c).before_in_eq_fetched 2 rfl (fun _ => rfl) (fun _ _ _ => rfl) (fun _ => by dsimp only [dats]; rfl) t d
theorem before3 (d) : (dats m 0 c).before 3 t d = dB m c t :=
  (dats m 0 c).before_in_eq_fetched 3 rfl (fun _ => rfl) (fun _ _ _ => rfl) (fun _ => by dsimp only [dats]; rfl) t d
theorem after4 (t : Fin (pcf m).N) : (dats m 0 c).after 4 t = sB m c t := by
  show (dats m 0 c).after (⟨4, by decide⟩ : Fin 13) t = _
  dsimp only [dats]
theorem before4 (d) : (dats m 0 c).before 4 t d = sB m c t := by
  have h1 : ∀ t, ((pcf m).win 4).cut ((pcf m).grid.coords t) ((dats m 0 c).after 4 t) = (dats m 0 c).blockOf 4 t := fun t => by
    dsimp only [dats]
    unfold sB Dat.blockOf
    dsimp only
    rfl
  rw [(dats m 0 c).before_in_eq_fetched 4 rfl (fun _ => rfl) (fun _ _ _ => rfl) h1 t d]
  unfold Dat.fetched
  rw [← h1 t, Pipeline.fill_of_clip_none 4 _ (fun _ => rfl) d ((dats m 0 c).after 4 t), Window.fill_cut]
  exact after4 m c t

end Before

/-- The scratch rest and the table, as the kernel's run takes them. -/
abbrev Φ : sProp 𝕄 := iprop(Pipeline.ΦA spec0 c ∗ Pipeline.ΦT pre0 (adm m 0).1 c)

theorem table_core (k : Fin pre0.K) : (adm m 0).1 k = V₀ m c (Proc.devRef .tc (pre0.ref k)) := by
  rw [show c = core from Subsingleton.elim _ _]

theorem ΦT_eq : (Pipeline.ΦT pre0 (adm m 0).1 c : sProp 𝕄)
    = ((c : Thread nD τ).loc main_v10) ↦{fullShare.right} (Starts.table (segs m c) : Buf (Elt F) ((c : Thread nD τ).loc main_v10)) := by
  unfold Pipeline.ΦT Pipeline.prefHeld
  rw [show (Finset.univ : Finset (Fin pre0.K)) = {(0 : Fin 1)} from rfl, bigSep_singleton, table_core m c 0]
  exact congrArg (fun X => (((c : Thread nD τ).loc main_v10) ↦{fullShare.right} X : sProp 𝕄)) (V_v10 m c)

theorem own_intro (b : Ref sig .tc) (q : PosShare TreeShare) (f : Buf (Elt F) ((c : Thread nD τ).loc b)) :
    (((c : Thread nD τ).loc b) ↦{q} f : sProp 𝕄) ⊢ owns (c : Thread nD τ) (Memref.whole b) q f := by
  rw [owns_whole_eq]
  iintro H
  iexists f
  isplitr
  · ipureintro; rfl
  iexact H

theorem own_elim (b : Ref sig .tc) (q : PosShare TreeShare) (f : Buf (Elt F) ((c : Thread nD τ).loc b)) :
    (owns (c : Thread nD τ) (Memref.whole b) q f : sProp 𝕄) ⊢ ((c : Thread nD τ).loc b) ↦{q} f := by
  rw [owns_whole_eq]
  iintro ⟨%f', %h, H⟩
  subst h
  iexact H

set_option maxHeartbeats 4000000 in
set_option backward.isDefEq.respectTransparency.types false in
/-- At every grid point the kernel's body does what the data say. -/
theorem body_obligation : BodyObligation (dats m 0 c) (defs₀ (F := F)) 𝒱₀ () Set.univ := fun t => by
  rw [bigSep_W0, bigSep_W0]
  simp only [before0, before1, before2, before3, before4]
  rw [show (dats m 0 c).Φ t.castSucc = Φ m c from rfl, show (dats m 0 c).Φ t.succ = Φ m c from rfl]
  unfold Φ Pipeline.ΦA Dat.owesAt Pipeline.owesWithin
  rw [ΦT_eq, scopedRest0_eq]
  rw [show (dats m 0 c).owed t.castSucc = 0 from rfl, show (dats m 0 c).owed t.succ = 0 from rfl]
  iintro ⟨⟨⟨⟨⟨%f0, S0⟩, ⟨%f1, S1⟩, ⟨%f2, S2⟩, ⟨%f3, S3⟩, ⟨%f4, S4⟩, ⟨%f5, S5⟩⟩, Hp⟩, Ht⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave T0 := (own_intro c cc0_scratch0 fullShare f0) $$ S0
  ihave T1 := (own_intro c cc0_scratch1 fullShare f1) $$ S1
  ihave T2 := (own_intro c cc0_scratch2 fullShare f2) $$ S2
  ihave T3 := (own_intro c cc0_scratch3 fullShare f3) $$ S3
  ihave T4 := (own_intro c cc0_scratch4 fullShare f4) $$ S4
  ihave T5 := (own_intro c cc0_scratch5 fullShare f5) $$ S5
  ihave T6 := (own_intro c main_v10 fullShare.right (Starts.table (segs m c))) $$ Ht
  iapply (bodyRun c (pt m t) (Memref.whole main_v10) (Memref.isWhole_whole _) (spec0_0.stage ((pcf m).slots t 0)) (hstage0_0 (((pcf m).slots t 0).cast nbuf0_0)) (spec0_1.stage ((pcf m).slots t 1)) (hstage0_1 (((pcf m).slots t 1).cast nbuf0_1)) (spec0_2.stage ((pcf m).slots t 2)) (hstage0_2 (((pcf m).slots t 2).cast nbuf0_2)) (spec0_3.stage ((pcf m).slots t 3)) (hstage0_3 (((pcf m).slots t 3).cast nbuf0_3)) (spec0_4.stage ((pcf m).slots t 4)) (hstage0_4 (((pcf m).slots t 4).cast nbuf0_4)) (spec0_5.stage ((pcf m).slots t 5)) (hstage0_5 (((pcf m).slots t 5).cast nbuf0_5)) (spec0_6.stage ((pcf m).slots t 6)) (hstage0_6 (((pcf m).slots t 6).cast nbuf0_6)) (spec0_7.stage ((pcf m).slots t 7)) (hstage0_7 (((pcf m).slots t 7).cast nbuf0_7)) (spec0_8.stage ((pcf m).slots t 8)) (hstage0_8 (((pcf m).slots t 8).cast nbuf0_8)) (spec0_9.stage ((pcf m).slots t 9)) (hstage0_9 (((pcf m).slots t 9).cast nbuf0_9)) (spec0_10.stage ((pcf m).slots t 10)) (hstage0_10 (((pcf m).slots t 10).cast nbuf0_10)) (spec0_11.stage ((pcf m).slots t 11)) (hstage0_11 (((pcf m).slots t 11).cast nbuf0_11)) (spec0_12.stage ((pcf m).slots t 12)) (hstage0_12 (((pcf m).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (xB m c t) (kB m c t) (vB m c t) (dB m c t) (sB m c t) (Starts.table (segs m c)) fullShare.right (word_ok m c (pt m t)) _) $$ [H0 H1 H2 H3 H4 H5 H6 H7 H8 H9 H10 H11 H12 T0 T1 T2 T3 T4 T5 T6]
  · isplitl [T6]; · iexact T6
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [T0]; · iexists _; iexact T0
    isplitl [T1]; · iexists _; iexact T1
    isplitl [T2]; · iexists _; iexact T2
    isplitl [T3]; · iexists _; iexact T3
    isplitl [T4]; · iexists _; iexact T4
    iexists _; iexact T5
  iintro ⟨T6, H0, H1, H2, H3, H4, H5, H6, H7, H8, H9, H10, H11, H12, ⟨%g0, T0⟩, ⟨%g1, T1⟩, ⟨%g2, T2⟩, ⟨%g3, T3⟩, ⟨%g4, T4⟩, ⟨%g5, T5⟩⟩
  ihave S0 := (own_elim c cc0_scratch0 fullShare g0) $$ T0
  ihave S1 := (own_elim c cc0_scratch1 fullShare g1) $$ T1
  ihave S2 := (own_elim c cc0_scratch2 fullShare g2) $$ T2
  ihave S3 := (own_elim c cc0_scratch3 fullShare g3) $$ T3
  ihave S4 := (own_elim c cc0_scratch4 fullShare g4) $$ T4
  ihave S5 := (own_elim c cc0_scratch5 fullShare g5) $$ T5
  ihave Ht := (own_elim c main_v10 fullShare.right (Starts.table (segs m c))) $$ T6
  isplitl [S0 S1 S2 S3 S4 S5 Hp Ht]
  · isplitr [Ht]; swap; · iexact Ht
    isplitr [Hp]; swap; · iexact Hp
    isplitl [S0]; · iexists _; iexact S0
    isplitl [S1]; · iexists _; iexact S1
    isplitl [S2]; · iexists _; iexact S2
    isplitl [S3]; · iexists _; iexact S3
    isplitl [S4]; · iexists _; iexact S4
    iexists _; iexact S5
  isplitl [HO]
  · iexists W; isplitr; · ipureintro; exact hW
    iexact HO
  isplitl [H0]; · iexact H0
  isplitl [H1]; · iexact H1
  isplitl [H2]; · iexact H2
  isplitl [H3]; · iexact H3
  isplitl [H4]; · (rw [show (dats m 0 c).after 4 t = sB m c t from after4 m c t]; iexact H4)
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- What is known after the whole run: every output array holds its blocks, the arguments are as they were. -/
def Post (m : (ℓ : Loc nD τ sig) → Buf (Elt F) ℓ) (r : PUnit × MemSt nD τ sig (Elt F)) : Prop :=
  (∀ c : Dev nD, (∀ w, r.2.mem ((spec0 w).arr.view.loc (c : Thread nD τ)) = (dats m 0 c).arrAt w (pcf m).N)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4))
  ∧ r.2.sem = fun _ => 0

theorem hmain : Pipeline.HMainPK (Ix := Unit) (Name := ℕ) (U := UU) (Lvl := ℕ) (pcfgs (F := F)) 0 (defs₀ (F := F)) 𝒱₀ m (main (F := F))
    (fun c b => V₀ m c (Proc.devRef .tc b)) (fun _ => Pipeline.chain (([] : List (List (HloOp τ sig (Elt F)))).map StableHlo.seq)) :=
  Pipeline.hmainP_around (pcfgs (F := F)) 0 (defs₀ (F := F)) 𝒱₀ m (main (F := F)) hostAll []
    ⟨hostOps0_sub, hostOps0_1_sub, hostOps0_2_sub, hostOps0_3_sub, hostOps0_4_sub, hostOps0_5_sub⟩
    ⟨StableHlo.forall_fresh_of_map rfl, StableHlo.forall_fresh_of_map rfl, StableHlo.forall_fresh_of_map rfl, StableHlo.forall_fresh_of_map rfl, StableHlo.forall_fresh_of_map rfl, StableHlo.forall_fresh_of_map rfl⟩
    main_chain

theorem arg4_no_array : ∀ w : Fin 13, Pipeline.arrRef spec0 w ≠ main_arg4 := by decide

theorem tail_arg4 : Pipeline.afterTail (pcfgs (F := F)) (adm m) (dats m) 0 (V₀ m) [] c main_arg4 = V₀ m c (Proc.devRef .tc main_arg4) := by
  unfold Pipeline.afterTail
  rw [List.flatten_nil, StableHlo.after_nil]
  exact Pipeline.withArrays_of_ne _ c _ _ main_arg4 arg4_no_array

/-- The run of the whole program. -/
theorem run (g : Dev nD → PrngReg) :
    θ_run (defs (F := F)) (onTc (τ := τ) (main (F := F))) ⟨m, fun _ => 0, g⟩ (Post m) := by
  refine Pipeline.θ_run_frameP_around_track (pcfgs (F := F)) (adm m) (dats m) 0 launch0 (defs₀ (F := F)) 𝒱₀ m g (main (F := F))
    (fun c => (body_obligation m c).loose) (fun c => (dats m 0 c).share_full fun _ => rfl) (fun _ _ => rfl) (V₀ m) []
    (fun _ h => absurd h List.not_mem_nil) (fun _ h => absurd h List.not_mem_nil) (fun _ h => absurd h List.not_mem_nil)
    (hmain m) (fun c w => by dsimp only [dats]) (fun c k => (table_core m c k).symm) (fun c => .rfl) (fun c => sep_elim_left) (Post m) ?_
  rintro r ⟨h, hs⟩
  refine ⟨fun c => ⟨(h c).1, ?_, ?_, ?_, ?_, ?_⟩, hs⟩
  · exact ((h c).1 0).trans (((dats m 0 c).arrAt_in 0 rfl _).trans (V_arg0 m c))
  · exact ((h c).1 1).trans (((dats m 0 c).arrAt_in 1 rfl _).trans (V_arg1 m c))
  · exact ((h c).1 2).trans (((dats m 0 c).arrAt_in 2 rfl _).trans (V_arg2 m c))
  · exact ((h c).1 3).trans (((dats m 0 c).arrAt_in 3 rfl _).trans (V_arg3 m c))
  · refine ((h c).2 main_arg4 (show main_arg4 ∈ Pipeline.restRefs sig spec0 by decide)).trans (Eq.trans ?_ (V_arg4 m c))
    exact tail_arg4 m c

end Cert.Proof.KernelIdeal

end
-- ==== Proof.PaysIdeal.lean ====
/-
  The kernel's vector computations over the extended reals, entry by entry.
-/
module

public import proofs.«01_k».proof.Proof.ModelIdeal
public import Idealize.ShloMosaic.Lib.Pointwise
public import Idealize.ShloMosaic.Lib.ValueIdx

@[expose] public section

set_option maxRecDepth 16384

noncomputable section

namespace Cert.Proof.KernelIdeal

open Cert.KernelIdeal Cert.KernelIdeal.Gen
open Idealize.ShloMosaic Idealize.ShloMosaic.TcCoe

/-! ## Quantising: the four inputs are treated alike -/

theorem pay51_eq : @k0_pay51 Ideal _ = @k0_pay45 Ideal _ := rfl
theorem pay57_eq : @k0_pay57 Ideal _ = @k0_pay45 Ideal _ := rfl
theorem pay62_eq : @k0_pay62 Ideal _ = @k0_pay45 Ideal _ := rfl
theorem pay52_eq : @k0_pay52 Ideal _ = @k0_pay46 Ideal _ := rfl
theorem pay58_eq : @k0_pay58 Ideal _ = @k0_pay46 Ideal _ := rfl
theorem pay63_eq : @k0_pay63 Ideal _ = @k0_pay46 Ideal _ := rfl
theorem pay54_eq : @k0_pay54 Ideal _ = @k0_pay48 Ideal _ := rfl
theorem pay60_eq : @k0_pay60 Ideal _ = @k0_pay48 Ideal _ := rfl
theorem pay56_eq (a : FVec Ideal S16x128 .bf16) (b : Vec Ideal S1x512x128 .bf16) :
    k0_pay56 (k0_pay55 a) 23#32 b = k0_pay50 (F := Ideal) (k0_pay49 a) b := rfl
theorem pay61_eq (a : FVec Ideal S16x128 .bf16) (b : Vec Ideal S1x512x128 .bf16) :
    k0_pay61 (k0_pay59 a) b = k0_pay50 (F := Ideal) (k0_pay49 a) b := rfl

theorem pay45_at (r : Fin 16) (l : Fin 128) : k0_pay45 (F := Ideal) (ix2 r l) = 0 := by
  pointwise [k0_pay45]
theorem pay46_at (a : FVec Ideal S16x128 .bf16) (v : Vec Ideal S1x512x128 .bf16) (r : Fin 16) (l : Fin 128) :
   k0_pay46 a v (ix2 r l) = max (a (ix2 r l)) (Finset.univ.fold max (Ideal.ofBits .bf16 0xFF80#16)
     fun x : Fin 32 => max (v (ix3 0 (⟨x.val * 16 + r.val, by omega⟩ : Fin 512) l)) (-v (ix3 0 (⟨x.val * 16 + r.val, by omega⟩ : Fin 512) l))) := by
  pointwise [k0_pay46]
  rfl
theorem pay50_at (a : FVec Ideal S1x1 .bf16) (v : Vec Ideal S1x512x128 .bf16) (r : Fin 512) (l : Fin 128) :
   k0_pay50 a v (ix3 0 r l) = min (Ideal.ofBits .f32 0x43E00000#32) (max (Ideal.ofBits .f32 0xC3E00000#32) (v (ix3 0 r l) * a (ix2 0 0))) := by
  pointwise [k0_pay50]
theorem pay67_at (a : IVec S1x1 32) (v : Vec Ideal S1x512x128 .bf16) (r : Fin 512) (l : Fin 128) :
   k0_pay67 (F := Ideal) a v (ix3 0 r l) = min (Ideal.ofBits .f32 0x47600000#32) (max (Ideal.ofBits .f32 0xC7600000#32)
     (v (ix3 0 r l) * Ideal.ofBits .f32 (IntOp.shli .vector (IntOp.subi (127#32) (a (ix2 0 0))) 23#32))) := by
  pointwise [k0_pay67]

/-- The largest entry, the table's count of powers up to `y`, and the exponent's word. -/
def topOf (a : FVec Ideal S16x128 .bf16) : EReal :=
  Finset.univ.fold max (Ideal.ofBits .f32 0xFF800000#32) fun x : Fin 16 × Fin 128 => a (ix2 x.1 x.2)
def countOf (y : EReal) : EReal :=
  ∑ x : Fin 256, if Ideal.ofBits .f32 (IntOp.shli .vector (BitVec.ofNat 32 x.val) 23#32) ≤ y then 1 else 0
def expWord (t y : EReal) : BitVec 32 := if t = 0 then 0#32 else IntOp.subi (Ideal.fptosi 32 (countOf y)) 127#32

theorem pay47_at (a : FVec Ideal S16x128 .bf16) : k0_pay47 a (ix2 0 0) = expWord (topOf a) (topOf a * Ideal.ofBits .f32 0x3B124925#32) := by
  pointwise [k0_pay47]
  rfl
theorem pay64_at (a : FVec Ideal S16x128 .bf16) : k0_pay64 a (ix2 0 0) = expWord (topOf a) (topOf a * Ideal.ofBits .f32 0x37924925#32) := by
  pointwise [k0_pay64]
  rfl
theorem pay48_at (a : FVec Ideal S16x128 .bf16) :
    k0_pay48 a (ix2 0 0) = Ideal.ofBits .f32 (IntOp.shli .vector (IntOp.addi (k0_pay47 a (ix2 0 0)) 127#32) 23#32) := by
  pointwise [k0_pay48]
theorem pay49_at (a : FVec Ideal S16x128 .bf16) :
    k0_pay49 a (ix2 0 0) = Ideal.ofBits .f32 (IntOp.shli .vector (IntOp.subi 127#32 (k0_pay47 a (ix2 0 0))) 23#32) := by
  pointwise [k0_pay49]
theorem pay66_at (a : IVec S1x1 32) : k0_pay66 (F := Ideal) a (ix2 0 0) = Ideal.ofBits .f32 (IntOp.shli .vector (a (ix2 0 0)) 23#32) := by
  pointwise [k0_pay66]
theorem pay65_at (a : FVec Ideal S16x128 .bf16) : k0_pay65 (F := Ideal) a (ix2 0 0) = IntOp.addi (k0_pay64 a (ix2 0 0)) 127#32 := by
  pointwise [k0_pay65]
theorem pay68_at (a b c : FVec Ideal S1x1 .f32) (d : IVec S1x1 32) (l : Fin 128) :
    k0_pay68 (F := Ideal) a b c d (ix4 0 0 0 l) =
      Scalar.select (IntOp.cmpi CmpIPredicate.eq (BitVec.ofNat 32 l.val) 0#32) (a (ix2 0 0))
      (Scalar.select (IntOp.cmpi CmpIPredicate.eq (BitVec.ofNat 32 l.val) 1#32) (b (ix2 0 0))
        (Scalar.select (IntOp.cmpi CmpIPredicate.eq (BitVec.ofNat 32 l.val) 2#32) (c (ix2 0 0)) (k0_pay66 (F := Ideal) d (ix2 0 0)))) := by
  pointwise [k0_pay68]
theorem pay69_at (a b : FVec Ideal S1x1 .f32) : k0_pay69 (F := Ideal) a b (ix2 0 0) = a (ix2 0 0) * b (ix2 0 0) * Ideal.ofBits .f32 0x3DB504F3#32 := by
  pointwise [k0_pay69]
theorem pay70_at (a b : FVec Ideal S1x1 .f32) (c : IVec S1x1 32) : k0_pay70 (F := Ideal) a b c (ix2 0 0)
    = a (ix2 0 0) * Ideal.ofBits .f32 0x3DB504F3#32 * (k0_pay66 (F := Ideal) c (ix2 0 0) * b (ix2 0 0)) * Ideal.ofBits .f32 0x3B800000#32 := by
  pointwise [k0_pay70]
theorem pay1_at (v : Vec Ideal S1x256x128 .fp8e4m3) (l : Fin 256) (r : Fin 128) : k0_pay1 v (ix3 0 r l) = v (ix3 0 l r) := by
  pointwise [k0_pay1]

/-! ## One query block against one key block -/

/-- A score where the mask lets it through, else −∞. -/
def masked (w : BitVec 32) (t k x i : ℕ) (st : BitVec 32) (s : EReal) : EReal :=
  Scalar.select
    (IntOp.andi (IntOp.cmpi CmpIPredicate.sge (IntOp.addi (Scalar.muli (Scalar.addi w (Scf.iv 0#32 1#32 k)) 256#32) (BitVec.ofNat 32 x)) st)
      (IntOp.cmpi CmpIPredicate.sle (IntOp.addi (Scalar.muli (Scalar.addi w (Scf.iv 0#32 1#32 k)) 256#32) (BitVec.ofNat 32 x))
        (IntOp.addi (Scalar.muli (Scf.iv 0#32 1#32 t) 256#32) (BitVec.ofNat 32 i))))
    s (Ideal.ofBits .f32 0xFF800000#32)

section Scores
variable (sm : FVec Ideal S1x1 .f32) (t : Fin k0_t10_loop.trips) (w : BitVec 32) (q : Vec Ideal S1x256x128 .fp8e4m3)
variable (st : Vec Ideal S1x1x256 .i32) (k : Fin (k0_t11_loop t w).trips) (a b : FVec Ideal S1x256 .f32) (kc : Vec Ideal S1x256x128 .fp8e4m3)

theorem pay31_at (x i : Fin 256) : k0_pay31 sm 0#32 1#32 t w q st k kc (ix2 x i)
    = masked w t.val k.val x.val i.val (st (ix3 0 0 i)) ((∑ d : Fin 128, kc (ix3 0 x d) * q (ix3 0 i d)) * sm (ix2 0 0)) := by
  pointwise [k0_pay31, k0_pay25, k0_pay27, k0_pay28]
  rfl
theorem pay32_at (i : Fin 256) : k0_pay32 sm 0#32 1#32 t w q st k a kc (ix2 0 i)
    = max (a (ix2 0 i)) (Finset.univ.fold max (Ideal.ofBits .f32 0xFF800000#32) fun x : Fin 256 => k0_pay31 sm 0#32 1#32 t w q st k kc (ix2 x i)) := by
  pointwise [k0_pay32]
theorem pay33_at (x i : Fin 256) : k0_pay33 sm 0#32 1#32 t w q st k a kc (ix2 x i)
    = Ideal.exp (k0_pay31 sm 0#32 1#32 t w q st k kc (ix2 x i) - k0_pay32 sm 0#32 1#32 t w q st k a kc (ix2 0 i)) := by
  pointwise [k0_pay33]
theorem pay34_at (x i : Fin 256) : k0_pay34 sm 0#32 1#32 t w q st k a kc (ix3 0 x i)
    = Ideal.exp (k0_pay31 sm 0#32 1#32 t w q st k kc (ix2 x i) - k0_pay32 sm 0#32 1#32 t w q st k a kc (ix2 0 i)) := by
  pointwise [k0_pay34, k0_pay33]
theorem pay35_at (i : Fin 256) : k0_pay35 sm 0#32 1#32 t w q st k a kc (ix3 0 0 i) = k0_pay32 sm 0#32 1#32 t w q st k a kc (ix2 0 i) := by
  pointwise [k0_pay35]
theorem pay36_at (i : Fin 256) : k0_pay36 sm 0#32 1#32 t w q st k a b kc (ix2 0 i)
    = b (ix2 0 i) * Ideal.exp (a (ix2 0 i) - k0_pay32 sm 0#32 1#32 t w q st k a kc (ix2 0 i))
      + ∑ x : Fin 256, Ideal.exp (k0_pay31 sm 0#32 1#32 t w q st k kc (ix2 x i) - k0_pay32 sm 0#32 1#32 t w q st k a kc (ix2 0 i)) := by
  pointwise [k0_pay36, k0_pay33]

end Scores

theorem pay29_at (i : Fin 256) : k0_pay29 (F := Ideal) (ix2 0 i) = Ideal.ofBits .f32 0xFF61B1E6#32 := by
  pointwise [k0_pay29]
theorem pay30_at (i : Fin 256) : k0_pay30 (F := Ideal) (ix2 0 i) = 0 := by
  pointwise [k0_pay30]
theorem pay43_at (a : FVec Ideal S1x256 .f32) (i : Fin 256) : k0_pay43 a (ix2 0 i) = Ideal.div (Ideal.ofBits .f32 0x43800000#32) (a (ix2 0 i)) := by
  pointwise [k0_pay43]
theorem pay44_at (i : Fin 256) (d : Fin 128) : k0_pay44 (F := Ideal) (ix2 i d) = 0 := by
  pointwise [k0_pay44]
theorem pay15_at (i : Fin 256) (d : Fin 128) : k0_pay15 (F := Ideal) (ix2 d i) = 0 := by
  pointwise [k0_pay15]
theorem pay3_at (s : Fin 8192) (d : Fin 128) : k0_pay3 (F := Ideal) (ix2 s d) = 0 := by
  pointwise [k0_pay3]
theorem pay4_at (s : Fin 8192) (d : Fin 128) : k0_pay4 (F := Ideal) (ix2 s d) = 0 := by
  pointwise [k0_pay4]

section Probs
variable (top inv : FVec Ideal S1x256 .f32) (mb : Vec Ideal S1x1x256 .f32) (e p : Vec Ideal S1x256x256 .f32)

theorem pay5_at (x i : Fin 256) : k0_pay5 top inv mb e (ix2 x i)
    = e (ix3 0 x i) * min (Ideal.exp (mb (ix3 0 0 i) - top (ix2 0 i)) * inv (ix2 0 i)) (Ideal.ofBits .f32 0x43E00000#32) := by
  pointwise [k0_pay5]
theorem pay6_at (x i : Fin 256) : k0_pay6 top inv mb e (ix3 0 x i) = k0_pay5 top inv mb e (ix2 x i) := by
  pointwise [k0_pay6]
theorem pay7_at (dc : FVec Ideal S256x128 .fp8e5m2) (A : Vec Ideal S256x128 .f32) (x : Fin 256) (d : Fin 128) :
    k0_pay7 dc top inv mb e A (ix2 x d) = A (ix2 x d) + ∑ i : Fin 256, k0_pay5 top inv mb e (ix2 x i) * dc (ix2 i d) := by
  pointwise [k0_pay7]
theorem pay8_at (A : FVec Ideal S256x128 .f32) (vc : Vec Ideal S1x256x128 .fp8e4m3) (i : Fin 256) (d : Fin 128) :
    k0_pay8 top inv A mb e vc (ix2 i d) = A (ix2 i d) + ∑ x : Fin 256, k0_pay5 top inv mb e (ix2 x i) * vc (ix3 0 x d) := by
  pointwise [k0_pay8]

theorem pay26_at (dc : Vec Ideal S1x256x128 .fp8e5m2) (i : Fin 256) (d : Fin 128) : k0_pay26 dc (ix2 i d) = dc (ix3 0 i d) := by
  pointwise [k0_pay26]
theorem pay25_at (qc : Vec Ideal S1x256x128 .fp8e4m3) (i : Fin 256) (d : Fin 128) : k0_pay25 qc (ix2 i d) = qc (ix3 0 i d) := by
  pointwise [k0_pay25]

variable (dc : FVec Ideal S256x128 .fp8e5m2) (o : FVec Ideal S256x128 .f32) (vc : Vec Ideal S1x256x128 .fp8e4m3)

/-- The score's gradient at an entry. -/
def dsAt (x i : Fin 256) : EReal :=
  p (ix3 0 x i) * (∑ d : Fin 128, vc (ix3 0 x d) * dc (ix2 i d)
    - (∑ d : Fin 128, o (ix2 i d) * dc (ix2 i d)) * Ideal.ofBits .f32 0x3B800000#32)

theorem pay17_at (qc : FVec Ideal S256x128 .fp8e4m3) (A : Vec Ideal S256x128 .f32) (x : Fin 256) (d : Fin 128) :
    k0_pay17 qc dc o vc p A (ix2 x d) = A (ix2 x d) + ∑ i : Fin 256, dsAt p dc o vc x i * qc (ix2 i d) := by
  pointwise [k0_pay17, k0_pay16, k0_pay13, k0_pay14]
  rfl
theorem pay18_at (A : FVec Ideal S128x256 .f32) (kt : Vec Ideal S1x128x256 .bf16) (i : Fin 256) (d : Fin 128) :
    k0_pay18 dc o A vc p kt (ix2 d i) = A (ix2 d i) + ∑ x : Fin 256, kt (ix3 0 d x) * dsAt p dc o vc x i := by
  pointwise [k0_pay18, k0_pay16, k0_pay13]
  rfl

end Probs

theorem pay22_at (mul : FVec Ideal S1x1 .f32) (a : FVec Ideal S128x256 .f32) (i : Fin 256) (d : Fin 128) :
    k0_pay22 mul a (ix3 0 i d) = a (ix2 d i) * mul (ix2 0 0) := by
  pointwise [k0_pay22]
theorem pay23_at (a b c : FVec Ideal S1x1 .f32) (z : Ideal .f32) (v : Vec Ideal S256x128 .f32) (s : Fin 256) (d : Fin 128) :
    k0_pay23 a b c z v (ix3 0 s d) = v (ix2 s d) * (a (ix2 0 0) * z * (c (ix2 0 0) * b (ix2 0 0)) * Ideal.ofBits .f32 0x3B800000#32) := by
  pointwise [k0_pay23]
theorem pay24_at (a : FVec Ideal S1x1 .f32) (v : Vec Ideal S256x128 .f32) (s : Fin 256) (d : Fin 128) :
    k0_pay24 a v (ix3 0 s d) = v (ix2 s d) * (Ideal.ofBits .f32 0x3B800000#32 * a (ix2 0 0)) := by
  pointwise [k0_pay24]

end Cert.Proof.KernelIdeal

end
-- ==== Proof.Scales.lean ====
/-
  The quantiser's numbers: which power of two scales a largest magnitude, and that counting the powers up to a bound gives its exponent.
-/
module

public import Idealize.ShloMosaic.PureOps.Ideal
public import Idealize.ShloMosaic.PureOps.Ideal.Laws

@[expose] public section

noncomputable section

namespace Cert.Proof

open Idealize.ShloMosaic

/-! ## Maxima of finite families of reals, as extended reals -/

theorem coe_fold_max {ι : Type} (s : Finset ι) (b : ℝ) (f : ι → ℝ) :
    ((s.fold max b f : ℝ) : EReal) = s.fold max (b : EReal) fun i => (f i : EReal) :=
  (Finset.fold_hom (op := max) (op' := max) (m := fun r : ℝ => (r : EReal)) (fun x y => EReal.coe_strictMono.monotone.map_max)).symm

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Constants -/

/-- The reals that the programs' constants denote: one over the two largest codes, and one over the square root of 128. -/
def inv448 : ℝ := (2 ^ 23 + 1198373 : ℕ) * (2 : ℝ) ^ (-32 : ℤ)
def inv57344 : ℝ := (2 ^ 23 + 1198373 : ℕ) * (2 : ℝ) ^ (-39 : ℤ)
def rootInv : ℝ := (2 ^ 23 + 3474675 : ℕ) * (2 : ℝ) ^ (-27 : ℤ)
/-- The running maximum's start. -/
def floorMax : ℝ := -((2 ^ 23 + 6402534 : ℕ) * (2 : ℝ) ^ (104 : ℤ))

theorem const_inv448 : Ideal.ofBits .f32 0x3B124925#32 = (inv448 : EReal) := by
  have : Ideal.ofBits .f32 0x3B124925#32 = ((1 * (2 ^ 23 + 1198373 : ℕ) * (2 : ℝ) ^ (((118 : ℕ) : ℤ) - (2 ^ (8 - 1) - 1) - (23 : ℕ)) : ℝ) : EReal) := rfl
  rw [this, inv448]; norm_num
theorem const_inv57344 : Ideal.ofBits .f32 0x37924925#32 = (inv57344 : EReal) := by
  have : Ideal.ofBits .f32 0x37924925#32 = ((1 * (2 ^ 23 + 1198373 : ℕ) * (2 : ℝ) ^ (((111 : ℕ) : ℤ) - (2 ^ (8 - 1) - 1) - (23 : ℕ)) : ℝ) : EReal) := rfl
  rw [this, inv57344]; norm_num
theorem const_rootInv : Ideal.ofBits .f32 0x3DB504F3#32 = (rootInv : EReal) := by
  have : Ideal.ofBits .f32 0x3DB504F3#32 = ((1 * (2 ^ 23 + 3474675 : ℕ) * (2 : ℝ) ^ (((123 : ℕ) : ℤ) - (2 ^ (8 - 1) - 1) - (23 : ℕ)) : ℝ) : EReal) := rfl
  rw [this, rootInv]; norm_num
theorem const_floorMax : Ideal.ofBits .f32 0xFF61B1E6#32 = (floorMax : EReal) := by
  have : Ideal.ofBits .f32 0xFF61B1E6#32 = ((-1 * (2 ^ 23 + 6402534 : ℕ) * (2 : ℝ) ^ (((254 : ℕ) : ℤ) - (2 ^ (8 - 1) - 1) - (23 : ℕ)) : ℝ) : EReal) := rfl
  rw [this, floorMax]; norm_num
theorem const_448 : Ideal.ofBits .f32 0x43E00000#32 = ((448 : ℝ) : EReal) := by
  have : Ideal.ofBits .f32 0x43E00000#32 = ((1 * (2 ^ 23 + 6291456 : ℕ) * (2 : ℝ) ^ (((135 : ℕ) : ℤ) - (2 ^ (8 - 1) - 1) - (23 : ℕ)) : ℝ) : EReal) := rfl
  rw [this]; norm_num
theorem const_neg448 : Ideal.ofBits .f32 0xC3E00000#32 = ((-448 : ℝ) : EReal) := by
  have : Ideal.ofBits .f32 0xC3E00000#32 = ((-1 * (2 ^ 23 + 6291456 : ℕ) * (2 : ℝ) ^ (((135 : ℕ) : ℤ) - (2 ^ (8 - 1) - 1) - (23 : ℕ)) : ℝ) : EReal) := rfl
  rw [this]; norm_num
theorem const_57344 : Ideal.ofBits .f32 0x47600000#32 = ((57344 : ℝ) : EReal) := by
  have : Ideal.ofBits .f32 0x47600000#32 = ((1 * (2 ^ 23 + 6291456 : ℕ) * (2 : ℝ) ^ (((142 : ℕ) : ℤ) - (2 ^ (8 - 1) - 1) - (23 : ℕ)) : ℝ) : EReal) := rfl
  rw [this]; norm_num
theorem const_neg57344 : Ideal.ofBits .f32 0xC7600000#32 = ((-57344 : ℝ) : EReal) := by
  have : Ideal.ofBits .f32 0xC7600000#32 = ((-1 * (2 ^ 23 + 6291456 : ℕ) * (2 : ℝ) ^ (((142 : ℕ) : ℤ) - (2 ^ (8 - 1) - 1) - (23 : ℕ)) : ℝ) : EReal) := rfl
  rw [this]; norm_num
theorem const_256 : Ideal.ofBits .f32 0x43800000#32 = ((256 : ℝ) : EReal) := by
  have : Ideal.ofBits .f32 0x43800000#32 = ((1 * (2 ^ 23 + 0 : ℕ) * (2 : ℝ) ^ (((135 : ℕ) : ℤ) - (2 ^ (8 - 1) - 1) - (23 : ℕ)) : ℝ) : EReal) := rfl
  rw [this]; norm_num
theorem const_256inv : Ideal.ofBits .f32 0x3B800000#32 = (((256 : ℝ)⁻¹ : ℝ) : EReal) := by
  have : Ideal.ofBits .f32 0x3B800000#32 = ((1 * (2 ^ 23 + 0 : ℕ) * (2 : ℝ) ^ (((119 : ℕ) : ℤ) - (2 ^ (8 - 1) - 1) - (23 : ℕ)) : ℝ) : EReal) := rfl
  rw [this]; norm_num
theorem const_two : Ideal.ofBits .f32 0x40000000#32 = ((2 : ℝ) : EReal) := by
  have : Ideal.ofBits .f32 0x40000000#32 = ((1 * (2 ^ 23 + 0 : ℕ) * (2 : ℝ) ^ (((128 : ℕ) : ℤ) - (2 ^ (8 - 1) - 1) - (23 : ℕ)) : ℝ) : EReal) := rfl
  rw [this]; norm_num
theorem const_two40 : Ideal.ofBits .f32 0x53800000#32 = (((2 : ℝ) ^ 40 : ℝ) : EReal) := by
  have : Ideal.ofBits .f32 0x53800000#32 = ((1 * (2 ^ 23 + 0 : ℕ) * (2 : ℝ) ^ (((167 : ℕ) : ℤ) - (2 ^ (8 - 1) - 1) - (23 : ℕ)) : ℝ) : EReal) := rfl
  rw [this]; norm_num
theorem const_bot : Ideal.ofBits .f32 0xFF800000#32 = ⊥ := rfl
theorem const_top : Ideal.ofBits .f32 0x7F800000#32 = ⊤ := rfl
theorem const_bot16 : Ideal.ofBits .bf16 0xFF80#16 = ⊥ := rfl

theorem inv448_pos : 0 < inv448 := by unfold inv448; positivity
theorem inv57344_pos : 0 < inv57344 := by unfold inv57344; positivity
theorem inv448_le : inv448 ≤ 1 := by unfold inv448; norm_num
theorem inv57344_le : inv57344 ≤ 1 := by unfold inv57344; norm_num

/-! ## Powers of two by their words -/

theorem shl_toNat (i : ℕ) (h : i < 256) : (IntOp.shli .vector (BitVec.ofNat 32 i) 23#32).toNat = i * 2 ^ 23 := by
  unfold IntOp.shli
  rw [if_pos (by decide)]
  rw [BitVec.shiftLeft_eq', BitVec.toNat_shiftLeft, Nat.shiftLeft_eq, BitVec.toNat_ofNat, Nat.mod_eq_of_lt (by omega : i < 2 ^ 32)]
  have : (23#32 : BitVec 32).toNat = 23 := rfl
  rw [this]
  omega

theorem ofBits_of_toNat (b : BitVec 32) (i : ℕ) (h1 : 1 ≤ i) (h2 : i ≤ 254) (hb : b.toNat = i * 2 ^ 23) :
    Ideal.ofBits .f32 b = (((2 : ℝ) ^ ((i : ℤ) - 127) : ℝ) : EReal) := by
  have hs : (b.extractLsb' (8 + 23) 1 == 1#1) = false := by
    rw [beq_eq_false_iff_ne]
    intro e
    have := congrArg BitVec.toNat e
    rw [BitVec.extractLsb'_toNat, hb] at this
    simp only [Nat.shiftRight_eq_div_pow, BitVec.toNat_ofNat] at this
    omega
  have hx : (b.extractLsb' 23 8).toNat = i := by
    rw [BitVec.extractLsb'_toNat, hb, Nat.shiftRight_eq_div_pow]; omega
  have hf : (b.extractLsb' 0 23).toNat = 0 := by
    rw [BitVec.extractLsb'_toNat, hb, Nat.shiftRight_eq_div_pow]; omega
  show Ideal.ieee 8 23 b = _
  unfold Ideal.ieee
  simp only [hs, hx, hf]
  rw [if_neg (by omega), if_neg (by omega)]
  congr 1
  simp only [Bool.false_eq_true, if_false, one_mul, Nat.add_zero]
  rw [show ((2 ^ 23 : ℕ) : ℝ) = (2 : ℝ) ^ (23 : ℤ) by norm_num, ← zpow_add₀ (by norm_num)]
  congr 1
  norm_num

theorem ofBits_zero_word (b : BitVec 32) (hb : b.toNat = 0) : Ideal.ofBits .f32 b = 0 := by
  have : b = 0#32 := BitVec.eq_of_toNat_eq hb
  subst this; exact Ideal.ofBits_zero_f32
theorem ofBits_top_word (b : BitVec 32) (hb : b.toNat = 255 * 2 ^ 23) : Ideal.ofBits .f32 b = ⊤ := by
  have : b = 0x7F800000#32 := BitVec.eq_of_toNat_eq hb
  subst this; exact const_top

/-! ## The scale's exponent -/

theorem exists_expo (y : ℝ) : ∃ n : ℕ, 1 ≤ n ∧ y < (2 : ℝ) ^ ((n : ℤ) - 127) := by
  obtain ⟨n, hn⟩ := pow_unbounded_of_one_lt y (by norm_num : (1 : ℝ) < 2)
  refine ⟨n + 127, by omega, ?_⟩
  rw [show (((n + 127 : ℕ) : ℤ) - 127) = (n : ℤ) by push_cast; ring, zpow_natCast]
  exact hn

open Classical in
/-- The least `n ≥ 1` whose power `2^(n-127)` is above `y`. -/
def expo (y : ℝ) : ℕ := Nat.find (exists_expo y)

theorem one_le_expo (y : ℝ) : 1 ≤ expo y := by classical exact (Nat.find_spec (exists_expo y)).1
theorem lt_expo (y : ℝ) : y < (2 : ℝ) ^ ((expo y : ℤ) - 127) := by classical exact (Nat.find_spec (exists_expo y)).2
theorem expo_le {y : ℝ} {n : ℕ} (h : 1 ≤ n) (hy : y < (2 : ℝ) ^ ((n : ℤ) - 127)) : expo y ≤ n := by
  classical exact Nat.find_min' (exists_expo y) ⟨h, hy⟩
theorem pow_le_iff (y : ℝ) (n : ℕ) (h : 1 ≤ n) : (2 : ℝ) ^ ((n : ℤ) - 127) ≤ y ↔ n < expo y := by
  constructor
  · intro hy
    by_contra hn
    have h1 : (2 : ℝ) ^ ((expo y : ℤ) - 127) ≤ (2 : ℝ) ^ ((n : ℤ) - 127) := zpow_le_zpow_right₀ (by norm_num) (by omega)
    exact absurd (lt_expo y) (not_lt.mpr (h1.trans hy))
  · intro hn
    by_contra hy
    exact absurd (expo_le h (not_le.mp hy)) (not_le.mpr hn)

/-- The scale of a largest magnitude `A`, `c` one over the largest code: 1 for 0, else the power of two above `A * c`. -/
def scaleOf (c A : ℝ) : ℝ := if A = 0 then 1 else (2 : ℝ) ^ ((expo (A * c) : ℤ) - 127)

theorem scaleOf_pos (c A : ℝ) : 0 < scaleOf c A := by unfold scaleOf; split <;> positivity

section Bounds
variable {c A : ℝ} (hc : 0 < c) (hc1 : c ≤ 1) (hA : 0 ≤ A) (hA' : A ≤ 2 ^ 40)

theorem expo_le_168 (hc1 : c ≤ 1) (hA : 0 ≤ A) (hA' : A ≤ 2 ^ 40) : expo (A * c) ≤ 168 := by
  refine expo_le (by norm_num) ?_
  calc A * c ≤ A * 1 := mul_le_mul_of_nonneg_left hc1 hA
    _ ≤ 2 ^ 40 := by rw [mul_one]; exact hA'
    _ < (2 : ℝ) ^ (((168 : ℕ) : ℤ) - 127) := by norm_num

theorem scaleOf_le (hc1 : c ≤ 1) (hA : 0 ≤ A) (hA' : A ≤ 2 ^ 40) : scaleOf c A ≤ 2 ^ 41 := by
  unfold scaleOf
  split
  · norm_num
  · rw [show (2 : ℝ) ^ 41 = (2 : ℝ) ^ (41 : ℤ) by norm_num]
    have := expo_le_168 hc1 hA hA'
    exact zpow_le_zpow_right₀ (by norm_num) (by omega)

end Bounds

/-! ## The kernel's count -/

theorem count_eq (y : ℝ) (hy : 0 ≤ y) (hn : expo y ≤ 254) :
    (∑ x : Fin 256, if Ideal.ofBits .f32 (IntOp.shli .vector (BitVec.ofNat 32 x.val) 23#32) ≤ (y : EReal) then (1 : EReal) else 0)
      = ((expo y : ℝ) : EReal) := by
  have h : ∀ x : Fin 256, (Ideal.ofBits .f32 (IntOp.shli .vector (BitVec.ofNat 32 x.val) 23#32) ≤ (y : EReal)) ↔ x.val < expo y := by
    intro x
    have hx := x.isLt
    have e := shl_toNat x.val hx
    by_cases h0 : x.val = 0
    · rw [ofBits_zero_word _ (by rw [e, h0]; rfl), h0]
      exact ⟨fun _ => one_le_expo y, fun _ => by exact_mod_cast hy⟩
    · by_cases h1 : x.val = 255
      · rw [ofBits_top_word _ (by rw [e, h1]), h1]
        exact ⟨fun h => absurd (top_le_iff.mp h) (EReal.coe_ne_top y), fun h => absurd h (by omega)⟩
      · rw [ofBits_of_toNat _ x.val (by omega) (by omega) e, EReal.coe_le_coe_iff]
        exact pow_le_iff y x.val (by omega)
  simp only [h]
  have h2 : ∀ x : Fin 256, (if x.val < expo y then (1 : EReal) else 0) = (((if x.val < expo y then 1 else 0 : ℝ)) : EReal) := fun x => by split <;> simp
  simp only [h2]
  rw [← coe_sum]
  congr 1
  rw [Finset.sum_boole]
  congr 1
  rw [Fin.card_filter_val_lt]
  omega

theorem fptosi_nat (n : ℕ) (h : n ≤ 254) : Ideal.fptosi 32 (((n : ℝ)) : EReal) = BitVec.ofNat 32 n := by
  unfold Ideal.fptosi
  rw [Ideal.toIntClamped_coe, if_pos (by positivity), Int.floor_natCast]
  rw [min_eq_right (by omega), max_eq_right (by omega)]
  exact BitVec.ofInt_natCast ..

/-- The scale's word and its inverse's, from the exponent's. -/
theorem scale_word (e : BitVec 32) (n : ℕ) (h1 : 1 ≤ n) (h2 : n ≤ 253) (he : e = IntOp.subi (BitVec.ofNat 32 n) 127#32) :
    Ideal.ofBits .f32 (IntOp.shli .vector (IntOp.addi e 127#32) 23#32) = (((2 : ℝ) ^ ((n : ℤ) - 127) : ℝ) : EReal)
    ∧ Ideal.ofBits .f32 (IntOp.shli .vector (IntOp.subi 127#32 e) 23#32) = (((2 : ℝ) ^ (127 - (n : ℤ)) : ℝ) : EReal) := by
  subst he
  constructor
  · have : IntOp.addi (IntOp.subi (BitVec.ofNat 32 n) 127#32) 127#32 = BitVec.ofNat 32 n := by
      unfold IntOp.addi IntOp.subi; exact BitVec.sub_add_cancel _ _
    rw [this]
    exact ofBits_of_toNat _ n h1 (by omega) (shl_toNat n (by omega))
  · have : IntOp.subi 127#32 (IntOp.subi (BitVec.ofNat 32 n) 127#32) = BitVec.ofNat 32 (254 - n) := by
      unfold IntOp.subi
      apply BitVec.eq_of_toNat_eq
      simp only [BitVec.toNat_sub, BitVec.toNat_ofNat]
      omega
    rw [this, ofBits_of_toNat _ (254 - n) (by omega) (by omega) (shl_toNat _ (by omega))]
    congr 2
    omega

end Cert.Proof

end
-- ==== Proof.QuantIdeal.lean ====
/-
  The kernel's scales and codes over the extended reals: for a block of reals, the scale is the power of two above its largest magnitude
  over the largest code, and the codes are the block over the scale, clipped.
-/
module

public import proofs.«01_k».proof.Proof.PaysIdeal
public import proofs.«01_k».proof.Proof.Scales

@[expose] public section

set_option maxRecDepth 16384

noncomputable section

namespace Cert.Proof

open Idealize.ShloMosaic

/-- The largest magnitude of a block. -/
def topR (f : ℕ → Fin 128 → ℝ) : ℝ := Finset.univ.fold max 0 fun p : Fin 8192 × Fin 128 => |f p.1.val p.2|

theorem topR_le_iff (f : ℕ → Fin 128 → ℝ) (z : EReal) : (topR f : EReal) ≤ z ↔ 0 ≤ z ∧ ∀ (s : Fin 8192) (d : Fin 128), ((|f s.val d| : ℝ) : EReal) ≤ z := by
  unfold topR
  rw [coe_fold_max, Finset.fold_max_le]
  generalize (8192 : ℕ) = n at *
  refine and_congr Iff.rfl ⟨fun h s d => h (s, d) (Finset.mem_univ _), fun h p _ => h p.1 p.2⟩

theorem topR_nonneg (f : ℕ → Fin 128 → ℝ) : 0 ≤ topR f := by
  have := ((topR_le_iff f (topR f)).mp le_rfl).1
  exact_mod_cast this
theorem le_topR (f : ℕ → Fin 128 → ℝ) (s : Fin 8192) (d : Fin 128) : |f s.val d| ≤ topR f := by
  have := ((topR_le_iff f (topR f)).mp le_rfl).2 s d
  exact_mod_cast this
theorem topR_le {f : ℕ → Fin 128 → ℝ} {B : ℝ} (hB : 0 ≤ B) (h : ∀ (s : Fin 8192) (d : Fin 128), |f s.val d| ≤ B) : topR f ≤ B := by
  have := (topR_le_iff f (B : EReal)).mpr ⟨by exact_mod_cast hB, fun s d => by exact_mod_cast h s d⟩
  exact_mod_cast this

theorem coe_abs (a : ℝ) : max (a : EReal) (-(a : EReal)) = ((|a| : ℝ) : EReal) := by
  rw [← EReal.coe_neg]; exact (EReal.coe_strictMono.monotone.map_max).symm
theorem coe_max' (a b : ℝ) : max (a : EReal) (b : EReal) = ((max a b : ℝ) : EReal) := (EReal.coe_strictMono.monotone.map_max).symm
theorem coe_min' (a b : ℝ) : min (a : EReal) (b : EReal) = ((min a b : ℝ) : EReal) := (EReal.coe_strictMono.monotone.map_min).symm

/-- The scale and the codes, `c` one over the largest code, `B` the largest code. -/
def scaleF (c : ℝ) (f : ℕ → Fin 128 → ℝ) : ℝ := scaleOf c (topR f)
def codeF (c B : ℝ) (f : ℕ → Fin 128 → ℝ) (s : ℕ) (d : Fin 128) : ℝ := min B (max (-B) (f s d * (scaleF c f)⁻¹))

theorem codeF_abs {c B : ℝ} (hB : 0 ≤ B) (f : ℕ → Fin 128 → ℝ) (s : ℕ) (d : Fin 128) : |codeF c B f s d| ≤ B := by
  unfold codeF
  rw [abs_le]
  exact ⟨le_min (by linarith) (le_max_left _ _), min_le_left _ _⟩

end Cert.Proof

namespace Cert.Proof.KernelIdeal

open Cert.KernelIdeal Cert.KernelIdeal.Gen
open Idealize.ShloMosaic Idealize.ShloMosaic.TcCoe

variable {α : Type}

/-! ## Slabs by entry -/

theorem emb512 (o : Fin 3 → ℕ) (inb : ∀ a, o a + S1x512x128.size a ≤ S1x8192x128.size a) (n : ℕ) (ho : o = ![0, n, 0]) (r : Fin 512) (l : Fin 128)
    (h : n + r.val < 8192) : (Rect.unit (s := S1x8192x128) o S1x512x128.size inb).emb (ix3 0 r l) = ix3 (0 : Fin 1) (⟨n + r.val, h⟩ : Fin 8192) l := by
  subst ho
  funext a
  ext
  rw [emb_unit_val]
  fin_cases a
  · rfl
  · rfl
  · exact Nat.zero_add _
theorem emb256 (o : Fin 3 → ℕ) (inb : ∀ a, o a + S1x256x128.size a ≤ S1x8192x128.size a) (n : ℕ) (ho : o = ![0, n, 0]) (r : Fin 256) (l : Fin 128)
    (h : n + r.val < 8192) : (Rect.unit (s := S1x8192x128) o S1x256x128.size inb).emb (ix3 0 r l) = ix3 (0 : Fin 1) (⟨n + r.val, h⟩ : Fin 8192) l := by
  subst ho
  funext a
  ext
  rw [emb_unit_val]
  fin_cases a
  · rfl
  · rfl
  · exact Nat.zero_add _

theorem trips1 : k0_t1_loop.trips = 16 := by decide +kernel
set_option maxRecDepth 100000 in
theorem off1_eq : ∀ k : Fin k0_t1_loop.trips, k0_off1 k = ![0, k.val * 512, 0] := by decide +kernel

theorem kTop_eq (k : Vec Ideal S1x8192x128 .bf16) : kTop k = xTop k := rfl
theorem vTop_eq (k : Vec Ideal S1x8192x128 .bf16) : vTop k = xTop k := rfl
theorem dTop_eq (k : Vec Ideal S1x8192x128 .bf16) : dTop k = xTop k := rfl
theorem kScale_eq (k : Vec Ideal S1x8192x128 .bf16) : kScale k = xScale k := rfl
theorem vScale_eq (k : Vec Ideal S1x8192x128 .bf16) : vScale k = xScale k := rfl
theorem kCode_eq (k : Vec Ideal S1x8192x128 .bf16) : kCode k = xCode k := rfl
theorem vCode_eq (k : Vec Ideal S1x8192x128 .bf16) : vCode k = xCode k := rfl

section Block

variable {x : Vec Ideal S1x8192x128 .bf16} {f : ℕ → Fin 128 → ℝ} (hx : ∀ (s : Fin 8192) (d : Fin 128), x (ix3 (0 : Fin 1) s d) = (f s.val d : EReal))

include hx in
theorem xTop_le (z : EReal) : ∀ n ≤ k0_t1_loop.trips, ∀ (r : Fin 16) (l : Fin 128),
    iter k0_t1_loop.trips (fun k' a => k0_pay46 a (pull (R1 k') x)) (k0_pay45 (F := Ideal)) n (ix2 r l) ≤ z
      ↔ 0 ≤ z ∧ ∀ s : Fin 8192, s.val < 512 * n → s.val % 16 = r.val → ((|f s.val l| : ℝ) : EReal) ≤ z := by
  refine iter_ind k0_t1_loop.trips (fun k' a => k0_pay46 a (pull (R1 k') x)) (k0_pay45 (F := Ideal))
    (fun n a => ∀ (r : Fin 16) (l : Fin 128), a (ix2 r l) ≤ z
      ↔ 0 ≤ z ∧ ∀ s : Fin 8192, s.val < 512 * n → s.val % 16 = r.val → ((|f s.val l| : ℝ) : EReal) ≤ z) ?_ ?_
  · intro r l
    rw [pay45_at]
    exact ⟨fun h => ⟨h, fun s hs => absurd hs (by omega)⟩, fun h => h.1⟩
  · intro k a ih r l
    have hk : k.val < 16 := trips1 ▸ k.isLt
    rw [pay46_at, max_le_iff, ih, const_bot16, Finset.fold_max_le]
    have hp : ∀ y : Fin 32, pull (R1 k) x (ix3 0 (⟨y.val * 16 + r.val, by omega⟩ : Fin 512) l)
        = (f (k.val * 512 + (y.val * 16 + r.val)) l : EReal) := fun y => by
      rw [← hx ⟨k.val * 512 + (y.val * 16 + r.val), by omega⟩ l]
      exact congrArg x (emb512 _ _ _ (off1_eq k) _ _ _)
    simp only [hp, coe_abs]
    constructor
    · rintro ⟨⟨h0, h⟩, -, h'⟩
      refine ⟨h0, fun s hs hr => ?_⟩
      by_cases hlt : s.val < 512 * k.val
      · exact h s hlt hr
      · have := h' ⟨(s.val - 512 * k.val) / 16, by omega⟩ (Finset.mem_univ _)
        simp only at this
        rwa [show k.val * 512 + ((s.val - 512 * k.val) / 16 * 16 + r.val) = s.val by omega] at this
    · rintro ⟨h0, h⟩
      refine ⟨⟨h0, fun s hs hr => h s (by omega) hr⟩, bot_le, fun y _ => ?_⟩
      have := h ⟨k.val * 512 + (y.val * 16 + r.val), by omega⟩ (by simp only; omega) (by simp only; omega)
      exact this

include hx

theorem topOf_xTop : topOf (xTop x) = (topR f : EReal) := by
  refine eq_of_forall_ge_iff fun z => ?_
  unfold topOf
  rw [topR_le_iff, const_bot, Finset.fold_max_le]
  have key := fun r l => xTop_le hx z _ le_rfl r l
  constructor
  · rintro ⟨-, h⟩
    refine ⟨((key 0 0).mp (h (0, 0) (Finset.mem_univ _))).1, fun s d => ?_⟩
    exact ((key ⟨s.val % 16, by omega⟩ d).mp (h (⟨s.val % 16, by omega⟩, d) (Finset.mem_univ _))).2 s (by rw [trips1]; omega) rfl
  · rintro ⟨h0, h⟩
    exact ⟨bot_le, fun p _ => (key p.1 p.2).mpr ⟨h0, fun s _ _ => h s p.2⟩⟩

variable (hb : ∀ (s : Fin 8192) (d : Fin 128), |f s.val d| ≤ 2 ^ 40)
include hb

/-- The exponent's word gives the scale and its inverse. -/
theorem word_scale {c : ℝ} {b : BitVec 32} (hc0 : 0 < c) (hc1 : c ≤ 1) (hcb : Ideal.ofBits .f32 b = (c : EReal)) :
    Ideal.ofBits .f32 (IntOp.shli .vector (IntOp.addi (expWord (topOf (xTop x)) (topOf (xTop x) * Ideal.ofBits .f32 b)) 127#32) 23#32) = (scaleF c f : EReal)
    ∧ Ideal.ofBits .f32 (IntOp.shli .vector (IntOp.subi 127#32 (expWord (topOf (xTop x)) (topOf (xTop x) * Ideal.ofBits .f32 b))) 23#32) = (((scaleF c f)⁻¹ : ℝ) : EReal) := by
  rw [topOf_xTop hx, hcb, ← EReal.coe_mul]
  have h0 := topR_nonneg f
  have h1 : topR f ≤ 2 ^ 40 := topR_le (by positivity) hb
  unfold scaleF scaleOf expWord
  by_cases hz : topR f = 0
  · have : ((topR f : ℝ) : EReal) = 0 := by rw [hz]; rfl
    rw [if_pos hz, if_pos this]
    have := scale_word 0#32 127 (by norm_num) (by norm_num) (by decide)
    refine ⟨this.1.trans ?_, this.2.trans ?_⟩ <;> norm_num
  · have : ((topR f : ℝ) : EReal) ≠ 0 := fun h => hz (by exact_mod_cast h)
    rw [if_neg hz, if_neg this]
    have he := expo_le_168 hc1 h0 h1
    have := scale_word (IntOp.subi (BitVec.ofNat 32 (expo (topR f * c))) 127#32) _ (one_le_expo _) (by omega) rfl
    have hcnt : Ideal.fptosi 32 (countOf ((topR f * c : ℝ) : EReal)) = BitVec.ofNat 32 (expo (topR f * c)) := by
      unfold countOf
      rw [count_eq _ (mul_nonneg h0 hc0.le) (by omega), fptosi_nat _ (by omega)]
    rw [hcnt]
    refine ⟨this.1, this.2.trans ?_⟩
    rw [← zpow_neg]; congr 2; ring

theorem xScale_at : xScale x (ix2 0 0) = (scaleF inv448 f : EReal) := by
  unfold xScale
  rw [pay48_at, pay47_at]
  exact (word_scale hx hb inv448_pos inv448_le const_inv448).1
theorem dScale_at : dScale x (ix2 0 0) = (scaleF inv57344 f : EReal) := by
  unfold dScale dBits
  rw [pay66_at, pay65_at, pay64_at, dTop_eq]
  exact (word_scale hx hb inv57344_pos inv57344_le const_inv57344).1

theorem xCode_at (s : Fin 8192) (d : Fin 128) : xCode x (ix3 (0 : Fin 1) s d) = (codeF inv448 448 f s.val d : EReal) := by
  have hk : s.val / 512 < k0_t2_loop.trips := by rw [trips2]; omega
  have e := emb512 _ (k0_off2_inb ⟨s.val / 512, hk⟩) _ (off2_eq ⟨s.val / 512, hk⟩) ⟨s.val % 512, by omega⟩ d (by simp only; omega)
  have es : (⟨s.val / 512 * 512 + s.val % 512, by omega⟩ : Fin 8192) = s := by ext; simp only; omega
  rw [es] at e
  unfold xCode
  rw [← e, glue_emb R2 cover2 _ (fun k k' j j' h => slabs2.index_eq k0_off2_inb k k' j j' h), pay50_at, pay49_at, pay47_at,
    (word_scale hx hb inv448_pos inv448_le const_inv448).2, const_448, const_neg448, pull, e, hx, ← EReal.coe_mul, coe_max', coe_min']
  rfl
theorem dCode_at (s : Fin 8192) (d : Fin 128) : dCode x (ix3 (0 : Fin 1) s d) = (codeF inv57344 57344 f s.val d : EReal) := by
  have hk : s.val / 512 < k0_t8_loop.trips := by rw [trips8]; omega
  have e := emb512 _ (k0_off8_inb ⟨s.val / 512, hk⟩) _ (off8_eq ⟨s.val / 512, hk⟩) ⟨s.val % 512, by omega⟩ d (by simp only; omega)
  have es : (⟨s.val / 512 * 512 + s.val % 512, by omega⟩ : Fin 8192) = s := by ext; simp only; omega
  rw [es] at e
  unfold dCode
  rw [← e, glue_emb R8 cover8 _ (fun k k' j j' h => slabs8.index_eq k0_off8_inb k k' j j' h), pay67_at, pay64_at, dTop_eq,
    (word_scale hx hb inv57344_pos inv57344_le const_inv57344).2, const_57344, const_neg57344, pull, e, hx, ← EReal.coe_mul, coe_max', coe_min']
  rfl

end Block

end Cert.Proof.KernelIdeal

end
-- ==== Proof.RefQuant.lean ====
/-
  The reference's scales and codes over the extended reals: those of each batch member and head are the block's, `scaleF` and `codeF`.
-/
module

public import proofs.«01_k».proof.Proof.Gen.ReferenceIdeal.Read
public import proofs.«01_k».proof.Proof.QuantIdeal

@[expose] public section

set_option maxRecDepth 16384

noncomputable section

namespace Cert.ReferenceIdeal.Read

open Cert.ReferenceIdeal Cert.ReferenceIdeal.Gen Idealize.ShloMosaic Idealize.ShloMosaic.TcCoe Idealize.ShloMosaic.StableHlo
open Cert.Proof

theorem column_lt (h : Fin 8) (d : Fin 128) : h.val * 128 + d.val < 1024 := by omega

abbrev Arr : Type := (⟨S9x8192x1024, .bf16⟩ : BufTy).Contents (Elt Ideal)

section Terms

variable {F : FTy → Type} [FloatOps F]

/-- The scales from the largest magnitudes, `w` the word of one over the largest code. -/
def scaleG (w : BitVec 32) (a z o : FVec F S9x8 .f32) (t p e : FVec F S9x8x254 .f32) : FVec F S9x8 .f32 :=
  select (cmpf .oeq a z) o
    (Host.reduce FloatOps.minimumf (select (cmpf .ogt t (broadcastInDim S9x8x254 ![0, 1, 2] bcast_S9x8x1_S9x8x254_0_1_2
      (broadcastInDim S9x8x1 ![0, 1] bcast_S9x8_S9x8x1_0_1 (mulf a (broadcastInDim S9x8 ![] bcast_S_S9x8 (constant S_ .f32 w))))))
      p e) (constant S_ .f32 0x7F800000#32) reducesTo_S9x8x254_S9x8_d2 h_S_)
/-- The codes from the values and the scales, `lo` and `hi` the words of the clip. -/
def codeG (lo hi : BitVec 32) (y : FVec F S9x8192x8x128 .f32) (s : FVec F S9x8 .f32) : FVec F S9x8192x8x128 .f32 :=
  minimumf (maximumf (Host.divf y (broadcastInDim S9x8192x8x128 ![0, 1, 2, 3] bcast_S9x1x8x1_S9x8192x8x128_0_1_2_3
    (broadcastInDim S9x1x8x1 ![0, 2] bcast_S9x8_S9x1x8x1_0_2 s))) (broadcastInDim S9x8192x8x128 ![] bcast_S_S9x8192x8x128 (constant S_ .f32 lo)))
    (broadcastInDim S9x8192x8x128 ![] bcast_S_S9x8192x8x128 (constant S_ .f32 hi))

end Terms

theorem scaleG_at (w : BitVec 32) (a z o : FVec Ideal S9x8 .f32) (t p e : FVec Ideal S9x8x254 .f32) (b : Fin 9) (h : Fin 8) : scaleG w a z o t p e (ix2 b h)
    = Scalar.select (Ideal.cmp .oeq (a (ix2 b h)) (z (ix2 b h))) (o (ix2 b h))
      (Finset.univ.fold min (Ideal.ofBits .f32 0x7F800000#32) fun i : Fin 254 =>
        Scalar.select (Ideal.cmp .ogt (t (ix3 b h i)) (a (ix2 b h) * Ideal.ofBits .f32 w)) (p (ix3 b h i)) (e (ix3 b h i))) := by
  pointwise [scaleG]
theorem codeG_at (lo hi : BitVec 32) (y : FVec Ideal S9x8192x8x128 .f32) (z : FVec Ideal S9x8 .f32) (b : Fin 9) (s : Fin 8192) (h : Fin 8) (d : Fin 128) :
    codeG lo hi y z (ix4 b s h d) = min (max (Ideal.div (y (ix4 b s h d)) (z (ix2 b h))) (Ideal.ofBits .f32 lo)) (Ideal.ofBits .f32 hi) := by
  pointwise [codeG]

/-- The scales and the codes of an array. -/
def scaleT (w : BitVec 32) (x : Arr) : FVec Ideal S9x8 .f32 :=
  scaleG w (val_main_v36 (F := Ideal) x) (val_main_v53 (F := Ideal)) (val_main_v55 (F := Ideal)) (val_main_v47 (F := Ideal))
    (val_main_call2_v1 (F := Ideal)) (val_main_call2_v2 (F := Ideal))
def codeT (w lo hi : BitVec 32) (x : Arr) : FVec Ideal S9x8192x8x128 .f32 :=
  codeG lo hi (val_main_v34 (F := Ideal) x) (scaleT w x)

theorem v56_eq (x : Arr) : val_main_v56 (F := Ideal) x = scaleT 0x3B124925#32 x := rfl
theorem v87_eq (x : Arr) : val_main_v87 (F := Ideal) x = scaleT 0x3B124925#32 x := rfl
theorem v118_eq (x : Arr) : val_main_v118 (F := Ideal) x = scaleT 0x3B124925#32 x := rfl
theorem v63_eq (x : Arr) : val_main_v63 (F := Ideal) x = codeT 0x3B124925#32 0xC3E00000#32 0x43E00000#32 x := rfl
theorem v94_eq (x : Arr) : val_main_v94 (F := Ideal) x = codeT 0x3B124925#32 0xC3E00000#32 0x43E00000#32 x := rfl
theorem v125_eq (x : Arr) : val_main_v125 (F := Ideal) x = codeT 0x3B124925#32 0xC3E00000#32 0x43E00000#32 x := rfl

theorem v42_at (i : Fin 254) : val_main_v42 (F := Ideal) (ix1 i) = (((2 : ℝ) ^ ((i.val : ℤ) - 126) : ℝ) : EReal) := by
  have h1 : val_main_v42 (F := Ideal) (ix1 i) = Ideal.pow (Ideal.ofBits .f32 0x40000000#32)
      (((IntOp.addi 4294967170#32 (BitVec.ofNat 32 i.val)).toInt : ℝ) : EReal) := by
    pointwise [val_main_v42, val_main_v41, val_main_v40, val_main_v39, val_main_v38, val_main_v37, val_main_cst_10, val_main_c_9]
    rfl
  have h2 : (IntOp.addi 4294967170#32 (BitVec.ofNat 32 i.val)).toInt = (i.val : ℤ) - 126 := by
    have hi := i.isLt
    unfold IntOp.addi
    have h1 : (4294967170#32 : BitVec 32).toInt = -126 := by decide
    have h2 : (BitVec.ofNat 32 i.val).toInt = i.val := by
      rw [BitVec.toInt_eq_toNat_of_lt (by rw [BitVec.toNat_ofNat]; omega), BitVec.toNat_ofNat]; omega
    rw [BitVec.toInt_add, h1, h2, Int.bmod_def]
    split <;> omega
  rw [h1, const_two]
  rw [h2, Ideal.pow_coe_coe, ← Real.rpow_intCast]
  norm_num

theorem min_table (y : ℝ) (h : expo y ≤ 254) :
    (Finset.univ.fold min (Ideal.ofBits .f32 0x7F800000#32) fun i : Fin 254 =>
      if (y : EReal) < (((2 : ℝ) ^ ((i.val : ℤ) - 126) : ℝ) : EReal) then (((2 : ℝ) ^ ((i.val : ℤ) - 126) : ℝ) : EReal) else Ideal.ofBits .f32 0x7F800000#32)
    = (((2 : ℝ) ^ ((expo y : ℤ) - 127) : ℝ) : EReal) := by
  have h1 := one_le_expo y
  rw [const_top]
  apply le_antisymm
  · rw [Finset.fold_min_le]
    refine .inr ⟨⟨expo y - 1, by omega⟩, Finset.mem_univ _, ?_⟩
    have e : (((⟨expo y - 1, by omega⟩ : Fin 254).val : ℤ) - 126) = (expo y : ℤ) - 127 := by simp only; omega
    rw [e, if_pos (by rw [EReal.coe_lt_coe_iff]; exact lt_expo y)]
  · rw [Finset.le_fold_min]
    refine ⟨le_top, fun i _ => ?_⟩
    split
    · rename_i hi
      rw [EReal.coe_lt_coe_iff] at hi
      rw [EReal.coe_le_coe_iff]
      have := expo_le (y := y) (n := i.val + 1) (by omega) (by rwa [show (((i.val + 1 : ℕ) : ℤ) - 127) = (i.val : ℤ) - 126 by push_cast; ring])
      exact zpow_le_zpow_right₀ (by norm_num) (by omega)
    · exact le_top

theorem scaleT_fold (w : BitVec 32) (x : Arr) (b : Fin 9) (h : Fin 8) : scaleT w x (ix2 b h)
    = Scalar.select (Ideal.cmp .oeq (val_main_v36 (F := Ideal) x (ix2 b h)) (Ideal.ofBits .f32 0x00000000#32)) (Ideal.ofBits .f32 0x3F800000#32)
      (Finset.univ.fold min (Ideal.ofBits .f32 0x7F800000#32) fun i : Fin 254 =>
        Scalar.select (Ideal.cmp .ogt (val_main_v42 (F := Ideal) (ix1 i)) (val_main_v36 (F := Ideal) x (ix2 b h) * Ideal.ofBits .f32 w))
          (val_main_v42 (F := Ideal) (ix1 i)) (Ideal.ofBits .f32 0x7F800000#32)) := by
  have ei : ∀ i : Fin 254, idx_main_v43 (idx_main_v47 (ix3 b h i)) = ix1 i := fun i => funext fun a => match a with | ⟨0, _⟩ => rfl
  have ei' : ∀ i : Fin 254, idx_main_v50 (idx_main_call2_v1 (ix3 b h i)) = ix1 i := fun i => funext fun a => match a with | ⟨0, _⟩ => rfl
  unfold scaleT
  rw [scaleG_at]
  simp only [val_main_v53_apply, val_main_cst_14_apply, val_main_v55_apply, val_main_cst_15_apply, val_main_v47_apply, val_main_v43_apply,
    val_main_call2_v1_apply, val_main_v50_apply, val_main_call2_v2_apply, val_main_call2_v0_apply, val_main_cst_12_apply, ei, ei']
  rfl

theorem scaleT_at (w : BitVec 32) (x : Arr) (b : Fin 9) (h : Fin 8) {c A : ℝ} (hw : Ideal.ofBits .f32 w = (c : EReal)) (hc0 : 0 < c) (hc1 : c ≤ 1)
    (hA : val_main_v36 (F := Ideal) x (ix2 b h) = (A : EReal)) (h0 : 0 ≤ A) (h1 : A ≤ 2 ^ 40) : scaleT w x (ix2 b h) = (scaleOf c A : EReal) := by
  have he := expo_le_168 hc1 h0 h1
  rw [scaleT_fold, hA, hw, ← EReal.coe_mul]
  simp only [v42_at]
  have hz : Ideal.ofBits .f32 0x00000000#32 = 0 := Ideal.ofBits_zero_f32
  have ho : Ideal.ofBits .f32 0x3F800000#32 = 1 := by
    have := (scale_word 0#32 127 (by norm_num) (by norm_num) (by decide)).1
    refine (show Ideal.ofBits .f32 0x3F800000#32 = _ from this).trans ?_
    norm_num
  rw [hz, ho]
  unfold scaleOf
  by_cases hz : A = 0
  · subst hz
    rw [if_pos rfl]
    simp [Ideal.cmp, Scalar.select]
  · have hz' : (A : EReal) ≠ 0 := by exact_mod_cast hz
    rw [if_neg hz]
    have e : Ideal.cmp .oeq (A : EReal) 0 = 0#1 := by simp [Ideal.cmp, hz]
    have hs : ∀ a b : EReal, Scalar.select 0#1 a b = b := fun _ _ => rfl
    rw [e, hs, ← min_table (A * c) (by omega)]
    refine congrArg (fun G : Fin 254 → EReal => Finset.univ.fold min (Ideal.ofBits .f32 0x7F800000#32) G) (funext fun i => ?_)
    unfold Scalar.select Ideal.cmp
    by_cases hlt : ((A * c : ℝ) : EReal) < (((2 : ℝ) ^ ((i.val : ℤ) - 126) : ℝ) : EReal)
    · rw [if_pos hlt]; simp only [decide_eq_true hlt]; rfl
    · rw [if_neg hlt]; simp only [decide_eq_false hlt]; rfl

section Block

variable {x : Arr} {g : Fin 9 → Fin 8 → ℕ → Fin 128 → ℝ}
variable (hx : ∀ (b : Fin 9) (s : Fin 8192) (h : Fin 8) (d : Fin 128), x (ix3 b s (⟨h.val * 128 + d.val, column_lt h d⟩ : Fin 1024)) = (g b h s.val d : EReal))

include hx

theorem v34_at (b : Fin 9) (s : Fin 8192) (h : Fin 8) (d : Fin 128) : val_main_v34 (F := Ideal) x (ix4 b s h d) = (g b h s.val d : EReal) := by
  rw [val_main_v34_apply]
  refine Eq.trans ?_ (hx b s h d)
  refine congrArg x (funext fun a => ?_)
  ext
  have hb := b.isLt; have hs := s.isLt; have hh := h.isLt; have hd := d.isLt
  match a with
  | ⟨0, _⟩ => show (((b.val * 8192 + s.val) * 8 + h.val) * 128 + d.val) / 8388608 = b.val; omega
  | ⟨1, _⟩ => show (((b.val * 8192 + s.val) * 8 + h.val) * 128 + d.val) / 1024 % 8192 = s.val; omega
  | ⟨2, _⟩ => show (((b.val * 8192 + s.val) * 8 + h.val) * 128 + d.val) % 1024 = h.val * 128 + d.val; omega

theorem v36_at (b : Fin 9) (h : Fin 8) : val_main_v36 (F := Ideal) x (ix2 b h) = (topR (g b h) : EReal) := by
  have e : val_main_v36 (F := Ideal) x (ix2 b h) = Finset.fold max (Ideal.ofBits .f32 0xFF800000#32) (val_main_v35 (F := Ideal) x)
      {i | reducesTo_S9x8192x8x128_S9x8_d1_3.drop i = ix2 b h} := by
    unfold val_main_v36
    generalize val_main_v35 (F := Ideal) x = y
    pointwise [val_main_cst_8]
  have hv : ∀ (b : Fin 9) (s : Fin 8192) (h : Fin 8) (d : Fin 128), val_main_v35 (F := Ideal) x (ix4 b s h d) = ((|g b h s.val d| : ℝ) : EReal) :=
    fun b s h d => by
      rw [val_main_v35_apply, v34_at hx]
      exact coe_abs _
  rw [e]
  refine eq_of_forall_ge_iff fun z => ?_
  rw [topR_le_iff, const_bot, Finset.fold_max_le]
  constructor
  · rintro ⟨-, hall⟩
    have key : ∀ (s : Fin 8192) (d : Fin 128), ((|g b h s.val d| : ℝ) : EReal) ≤ z := fun s d => by
      rw [← hv b s h d]
      refine hall _ (Finset.mem_filter.mpr ⟨Finset.mem_univ _, ?_⟩)
      funext a
      ext
      match a with
      | ⟨0, _⟩ => exact Shape.ReducesTo.drop_apply_val_of_eq _ (ix4 b s h d) 0 0
      | ⟨1, _⟩ => exact Shape.ReducesTo.drop_apply_val_of_eq _ (ix4 b s h d) 1 2
    refine ⟨le_trans ?_ (key 0 0), key⟩
    exact_mod_cast abs_nonneg _
  · rintro ⟨-, hall⟩
    refine ⟨bot_le, fun i hi => ?_⟩
    have hi' := (Finset.mem_filter.mp hi).2
    have e0 : i 0 = b := by
      have := Shape.ReducesTo.drop_apply_val_of_eq reducesTo_S9x8192x8x128_S9x8_d1_3 i 0 0
      rw [hi'] at this
      exact Fin.ext this.symm
    have e2 : i 2 = h := by
      have := Shape.ReducesTo.drop_apply_val_of_eq reducesTo_S9x8192x8x128_S9x8_d1_3 i 1 2
      rw [hi'] at this
      exact Fin.ext this.symm
    have ei : i = ix4 b (i 1) h (i 3) := by
      funext a
      match a with
      | ⟨0, _⟩ => exact e0
      | ⟨1, _⟩ => rfl
      | ⟨2, _⟩ => exact e2
      | ⟨3, _⟩ => rfl
    exact (congrArg (val_main_v35 (F := Ideal) x) ei).trans (hv b (i 1) h (i 3)) |>.trans_le (hall _ _)

variable (hb : ∀ (b : Fin 9) (h : Fin 8) (s : Fin 8192) (d : Fin 128), |g b h s.val d| ≤ 2 ^ 40)
include hb

theorem scaleT_eq (w : BitVec 32) {c : ℝ} (hw : Ideal.ofBits .f32 w = (c : EReal)) (hc0 : 0 < c) (hc1 : c ≤ 1) (b : Fin 9) (h : Fin 8) :
    scaleT w x (ix2 b h) = (scaleF c (g b h) : EReal) :=
  scaleT_at w x b h hw hc0 hc1 (v36_at hx b h) (topR_nonneg _) (topR_le (by positivity) (hb b h))

theorem codeT_eq (w lo hi : BitVec 32) {c B : ℝ} (hw : Ideal.ofBits .f32 w = (c : EReal)) (hc0 : 0 < c) (hc1 : c ≤ 1)
    (hlo : Ideal.ofBits .f32 lo = ((-B : ℝ) : EReal)) (hhi : Ideal.ofBits .f32 hi = (B : EReal))
    (b : Fin 9) (s : Fin 8192) (h : Fin 8) (d : Fin 128) : codeT w lo hi x (ix4 b s h d) = (codeF c B (g b h) s.val d : EReal) := by
  unfold codeT
  rw [codeG_at, v34_at hx, scaleT_eq hx hb w hw hc0 hc1, hlo, hhi, Ideal.div_coe (show scaleF c (g b h) ≠ 0 from (scaleOf_pos _ _).ne'), ← EReal.coe_mul,
    coe_max', coe_min']
  unfold codeF
  rw [min_comm, max_comm, one_div]

end Block

end Cert.ReferenceIdeal.Read

end
-- ==== Proof.RefStages.lean ====
/-
  The reference's attention gradients, each stage read at an entry.
-/
module

public import proofs.«01_k».proof.Proof.RefQuant

@[expose] public section

set_option maxRecDepth 16384

noncomputable section

namespace Cert.ReferenceIdeal.Read

open Cert.ReferenceIdeal Cert.ReferenceIdeal.Gen Idealize.ShloMosaic Idealize.ShloMosaic.TcCoe Idealize.ShloMosaic.StableHlo
open Cert.Proof

variable (x0 x1 x2 : Arr) (x4 : (⟨S9x8192, .i32⟩ : BufTy).Contents (Elt Ideal)) (e0 : FVec Ideal S9x8192x8x128 .f32) (e1 : FVec Ideal S9x8 .f32)
variable (b : Fin 9) (h : Fin 8) (q k s : Fin 8192) (d : Fin 128)

theorem v138_at : val_main_v138 (F := Ideal) x4 (ix3 b q k) = IntOp.andi (IntOp.cmpi .sle (BitVec.ofNat 32 k.val) (BitVec.ofNat 32 q.val))
    (IntOp.cmpi .eq (x4 (ix2 b q)) (x4 (ix2 b k))) := by
  unfold val_main_v138 val_main_v137 val_main_v136 val_main_v135 val_main_v134 val_main_v133 val_main_v132 val_main_v131 val_main_v130 val_main_v129
    val_main_v128 val_main_v127 val_main_v126
  pointwise
theorem v139_at : val_main_v139 (F := Ideal) x0 x1 (ix4 b h q k) = ∑ d : Fin 128, val_main_v63 (F := Ideal) x0 (ix4 b q h d) * val_main_v94 (F := Ideal) x1 (ix4 b k h d) := by
  unfold val_main_v139
  generalize val_main_v63 (F := Ideal) x0 = y
  generalize val_main_v94 (F := Ideal) x1 = z
  pointwise
theorem v145_at : val_main_v145 (F := Ideal) x0 x1 (ix4 b h q k) = val_main_v139 (F := Ideal) x0 x1 (ix4 b h q k)
    * (val_main_v56 (F := Ideal) x0 (ix2 b h) * val_main_v87 (F := Ideal) x1 (ix2 b h) * Ideal.ofBits .f32 0x3DB504F3#32) := by
  rw [val_main_v145_apply, val_main_v144_apply, val_main_v143_apply, val_main_v142_apply, val_main_v141_apply, val_main_v140_apply, val_main_cst_38_apply,
    show idx_main_v143 (idx_main_v144 (ix4 b h q k)) = ix2 b h from (funext fun a => match a with | ⟨0, _⟩ => rfl | ⟨1, _⟩ => rfl)]
  generalize val_main_v139 (F := Ideal) x0 x1 = y
  generalize val_main_v56 (F := Ideal) x0 = z
  generalize val_main_v87 (F := Ideal) x1 = w
  rfl
theorem v148_at : val_main_v148 (F := Ideal) x0 x1 x4 (ix4 b h q k) = Scalar.select (val_main_v138 (F := Ideal) x4 (ix3 b q k))
    (val_main_v145 (F := Ideal) x0 x1 (ix4 b h q k)) (Ideal.ofBits .f32 0xFF800000#32) := by
  unfold val_main_v148 val_main_v147 val_main_call8_v0 val_main_v146 val_main_cst_39
  generalize val_main_v138 (F := Ideal) x4 = y
  generalize val_main_v145 (F := Ideal) x0 x1 = z
  pointwise
theorem v149_at : val_main_v149 (F := Ideal) x0 x1 x4 (ix3 b h q) = Finset.univ.fold max (Ideal.ofBits .f32 0xFF800000#32)
    fun k : Fin 8192 => val_main_v148 (F := Ideal) x0 x1 x4 (ix4 b h q k) := by
  unfold val_main_v149 val_main_cst_40
  generalize val_main_v148 (F := Ideal) x0 x1 x4 = y
  pointwise
theorem v153_at : val_main_v153 (F := Ideal) x0 x1 x4 (ix4 b h q k) = Ideal.exp (val_main_v148 (F := Ideal) x0 x1 x4 (ix4 b h q k)
    - val_main_v149 (F := Ideal) x0 x1 x4 (ix3 b h q)) := by
  unfold val_main_v153 val_main_v152 val_main_v151 val_main_v150
  generalize val_main_v148 (F := Ideal) x0 x1 x4 = y
  generalize val_main_v149 (F := Ideal) x0 x1 x4 = z
  pointwise
theorem v154_at : val_main_v154 (F := Ideal) x0 x1 x4 (ix3 b h q) = ∑ k : Fin 8192, val_main_v153 (F := Ideal) x0 x1 x4 (ix4 b h q k) := by
  unfold val_main_v154 val_main_cst_41
  generalize val_main_v153 (F := Ideal) x0 x1 x4 = y
  pointwise
theorem v157_at : val_main_v157 (F := Ideal) x0 x1 x4 (ix4 b h q k) = Ideal.div (val_main_v153 (F := Ideal) x0 x1 x4 (ix4 b h q k))
    (val_main_v154 (F := Ideal) x0 x1 x4 (ix3 b h q)) := by
  unfold val_main_v157 val_main_v156 val_main_v155
  generalize val_main_v153 (F := Ideal) x0 x1 x4 = y
  generalize val_main_v154 (F := Ideal) x0 x1 x4 = z
  pointwise
theorem v197_at : val_main_v197 (F := Ideal) x0 x1 x4 (ix4 b h q k) = Ideal.exp (val_main_v148 (F := Ideal) x0 x1 x4 (ix4 b h q k)
    - (val_main_v149 (F := Ideal) x0 x1 x4 (ix3 b h q) + Ideal.log (val_main_v154 (F := Ideal) x0 x1 x4 (ix3 b h q)))) := by
  rw [val_main_v197_apply, val_main_v196_apply, val_main_v195_apply, val_main_v159_apply, val_main_v158_apply, val_main_v150_apply, val_main_v155_apply,
    show idx_main_v150 (idx_main_v195 (ix4 b h q k)) = ix3 b h q from (funext fun a => match a with | ⟨0, _⟩ => rfl | ⟨1, _⟩ => rfl | ⟨2, _⟩ => rfl),
    show idx_main_v155 (idx_main_v195 (ix4 b h q k)) = ix3 b h q from (funext fun a => match a with | ⟨0, _⟩ => rfl | ⟨1, _⟩ => rfl | ⟨2, _⟩ => rfl)]
  generalize val_main_v148 (F := Ideal) x0 x1 x4 = y
  generalize val_main_v149 (F := Ideal) x0 x1 x4 = z
  generalize val_main_v154 (F := Ideal) x0 x1 x4 = w
  rfl
theorem v165_at : val_main_v165 (F := Ideal) x0 x1 x4 (ix4 b h q k) = min (max (val_main_v157 (F := Ideal) x0 x1 x4 (ix4 b h q k) * Ideal.ofBits .f32 0x43800000#32)
    (Ideal.ofBits .f32 0xC3E00000#32)) (Ideal.ofBits .f32 0x43E00000#32) := by
  unfold val_main_v165 val_main_v164 val_main_v163 val_main_v162 val_main_v161 val_main_v160 val_main_cst_42 val_main_cst_43 val_main_cst_44
  generalize val_main_v157 (F := Ideal) x0 x1 x4 = y
  pointwise
theorem v203_at : val_main_v203 (F := Ideal) x0 x1 x4 (ix4 b h q k) = min (max (val_main_v197 (F := Ideal) x0 x1 x4 (ix4 b h q k) * Ideal.ofBits .f32 0x43800000#32)
    (Ideal.ofBits .f32 0xC3E00000#32)) (Ideal.ofBits .f32 0x43E00000#32) := by
  unfold val_main_v203 val_main_v202 val_main_v201 val_main_v200 val_main_v199 val_main_v198 val_main_cst_48 val_main_cst_49 val_main_cst_50
  generalize val_main_v197 (F := Ideal) x0 x1 x4 = y
  pointwise
theorem v166_at : val_main_v166 (F := Ideal) x0 x1 x2 x4 (ix4 b h q d) = ∑ k : Fin 8192, val_main_v165 (F := Ideal) x0 x1 x4 (ix4 b h q k)
    * val_main_v125 (F := Ideal) x2 (ix4 b k h d) := by
  unfold val_main_v166
  generalize val_main_v165 (F := Ideal) x0 x1 x4 = y
  generalize val_main_v125 (F := Ideal) x2 = z
  pointwise
theorem v176_at : val_main_v176 (F := Ideal) x0 x1 x2 x4 e0 e1 (ix4 b h q d) = e0 (ix4 b q h d) * e1 (ix2 b h)
    * (val_main_v166 (F := Ideal) x0 x1 x2 x4 (ix4 b h q d) * (Ideal.ofBits .f32 0x3B800000#32 * val_main_v118 (F := Ideal) x2 (ix2 b h))) := by
  rw [val_main_v176_apply, val_main_v175_apply, val_main_v174_apply, val_main_v173_apply, val_main_v172_apply, val_main_v171_apply, val_main_v170_apply,
    val_main_v169_apply, val_main_v168_apply, val_main_v167_apply, val_main_cst_45_apply,
    show idx_main_v169 (idx_main_v170 (ix4 b h q d)) = ix2 b h from (funext fun a => match a with | ⟨0, _⟩ => rfl | ⟨1, _⟩ => rfl), show idx_main_v173 (idx_main_v174 (ix4 b h q d)) = ix2 b h from (funext fun a => match a with | ⟨0, _⟩ => rfl | ⟨1, _⟩ => rfl),
    show idx_main_v172 (ix4 b h q d) = ix4 b q h d from (funext fun a => match a with | ⟨0, _⟩ => rfl | ⟨1, _⟩ => rfl | ⟨2, _⟩ => rfl | ⟨3, _⟩ => rfl)]
  generalize val_main_v166 (F := Ideal) x0 x1 x2 x4 = y
  generalize val_main_v118 (F := Ideal) x2 = z
  rfl
theorem v177_at : val_main_v177 (F := Ideal) x0 x1 x2 x4 e0 e1 (ix3 b h q) = ∑ d : Fin 128, val_main_v176 (F := Ideal) x0 x1 x2 x4 e0 e1 (ix4 b h q d) := by
  unfold val_main_v177 val_main_cst_46
  generalize val_main_v176 (F := Ideal) x0 x1 x2 x4 e0 e1 = y
  pointwise
theorem v179_at : val_main_v179 (F := Ideal) x2 e0 (ix4 b h q k) = ∑ d : Fin 128, e0 (ix4 b q h d) * val_main_v125 (F := Ideal) x2 (ix4 b k h d) := by
  unfold val_main_v179
  generalize val_main_v125 (F := Ideal) x2 = z
  pointwise
theorem v185_at : val_main_v185 (F := Ideal) x0 x1 x2 x4 e0 e1 (ix4 b h q k) = val_main_v179 (F := Ideal) x2 e0 (ix4 b h q k)
    * (e1 (ix2 b h) * val_main_v118 (F := Ideal) x2 (ix2 b h)) - val_main_v177 (F := Ideal) x0 x1 x2 x4 e0 e1 (ix3 b h q) := by
  unfold val_main_v185 val_main_v184 val_main_v183 val_main_v182 val_main_v181 val_main_v180 val_main_v178
  generalize val_main_v179 (F := Ideal) x2 e0 = y
  generalize val_main_v118 (F := Ideal) x2 = z
  generalize val_main_v177 (F := Ideal) x0 x1 x2 x4 e0 e1 = w
  pointwise
theorem v205_eq : val_main_v205 (F := Ideal) x0 x1 x2 x4 e0 e1 = val_main_v185 (F := Ideal) x0 x1 x2 x4 e0 e1 := rfl
theorem v188_at : val_main_v188 (F := Ideal) x0 x1 x2 x4 e0 e1 (ix4 b h q k) = val_main_v157 (F := Ideal) x0 x1 x4 (ix4 b h q k)
    * val_main_v185 (F := Ideal) x0 x1 x2 x4 e0 e1 (ix4 b h q k) := by
  unfold val_main_v188 val_main_v187 val_main_v186
  generalize val_main_v157 (F := Ideal) x0 x1 x4 = y
  generalize val_main_v185 (F := Ideal) x0 x1 x2 x4 e0 e1 = z
  pointwise
theorem v208_at : val_main_v208 (F := Ideal) x0 x1 x2 x4 e0 e1 (ix4 b h q k) = val_main_v197 (F := Ideal) x0 x1 x4 (ix4 b h q k)
    * val_main_v205 (F := Ideal) x0 x1 x2 x4 e0 e1 (ix4 b h q k) := by
  unfold val_main_v208 val_main_v207 val_main_v206
  generalize val_main_v197 (F := Ideal) x0 x1 x4 = y
  generalize val_main_v205 (F := Ideal) x0 x1 x2 x4 e0 e1 = z
  pointwise
theorem v189_at : val_main_v189 (F := Ideal) x0 x1 x2 x4 e0 e1 (ix4 b h q d) = ∑ k : Fin 8192, val_main_v188 (F := Ideal) x0 x1 x2 x4 e0 e1 (ix4 b h q k)
    * val_main_v94 (F := Ideal) x1 (ix4 b k h d) := by
  unfold val_main_v189
  generalize val_main_v188 (F := Ideal) x0 x1 x2 x4 e0 e1 = y
  generalize val_main_v94 (F := Ideal) x1 = z
  pointwise
theorem v194_at : val_main_v194 (F := Ideal) x0 x1 x2 x4 e0 e1 (ix4 b h q d) = val_main_v189 (F := Ideal) x0 x1 x2 x4 e0 e1 (ix4 b h q d)
    * (val_main_v87 (F := Ideal) x1 (ix2 b h) * Ideal.ofBits .f32 0x3DB504F3#32) := by
  rw [val_main_v194_apply, val_main_v193_apply, val_main_v192_apply, val_main_v191_apply, val_main_v190_apply, val_main_cst_47_apply,
    show idx_main_v192 (idx_main_v193 (ix4 b h q d)) = ix2 b h from (funext fun a => match a with | ⟨0, _⟩ => rfl | ⟨1, _⟩ => rfl)]
  generalize val_main_v189 (F := Ideal) x0 x1 x2 x4 e0 e1 = y
  generalize val_main_v87 (F := Ideal) x1 = w
  rfl
theorem v214_at : val_main_v214 (F := Ideal) x0 x1 x4 e0 e1 (ix4 b h k d) = (∑ q : Fin 8192, val_main_v203 (F := Ideal) x0 x1 x4 (ix4 b h q k) * e0 (ix4 b q h d))
    * (Ideal.ofBits .f32 0x3B800000#32 * e1 (ix2 b h)) := by
  unfold val_main_v214 val_main_v213 val_main_v212 val_main_v211 val_main_v210 val_main_v209 val_main_cst_51
  generalize val_main_v203 (F := Ideal) x0 x1 x4 = y
  pointwise
theorem v215_at : val_main_v215 (F := Ideal) x0 x1 x2 x4 e0 e1 (ix4 b h k d) = ∑ q : Fin 8192, val_main_v208 (F := Ideal) x0 x1 x2 x4 e0 e1 (ix4 b h q k)
    * val_main_v63 (F := Ideal) x0 (ix4 b q h d) := by
  unfold val_main_v215
  generalize val_main_v208 (F := Ideal) x0 x1 x2 x4 e0 e1 = y
  generalize val_main_v63 (F := Ideal) x0 = z
  pointwise
theorem v220_at : val_main_v220 (F := Ideal) x0 x1 x2 x4 e0 e1 (ix4 b h k d) = val_main_v215 (F := Ideal) x0 x1 x2 x4 e0 e1 (ix4 b h k d)
    * (val_main_v56 (F := Ideal) x0 (ix2 b h) * Ideal.ofBits .f32 0x3DB504F3#32) := by
  rw [val_main_v220_apply, val_main_v219_apply, val_main_v218_apply, val_main_v217_apply, val_main_v216_apply, val_main_cst_52_apply,
    show idx_main_v218 (idx_main_v219 (ix4 b h k d)) = ix2 b h from (funext fun a => match a with | ⟨0, _⟩ => rfl | ⟨1, _⟩ => rfl)]
  generalize val_main_v215 (F := Ideal) x0 x1 x2 x4 e0 e1 = y
  generalize val_main_v56 (F := Ideal) x0 = w
  rfl
theorem v239_at : val_main_v239 (F := Ideal) x0 x1 x2 e1 (ix4 b h 0 d) = Scalar.select (IntOp.cmpi .eq (BitVec.ofNat 32 d.val) 0#32) (val_main_v56 (F := Ideal) x0 (ix2 b h))
    (Scalar.select (IntOp.cmpi .eq (BitVec.ofNat 32 d.val) 1#32) (val_main_v87 (F := Ideal) x1 (ix2 b h))
      (Scalar.select (IntOp.cmpi .eq (BitVec.ofNat 32 d.val) 2#32) (val_main_v118 (F := Ideal) x2 (ix2 b h)) (e1 (ix2 b h)))) := by
  unfold val_main_v239 val_main_v238 val_main_v237 val_main_v236 val_main_v235 val_main_v234 val_main_v233 val_main_v232 val_main_v231 val_main_v230 val_main_v229
    val_main_v228 val_main_v227 val_main_v226 val_main_v225 val_main_v224 val_main_v223 val_main_v222 val_main_v221 val_main_c_53 val_main_c_54 val_main_c_55
  generalize val_main_v56 (F := Ideal) x0 = y
  generalize val_main_v87 (F := Ideal) x1 = z
  generalize val_main_v118 (F := Ideal) x2 = w
  pointwise
theorem v242_at : val_main_v242 (F := Ideal) x0 x1 x2 x4 e0 e1 (ix3 b s (⟨h.val * 128 + d.val, by omega⟩ : Fin 1024)) = val_main_v194 (F := Ideal) x0 x1 x2 x4 e0 e1 (ix4 b h s d) := by
  unfold val_main_v242 val_main_v241 val_main_v240
  generalize val_main_v194 (F := Ideal) x0 x1 x2 x4 e0 e1 = y
  pointwise
theorem v245_at : val_main_v245 (F := Ideal) x0 x1 x2 x4 e0 e1 (ix3 b s (⟨h.val * 128 + d.val, by omega⟩ : Fin 1024)) = val_main_v220 (F := Ideal) x0 x1 x2 x4 e0 e1 (ix4 b h s d) := by
  unfold val_main_v245 val_main_v244 val_main_v243
  generalize val_main_v220 (F := Ideal) x0 x1 x2 x4 e0 e1 = y
  pointwise
theorem v248_at : val_main_v248 (F := Ideal) x0 x1 x4 e0 e1 (ix3 b s (⟨h.val * 128 + d.val, by omega⟩ : Fin 1024)) = val_main_v214 (F := Ideal) x0 x1 x4 e0 e1 (ix4 b h s d) := by
  unfold val_main_v248 val_main_v247 val_main_v246
  generalize val_main_v214 (F := Ideal) x0 x1 x4 e0 e1 = y
  pointwise
theorem idx_split : idx_main_v249 (ix3 b s (⟨h.val * 128 + d.val, by omega⟩ : Fin 1024)) = ix4 b s h d := by
  have hb := b.isLt; have hs := s.isLt; have hh := h.isLt; have hd := d.isLt
  funext a
  ext
  match a with
  | ⟨0, _⟩ => show ((b.val * 8192 + s.val) * 1024 + (h.val * 128 + d.val)) / 8388608 = b.val; omega
  | ⟨1, _⟩ => show ((b.val * 8192 + s.val) * 1024 + (h.val * 128 + d.val)) / 1024 % 8192 = s.val; omega
  | ⟨2, _⟩ => show ((b.val * 8192 + s.val) * 1024 + (h.val * 128 + d.val)) / 128 % 8 = h.val; omega
  | ⟨3, _⟩ => show ((b.val * 8192 + s.val) * 1024 + (h.val * 128 + d.val)) % 128 = d.val; omega
theorem v250_at : val_main_v250 (F := Ideal) x0 (ix3 b s (⟨h.val * 128 + d.val, by omega⟩ : Fin 1024)) = val_main_v63 (F := Ideal) x0 (ix4 b s h d) := by
  rw [val_main_v250_apply, val_main_v249_apply, show idx_main_v249 (ix3 b s (⟨h.val * 128 + d.val, by omega⟩ : Fin 1024)) = ix4 b s h d from idx_split b h s d]
  generalize val_main_v63 (F := Ideal) x0 = y
  rfl
theorem v252_at : val_main_v252 (F := Ideal) x0 (ix3 b s (⟨h.val * 128 + d.val, by omega⟩ : Fin 1024)) = val_main_v94 (F := Ideal) x0 (ix4 b s h d) := by
  rw [val_main_v252_apply, val_main_v251_apply, show idx_main_v251 (ix3 b s (⟨h.val * 128 + d.val, by omega⟩ : Fin 1024)) = ix4 b s h d from idx_split b h s d]
  generalize val_main_v94 (F := Ideal) x0 = y
  rfl
theorem v254_at : val_main_v254 (F := Ideal) x0 (ix3 b s (⟨h.val * 128 + d.val, by omega⟩ : Fin 1024)) = val_main_v125 (F := Ideal) x0 (ix4 b s h d) := by
  rw [val_main_v254_apply, val_main_v253_apply, show idx_main_v253 (ix3 b s (⟨h.val * 128 + d.val, by omega⟩ : Fin 1024)) = ix4 b s h d from idx_split b h s d]
  generalize val_main_v125 (F := Ideal) x0 = y
  rfl
end Cert.ReferenceIdeal.Read

end
-- ==== Proof.RefDoc.lean ====
/-
  The reference's codes of the output gradient: what its one-step region leaves is the codes computed before it, cast.
-/
module

public import proofs.«01_k».proof.Proof.Gen.ReferenceIdeal.Read
public import proofs.«01_k».proof.Proof.Gen.ReferenceIdeal.Run
public import proofs.«01_k».proof.Proof.RefStages
public import Idealize.ShloMosaic.Lib.Pipeline.ValueKit

@[expose] public section

set_option maxRecDepth 16384

noncomputable section

namespace Cert.ReferenceIdeal.Read

open Cert.ReferenceIdeal Cert.ReferenceIdeal.Gen Cert.ReferenceIdeal.Value
open Idealize.ShloMosaic Idealize.ShloMosaic.TcCoe Idealize.ShloMosaic.Pipeline Idealize.ShloMosaic.StableHlo

variable (m : (ℓ : Loc nD τ sig) → Buf (Elt Ideal) ℓ) (c : Dev nD)

theorem exit_v30 : exitV m c (Proc.devRef .tc main_v30) = codeT 0x37924925#32 0xC7600000#32 0x47600000#32 (m ((c.tc : Thread nD τ).loc main_arg3)) :=
  (exit_main_v30 m c).trans rfl
theorem exit_v23 : exitV m c (Proc.devRef .tc main_v23) = scaleT 0x37924925#32 (m ((c.tc : Thread nD τ).loc main_arg3)) :=
  (exit_main_v23 m c).trans rfl

set_option maxHeartbeats 2000000 in
theorem entry_v31 : Gen.V m c main_v31 = shapeCast S9x8192x1024 (s := S9x8192x8x128) (Gen.V m c main_v30) (by decide) := by
  show Gen.V0 m c (Proc.devRef .tc main_v31) = shapeCast S9x8192x1024 (Gen.V0 m c (Proc.devRef .tc main_v30)) _
  simp only [Gen.V0, Gen.hostOps0, Gen.hostOps0_1, Gen.hostOps0_2, Gen.hostOps0_3, Gen.hostOps0_4, TRef.ternary, TRef.unary, TRef.toBuf, TRef.ofBuf, cast_eq, List.flatten_cons, List.flatten_nil, List.append_nil, List.cons_append, List.nil_append]
  after_results_simp <;> rfl

theorem pay_at (y : Vec Ideal S9x8192x1024 .f32) (j : S9x8192x1024.Idx) : k0_pay1 y j = y j := by
  unfold k0_pay1
  pointwise

theorem at_zero : ∀ a : Fin 3, (cfg0.win 0).index ⟨0, by decide⟩ a = 0 := by decide +kernel

theorem cast_split (y : S9x8192x8x128.Idx → EReal) (b : Fin 9) (s : Fin 8192) (h : Fin 8) (d : Fin 128) :
    shapeCast S9x8192x1024 y (show S9x8192x8x128.ShapeCasts S9x8192x1024 by decide) (ix3 b s (⟨h.val * 128 + d.val, by omega⟩ : Fin 1024)) = y (ix4 b s h d) := by
  pointwise

theorem read_at (Y : Vec Ideal S9x8192x1024 .f32) (j : S9x8192x1024.Idx) :
    ((cfg0.win 0).blk ⟨0, by decide⟩).view.read (Elt Ideal) Y j = Y j := by
  refine congrArg Y (funext fun a => Fin.ext ?_)
  exact (cfg0.win 0).rect_emb_val_of_index_zero ⟨0, by decide⟩ a (at_zero a) j

theorem iblk_at (j : S9x8192x1024.Idx) : Gen.iblk m c 0 ⟨0, by decide⟩ j = Gen.V m c main_v31 j := by
  unfold Gen.iblk
  generalize Gen.V m c (Pipeline.arrRef spec0 0) = Y
  exact read_at Y j

theorem reg_v32_of (Y : Vec Ideal S9x8192x1024 .fp8e5m2) (hY : ∀ j : S9x8192x1024.Idx, (Gen.iblk m c 0 ⟨0, by decide⟩ j : EReal) = Y j) :
    reg_main_v32 m c = Y := by
  unfold reg_main_v32
  refine (Gen.dats m 0 c).arrAt_eq_of_after_last 1 ⟨0, by decide⟩ (by decide +kernel) _ fun j => ?_
  refine (congrFun (Gen.after0_1 m c ⟨0, by decide⟩) j).trans ?_
  frame_out
  exact (pay_at _ j).trans (hY j)

theorem entry_v30 : Gen.V m c main_v30 = exitV m c (Proc.devRef .tc main_v30) :=
  (Pipeline.withArrays_of_ne _ c (Gen.V0 m c) _ main_v30 (by exact (by decide : ∀ w, Pipeline.arrRef spec0 w ≠ main_v30))).symm

theorem entry_eq : Gen.V m c main_v31 = shapeCast S9x8192x1024 (codeT 0x37924925#32 0xC7600000#32 0x47600000#32 (m ((c.tc : Thread nD τ).loc main_arg3)))
    (show S9x8192x8x128.ShapeCasts S9x8192x1024 by decide) := by
  rw [entry_v31, entry_v30, exit_v30]

/-- The region's result, an element of head `h`. -/
theorem v32_at (b : Fin 9) (s : Fin 8192) (h : Fin 8) (d : Fin 128) :
    (reg_main_v32 m c (ix3 b s (⟨h.val * 128 + d.val, by omega⟩ : Fin 1024)) : EReal) =
      codeT 0x37924925#32 0xC7600000#32 0x47600000#32 (m ((c.tc : Thread nD τ).loc main_arg3)) (ix4 b s h d) := by
  have E := entry_eq m c
  generalize codeT 0x37924925#32 0xC7600000#32 0x47600000#32 (m ((c.tc : Thread nD τ).loc main_arg3)) = y at E ⊢
  have R := reg_v32_of m c (shapeCast S9x8192x1024 y (show S9x8192x8x128.ShapeCasts S9x8192x1024 by decide)) fun j => (iblk_at m c j).trans (congrFun E j)
  exact (congrFun R _).trans (cast_split y b s h d)

end Cert.ReferenceIdeal.Read
-- ==== Proof.RefRun.lean ====
/-
  The reference's run, its results the named stages of the arguments.
-/
module

public import proofs.«01_k».proof.Proof.RefDoc

@[expose] public section

set_option maxRecDepth 16384

noncomputable section

namespace Cert.ReferenceIdeal.Read

open Cert.ReferenceIdeal Cert.ReferenceIdeal.Gen Cert.ReferenceIdeal.Value Idealize.ShloMosaic Idealize.ShloMosaic.TcCoe Idealize.SL.Sem

/-- The codes and the scales of the result's gradient. -/
abbrev docT (x : Arr) : FVec Ideal S9x8192x8x128 .f32 := codeT 0x37924925#32 0xC7600000#32 0x47600000#32 x
abbrev dosT (x : Arr) : FVec Ideal S9x8 .f32 := scaleT 0x37924925#32 x

variable (m : (ℓ : Loc nD τ sig) → Buf (Elt Ideal) ℓ)

theorem run (ρ : Dev nD → PrngReg) :
    θ_run defs (onTc (τ := τ) (main (F := Ideal))) ⟨m, fun _ => 0, ρ⟩ fun r => ∀ c : Dev nD,
      r.2.mem ((c.tc : Thread nD τ).loc main_v242) = val_main_v242 (F := Ideal) (m ((c.tc : Thread nD τ).loc main_arg0)) (m ((c.tc : Thread nD τ).loc main_arg1)) (m ((c.tc : Thread nD τ).loc main_arg2)) (m ((c.tc : Thread nD τ).loc main_arg4)) (docT (m ((c.tc : Thread nD τ).loc main_arg3))) (dosT (m ((c.tc : Thread nD τ).loc main_arg3)))
      ∧ r.2.mem ((c.tc : Thread nD τ).loc main_v245) = val_main_v245 (F := Ideal) (m ((c.tc : Thread nD τ).loc main_arg0)) (m ((c.tc : Thread nD τ).loc main_arg1)) (m ((c.tc : Thread nD τ).loc main_arg2)) (m ((c.tc : Thread nD τ).loc main_arg4)) (docT (m ((c.tc : Thread nD τ).loc main_arg3))) (dosT (m ((c.tc : Thread nD τ).loc main_arg3)))
      ∧ r.2.mem ((c.tc : Thread nD τ).loc main_v248) = val_main_v248 (F := Ideal) (m ((c.tc : Thread nD τ).loc main_arg0)) (m ((c.tc : Thread nD τ).loc main_arg1)) (m ((c.tc : Thread nD τ).loc main_arg4)) (docT (m ((c.tc : Thread nD τ).loc main_arg3))) (dosT (m ((c.tc : Thread nD τ).loc main_arg3)))
      ∧ r.2.mem ((c.tc : Thread nD τ).loc main_v250) = val_main_v250 (F := Ideal) (m ((c.tc : Thread nD τ).loc main_arg0))
      ∧ r.2.mem ((c.tc : Thread nD τ).loc main_v252) = val_main_v252 (F := Ideal) (m ((c.tc : Thread nD τ).loc main_arg1))
      ∧ r.2.mem ((c.tc : Thread nD τ).loc main_v254) = val_main_v254 (F := Ideal) (m ((c.tc : Thread nD τ).loc main_arg2))
      ∧ r.2.mem ((c.tc : Thread nD τ).loc main_v32) = reg_main_v32 m c
      ∧ r.2.mem ((c.tc : Thread nD τ).loc main_v239) = val_main_v239 (F := Ideal) (m ((c.tc : Thread nD τ).loc main_arg0)) (m ((c.tc : Thread nD τ).loc main_arg1)) (m ((c.tc : Thread nD τ).loc main_arg2)) (dosT (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Value.run m ρ)
  obtain ⟨h0, h1, h2, h3, h4, h5, h6, h7, hr⟩ := h c
  have q0 := exit_main_arg0 m c
  have q1 := exit_main_arg1 m c
  have q2 := exit_main_arg2 m c
  have q4 := exit_main_arg4 m c
  have q30 := exit_v30 m c
  have q23 := exit_v23 m c
  rw [val_main_v242_eq, q0, q1, q2, q4, q30, q23] at h0
  rw [val_main_v245_eq, q0, q1, q2, q4, q30, q23] at h1
  rw [val_main_v248_eq, q0, q1, q4, q30, q23] at h2
  rw [val_main_v250_eq, q0] at h3
  rw [val_main_v252_eq, q1] at h4
  rw [val_main_v254_eq, q2] at h5
  rw [val_main_v239_eq, q0, q1, q2, q23] at h7
  exact ⟨h0, h1, h2, h3, h4, h5, h6, h7, hr⟩

end Cert.ReferenceIdeal.Read
-- ==== Proof.Attn.lean ====
/-
  Attention's backward pass over the reals, and the running maximum and sum by which one pass over blocks of 256 keys computes the
  softmax's normaliser.
-/
module

public import proofs.«01_k».proof.Proof.Scales

@[expose] public section

noncomputable section

namespace Cert.Proof.Attn

open Idealize.ShloMosaic Finset

/-! ## Sums by blocks -/

/-- The sum over block `j`, and over the `n` blocks from `lo` on. -/
def bsum (g : ℕ → ℝ) (j : ℕ) : ℝ := ∑ x : Fin 256, g (256 * j + x.val)
def psum (g : ℕ → ℝ) (lo n : ℕ) : ℝ := ∑ j ∈ range n, bsum g (lo + j)

theorem psum_zero (g : ℕ → ℝ) (lo : ℕ) : psum g lo 0 = 0 := rfl
theorem psum_succ (g : ℕ → ℝ) (lo n : ℕ) : psum g lo (n + 1) = psum g lo n + ∑ x : Fin 256, g (256 * (lo + n) + x.val) := sum_range_succ _ _

theorem sum_blocks (g : ℕ → ℝ) (n : ℕ) : ∑ k ∈ range (256 * n), g k = ∑ j ∈ range n, bsum g j := by
  induction n with
  | zero => rfl
  | succ n ih => rw [Nat.mul_succ, sum_range_add, ih, sum_range_succ _ n, Finset.sum_range (n := 256) fun x => g (256 * n + x)]; rfl

theorem bsum_eq_zero {g : ℕ → ℝ} {j : ℕ} (h : ∀ x < 256, g (256 * j + x) = 0) : bsum g j = 0 :=
  sum_eq_zero fun x _ => h x.val x.isLt

/-- A family that vanishes outside the blocks `lo` to `lo + n` sums to its sum over them. -/
theorem psum_eq_total (g : ℕ → ℝ) (lo n : ℕ) (hn : lo + n ≤ 32) (h1 : ∀ k, k < 256 * lo → g k = 0)
    (h2 : ∀ k, 256 * (lo + n) ≤ k → g k = 0) : psum g lo n = ∑ k ∈ range 8192, g k := by
  have e : (8192 : ℕ) = 256 * (lo + n + (32 - (lo + n))) := by omega
  rw [e, sum_blocks, sum_range_add, sum_range_add]
  rw [sum_eq_zero (s := range lo) fun j hj => bsum_eq_zero fun x hx => h1 _ (by have := mem_range.mp hj; omega)]
  rw [sum_eq_zero (s := range (32 - (lo + n))) fun j hj => bsum_eq_zero fun x hx => h2 _ (by omega)]
  rw [zero_add, add_zero]; rfl

/-! ## The running maximum and sum of one query's row -/

section Row

variable (s : ℕ → ℝ) (M : ℕ → Prop) [DecidablePred M] (lo : ℕ)

/-- The weights before normalising. -/
def wt (k : ℕ) : ℝ := if M k then Real.exp (s k) else 0

theorem wt_nonneg (k : ℕ) : 0 ≤ wt s M k := by unfold wt; split <;> positivity

/-- The masked score as an extended real. -/
def msc (k : ℕ) : EReal := if M k then (s k : EReal) else ⊥

/-- The running maximum. -/
def mu : ℕ → ℝ
  | 0 => floorMax
  | n + 1 => univ.fold max (mu n) fun x : Fin 256 => if M (256 * (lo + n) + x.val) then s (256 * (lo + n) + x.val) else mu n

theorem mu_step (n : ℕ) : max (mu s M lo n : EReal) (univ.fold max ⊥ fun x : Fin 256 => msc s M (256 * (lo + n) + x.val)) = (mu s M lo (n + 1) : EReal) := by
  show _ = ((univ.fold max (mu s M lo n) _ : ℝ) : EReal)
  rw [coe_fold_max]
  refine eq_of_forall_ge_iff fun c => ?_
  rw [max_le_iff, fold_max_le, fold_max_le]
  constructor
  · rintro ⟨h0, -, h⟩
    refine ⟨h0, fun x hx => ?_⟩
    have := h x hx
    unfold msc at this
    split <;> rename_i hm
    · rwa [if_pos hm] at this
    · exact h0
  · rintro ⟨h0, h⟩
    refine ⟨h0, bot_le, fun x hx => ?_⟩
    have := h x hx
    unfold msc
    split <;> rename_i hm
    · rwa [if_pos hm] at this
    · exact bot_le

theorem mu_le_succ (n : ℕ) : mu s M lo n ≤ mu s M lo (n + 1) := by
  have h := (fold_max_le (f := fun x : Fin 256 => if M (256 * (lo + n) + x.val) then s (256 * (lo + n) + x.val) else mu s M lo n)
    (b := mu s M lo n) (s := univ) (mu s M lo (n + 1))).mp le_rfl
  exact h.1

theorem mu_mono {a b : ℕ} (h : a ≤ b) : mu s M lo a ≤ mu s M lo b := monotone_nat_of_le_succ (mu_le_succ s M lo) h

theorem le_mu {n j : ℕ} (hj : j < n) (x : Fin 256) (hm : M (256 * (lo + j) + x.val)) : s (256 * (lo + j) + x.val) ≤ mu s M lo n := by
  refine le_trans ?_ (mu_mono s M lo (Nat.succ_le_of_lt hj))
  have h := ((fold_max_le (f := fun x : Fin 256 => if M (256 * (lo + j) + x.val) then s (256 * (lo + j) + x.val) else mu s M lo j)
    (b := mu s M lo j) (s := univ) (mu s M lo (j + 1))).mp le_rfl).2 x (mem_univ _)
  rwa [if_pos hm] at h

theorem mu_attained (n : ℕ) : mu s M lo n = floorMax ∨ ∃ j < n, ∃ x : Fin 256, M (256 * (lo + j) + x.val) ∧ mu s M lo n = s (256 * (lo + j) + x.val) := by
  induction n with
  | zero => exact .inl rfl
  | succ n ih =>
    have key : mu s M lo (n + 1) = mu s M lo n ∨ ∃ x : Fin 256, M (256 * (lo + n) + x.val) ∧ mu s M lo (n + 1) = s (256 * (lo + n) + x.val) := by
      by_contra hc
      push Not at hc
      have hlt : mu s M lo n < mu s M lo (n + 1) := lt_of_le_of_ne (mu_le_succ s M lo n) (Ne.symm hc.1)
      have h := (lt_fold_max (f := fun x : Fin 256 => if M (256 * (lo + n) + x.val) then s (256 * (lo + n) + x.val) else mu s M lo n)
        (b := mu s M lo n) (s := univ) (mu s M lo n)).mp hlt
      obtain h | ⟨x, -, hx⟩ := h
      · exact absurd h (lt_irrefl _)
      have hall : ∀ x : Fin 256, (if M (256 * (lo + n) + x.val) then s (256 * (lo + n) + x.val) else mu s M lo n) < mu s M lo (n + 1) := by
        intro x
        split
        · rename_i hm
          exact lt_of_le_of_ne (le_mu s M lo (Nat.lt_succ_self n) x hm) (Ne.symm (hc.2 x hm))
        · exact hlt
      have : mu s M lo (n + 1) < mu s M lo (n + 1) := by
        have := (fold_max_lt (f := fun x : Fin 256 => if M (256 * (lo + n) + x.val) then s (256 * (lo + n) + x.val) else mu s M lo n)
          (b := mu s M lo n) (s := univ) (mu s M lo (n + 1))).mpr ⟨hlt, fun x _ => hall x⟩
        exact this
      exact lt_irrefl _ this
    obtain e | ⟨x, hm, e⟩ := key
    · rw [e]
      obtain h | ⟨j, hj, x, hm, h⟩ := ih
      · exact .inl h
      · exact .inr ⟨j, by omega, x, hm, h⟩
    · exact .inr ⟨n, by omega, x, hm, e⟩

/-- The running sum. -/
def ell (n : ℕ) : ℝ := psum (wt s M) lo n * Real.exp (-mu s M lo n)

theorem exp_msc (k : ℕ) (c : ℝ) : Ideal.exp (msc s M k - (c : EReal)) = ((wt s M k * Real.exp (-c) : ℝ) : EReal) := by
  unfold msc wt
  split
  · rw [← EReal.coe_sub, Ideal.exp_coe, sub_eq_add_neg, Real.exp_add]
  · rw [EReal.bot_sub, zero_mul]; rfl

theorem ell_step (n : ℕ) : (ell s M lo n : EReal) * Ideal.exp ((mu s M lo n : EReal) - (mu s M lo (n + 1) : EReal))
    + ∑ x : Fin 256, Ideal.exp (msc s M (256 * (lo + n) + x.val) - (mu s M lo (n + 1) : EReal)) = (ell s M lo (n + 1) : EReal) := by
  simp only [exp_msc]
  rw [← EReal.coe_sub, Ideal.exp_coe, ← coe_sum, ← EReal.coe_mul, ← EReal.coe_add]
  congr 1
  unfold ell
  rw [psum_succ, add_mul, sum_mul, mul_assoc, ← Real.exp_add]
  congr 3
  ring

theorem psum_nonneg {g : ℕ → ℝ} (h : ∀ k, 0 ≤ g k) (lo n : ℕ) : 0 ≤ psum g lo n := sum_nonneg fun _ _ => sum_nonneg fun _ _ => h _

theorem le_psum {g : ℕ → ℝ} (h : ∀ k, 0 ≤ g k) (lo n j : ℕ) (hj : j < n) (x : Fin 256) : g (256 * (lo + j) + x.val) ≤ psum g lo n := by
  refine le_trans ?_ (single_le_sum (f := fun j => bsum g (lo + j)) (fun _ _ => sum_nonneg fun _ _ => h _) (mem_range.mpr hj))
  exact single_le_sum (f := fun x : Fin 256 => g (256 * (lo + j) + x.val)) (fun _ _ => h _) (mem_univ x)

/-- Where some key is let through with a score above the maximum's start, the sum is at least 1. -/
theorem one_le_ell (n j : ℕ) (hj : j < n) (x : Fin 256) (hm : M (256 * (lo + j) + x.val)) (hf : floorMax ≤ s (256 * (lo + j) + x.val)) :
    1 ≤ ell s M lo n := by
  have key : ∃ j < n, ∃ x : Fin 256, M (256 * (lo + j) + x.val) ∧ mu s M lo n = s (256 * (lo + j) + x.val) := by
    obtain h | h := mu_attained s M lo n
    · exact ⟨j, hj, x, hm, le_antisymm (h.trans_le hf) (le_mu s M lo hj x hm)⟩
    · exact h
  obtain ⟨j', hj', x', hm', e⟩ := key
  unfold ell
  have h1 := le_psum (wt_nonneg s M) lo n j' hj' x'
  have h2 : wt s M (256 * (lo + j') + x'.val) = Real.exp (mu s M lo n) := by unfold wt; rw [if_pos hm', e]
  calc (1 : ℝ) = Real.exp (mu s M lo n) * Real.exp (-mu s M lo n) := by rw [← Real.exp_add, add_neg_cancel, Real.exp_zero]
    _ ≤ _ := mul_le_mul_of_nonneg_right (h2 ▸ h1) (Real.exp_pos _).le

/-- The probability times 256 as the second pass computes it: the clip at 448 never binds. -/
theorem prob_eq (n j : ℕ) (hj : j ≤ n) (k : ℕ) (hl : 1 ≤ ell s M lo n) :
    Ideal.exp (msc s M k - (mu s M lo j : EReal))
      * min (Ideal.exp ((mu s M lo j : EReal) - (mu s M lo n : EReal)) * Ideal.div ((256 : ℝ) : EReal) (ell s M lo n : EReal)) ((448 : ℝ) : EReal)
    = ((256 * (wt s M k / psum (wt s M) lo n) : ℝ) : EReal) := by
  have hl0 : ell s M lo n ≠ 0 := by linarith
  have hp : psum (wt s M) lo n ≠ 0 := fun h => hl0 (by unfold ell; rw [h, zero_mul])
  rw [Ideal.div_coe hl0, exp_msc, ← EReal.coe_sub, Ideal.exp_coe, ← EReal.coe_mul, ← EReal.coe_mul]
  rw [min_eq_left, ← EReal.coe_mul]
  · congr 1
    unfold ell
    have e1 := (Real.exp_pos (-mu s M lo n)).ne'
    have h2 : Real.exp (mu s M lo j - mu s M lo n) = Real.exp (-mu s M lo n) * (Real.exp (-mu s M lo j))⁻¹ := by
      rw [← Real.exp_neg, ← Real.exp_add]; congr 1; ring
    have e2 := (Real.exp_pos (-mu s M lo j)).ne'
    rw [h2]
    field_simp
  · rw [EReal.coe_le_coe_iff]
    have h1 : Real.exp (mu s M lo j - mu s M lo n) ≤ 1 := Real.exp_le_one_iff.mpr (by linarith [mu_mono s M lo hj])
    have h2 : 1 / ell s M lo n ≤ 1 := by rw [div_le_one (by linarith)]; exact hl
    have h3 : 0 ≤ 1 / ell s M lo n := by positivity
    nlinarith [Real.exp_pos (mu s M lo j - mu s M lo n)]

end Row

/-! ## The backward pass -/

section Grad

variable (Q K V D : ℕ → Fin 128 → ℝ) (sm : ℝ) (M : ℕ → ℕ → Prop) [∀ q, DecidablePred (M q)]

/-- Scores, weights, normaliser and probabilities, by query and key. -/
def sc (q k : ℕ) : ℝ := (∑ d, K k d * Q q d) * sm
def norm (q : ℕ) : ℝ := ∑ k ∈ range 8192, wt (sc Q K sm q) (M q) k
def prob (q k : ℕ) : ℝ := wt (sc Q K sm q) (M q) k / norm Q K sm M q
/-- The output times 256, and its product with its gradient. -/
def out (q : ℕ) (d : Fin 128) : ℝ := ∑ k ∈ range 8192, 256 * prob Q K sm M q k * V k d
def delta (q : ℕ) : ℝ := (∑ d, out Q K V sm M q d * D q d) * 256⁻¹
/-- The scores' gradient times 256, and the three gradients, unscaled. -/
def grad (q k : ℕ) : ℝ := 256 * prob Q K sm M q k * (∑ d, V k d * D q d - delta Q K V D sm M q)
def dq (q : ℕ) (d : Fin 128) : ℝ := ∑ k ∈ range 8192, K k d * grad Q K V D sm M q k
def dk (k : ℕ) (d : Fin 128) : ℝ := ∑ q ∈ range 8192, grad Q K V D sm M q k * Q q d
def dv (k : ℕ) (d : Fin 128) : ℝ := ∑ q ∈ range 8192, 256 * prob Q K sm M q k * D q d

theorem prob_of_not {q k : ℕ} (h : ¬ M q k) : prob Q K sm M q k = 0 := by
  unfold prob wt; rw [if_neg h, zero_div]
theorem grad_of_not {q k : ℕ} (h : ¬ M q k) : grad Q K V D sm M q k = 0 := by
  unfold grad; rw [prob_of_not Q K sm M h, mul_zero, zero_mul]

/-- A score of codes of magnitude at most `B` is at least `floorMax` when the factor is moderate. -/
theorem floor_le_sc (q k : ℕ) (hQ : ∀ d, |Q q d| ≤ 448) (hK : ∀ d, |K k d| ≤ 448) (hs0 : 0 ≤ sm) (hs : sm ≤ 2 ^ 82) : floorMax ≤ sc Q K sm q k := by
  have h1 : |∑ d, K k d * Q q d| ≤ 128 * (448 * 448) := by
    refine (abs_sum_le_sum_abs _ _).trans ?_
    refine (sum_le_sum fun d _ => (abs_mul (K k d) (Q q d)).trans_le (mul_le_mul (hK d) (hQ d) (abs_nonneg _) (by norm_num))).trans ?_
    simp
  have h2 := (abs_le.mp h1).1
  unfold sc
  have h3 : -(128 * (448 * 448)) * (2 ^ 82 : ℝ) ≤ (∑ d, K k d * Q q d) * sm := by
    calc -(128 * (448 * 448)) * (2 ^ 82 : ℝ) ≤ -(128 * (448 * 448)) * sm := by nlinarith
      _ ≤ _ := mul_le_mul_of_nonneg_right h2 hs0
  refine le_trans ?_ h3
  unfold floorMax
  norm_num

end Grad

end Cert.Proof.Attn

end
-- ==== Proof.BlockIdeal.lean ====
/-
  One query block of the kernel over the extended reals: its passes over the key blocks leave the rows of the attention gradients.
-/
module

public import proofs.«01_k».proof.Proof.QuantIdeal
public import proofs.«01_k».proof.Proof.Attn

@[expose] public section

set_option maxRecDepth 16384

noncomputable section

namespace Cert.Proof.KernelIdeal

open Cert.KernelIdeal Cert.KernelIdeal.Gen
open Idealize.ShloMosaic Idealize.ShloMosaic.TcCoe

/-! ## Trip counts and offsets of the loops over key blocks -/

set_option maxRecDepth 100000 in
theorem trips11 : ∀ (t : Fin k0_t10_loop.trips) (w : Fin 32), w.val ≤ t.val → (k0_t11_loop t (BitVec.ofNat 32 w.val)).trips = t.val + 1 - w.val := by
  decide +kernel
theorem trips13 (t : Fin k0_t10_loop.trips) (w : Fin 32) (h : w.val ≤ t.val) : (k0_t13_loop t (BitVec.ofNat 32 w.val)).trips = t.val + 1 - w.val := trips11 t w h
theorem trips15 (t : Fin k0_t10_loop.trips) (w : Fin 32) (h : w.val ≤ t.val) : (k0_t15_loop t (BitVec.ofNat 32 w.val)).trips = t.val + 1 - w.val := trips11 t w h
set_option maxRecDepth 100000 in
theorem off14_eq : ∀ (t : Fin k0_t10_loop.trips) (w : Fin 32), w.val ≤ t.val → ∀ k, k0_off14 t (BitVec.ofNat 32 w.val) k = ![0, (w.val + k.val) * 256, 0] := by
  decide +kernel
set_option maxRecDepth 100000 in
theorem off22_eq : ∀ (t : Fin k0_t10_loop.trips) (w : Fin 32), w.val ≤ t.val → ∀ k, k0_off22 t (BitVec.ofNat 32 w.val) k = ![(w.val + k.val) * 256, 0] := by
  decide +kernel
set_option maxRecDepth 100000 in
theorem off31_eq : ∀ (t : Fin k0_t10_loop.trips) (w : Fin 32), w.val ≤ t.val → ∀ k, k0_off31 t (BitVec.ofNat 32 w.val) k = ![w.val + k.val, 0, 0] := by
  decide +kernel
theorem off23_eq (t : Fin k0_t10_loop.trips) (w : Fin 32) (h : w.val ≤ t.val) (k) : k0_off23 t (BitVec.ofNat 32 w.val) k = ![0, (w.val + k.val) * 256, 0] := off14_eq t w h k
theorem off28_eq (t : Fin k0_t10_loop.trips) (w : Fin 32) (h : w.val ≤ t.val) (k) : k0_off28 t (BitVec.ofNat 32 w.val) k = ![0, (w.val + k.val) * 256, 0] := off14_eq t w h k
theorem off30_eq (t : Fin k0_t10_loop.trips) (w : Fin 32) (h : w.val ≤ t.val) (k) : k0_off30 t (BitVec.ofNat 32 w.val) k = ![(w.val + k.val) * 256, 0] := off22_eq t w h k

/-! ## Slabs by entry -/

section Entries

variable {e : Type} {X : S1x8192x128.Idx → e} {val : ℕ → Fin 128 → e} (hX : ∀ (s : Fin 8192) (d : Fin 128), X (ix3 (0 : Fin 1) s d) = val s.val d)

include hX in
theorem pull256 (o : Fin 3 → ℕ) (inb : ∀ a, o a + S1x256x128.size a ≤ S1x8192x128.size a) (n : ℕ) (hn : n < 32) (ho : o = ![0, n * 256, 0]) (r : Fin 256)
    (d : Fin 128) : pull (Rect.unit (s := S1x8192x128) o S1x256x128.size inb) X (ix3 0 r d) = val (256 * n + r.val) d := by
  have := emb256 o inb (n * 256) ho r d (by omega)
  refine (congrArg X this).trans ((hX _ d).trans ?_)
  show val (n * 256 + r.val) d = _
  rw [Nat.mul_comm]

end Entries

theorem overlay_at {α : Type} (o : Fin 2 → ℕ) (inb : ∀ a, o a + S256x128.size a ≤ S8192x128.size a) (n : ℕ) (ho : o = ![n * 256, 0]) (X : S8192x128.Idx → α)
    (W : S256x128.Idx → α) (s : Fin 8192) (d : Fin 128) :
    (Rect.unit (s := S8192x128) o S256x128.size inb).overlay X W (ix2 s d)
      = if s.val / 256 = n then W (ix2 (⟨s.val % 256, by omega⟩ : Fin 256) d) else X (ix2 s d) := by
  subst ho
  split
  · rename_i h
    have e : (Rect.unit (s := S8192x128) ![n * 256, 0] S256x128.size inb).emb (ix2 (⟨s.val % 256, by omega⟩ : Fin 256) d) = ix2 s d := by
      funext a
      ext
      rw [emb_unit_val]
      fin_cases a
      · show n * 256 + s.val % 256 = s.val
        omega
      · exact Nat.zero_add _
    rw [← e]
    exact (Rect.unit (s := S8192x128) ![n * 256, 0] S256x128.size inb).overlay_emb X W _
  · rename_i h
    refine Rect.overlay_of_not_mem _ _ _ fun hm => h ?_
    rw [← Rect.map_emb_univ] at hm
    obtain ⟨x, -, e⟩ := Finset.mem_map.mp hm
    have e0 := congrArg (fun y => (y 0).val) e
    simp only [emb_unit_val] at e0
    have hx : (x 0).val < 256 := (x 0).isLt
    have e1 : n * 256 + (x 0).val = s.val := e0
    omega

theorem pull2_at {α : Type} (o : Fin 2 → ℕ) (inb : ∀ a, o a + S256x128.size a ≤ S8192x128.size a) (n : ℕ) (ho : o = ![n * 256, 0]) (X : S8192x128.Idx → α)
    (r : Fin 256) (d : Fin 128) (h : n * 256 + r.val < 8192) : pull (Rect.unit (s := S8192x128) o S256x128.size inb) X (ix2 r d) = X (ix2 (⟨n * 256 + r.val, h⟩ : Fin 8192) d) := by
  subst ho
  refine congrArg X (funext fun a => ?_)
  ext
  rw [emb_unit_val]
  fin_cases a
  · rfl
  · exact Nat.zero_add _

/-! ## The mask -/

/-- Key `k` is let through by query `q`. -/
def Lets (start : ℕ → ℕ) (q k : ℕ) : Prop := start q ≤ k ∧ k ≤ q

instance (start : ℕ → ℕ) (q : ℕ) : DecidablePred (Lets start q) := fun k => inferInstanceAs (Decidable (start q ≤ k ∧ k ≤ q))

theorem sle_ofNat (a b : ℕ) (ha : a < 2 ^ 31) (hb : b < 2 ^ 31) : (BitVec.ofNat 32 a).sle (BitVec.ofNat 32 b) = decide (a ≤ b) := by
  have h1 : (BitVec.ofNat 32 a).toInt = a := by
    rw [BitVec.toInt_eq_toNat_of_lt (by rw [BitVec.toNat_ofNat]; omega), BitVec.toNat_ofNat]; omega
  have h2 : (BitVec.ofNat 32 b).toInt = b := by
    rw [BitVec.toInt_eq_toNat_of_lt (by rw [BitVec.toNat_ofNat]; omega), BitVec.toNat_ofNat]; omega
  unfold BitVec.sle
  rw [h1, h2]
  simp

theorem key_word (w k x : ℕ) (hw : w < 32) (hk : k < 32) (hx : x < 256) :
    IntOp.addi (Scalar.muli (Scalar.addi (BitVec.ofNat 32 w) (Scf.iv 0#32 1#32 k)) 256#32) (BitVec.ofNat 32 x) = BitVec.ofNat 32 (256 * (w + k) + x) := by
  apply BitVec.eq_of_toNat_eq
  have hiv := iv_one_toNat k (by omega)
  unfold IntOp.addi Scalar.muli Scalar.addi IntOp.muli IntOp.addi
  rw [BitVec.toNat_add, BitVec.toNat_mul, BitVec.toNat_add, hiv]
  simp only [BitVec.toNat_ofNat]
  omega
theorem query_word (t i : ℕ) (ht : t < 32) (hi : i < 256) :
    IntOp.addi (Scalar.muli (Scf.iv 0#32 1#32 t) 256#32) (BitVec.ofNat 32 i) = BitVec.ofNat 32 (256 * t + i) := by
  apply BitVec.eq_of_toNat_eq
  have hiv := iv_one_toNat t (by omega)
  unfold IntOp.addi Scalar.muli IntOp.muli
  rw [BitVec.toNat_add, BitVec.toNat_mul, hiv]
  simp only [BitVec.toNat_ofNat]
  omega

theorem masked_eq (w t k x i : ℕ) (hw : w < 32) (hk : k < 32) (ht : t < 32) (hx : x < 256) (hi : i < 256) (start : ℕ → ℕ) (hs : start (256 * t + i) < 8192)
    (s : ℕ → ℝ) :
    masked (BitVec.ofNat 32 w) t k x i (BitVec.ofNat 32 (start (256 * t + i))) (s (256 * (w + k) + x) : EReal)
      = Attn.msc s (Lets start (256 * t + i)) (256 * (w + k) + x) := by
  unfold masked Attn.msc
  rw [key_word w k x hw hk hx, query_word t i ht hi, const_bot]
  unfold IntOp.cmpi
  simp only [sle_ofNat (start (256 * t + i)) (256 * (w + k) + x) (by omega) (by omega),
    sle_ofNat (256 * (w + k) + x) (256 * t + i) (by omega) (by omega)]
  by_cases h1 : start (256 * t + i) ≤ 256 * (w + k) + x
  · by_cases h2 : 256 * (w + k) + x ≤ 256 * t + i
    · rw [if_pos ⟨h1, h2⟩]
      simp only [decide_eq_true h1, decide_eq_true h2]; rfl
    · rw [if_neg fun h => h2 h.2]
      simp only [decide_eq_true h1, decide_eq_false h2]; rfl
  · rw [if_neg fun h => h1 h.1]
    simp only [decide_eq_false h1]
    by_cases h2 : 256 * (w + k) + x ≤ 256 * t + i
    · simp only [decide_eq_true h2]; rfl
    · simp only [decide_eq_false h2]; rfl

/-! ## The passes -/

section Pass

variable {qc kc vc : Vec Ideal S1x8192x128 .fp8e4m3} {dc : Vec Ideal S1x8192x128 .fp8e5m2} {kt : Vec Ideal S32x128x256 .bf16} {st : Vec Ideal S1x1x8192 .i32}
variable {sm : FVec Ideal S1x1 .f32}
variable {Q K V D : ℕ → Fin 128 → ℝ} {smr : ℝ} {start : ℕ → ℕ}

/-- What a grid point's codes, starts and factor are, as reals. -/
structure Inputs (qc kc vc : Vec Ideal S1x8192x128 .fp8e4m3) (dc : Vec Ideal S1x8192x128 .fp8e5m2) (kt : Vec Ideal S32x128x256 .bf16)
    (st : Vec Ideal S1x1x8192 .i32) (sm : FVec Ideal S1x1 .f32) (Q K V D : ℕ → Fin 128 → ℝ) (smr : ℝ) (start : ℕ → ℕ) : Prop where
  q : ∀ (s : Fin 8192) (d : Fin 128), qc (ix3 (0 : Fin 1) s d) = (Q s.val d : EReal)
  k : ∀ (s : Fin 8192) (d : Fin 128), kc (ix3 (0 : Fin 1) s d) = (K s.val d : EReal)
  v : ∀ (s : Fin 8192) (d : Fin 128), vc (ix3 (0 : Fin 1) s d) = (V s.val d : EReal)
  d : ∀ (s : Fin 8192) (d : Fin 128), dc (ix3 (0 : Fin 1) s d) = (D s.val d : EReal)
  kt : ∀ (j : Fin 32) (d : Fin 128) (x : Fin 256), kt (ix3 j d x) = (K (256 * j.val + x.val) d : EReal)
  st : ∀ s : Fin 8192, st (ix3 (0 : Fin 1) (0 : Fin 1) s) = BitVec.ofNat 32 (start s.val)
  sm : sm (ix2 0 0) = (smr : EReal)
  start_le : ∀ s < 8192, start s ≤ s
  floor : ∀ q k, floorMax ≤ Attn.sc Q K smr q k

variable (H : Inputs qc kc vc dc kt st sm Q K V D smr start)
variable (t : Fin k0_t10_loop.trips) (w : Fin 32) (hwt : w.val ≤ t.val) (hw : k0_chk1 t (BitVec.ofNat 32 w.val))
-- the keys before the lowest block are let through by no query of the block
variable (hlow : ∀ i < 256, ∀ k < 256 * w.val, ¬ Lets start (256 * t.val + i) k)

theorem t_lt : t.val < 32 := Nat.lt_of_lt_of_eq t.isLt trips10

include H hwt

theorem score_at (k : Fin (k0_t11_loop t (BitVec.ofNat 32 w.val)).trips) (x i : Fin 256) :
    k0_pay31 sm 0#32 1#32 t (BitVec.ofNat 32 w.val) (pull (R12 t) qc) (pull (R13 t) st) k (pull (R14 t (BitVec.ofNat 32 w.val) hw k) kc) (ix2 x i)
      = Attn.msc ((Attn.sc Q K smr) (256 * t.val + i.val)) (Lets start (256 * t.val + i.val)) (256 * (w.val + k.val) + x.val) := by
  have ht := t_lt t
  have hk : k.val < t.val + 1 - w.val := trips11 t w hwt ▸ k.isLt
  rw [pay31_at]
  have hq : ∀ d, pull (R12 t) qc (ix3 0 i d) = (Q (256 * t.val + i.val) d : EReal) := fun d => pull256 (val := fun s d => (Q s d : EReal)) H.q _ _ t.val ht (off12_eq t) i d
  have hk' : ∀ d, pull (R14 t (BitVec.ofNat 32 w.val) hw k) kc (ix3 0 x d) = (K (256 * (w.val + k.val) + x.val) d : EReal) := fun d =>
    pull256 (val := fun s d => (K s d : EReal)) H.k _ _ (w.val + k.val) (by omega) (off14_eq t w hwt k) x d
  have hs : pull (R13 t) st (ix3 0 0 i) = BitVec.ofNat 32 (start (256 * t.val + i.val)) := by
    refine Eq.trans (congrArg st ?_) (H.st ⟨256 * t.val + i.val, by omega⟩)
    funext a
    ext
    rw [emb_unit_val, congrFun (off13_eq t) a]
    fin_cases a
    · rfl
    · rfl
    · show t.val * 256 + i.val = 256 * t.val + i.val
      rw [Nat.mul_comm]
  simp only [hq, hk', hs, H.sm, ← EReal.coe_mul, ← coe_sum]
  have := masked_eq w.val t.val k.val x.val i.val w.isLt (by omega) ht x.isLt i.isLt start (by have := H.start_le (256 * t.val + i.val) (by omega); omega) ((Attn.sc Q K smr) (256 * t.val + i.val))
  exact this

/-- The running maximum and sum. -/
theorem ml_at : ∀ n ≤ (k0_t11_loop t (BitVec.ofNat 32 w.val)).trips, ∀ i : Fin 256,
    (ml qc kc st sm t (BitVec.ofNat 32 w.val) hw n).1 (ix2 0 i) = (Attn.mu ((Attn.sc Q K smr) (256 * t.val + i.val)) (Lets start (256 * t.val + i.val)) w.val n : EReal)
    ∧ (ml qc kc st sm t (BitVec.ofNat 32 w.val) hw n).2 (ix2 0 i) = (Attn.ell ((Attn.sc Q K smr) (256 * t.val + i.val)) (Lets start (256 * t.val + i.val)) w.val n : EReal) := by
  refine iter_ind _ _ _ (fun n (a : FVec Ideal S1x256 .f32 × FVec Ideal S1x256 .f32) => ∀ i : Fin 256,
    a.1 (ix2 0 i) = (Attn.mu ((Attn.sc Q K smr) (256 * t.val + i.val)) (Lets start (256 * t.val + i.val)) w.val n : EReal)
    ∧ a.2 (ix2 0 i) = (Attn.ell ((Attn.sc Q K smr) (256 * t.val + i.val)) (Lets start (256 * t.val + i.val)) w.val n : EReal)) ?_ ?_
  · intro i
    constructor
    · exact (pay29_at i).trans const_floorMax
    · refine (pay30_at i).trans ?_
      unfold Attn.ell
      rw [Attn.psum_zero, zero_mul]; rfl
  · intro k a ih i
    have hmax : k0_pay32 sm 0#32 1#32 t (BitVec.ofNat 32 w.val) (pull (R12 t) qc) (pull (R13 t) st) k a.1 (pull (R14 t (BitVec.ofNat 32 w.val) hw k) kc) (ix2 0 i)
        = (Attn.mu ((Attn.sc Q K smr) (256 * t.val + i.val)) (Lets start (256 * t.val + i.val)) w.val (k.val + 1) : EReal) := by
      rw [pay32_at, (ih i).1, const_bot]
      simp only [score_at H t w hwt hw]
      exact Attn.mu_step _ _ _ _
    refine ⟨hmax, ?_⟩
    show k0_pay36 sm 0#32 1#32 t (BitVec.ofNat 32 w.val) (pull (R12 t) qc) (pull (R13 t) st) k a.1 a.2 (pull (R14 t (BitVec.ofNat 32 w.val) hw k) kc) (ix2 0 i) = _
    rw [pay36_at, hmax, (ih i).1, (ih i).2]
    simp only [score_at H t w hwt hw]
    exact Attn.ell_step _ _ _ _

theorem maxB_at (k : Fin (k0_t11_loop t (BitVec.ofNat 32 w.val)).trips) (i : Fin 256) :
    maxB qc kc st sm t (BitVec.ofNat 32 w.val) hw k (ix3 0 0 i) = (Attn.mu ((Attn.sc Q K smr) (256 * t.val + i.val)) (Lets start (256 * t.val + i.val)) w.val (k.val + 1) : EReal) := by
  have := (ml_at H t w hwt hw (k.val + 1) k.isLt i).1
  unfold ml at this
  rw [iter_succ] at this
  unfold maxB
  rw [pay35_at]
  exact this
theorem scoreB_at (k : Fin (k0_t11_loop t (BitVec.ofNat 32 w.val)).trips) (x i : Fin 256) :
    scoreB qc kc st sm t (BitVec.ofNat 32 w.val) hw k (ix3 0 x i) = Ideal.exp (Attn.msc ((Attn.sc Q K smr) (256 * t.val + i.val)) (Lets start (256 * t.val + i.val)) (256 * (w.val + k.val) + x.val)
      - (Attn.mu ((Attn.sc Q K smr) (256 * t.val + i.val)) (Lets start (256 * t.val + i.val)) w.val (k.val + 1) : EReal)) := by
  have := maxB_at H t w hwt hw k i
  unfold maxB at this
  rw [pay35_at] at this
  unfold scoreB
  rw [pay34_at, this, score_at H t w hwt hw]

/-- The last key block holds the query itself, so the sum is at least 1. -/
theorem ell_ge (i : Fin 256) : 1 ≤ Attn.ell ((Attn.sc Q K smr) (256 * t.val + i.val)) (Lets start (256 * t.val + i.val)) w.val (k0_t11_loop t (BitVec.ofNat 32 w.val)).trips := by
  have ht := t_lt t
  rw [trips11 t w hwt]
  have e : 256 * (w.val + (t.val - w.val)) + i.val = (256 * t.val + i.val) := by omega
  refine Attn.one_le_ell _ _ _ _ (t.val - w.val) (by omega) i ?_ ?_
  · rw [e]; exact ⟨H.start_le _ (by omega), le_rfl⟩
  · rw [e]; exact H.floor _ _

include hlow

theorem norm_eq (i : Fin 256) : Attn.psum (Attn.wt ((Attn.sc Q K smr) (256 * t.val + i.val)) (Lets start (256 * t.val + i.val))) w.val (t.val + 1 - w.val)
    = Attn.norm Q K smr (Lets start) (256 * t.val + i.val) := by
  have ht := t_lt t
  refine Attn.psum_eq_total _ _ _ (by omega) (fun k hk => ?_) fun k hk => ?_
  · exact if_neg (hlow i.val i.isLt k hk)
  · exact if_neg fun h => by have := h.2; omega

/-- The probabilities times 256. -/
theorem prob_at (k : Fin (k0_t11_loop t (BitVec.ofNat 32 w.val)).trips) (x i : Fin 256) :
    k0_pay5 (topS qc kc st sm t (BitVec.ofNat 32 w.val) hw) (invS qc kc st sm t (BitVec.ofNat 32 w.val) hw) (maxB qc kc st sm t (BitVec.ofNat 32 w.val) hw k) (scoreB qc kc st sm t (BitVec.ofNat 32 w.val) hw k) (ix2 x i)
      = ((256 * Attn.prob Q K smr (Lets start) (256 * t.val + i.val) (256 * (w.val + k.val) + x.val) : ℝ) : EReal) := by
  have hm := ml_at H t w hwt hw _ le_rfl i
  rw [pay5_at, maxB_at H t w hwt hw, scoreB_at H t w hwt hw]
  unfold topS invS
  rw [pay43_at, hm.1, hm.2, const_256, const_448]
  rw [Attn.prob_eq _ _ _ _ _ k.isLt _ (ell_ge H t w hwt i)]
  unfold Attn.prob
  rw [← norm_eq H t w hwt hlow i]
  exact congrArg (fun n => ((256 * (Attn.wt ((Attn.sc Q K smr) (256 * t.val + i.val)) (Lets start (256 * t.val + i.val)) (256 * (w.val + k.val) + x.val)
    / Attn.psum (Attn.wt ((Attn.sc Q K smr) (256 * t.val + i.val)) (Lets start (256 * t.val + i.val))) w.val n) : ℝ) : EReal)) (trips11 t w hwt)

theorem total_eq (f : ℕ → ℝ) (i : Fin 256) (hf : ∀ k, ¬ Lets start (256 * t.val + i.val) k → f k = 0) :
    Attn.psum f w.val (t.val + 1 - w.val) = ∑ k ∈ Finset.range 8192, f k := by
  have ht := t_lt t
  refine Attn.psum_eq_total _ _ _ (by omega) (fun k hk => hf k (hlow i.val i.isLt k hk)) fun k hk => hf k fun h => by have := h.2; omega

/-- The forward output times 256. -/
theorem outS_at (i : Fin 256) (d : Fin 128) : outS qc kc vc st sm t (BitVec.ofNat 32 w.val) hw (k0_t13_loop t (BitVec.ofNat 32 w.val)).trips (ix2 i d)
    = (Attn.out Q K V smr (Lets start) (256 * t.val + i.val) d : EReal) := by
  have ht := t_lt t
  have key : ∀ n ≤ (k0_t13_loop t (BitVec.ofNat 32 w.val)).trips, outS qc kc vc st sm t (BitVec.ofNat 32 w.val) hw n (ix2 i d)
      = (Attn.psum (fun k => 256 * Attn.prob Q K smr (Lets start) (256 * t.val + i.val) k * V k d) w.val n : EReal) := by
    refine iter_ind _ _ _ (fun n (a : FVec Ideal S256x128 .f32) => a (ix2 i d)
      = (Attn.psum (fun k => 256 * Attn.prob Q K smr (Lets start) (256 * t.val + i.val) k * V k d) w.val n : EReal)) ?_ ?_
    · exact (pay44_at i d).trans rfl
    · intro k a ih
      have hk : k.val < t.val + 1 - w.val := trips13 t w hwt ▸ k.isLt
      have hv : ∀ x, pull (R23 t (BitVec.ofNat 32 w.val) hw k) vc (ix3 0 x d) = (V (256 * (w.val + k.val) + x.val) d : EReal) := fun x =>
        pull256 (val := fun s d => (V s d : EReal)) H.v _ _ (w.val + k.val) (by omega) (off23_eq t w hwt k) x d
      rw [pay8_at, ih]
      simp only [prob_at H t w hwt hw hlow k, hv, ← EReal.coe_mul, ← coe_sum]
      rw [← EReal.coe_add, Attn.psum_succ]
  rw [key _ le_rfl, trips13 t w hwt, total_eq H t w hwt hlow _ i fun k hk => by rw [Attn.prob_of_not Q K smr _ hk, mul_zero, zero_mul]]
  rfl

theorem ds_at (k : Fin (k0_t15_loop t (BitVec.ofNat 32 w.val)).trips) (x i : Fin 256) :
    dsAt (probB qc kc st sm t (BitVec.ofNat 32 w.val) hw k) (k0_pay26 (pull (R12 t) dc)) (outS qc kc vc st sm t (BitVec.ofNat 32 w.val) hw (k0_t13_loop t (BitVec.ofNat 32 w.val)).trips) (pull (R28 t (BitVec.ofNat 32 w.val) hw k) vc) x i
      = (Attn.grad Q K V D smr (Lets start) (256 * t.val + i.val) (256 * (w.val + k.val) + x.val) : EReal) := by
  have ht := t_lt t
  have hk : k.val < t.val + 1 - w.val := trips15 t w hwt ▸ k.isLt
  have hv : ∀ d, pull (R28 t (BitVec.ofNat 32 w.val) hw k) vc (ix3 0 x d) = (V (256 * (w.val + k.val) + x.val) d : EReal) := fun d =>
    pull256 (val := fun s d => (V s d : EReal)) H.v _ _ (w.val + k.val) (by omega) (off28_eq t w hwt k) x d
  have hd : ∀ d, k0_pay26 (pull (R12 t) dc) (ix2 i d) = (D (256 * t.val + i.val) d : EReal) := fun d =>
    (pay26_at _ i d).trans (pull256 (val := fun s d => (D s d : EReal)) H.d _ _ t.val ht (off12_eq t) i d)
  have hp : probB qc kc st sm t (BitVec.ofNat 32 w.val) hw k (ix3 0 x i) = ((256 * Attn.prob Q K smr (Lets start) (256 * t.val + i.val) (256 * (w.val + k.val) + x.val) : ℝ) : EReal) := by
    unfold probB
    rw [pay6_at]
    exact prob_at H t w hwt hw hlow k x i
  unfold dsAt
  rw [hp, const_256inv]
  simp only [hv, hd, outS_at H t w hwt hw hlow, ← EReal.coe_mul, ← coe_sum, ← EReal.coe_sub]
  rfl

/-- The queries' gradient, unscaled. -/
theorem dqS_at (i : Fin 256) (d : Fin 128) : dqS qc kc vc dc kt st sm t (BitVec.ofNat 32 w.val) hw (k0_t15_loop t (BitVec.ofNat 32 w.val)).trips (ix2 d i)
    = (Attn.dq Q K V D smr (Lets start) (256 * t.val + i.val) d : EReal) := by
  have ht := t_lt t
  have key : ∀ n ≤ (k0_t15_loop t (BitVec.ofNat 32 w.val)).trips, dqS qc kc vc dc kt st sm t (BitVec.ofNat 32 w.val) hw n (ix2 d i)
      = (Attn.psum (fun k => K k d * Attn.grad Q K V D smr (Lets start) (256 * t.val + i.val) k) w.val n : EReal) := by
    refine iter_ind _ _ _ (fun n (a : FVec Ideal S128x256 .f32) => a (ix2 d i)
      = (Attn.psum (fun k => K k d * Attn.grad Q K V D smr (Lets start) (256 * t.val + i.val) k) w.val n : EReal)) ?_ ?_
    · exact (pay15_at i d).trans rfl
    · intro k a ih
      have hk : k.val < t.val + 1 - w.val := trips15 t w hwt ▸ k.isLt
      have hkt : ∀ x, pull (R31 t (BitVec.ofNat 32 w.val) hw k) kt (ix3 0 d x) = (K (256 * (w.val + k.val) + x.val) d : EReal) := fun x => by
        refine Eq.trans (congrArg kt ?_) (H.kt ⟨w.val + k.val, by omega⟩ d x)
        funext a
        ext
        rw [emb_unit_val, congrFun (off31_eq t w hwt k) a]
        fin_cases a
        · rfl
        · exact Nat.zero_add _
        · exact Nat.zero_add _
      rw [pay18_at, ih]
      simp only [ds_at H t w hwt hw hlow k, hkt, ← EReal.coe_mul, ← coe_sum]
      rw [← EReal.coe_add, Attn.psum_succ]
  rw [key _ le_rfl, trips15 t w hwt, total_eq H t w hwt hlow _ i fun k hk => by rw [Attn.grad_of_not Q K V D smr _ hk, mul_zero]]
  rfl

/-- An accumulation block by block: a key block outside the range would add zero. -/
theorem acc_full (g : ℕ → ℕ → ℝ) (hg : ∀ i < 256, ∀ k, ¬ Lets start (256 * t.val + i) k → g i k = 0) (a : ℝ) (s : Fin 8192) :
    (a + if w.val ≤ s.val / 256 ∧ s.val / 256 < w.val + (t.val + 1 - w.val) then ∑ i : Fin 256, g i.val s.val else 0) = a + ∑ i : Fin 256, g i.val s.val := by
  split
  · rfl
  · rename_i h
    congr 1
    refine (Finset.sum_eq_zero fun i _ => hg i.val i.isLt _ fun hl => h ?_).symm
    constructor
    · by_contra hc
      exact hlow i.val i.isLt s.val (by omega) hl
    · have := hl.2
      omega

/-- The values' gradient after the block, from what was there before it. -/
theorem dvS_at (A : Vec Ideal S8192x128 .f32) (a : ℕ → Fin 128 → ℝ) (hA : ∀ (s : Fin 8192) (d : Fin 128), A (ix2 s d) = (a s.val d : EReal)) (s : Fin 8192) (d : Fin 128) :
    dvS qc kc dc st sm t (BitVec.ofNat 32 w.val) hw A (k0_t13_loop t (BitVec.ofNat 32 w.val)).trips (ix2 s d)
      = ((a s.val d + ∑ i : Fin 256, 256 * Attn.prob Q K smr (Lets start) (256 * t.val + i.val) s.val * D (256 * t.val + i.val) d : ℝ) : EReal) := by
  have ht := t_lt t
  have key : ∀ n ≤ (k0_t13_loop t (BitVec.ofNat 32 w.val)).trips, ∀ (s : Fin 8192) (d : Fin 128), dvS qc kc dc st sm t (BitVec.ofNat 32 w.val) hw A n (ix2 s d)
      = ((a s.val d + if w.val ≤ s.val / 256 ∧ s.val / 256 < w.val + n then
          ∑ i : Fin 256, 256 * Attn.prob Q K smr (Lets start) (256 * t.val + i.val) s.val * D (256 * t.val + i.val) d else 0 : ℝ) : EReal) := by
    refine iter_ind _ _ _ (fun n (X : Vec Ideal S8192x128 .f32) => ∀ (s : Fin 8192) (d : Fin 128), X (ix2 s d)
      = ((a s.val d + if w.val ≤ s.val / 256 ∧ s.val / 256 < w.val + n then
          ∑ i : Fin 256, 256 * Attn.prob Q K smr (Lets start) (256 * t.val + i.val) s.val * D (256 * t.val + i.val) d else 0 : ℝ) : EReal)) ?_ ?_
    · intro s d
      rw [hA, if_neg (by omega), add_zero]
    · intro k X ih s d
      have hk : k.val < t.val + 1 - w.val := trips13 t w hwt ▸ k.isLt
      have hd : ∀ i : Fin 256, k0_pay26 (pull (R12 t) dc) (ix2 i d) = (D (256 * t.val + i.val) d : EReal) := fun i =>
        (pay26_at _ i d).trans (pull256 (val := fun s d => (D s d : EReal)) H.d _ _ t.val ht (off12_eq t) i d)
      rw [overlay_at _ _ (w.val + k.val) (off22_eq t w hwt k)]
      split
      · rename_i hs
        rw [pay7_at, pull2_at _ _ (w.val + k.val) (off22_eq t w hwt k) X _ d (by simp only; omega)]
        have es : (⟨(w.val + k.val) * 256 + s.val % 256, by omega⟩ : Fin 8192) = s := by ext; simp only; omega
        have es' : 256 * (w.val + k.val) + s.val % 256 = s.val := by omega
        rw [es, ih s d, if_neg (by omega), if_pos (by omega), add_zero]
        simp only [prob_at H t w hwt hw hlow k, es', hd, ← EReal.coe_mul, ← coe_sum]
        rw [← EReal.coe_add]
      · rename_i hs
        rw [ih s d]
        have : (w.val ≤ s.val / 256 ∧ s.val / 256 < w.val + k.val) ↔ (w.val ≤ s.val / 256 ∧ s.val / 256 < w.val + (k.val + 1)) := by omega
        simp only [this]
  rw [key _ le_rfl, trips13 t w hwt]
  congr 1
  exact acc_full H t w hwt hlow (fun i s => 256 * Attn.prob Q K smr (Lets start) (256 * t.val + i) s * D (256 * t.val + i) d)
    (fun i _ k hk => by simp only [Attn.prob_of_not Q K smr _ hk, mul_zero, zero_mul]) _ s

/-- The keys' gradient likewise. -/
theorem dkS_at (A : Vec Ideal S8192x128 .f32) (a : ℕ → Fin 128 → ℝ) (hA : ∀ (s : Fin 8192) (d : Fin 128), A (ix2 s d) = (a s.val d : EReal)) (s : Fin 8192) (d : Fin 128) :
    dkS qc kc vc dc st sm t (BitVec.ofNat 32 w.val) hw A (k0_t15_loop t (BitVec.ofNat 32 w.val)).trips (ix2 s d)
      = ((a s.val d + ∑ i : Fin 256, Attn.grad Q K V D smr (Lets start) (256 * t.val + i.val) s.val * Q (256 * t.val + i.val) d : ℝ) : EReal) := by
  have ht := t_lt t
  have key : ∀ n ≤ (k0_t15_loop t (BitVec.ofNat 32 w.val)).trips, ∀ (s : Fin 8192) (d : Fin 128), dkS qc kc vc dc st sm t (BitVec.ofNat 32 w.val) hw A n (ix2 s d)
      = ((a s.val d + if w.val ≤ s.val / 256 ∧ s.val / 256 < w.val + n then
          ∑ i : Fin 256, Attn.grad Q K V D smr (Lets start) (256 * t.val + i.val) s.val * Q (256 * t.val + i.val) d else 0 : ℝ) : EReal) := by
    refine iter_ind _ _ _ (fun n (X : Vec Ideal S8192x128 .f32) => ∀ (s : Fin 8192) (d : Fin 128), X (ix2 s d)
      = ((a s.val d + if w.val ≤ s.val / 256 ∧ s.val / 256 < w.val + n then
          ∑ i : Fin 256, Attn.grad Q K V D smr (Lets start) (256 * t.val + i.val) s.val * Q (256 * t.val + i.val) d else 0 : ℝ) : EReal)) ?_ ?_
    · intro s d
      rw [hA, if_neg (by omega), add_zero]
    · intro k X ih s d
      have hk : k.val < t.val + 1 - w.val := trips15 t w hwt ▸ k.isLt
      have hq : ∀ i : Fin 256, k0_pay25 (pull (R12 t) qc) (ix2 i d) = (Q (256 * t.val + i.val) d : EReal) := fun i =>
        (pay25_at _ i d).trans (pull256 (val := fun s d => (Q s d : EReal)) H.q _ _ t.val ht (off12_eq t) i d)
      rw [overlay_at _ _ (w.val + k.val) (off30_eq t w hwt k)]
      split
      · rename_i hs
        rw [pay17_at, pull2_at _ _ (w.val + k.val) (off30_eq t w hwt k) X _ d (by simp only; omega)]
        have es : (⟨(w.val + k.val) * 256 + s.val % 256, by omega⟩ : Fin 8192) = s := by ext; simp only; omega
        have es' : 256 * (w.val + k.val) + s.val % 256 = s.val := by omega
        rw [es, ih s d, if_neg (by omega), if_pos (by omega), add_zero]
        simp only [ds_at H t w hwt hw hlow k, es', hq, ← EReal.coe_mul, ← coe_sum]
        rw [← EReal.coe_add]
      · rename_i hs
        rw [ih s d]
        have : (w.val ≤ s.val / 256 ∧ s.val / 256 < w.val + k.val) ↔ (w.val ≤ s.val / 256 ∧ s.val / 256 < w.val + (k.val + 1)) := by omega
        simp only [this]
  rw [key _ le_rfl, trips15 t w hwt]
  congr 1
  exact acc_full H t w hwt hlow (fun i s => Attn.grad Q K V D smr (Lets start) (256 * t.val + i) s * Q (256 * t.val + i) d)
    (fun i _ k hk => by simp only [Attn.grad_of_not Q K V D smr _ hk, zero_mul]) _ s

end Pass

end Cert.Proof.KernelIdeal

end
-- ==== Proof.GradIdeal.lean ====
/-
  One grid point of the kernel over the extended reals: its three gradients and its row of scales.
-/
module

public import proofs.«01_k».proof.Proof.BlockIdeal

@[expose] public section

set_option maxRecDepth 16384

noncomputable section

namespace Cert.Proof.KernelIdeal

open Cert.KernelIdeal Cert.KernelIdeal.Gen
open Idealize.ShloMosaic Idealize.ShloMosaic.TcCoe

/-- The codes and the factor of the scores, as reals. -/
def qR (fx : ℕ → Fin 128 → ℝ) : ℕ → Fin 128 → ℝ := codeF inv448 448 fx
def dR (fd : ℕ → Fin 128 → ℝ) : ℕ → Fin 128 → ℝ := codeF inv57344 57344 fd
def smR (fx fk : ℕ → Fin 128 → ℝ) : ℝ := scaleF inv448 fx * scaleF inv448 fk * rootInv
/-- The three gradients, with their scales. -/
def dqR (fx fk fv fd : ℕ → Fin 128 → ℝ) (M : ℕ → ℕ → Prop) [∀ q, DecidablePred (M q)] (s : ℕ) (d : Fin 128) : ℝ :=
  Attn.dq (qR fx) (qR fk) (qR fv) (dR fd) (smR fx fk) M s d
    * (scaleF inv448 fk * rootInv * (scaleF inv57344 fd * scaleF inv448 fv) * 256⁻¹)
def dkR (fx fk fv fd : ℕ → Fin 128 → ℝ) (M : ℕ → ℕ → Prop) [∀ q, DecidablePred (M q)] (s : ℕ) (d : Fin 128) : ℝ :=
  Attn.dk (qR fx) (qR fk) (qR fv) (dR fd) (smR fx fk) M s d
    * (scaleF inv448 fx * rootInv * (scaleF inv57344 fd * scaleF inv448 fv) * 256⁻¹)
def dvR (fx fk fd : ℕ → Fin 128 → ℝ) (M : ℕ → ℕ → Prop) [∀ q, DecidablePred (M q)] (s : ℕ) (d : Fin 128) : ℝ :=
  Attn.dv (qR fx) (qR fk) (dR fd) (smR fx fk) M s d * (256⁻¹ * scaleF inv57344 fd)

theorem sum_blocks_succ (f : ℕ → ℝ) (n : ℕ) : ∑ q ∈ Finset.range (256 * (n + 1)), f q = ∑ q ∈ Finset.range (256 * n), f q + ∑ i : Fin 256, f (256 * n + i.val) := by
  rw [Nat.mul_add_one, Finset.sum_range_add, Finset.sum_range (n := 256)]

section All

variable {x k v d : Vec Ideal S1x8192x128 .bf16} {st : Vec Ideal S1x1x8192 .i32} {lo : Vec Ideal S9x32 .i32} {i : grid0.Coords}
variable (hw : ∀ t, k0_chk1 t (word lo i t))
variable {fx fk fv fd : ℕ → Fin 128 → ℝ} {start : ℕ → ℕ}

/-- What the five blocks and the table of a grid point are. -/
structure Blocks (x k v d : Vec Ideal S1x8192x128 .bf16) (st : Vec Ideal S1x1x8192 .i32) (lo : Vec Ideal S9x32 .i32) (i : grid0.Coords)
    (fx fk fv fd : ℕ → Fin 128 → ℝ) (start : ℕ → ℕ) : Prop where
  x : ∀ (s : Fin 8192) (e : Fin 128), x (ix3 (0 : Fin 1) s e) = (fx s.val e : EReal)
  k : ∀ (s : Fin 8192) (e : Fin 128), k (ix3 (0 : Fin 1) s e) = (fk s.val e : EReal)
  v : ∀ (s : Fin 8192) (e : Fin 128), v (ix3 (0 : Fin 1) s e) = (fv s.val e : EReal)
  d : ∀ (s : Fin 8192) (e : Fin 128), d (ix3 (0 : Fin 1) s e) = (fd s.val e : EReal)
  bx : ∀ (s : Fin 8192) (e : Fin 128), |fx s.val e| ≤ 2 ^ 40
  bk : ∀ (s : Fin 8192) (e : Fin 128), |fk s.val e| ≤ 2 ^ 40
  bv : ∀ (s : Fin 8192) (e : Fin 128), |fv s.val e| ≤ 2 ^ 40
  bd : ∀ (s : Fin 8192) (e : Fin 128), |fd s.val e| ≤ 2 ^ 40
  st : ∀ s : Fin 8192, st (ix3 (0 : Fin 1) (0 : Fin 1) s) = BitVec.ofNat 32 (start s.val)
  start_le : ∀ s < 8192, start s ≤ s
  word : ∀ t : Fin k0_t10_loop.trips, ∃ w : Fin 32, w.val ≤ t.val ∧ word lo i t = BitVec.ofNat 32 w.val
    ∧ ∀ r < 256, ∀ k < 256 * w.val, ¬ Lets start (256 * t.val + r) k

variable (H : Blocks x k v d st lo i fx fk fv fd start)
include H

theorem scoreMul_at : scoreMul x k (ix2 0 0) = (smR fx fk : EReal) := by
  unfold scoreMul
  rw [pay69_at, xScale_at H.x H.bx, kScale_eq, xScale_at H.k H.bk, const_rootInv, ← EReal.coe_mul, ← EReal.coe_mul]
  rfl
theorem dqMul_at : dqMul k v d (ix2 0 0) = ((scaleF inv448 fk * rootInv * (scaleF inv57344 fd * scaleF inv448 fv) * 256⁻¹ : ℝ) : EReal) := by
  have := dScale_at H.d H.bd
  unfold dScale at this
  unfold dqMul
  rw [pay70_at, this, kScale_eq, vScale_eq, xScale_at H.k H.bk, xScale_at H.v H.bv, const_rootInv, const_256inv]
  simp only [← EReal.coe_mul]

theorem kFlip_at (j : Fin 32) (e : Fin 128) (r : Fin 256) : kFlip k (ix3 j e r) = (qR fk (256 * j.val + r.val) e : EReal) := by
  have hk : j.val < k0_t9_loop.trips := by rw [trips9]; omega
  have e1 : (R10 ⟨j.val, hk⟩).emb (ix3 0 e r) = ix3 j e r := by
    funext a
    ext
    rw [emb_unit_val, congrFun (off10_eq _) a]
    fin_cases a
    · rfl
    · exact Nat.zero_add _
    · exact Nat.zero_add _
  unfold kFlip
  rw [← e1, glue_emb R10 cover10 _ (fun k k' j j' h => slabs10.index_eq k0_off10_inb k k' j j' h), pay1_at]
  exact pull256 (val := fun s e => (qR fk s e : EReal)) (fun s e => (congrFun (kCode_eq k) _).trans (xCode_at H.k H.bk s e)) _ _ j.val j.isLt (off9_eq _) r e

theorem inputs : Inputs (xCode x) (kCode k) (vCode v) (dCode d) (kFlip k) st (scoreMul x k) (qR fx) (qR fk) (qR fv) (dR fd) (smR fx fk) start where
  q := xCode_at H.x H.bx
  k := fun s e => (congrFun (kCode_eq k) _).trans (xCode_at H.k H.bk s e)
  v := fun s e => (congrFun (vCode_eq v) _).trans (xCode_at H.v H.bv s e)
  d := dCode_at H.d H.bd
  kt := kFlip_at H
  st := H.st
  sm := scoreMul_at H
  start_le := H.start_le
  floor := fun q k => by
    have h1 := (scaleOf_pos inv448 (topR fx)).le
    have h2 := (scaleOf_pos inv448 (topR fk)).le
    have h3 : scaleF inv448 fx ≤ 2 ^ 41 := scaleOf_le inv448_le (topR_nonneg fx) (topR_le (by positivity) H.bx)
    have h4 : scaleF inv448 fk ≤ 2 ^ 41 := scaleOf_le inv448_le (topR_nonneg fk) (topR_le (by positivity) H.bk)
    have h5 : 0 ≤ rootInv := by unfold rootInv; positivity
    have h6 : rootInv ≤ 1 := by unfold rootInv; norm_num
    refine Attn.floor_le_sc _ _ _ q k (fun e => codeF_abs (hB := by norm_num) ..) (fun e => codeF_abs (hB := by norm_num) ..) (by unfold smR; exact mul_nonneg (mul_nonneg h1 h2) h5) ?_
    unfold smR
    calc scaleF inv448 fx * scaleF inv448 fk * rootInv ≤ 2 ^ 41 * 2 ^ 41 * 1 :=
          mul_le_mul (mul_le_mul h3 h4 h2 (by positivity)) h6 h5 (by positivity)
      _ = 2 ^ 82 := by norm_num

theorem dvA_at : ∀ n ≤ k0_t10_loop.trips, ∀ (s : Fin 8192) (e : Fin 128),
    dvA x k d st lo i hw n (ix2 s e) = ((∑ q ∈ Finset.range (256 * n), 256 * (Attn.prob (qR fx) (qR fk) (smR fx fk) (Lets start)) q s.val * dR fd q e : ℝ) : EReal) := by
  refine iter_ind _ _ _ (fun n (A : Vec Ideal S8192x128 .f32) => ∀ (s : Fin 8192) (e : Fin 128),
    A (ix2 s e) = ((∑ q ∈ Finset.range (256 * n), 256 * (Attn.prob (qR fx) (qR fk) (smR fx fk) (Lets start)) q s.val * dR fd q e : ℝ) : EReal)) ?_ ?_
  · intro s e
    rw [pay4_at]
    simp
  · intro t A ih s e
    obtain ⟨w, hwt, ew, hlow⟩ := H.word t
    have key : ∀ w' (_ : w' = BitVec.ofNat 32 w.val) (hw' : k0_chk1 t w'), dvS (xCode x) (kCode k) (dCode d) st (scoreMul x k) t w' hw' A
        (k0_t13_loop t w').trips (ix2 s e) = ((∑ q ∈ Finset.range (256 * (t.val + 1)), 256 * (Attn.prob (qR fx) (qR fk) (smR fx fk) (Lets start)) q s.val * dR fd q e : ℝ) : EReal) := by
      rintro _ rfl hw'
      rw [dvS_at (inputs H) t w hwt hw' hlow A (fun s e => ∑ q ∈ Finset.range (256 * t.val), 256 * (Attn.prob (qR fx) (qR fk) (smR fx fk) (Lets start)) q s * dR fd q e) ih s e, sum_blocks_succ]
    exact key _ ew (hw t)

theorem dkA_at : ∀ n ≤ k0_t10_loop.trips, ∀ (s : Fin 8192) (e : Fin 128),
    dkA x k v d st lo i hw n (ix2 s e) = ((∑ q ∈ Finset.range (256 * n), (Attn.grad (qR fx) (qR fk) (qR fv) (dR fd) (smR fx fk) (Lets start)) q s.val * qR fx q e : ℝ) : EReal) := by
  refine iter_ind _ _ _ (fun n (A : Vec Ideal S8192x128 .f32) => ∀ (s : Fin 8192) (e : Fin 128),
    A (ix2 s e) = ((∑ q ∈ Finset.range (256 * n), (Attn.grad (qR fx) (qR fk) (qR fv) (dR fd) (smR fx fk) (Lets start)) q s.val * qR fx q e : ℝ) : EReal)) ?_ ?_
  · intro s e
    rw [pay3_at]
    simp
  · intro t A ih s e
    obtain ⟨w, hwt, ew, hlow⟩ := H.word t
    have key : ∀ w' (_ : w' = BitVec.ofNat 32 w.val) (hw' : k0_chk1 t w'), dkS (xCode x) (kCode k) (vCode v) (dCode d) st (scoreMul x k) t w' hw' A
        (k0_t15_loop t w').trips (ix2 s e) = ((∑ q ∈ Finset.range (256 * (t.val + 1)), (Attn.grad (qR fx) (qR fk) (qR fv) (dR fd) (smR fx fk) (Lets start)) q s.val * qR fx q e : ℝ) : EReal) := by
      rintro _ rfl hw'
      rw [dkS_at (inputs H) t w hwt hw' hlow A (fun s e => ∑ q ∈ Finset.range (256 * t.val), (Attn.grad (qR fx) (qR fk) (qR fv) (dR fd) (smR fx fk) (Lets start)) q s * qR fx q e) ih s e, sum_blocks_succ]
    exact key _ ew (hw t)

theorem dqOut_at (s : Fin 8192) (e : Fin 128) : dqOut x k v d st lo i hw (ix3 (0 : Fin 1) s e) = (dqR fx fk fv fd (Lets start) s.val e : EReal) := by
  have ht : s.val / 256 < k0_t10_loop.trips := by rw [trips10]; omega
  have e1 := emb256 _ (k0_off36_inb ⟨s.val / 256, ht⟩) _ (off36_eq ⟨s.val / 256, ht⟩) ⟨s.val % 256, by omega⟩ e (by simp only; omega)
  have es : (⟨s.val / 256 * 256 + s.val % 256, by omega⟩ : Fin 8192) = s := by ext; simp only; omega
  rw [es] at e1
  unfold dqOut
  rw [← e1, glue_emb R36 cover36 _ (fun k k' j j' h => slabs36.index_eq k0_off36_inb k k' j j' h)]
  obtain ⟨w, hwt, ew, hlow⟩ := H.word ⟨s.val / 256, ht⟩
  have key : ∀ w' (_ : w' = BitVec.ofNat 32 w.val) (hw' : k0_chk1 ⟨s.val / 256, ht⟩ w'),
      dqB (xCode x) (kCode k) (vCode v) (dCode d) (kFlip k) st (scoreMul x k) (dqMul k v d) ⟨s.val / 256, ht⟩ w' hw' (ix3 0 ⟨s.val % 256, by omega⟩ e)
        = (dqR fx fk fv fd (Lets start) s.val e : EReal) := by
    rintro _ rfl hw'
    unfold dqB
    rw [pay22_at, dqS_at (inputs H) _ w hwt hw' hlow, dqMul_at H, ← EReal.coe_mul]
    unfold dqR
    rw [show 256 * (s.val / 256) + s.val % 256 = s.val by omega]
  exact key _ ew (hw _)

theorem dkOut_at (s : Fin 8192) (e : Fin 128) : dkOut x k v d st lo i hw (ix3 (0 : Fin 1) s e) = (dkR fx fk fv fd (Lets start) s.val e : EReal) := by
  have ht : s.val / 256 < k0_t17_loop.trips := by rw [trips17]; omega
  have e1 := emb256 _ (k0_off38_inb ⟨s.val / 256, ht⟩) _ (off38_eq ⟨s.val / 256, ht⟩) ⟨s.val % 256, by omega⟩ e (by simp only; omega)
  have es : (⟨s.val / 256 * 256 + s.val % 256, by omega⟩ : Fin 8192) = s := by ext; simp only; omega
  rw [es] at e1
  unfold dkOut
  rw [← e1, glue_emb R38 cover38 _ (fun k k' j j' h => slabs38.index_eq k0_off38_inb k k' j j' h), pay23_at,
    pull2_at _ _ (s.val / 256) (off37_eq ⟨s.val / 256, ht⟩) _ _ e (by simp only; omega), es, dkA_at hw H _ le_rfl, trips10,
    xScale_at H.x H.bx, vScale_eq, xScale_at H.v H.bv, dScale_at H.d H.bd, const_256inv]
  show _ * ((scaleF inv448 fx : EReal) * Ideal.ofBits .f32 0x3DB504F3#32 * _ * _) = _
  rw [const_rootInv]
  simp only [← EReal.coe_mul]
  rfl

theorem dvOut_at (s : Fin 8192) (e : Fin 128) : dvOut x k d st lo i hw (ix3 (0 : Fin 1) s e) = (dvR fx fk fd (Lets start) s.val e : EReal) := by
  have ht : s.val / 256 < k0_t17_loop.trips := by rw [trips17]; omega
  have e1 := emb256 _ (k0_off38_inb ⟨s.val / 256, ht⟩) _ (off38_eq ⟨s.val / 256, ht⟩) ⟨s.val % 256, by omega⟩ e (by simp only; omega)
  have es : (⟨s.val / 256 * 256 + s.val % 256, by omega⟩ : Fin 8192) = s := by ext; simp only; omega
  rw [es] at e1
  unfold dvOut
  rw [← e1, glue_emb R38 cover38 _ (fun k k' j j' h => slabs38.index_eq k0_off38_inb k k' j j' h), pay24_at,
    pull2_at _ _ (s.val / 256) (off37_eq ⟨s.val / 256, ht⟩) _ _ e (by simp only; omega), es, dvA_at hw H _ le_rfl, trips10,
    dScale_at H.d H.bd, const_256inv]
  simp only [← EReal.coe_mul]
  rfl

/-- Lane 0 holds the queries' scale, 1 the keys', 2 the values'; every other lane the output gradient's. -/
theorem scaleRow_at (l : Fin 128) : scaleRow x k v d (ix4 0 0 0 l)
    = ((if l.val = 0 then scaleF inv448 fx else if l.val = 1 then scaleF inv448 fk else if l.val = 2 then scaleF inv448 fv else scaleF inv57344 fd : ℝ) : EReal) := by
  have hd := dScale_at H.d H.bd
  unfold dScale at hd
  unfold scaleRow
  rw [pay68_at, hd, kScale_eq, vScale_eq, xScale_at H.x H.bx, xScale_at H.k H.bk, xScale_at H.v H.bv]
  have h : ∀ (n : ℕ), n < 128 → ∀ a b : EReal, Scalar.select (IntOp.cmpi CmpIPredicate.eq (BitVec.ofNat 32 l.val) (BitVec.ofNat 32 n)) a b = if l.val = n then a else b := by
    intro n hn a b
    by_cases hl : l.val = n
    · rw [if_pos hl, hl]
      have : IntOp.cmpi CmpIPredicate.eq (BitVec.ofNat 32 n) (BitVec.ofNat 32 n) = 1#1 := by
        unfold IntOp.cmpi; simp
      rw [this]; rfl
    · rw [if_neg hl]
      have : IntOp.cmpi CmpIPredicate.eq (BitVec.ofNat 32 l.val) (BitVec.ofNat 32 n) = 0#1 := by
        unfold IntOp.cmpi
        have hne : BitVec.ofNat 32 l.val ≠ BitVec.ofNat 32 n := fun e => hl (by
          have := congrArg BitVec.toNat e
          simp only [BitVec.toNat_ofNat] at this
          omega)
        show BitVec.ofBool (BitVec.ofNat 32 l.val == BitVec.ofNat 32 n) = 0#1
        rw [beq_eq_false_iff_ne.mpr hne]; rfl
      rw [this]; rfl
  rw [show (0#32) = BitVec.ofNat 32 0 from rfl, show (1#32) = BitVec.ofNat 32 1 from rfl, show (2#32) = BitVec.ofNat 32 2 from rfl,
    h 0 (by norm_num), h 1 (by norm_num), h 2 (by norm_num)]
  split
  · rfl
  · split
    · rfl
    · split <;> rfl

end All

end Cert.Proof.KernelIdeal

end
-- ==== Proof.ArraysIdeal.lean ====
/-
  From blocks to arrays: which element of an array an element of a block is, at each grid point, and that the blocks written back cover
  each result. A grid point is a batch and a head.
-/
module

public import proofs.«01_k».proof.Proof.LaunchIdeal
public import proofs.«01_k».proof.Proof.GradIdeal
public import Idealize.ShloMosaic.Lib.Pipeline.ValueKit

@[expose] public section

set_option maxRecDepth 20000

noncomputable section

namespace Cert.Proof.KernelIdeal

open Cert.KernelIdeal Cert.KernelIdeal.Gen
open Idealize.ShloMosaic Idealize.ShloMosaic.TcCoe Idealize.ShloMosaic.Pipeline

variable {F : FTy → Type} [FloatOps F]

/-- A grid point's batch and head, and the block index of each window at a point. -/
def bat (t : Fin grid0.N) : Fin 9 := grid0.coords t 0
def head (t : Fin grid0.N) : Fin 8 := grid0.coords t 1
theorem bat_val : ∀ t : Fin grid0.N, (bat t).val = t.val / 8 := by decide +kernel
theorem head_val : ∀ t : Fin grid0.N, (head t).val = t.val % 8 := by decide +kernel
theorem flush3 : ∀ t : Fin grid0.N, Window.flushOf grid0 true cc0_transform_5 t = true := by decide +kernel
theorem flush4 : ∀ t : Fin grid0.N, Window.flushOf grid0 true cc0_transform_12 t = true := by decide +kernel
theorem index3 : ∀ t : Fin grid0.N, cc0_transform_0 (grid0.coords t) = ![t.val / 8, 0, t.val % 8] := by decide +kernel
theorem indexS : ∀ t : Fin grid0.N, cc0_transform_4 (grid0.coords t) = ![t.val / 8, 0, 0] := by decide +kernel
theorem index4 : ∀ t : Fin grid0.N, cc0_transform_12 (grid0.coords t) = ![t.val / 8, t.val % 8, 0, 0] := by decide +kernel

theorem lane_lt (h : Fin 8) (d : Fin 128) : h.val * 128 + d.val < 1024 := by omega

/-- The element of an array that an element of a block is. -/
abbrev at3 (t : Fin grid0.N) (s : Fin 8192) (d : Fin 128) : S9x8192x1024.Idx := ix3 (bat t) s (⟨(head t).val * 128 + d.val, lane_lt _ _⟩ : Fin 1024)

/-- Block index times block size plus the coordinate in the block, axis by axis. -/
theorem at3_of (t : Fin grid0.N) (s : Fin 8192) (d : Fin 128) (j : S9x8192x1024.Idx)
    (h : ∀ a : Fin 3, (j a).val = cc0_transform_0 (grid0.coords t) a * S1x8192x128.size a + ((ix3 (0 : Fin 1) s d : S1x8192x128.Idx) a).val) :
    j = at3 t s d := by
  rw [index3] at h
  refine funext fun a => Fin.ext ((h a).trans ?_)
  have e0 := bat_val t
  have e1 := head_val t
  match a with
  | ⟨0, _⟩ => show t.val / 8 * 1 + 0 = (bat t).val; omega
  | ⟨1, _⟩ => show 0 * 8192 + s.val = s.val; omega
  | ⟨2, _⟩ => show t.val % 8 * 128 + d.val = (head t).val * 128 + d.val; omega

theorem in_block (j : S9x8192x1024.Idx) : ∃ t : Fin grid0.N, ∀ a : Fin 3,
    cc0_transform_0 (grid0.coords t) a * S1x8192x128.size a ≤ (j a).val ∧
      (j a).val < cc0_transform_0 (grid0.coords t) a * S1x8192x128.size a + S1x8192x128.size a := by
  have h0 : (j 0).val < 9 := (j 0).isLt
  have h1 : (j 1).val < 8192 := (j 1).isLt
  have h2 : (j 2).val < 1024 := (j 2).isLt
  have hN : (j 0).val * 8 + (j 2).val / 128 < grid0.N := by show _ < 72; omega
  refine ⟨⟨(j 0).val * 8 + (j 2).val / 128, hN⟩, ?_⟩
  rw [index3]
  intro a
  match a with
  | ⟨0, _⟩ =>
    show ((j 0).val * 8 + (j 2).val / 128) / 8 * 1 ≤ (j 0).val ∧ (j 0).val < ((j 0).val * 8 + (j 2).val / 128) / 8 * 1 + 1
    omega
  | ⟨1, _⟩ => show 0 * 8192 ≤ (j 1).val ∧ (j 1).val < 0 * 8192 + 8192; omega
  | ⟨2, _⟩ =>
    show ((j 0).val * 8 + (j 2).val / 128) % 8 * 128 ≤ (j 2).val ∧ (j 2).val < ((j 0).val * 8 + (j 2).val / 128) % 8 * 128 + 128
    omega

abbrev at4 (t : Fin grid0.N) (l : Fin 128) : S9x8x1x128.Idx := ix4 (bat t) (head t) (0 : Fin 1) l

theorem at4_of (t : Fin grid0.N) (l : Fin 128) (j : S9x8x1x128.Idx)
    (h : ∀ a : Fin 4, (j a).val = cc0_transform_12 (grid0.coords t) a * S1x1x1x128.size a + ((ix4 (0 : Fin 1) (0 : Fin 1) (0 : Fin 1) l : S1x1x1x128.Idx) a).val) :
    j = at4 t l := by
  rw [index4] at h
  refine funext fun a => Fin.ext ((h a).trans ?_)
  have e0 := bat_val t
  have e1 := head_val t
  match a with
  | ⟨0, _⟩ => show t.val / 8 * 1 + 0 = (bat t).val; omega
  | ⟨1, _⟩ => show t.val % 8 * 1 + 0 = (head t).val; omega
  | ⟨2, _⟩ => show 0 * 1 + 0 = 0; omega
  | ⟨3, _⟩ => show 0 * 128 + l.val = l.val; omega

theorem in_block4 (j : S9x8x1x128.Idx) : ∃ t : Fin grid0.N, ∀ a : Fin 4,
    cc0_transform_12 (grid0.coords t) a * S1x1x1x128.size a ≤ (j a).val ∧
      (j a).val < cc0_transform_12 (grid0.coords t) a * S1x1x1x128.size a + S1x1x1x128.size a := by
  have h0 : (j 0).val < 9 := (j 0).isLt
  have h1 : (j 1).val < 8 := (j 1).isLt
  have h2 : (j 2).val < 1 := (j 2).isLt
  have h3 : (j 3).val < 128 := (j 3).isLt
  have hN : (j 0).val * 8 + (j 1).val < grid0.N := by show _ < 72; omega
  refine ⟨⟨(j 0).val * 8 + (j 1).val, hN⟩, ?_⟩
  rw [index4]
  intro a
  match a with
  | ⟨0, _⟩ =>
    show ((j 0).val * 8 + (j 1).val) / 8 * 1 ≤ (j 0).val ∧ (j 0).val < ((j 0).val * 8 + (j 1).val) / 8 * 1 + 1
    omega
  | ⟨1, _⟩ =>
    show ((j 0).val * 8 + (j 1).val) % 8 * 1 ≤ (j 1).val ∧ (j 1).val < ((j 0).val * 8 + (j 1).val) % 8 * 1 + 1
    omega
  | ⟨2, _⟩ => show 0 * 1 ≤ (j 2).val ∧ (j 2).val < 0 * 1 + 1; omega
  | ⟨3, _⟩ => show 0 * 128 ≤ (j 3).val ∧ (j 3).val < 0 * 128 + 128; omega

theorem idx3_eq (y : S1x8192x128.Idx) : y = ix3 (0 : Fin 1) (y 1 : Fin 8192) (y 2 : Fin 128) := funext fun a => match a with
  | ⟨0, _⟩ => Fin.ext (by have := (y 0).isLt; show (y 0).val = 0; exact Nat.lt_one_iff.mp this)
  | ⟨1, _⟩ => rfl
  | ⟨2, _⟩ => rfl
theorem idx4_eq (y : S1x1x1x128.Idx) : y = ix4 (0 : Fin 1) (0 : Fin 1) (0 : Fin 1) (y 3 : Fin 128) := funext fun a => match a with
  | ⟨0, _⟩ => Fin.ext (by have := (y 0).isLt; show (y 0).val = 0; exact Nat.lt_one_iff.mp this)
  | ⟨1, _⟩ => Fin.ext (by have := (y 1).isLt; show (y 1).val = 0; exact Nat.lt_one_iff.mp this)
  | ⟨2, _⟩ => Fin.ext (by have := (y 2).isLt; show (y 2).val = 0; exact Nat.lt_one_iff.mp this)
  | ⟨3, _⟩ => rfl

variable (m : (ℓ : Loc nD τ sig) → Buf (Elt F) ℓ) (c : Dev nD) (t : Fin (pcf m).N)

theorem xB_at (s : Fin 8192) (d : Fin 128) : xB m c t (ix3 (0 : Fin 1) s d) = m (c, Proc.devRef .tc main_arg0) (at3 t s d) := by
  refine Eq.trans ?_ (congrFun (V_arg0 m c) (at3 t s d))
  exact congrArg (V₀ m c (Proc.devRef .tc main_arg0)) (at3_of t s d _ fun a => ((pcf m).win 0).rect_emb_val t _ a rfl)
theorem kB_at (s : Fin 8192) (d : Fin 128) : kB m c t (ix3 (0 : Fin 1) s d) = m (c, Proc.devRef .tc main_arg1) (at3 t s d) := by
  refine Eq.trans ?_ (congrFun (V_arg1 m c) (at3 t s d))
  exact congrArg (V₀ m c (Proc.devRef .tc main_arg1)) (at3_of t s d _ fun a => ((pcf m).win 1).rect_emb_val t _ a rfl)
theorem vB_at (s : Fin 8192) (d : Fin 128) : vB m c t (ix3 (0 : Fin 1) s d) = m (c, Proc.devRef .tc main_arg2) (at3 t s d) := by
  refine Eq.trans ?_ (congrFun (V_arg2 m c) (at3 t s d))
  exact congrArg (V₀ m c (Proc.devRef .tc main_arg2)) (at3_of t s d _ fun a => ((pcf m).win 2).rect_emb_val t _ a rfl)
theorem dB_at (s : Fin 8192) (d : Fin 128) : dB m c t (ix3 (0 : Fin 1) s d) = m (c, Proc.devRef .tc main_arg3) (at3 t s d) := by
  refine Eq.trans ?_ (congrFun (V_arg3 m c) (at3 t s d))
  exact congrArg (V₀ m c (Proc.devRef .tc main_arg3)) (at3_of t s d _ fun a => ((pcf m).win 3).rect_emb_val t _ a rfl)
theorem sB_at (s : Fin 8192) : sB m c t (ix3 (0 : Fin 1) (0 : Fin 1) s) = Starts.starts (segs m c) (ix2 (bat t) s) := by
  refine Eq.trans (b := V₀ m c (Proc.devRef .tc main_v11) (ix3 (bat t) (0 : Fin 1) s)) ?_ ?_
  · refine congrArg (V₀ m c (Proc.devRef .tc main_v11)) (funext fun a => Fin.ext ((((pcf m).win 4).rect_emb_val t _ a rfl).trans ?_))
    have e0 := bat_val t
    refine (congrArg (fun f : Fin 3 → ℕ => f a * S1x1x8192.size a + ((ix3 (0 : Fin 1) (0 : Fin 1) s : S1x1x8192.Idx) a).val) (indexS t)).trans ?_
    match a with
    | ⟨0, _⟩ => show t.val / 8 * 1 + 0 = (bat t).val; omega
    | ⟨1, _⟩ => show 0 * 1 + 0 = 0; omega
    | ⟨2, _⟩ => show 0 * 8192 + s.val = s.val; omega
  · rw [V_v11]
    generalize Starts.starts (segs m c) = S
    generalize bat t = b
    pointwise

/-! ## The results, from their blocks -/

theorem arr5 (G : Buf (Elt F) (((pcf m).win 5).arr.view.loc (c.tc : Thread nD τ)))
    (hG : ∀ (t : Fin (pcf m).N) (s : Fin 8192) (d : Fin 128), (dats m 0 c).after 5 t (ix3 (0 : Fin 1) s d : S1x8192x128.Idx) = G (at3 t s d)) :
    (dats m 0 c).arrAt 5 (pcf m).N = G := by
  refine (dats m 0 c).arrAt_eq_of_emb 5 G ?_ fun j => ?_
  · intro t _ (y : S1x8192x128.Idx)
    have hy : (y : S1x8192x128.Idx) = ix3 (0 : Fin 1) (y 1 : Fin 8192) (y 2 : Fin 128) := idx3_eq y
    refine Eq.trans ?_ (congrArg G (at3_of t (y 1 : Fin 8192) (y 2 : Fin 128) _ fun a => hy ▸ ((pcf m).win 5).rect_emb_val t y a rfl).symm)
    exact (congrArg ((dats m 0 c).after 5 t) hy).trans (hG t _ _)
  · obtain ⟨t, ht⟩ := in_block j
    exact ⟨t, flush3 t, (((pcf m).win 5).emb_mem_blk_iff t j).mpr ht⟩
theorem arr6 (G : Buf (Elt F) (((pcf m).win 6).arr.view.loc (c.tc : Thread nD τ)))
    (hG : ∀ (t : Fin (pcf m).N) (s : Fin 8192) (d : Fin 128), (dats m 0 c).after 6 t (ix3 (0 : Fin 1) s d : S1x8192x128.Idx) = G (at3 t s d)) :
    (dats m 0 c).arrAt 6 (pcf m).N = G := by
  refine (dats m 0 c).arrAt_eq_of_emb 6 G ?_ fun j => ?_
  · intro t _ (y : S1x8192x128.Idx)
    have hy : (y : S1x8192x128.Idx) = ix3 (0 : Fin 1) (y 1 : Fin 8192) (y 2 : Fin 128) := idx3_eq y
    refine Eq.trans ?_ (congrArg G (at3_of t (y 1 : Fin 8192) (y 2 : Fin 128) _ fun a => hy ▸ ((pcf m).win 6).rect_emb_val t y a rfl).symm)
    exact (congrArg ((dats m 0 c).after 6 t) hy).trans (hG t _ _)
  · obtain ⟨t, ht⟩ := in_block j
    exact ⟨t, flush3 t, (((pcf m).win 6).emb_mem_blk_iff t j).mpr ht⟩
theorem arr7 (G : Buf (Elt F) (((pcf m).win 7).arr.view.loc (c.tc : Thread nD τ)))
    (hG : ∀ (t : Fin (pcf m).N) (s : Fin 8192) (d : Fin 128), (dats m 0 c).after 7 t (ix3 (0 : Fin 1) s d : S1x8192x128.Idx) = G (at3 t s d)) :
    (dats m 0 c).arrAt 7 (pcf m).N = G := by
  refine (dats m 0 c).arrAt_eq_of_emb 7 G ?_ fun j => ?_
  · intro t _ (y : S1x8192x128.Idx)
    have hy : (y : S1x8192x128.Idx) = ix3 (0 : Fin 1) (y 1 : Fin 8192) (y 2 : Fin 128) := idx3_eq y
    refine Eq.trans ?_ (congrArg G (at3_of t (y 1 : Fin 8192) (y 2 : Fin 128) _ fun a => hy ▸ ((pcf m).win 7).rect_emb_val t y a rfl).symm)
    exact (congrArg ((dats m 0 c).after 7 t) hy).trans (hG t _ _)
  · obtain ⟨t, ht⟩ := in_block j
    exact ⟨t, flush3 t, (((pcf m).win 7).emb_mem_blk_iff t j).mpr ht⟩
theorem arr8 (G : Buf (Elt F) (((pcf m).win 8).arr.view.loc (c.tc : Thread nD τ)))
    (hG : ∀ (t : Fin (pcf m).N) (s : Fin 8192) (d : Fin 128), (dats m 0 c).after 8 t (ix3 (0 : Fin 1) s d : S1x8192x128.Idx) = G (at3 t s d)) :
    (dats m 0 c).arrAt 8 (pcf m).N = G := by
  refine (dats m 0 c).arrAt_eq_of_emb 8 G ?_ fun j => ?_
  · intro t _ (y : S1x8192x128.Idx)
    have hy : (y : S1x8192x128.Idx) = ix3 (0 : Fin 1) (y 1 : Fin 8192) (y 2 : Fin 128) := idx3_eq y
    refine Eq.trans ?_ (congrArg G (at3_of t (y 1 : Fin 8192) (y 2 : Fin 128) _ fun a => hy ▸ ((pcf m).win 8).rect_emb_val t y a rfl).symm)
    exact (congrArg ((dats m 0 c).after 8 t) hy).trans (hG t _ _)
  · obtain ⟨t, ht⟩ := in_block j
    exact ⟨t, flush3 t, (((pcf m).win 8).emb_mem_blk_iff t j).mpr ht⟩
theorem arr9 (G : Buf (Elt F) (((pcf m).win 9).arr.view.loc (c.tc : Thread nD τ)))
    (hG : ∀ (t : Fin (pcf m).N) (s : Fin 8192) (d : Fin 128), (dats m 0 c).after 9 t (ix3 (0 : Fin 1) s d : S1x8192x128.Idx) = G (at3 t s d)) :
    (dats m 0 c).arrAt 9 (pcf m).N = G := by
  refine (dats m 0 c).arrAt_eq_of_emb 9 G ?_ fun j => ?_
  · intro t _ (y : S1x8192x128.Idx)
    have hy : (y : S1x8192x128.Idx) = ix3 (0 : Fin 1) (y 1 : Fin 8192) (y 2 : Fin 128) := idx3_eq y
    refine Eq.trans ?_ (congrArg G (at3_of t (y 1 : Fin 8192) (y 2 : Fin 128) _ fun a => hy ▸ ((pcf m).win 9).rect_emb_val t y a rfl).symm)
    exact (congrArg ((dats m 0 c).after 9 t) hy).trans (hG t _ _)
  · obtain ⟨t, ht⟩ := in_block j
    exact ⟨t, flush3 t, (((pcf m).win 9).emb_mem_blk_iff t j).mpr ht⟩
theorem arr10 (G : Buf (Elt F) (((pcf m).win 10).arr.view.loc (c.tc : Thread nD τ)))
    (hG : ∀ (t : Fin (pcf m).N) (s : Fin 8192) (d : Fin 128), (dats m 0 c).after 10 t (ix3 (0 : Fin 1) s d : S1x8192x128.Idx) = G (at3 t s d)) :
    (dats m 0 c).arrAt 10 (pcf m).N = G := by
  refine (dats m 0 c).arrAt_eq_of_emb 10 G ?_ fun j => ?_
  · intro t _ (y : S1x8192x128.Idx)
    have hy : (y : S1x8192x128.Idx) = ix3 (0 : Fin 1) (y 1 : Fin 8192) (y 2 : Fin 128) := idx3_eq y
    refine Eq.trans ?_ (congrArg G (at3_of t (y 1 : Fin 8192) (y 2 : Fin 128) _ fun a => hy ▸ ((pcf m).win 10).rect_emb_val t y a rfl).symm)
    exact (congrArg ((dats m 0 c).after 10 t) hy).trans (hG t _ _)
  · obtain ⟨t, ht⟩ := in_block j
    exact ⟨t, flush3 t, (((pcf m).win 10).emb_mem_blk_iff t j).mpr ht⟩
theorem arr11 (G : Buf (Elt F) (((pcf m).win 11).arr.view.loc (c.tc : Thread nD τ)))
    (hG : ∀ (t : Fin (pcf m).N) (s : Fin 8192) (d : Fin 128), (dats m 0 c).after 11 t (ix3 (0 : Fin 1) s d : S1x8192x128.Idx) = G (at3 t s d)) :
    (dats m 0 c).arrAt 11 (pcf m).N = G := by
  refine (dats m 0 c).arrAt_eq_of_emb 11 G ?_ fun j => ?_
  · intro t _ (y : S1x8192x128.Idx)
    have hy : (y : S1x8192x128.Idx) = ix3 (0 : Fin 1) (y 1 : Fin 8192) (y 2 : Fin 128) := idx3_eq y
    refine Eq.trans ?_ (congrArg G (at3_of t (y 1 : Fin 8192) (y 2 : Fin 128) _ fun a => hy ▸ ((pcf m).win 11).rect_emb_val t y a rfl).symm)
    exact (congrArg ((dats m 0 c).after 11 t) hy).trans (hG t _ _)
  · obtain ⟨t, ht⟩ := in_block j
    exact ⟨t, flush3 t, (((pcf m).win 11).emb_mem_blk_iff t j).mpr ht⟩
theorem arr12 (G : Buf (Elt F) (((pcf m).win 12).arr.view.loc (c.tc : Thread nD τ)))
    (hG : ∀ (t : Fin (pcf m).N) (l : Fin 128), (dats m 0 c).after 12 t (ix4 (0 : Fin 1) (0 : Fin 1) (0 : Fin 1) l : S1x1x1x128.Idx) = G (at4 t l)) :
    (dats m 0 c).arrAt 12 (pcf m).N = G := by
  refine (dats m 0 c).arrAt_eq_of_emb 12 G ?_ fun j => ?_
  · intro t _ (y : S1x1x1x128.Idx)
    have hy : (y : S1x1x1x128.Idx) = ix4 (0 : Fin 1) (0 : Fin 1) (0 : Fin 1) (y 3 : Fin 128) := idx4_eq y
    refine Eq.trans ?_ (congrArg G (at4_of t (y 3 : Fin 128) _ fun a => hy ▸ ((pcf m).win 12).rect_emb_val t y a rfl).symm)
    exact (congrArg ((dats m 0 c).after 12 t) hy).trans (hG t _)
  · obtain ⟨t, ht⟩ := in_block4 j
    exact ⟨t, flush4 t, (((pcf m).win 12).emb_mem_blk_iff t j).mpr ht⟩

end Cert.Proof.KernelIdeal
-- ==== Proof.Documents.lean ====
/-
  Documents: when the identifiers never decrease along the sequence, a query's document is the run of positions from its start to the
  query. So "not after the query and of the same identifier" and "between the start and the query" are the same keys.
-/
module

public import proofs.«01_k».proof.Proof.BlockIdeal
public import proofs.«01_k».proof.Proof.HostIdeal

@[expose] public section

noncomputable section

namespace Cert.Proof.Starts

open Idealize.ShloMosaic
open Cert.Proof.KernelIdeal (Lets)

variable (seg : IVec S9x8192 32)

/-- The start of position `s` of a row, as a number. -/
def startN (b : Fin 9) (s : ℕ) : ℕ := if h : s < 8192 then (starts seg (ix2 b (⟨s, h⟩ : Fin 8192))).toNat else 0

theorem startN_spec (b : Fin 9) (q : Fin 8192) : ∃ k : Fin 8192, k ≤ q ∧ Begins seg b k ∧ starts seg (ix2 b q) = BitVec.ofNat 32 k.val
    ∧ startN seg b q.val = k.val ∧ ∀ k' ≤ q, Begins seg b k' → k' ≤ k := by
  obtain ⟨k, h1, h2, h3, h4⟩ := starts_apply seg b q
  refine ⟨k, h1, h2, h3, ?_, h4⟩
  unfold startN
  rw [dif_pos q.isLt]
  refine (congrArg BitVec.toNat h3).trans ?_
  rw [BitVec.toNat_ofNat]
  exact Nat.mod_eq_of_lt (lt_trans k.isLt (by norm_num))

theorem starts_eq (b : Fin 9) (q : Fin 8192) : starts seg (ix2 b q) = BitVec.ofNat 32 (startN seg b q.val) := by
  obtain ⟨k, -, -, h, e, -⟩ := startN_spec seg b q
  rw [e]
  exact h

theorem startN_le (b : Fin 9) (s : ℕ) (hs : s < 8192) : startN seg b s ≤ s := by
  obtain ⟨k, h1, -, -, e, -⟩ := startN_spec seg b ⟨s, hs⟩
  exact e.trans_le h1

theorem startN_mono (b : Fin 9) {p q : Fin 8192} (h : p ≤ q) : startN seg b p.val ≤ startN seg b q.val := by
  obtain ⟨k, h1, h2, -, e, -⟩ := startN_spec seg b p
  obtain ⟨k', -, -, -, e', h4⟩ := startN_spec seg b q
  rw [e, e']
  exact h4 k (h1.trans h) h2

/-- No document begins between `p` and `q`: one identifier. -/
theorem eq_of_no_begin (b : Fin 9) (p : Fin 8192) : ∀ n (h : p.val + n < 8192),
    (∀ k : Fin 8192, p < k → k.val ≤ p.val + n → ¬ Begins seg b k) → seg (ix2 b (⟨p.val + n, h⟩ : Fin 8192)) = seg (ix2 b p)
  | 0, _, _ => rfl
  | n + 1, h, hk => by
    rw [← eq_of_no_begin b p n (by omega) fun k h1 h2 => hk k h1 (by omega)]
    by_contra hne
    exact hk ⟨p.val + (n + 1), h⟩ (Fin.lt_def.mpr (by show p.val < p.val + (n + 1); omega)) le_rfl (.inr ⟨by show p.val + (n + 1) - 1 < 8192; omega, hne⟩)

theorem mono_of (b : Fin 9) (hs : ∀ (k : Fin 8192) (h : k.val + 1 < 8192), (seg (ix2 b k)).toInt ≤ (seg (ix2 b (⟨k.val + 1, h⟩ : Fin 8192))).toInt)
    (p : Fin 8192) : ∀ n (h : p.val + n < 8192), (seg (ix2 b p)).toInt ≤ (seg (ix2 b (⟨p.val + n, h⟩ : Fin 8192))).toInt
  | 0, _ => le_rfl
  | n + 1, h => (mono_of b hs p n (by omega)).trans (hs ⟨p.val + n, by omega⟩ h)

theorem lets_iff (b : Fin 9) (hs : ∀ (k : Fin 8192) (h : k.val + 1 < 8192), (seg (ix2 b k)).toInt ≤ (seg (ix2 b (⟨k.val + 1, h⟩ : Fin 8192))).toInt)
    (q k : Fin 8192) : (k ≤ q ∧ seg (ix2 b q) = seg (ix2 b k)) ↔ Lets (startN seg b) q.val k.val := by
  obtain ⟨z, hz, hb, -, e, hmax⟩ := startN_spec seg b q
  unfold Lets
  rw [e]
  have mono : ∀ p r : Fin 8192, p ≤ r → (seg (ix2 b p)).toInt ≤ (seg (ix2 b r)).toInt := fun p r h => by
    have := mono_of seg b hs p (r.val - p.val) (by have := r.isLt; have : p.val ≤ r.val := h; omega)
    have hr : (⟨p.val + (r.val - p.val), by have := r.isLt; have : p.val ≤ r.val := h; omega⟩ : Fin 8192) = r := Fin.ext (by have : p.val ≤ r.val := h; show p.val + (r.val - p.val) = r.val; omega)
    rwa [hr] at this
  constructor
  · rintro ⟨hkq, hseg⟩
    refine ⟨?_, hkq⟩
    by_contra hlt
    have hlt : k.val < z.val := by omega
    rcases hb with h0 | ⟨h1, hne⟩
    · omega
    · refine hne (BitVec.eq_of_toInt_eq (le_antisymm ?_ (mono _ _ (by show z.val - 1 ≤ z.val; omega))))
      have a1 := mono z q hz
      have a2 := mono k ⟨z.val - 1, h1⟩ (by show k.val ≤ z.val - 1; omega)
      rw [← hseg] at a2
      exact a1.trans a2
  · rintro ⟨hzk, hkq⟩
    have hz' : z.val ≤ q.val := hz
    have all : ∀ r : Fin 8192, z.val ≤ r.val → r.val ≤ q.val → seg (ix2 b r) = seg (ix2 b z) := fun r h1 h2 => by
      have hr : (⟨z.val + (r.val - z.val), by have := r.isLt; omega⟩ : Fin 8192) = r := Fin.ext (by show z.val + (r.val - z.val) = r.val; omega)
      have := eq_of_no_begin seg b z (r.val - z.val) (by have := r.isLt; omega) fun k' h3 h4 hB => by
        have h5 := hmax k' (by show k'.val ≤ q.val; omega) hB
        exact absurd h3 (not_lt.mpr h5)
      rwa [hr] at this
    exact ⟨hkq, (all q hz' le_rfl).trans (all k hzk hkq).symm⟩

end Cert.Proof.Starts

namespace Cert.Proof.KernelIdeal

open Cert.KernelIdeal Cert.KernelIdeal.Gen
open Idealize.ShloMosaic
open Cert.Proof.Starts (startN)

variable (seg : IVec Starts.S9x8192 32)

/-- The table's word at a block of queries: a block of keys before which no query of the block lets a key in. -/
theorem word_spec (i : grid0.Coords) (t : Fin k0_t10_loop.trips) : ∃ w : Fin 32, w.val ≤ t.val
    ∧ word (F := Ideal) (Starts.table seg) i t = BitVec.ofNat 32 w.val
    ∧ ∀ r < 256, ∀ k < 256 * w.val, ¬ Lets (startN seg (i 0 : Fin 9)) (256 * t.val + r) k := by
  have ht : t.val < 32 := by have := t.isLt; have h : k0_t10_loop.trips = 32 := by decide +kernel
                             omega
  obtain ⟨z, hz, hb, e, e'⟩ := Starts.table_apply seg (i 0) ⟨t.val, ht⟩
  have hz : z.val ≤ 256 * t.val := hz
  refine ⟨⟨z.val / 256, by omega⟩, by show z.val / 256 ≤ t.val; omega, ?_, fun r hr k hk hl => ?_⟩
  · rw [word_eq]; exact e'
  · have hk : k < 256 * (z.val / 256) := hk
    have h1 := Starts.startN_mono seg (i 0) (p := (⟨256 * t.val, by omega⟩ : Fin 8192)) (q := ⟨256 * t.val + r, by omega⟩) (by show 256 * t.val ≤ 256 * t.val + r; omega)
    have h2 : startN seg (i 0) (256 * t.val) = z.val := by
      unfold startN
      rw [dif_pos (by omega : 256 * t.val < 8192)]
      refine (congrArg BitVec.toNat e).trans ?_
      rw [BitVec.toNat_ofNat]
      exact Nat.mod_eq_of_lt (lt_trans z.isLt (by norm_num))
    have h3 : startN seg (i 0) (256 * t.val + r) ≤ k := hl.1
    have h1 : startN seg (i 0) (256 * t.val) ≤ startN seg (i 0) (256 * t.val + r) := h1
    omega

end Cert.Proof.KernelIdeal
-- ==== Proof.Within.lean ====
/-
  What the precondition says of the arguments over the extended reals: every element of the four arrays is a real of magnitude at most
  2^40, and the identifiers never decrease along the sequence.
-/
module

public import proofs.«01_k».proof.Pre_within
public import proofs.«01_k».proof.Proof.Documents
public import proofs.«01_k».proof.Proof.Scales

@[expose] public section

set_option maxRecDepth 16384

noncomputable section

namespace Cert.Proof.Within

open Idealize.ShloMosaic
open Cert.Proof (const_two40)

instance facts : Cert.Pre_within.Facts where
  bitsLt_bf16_f32 := by decide
  bcast_S_S9x8192x1024 := by decide
  slices_S9x8192_S9x8191_0_0 := by decide
  slices_S9x8192_S9x8191_0_1 := by decide

/-- The element of head `h` at position `s` and lane `d`, as a real. -/
def valR (x : FVec Ideal Cert.Pre_within.S9x8192x1024 .bf16) (b : Fin 9) (h : Fin 8) (s : ℕ) (d : Fin 128) : ℝ :=
  if hs : s < 8192 then (show EReal from x (ix3 b (⟨s, hs⟩ : Fin 8192) (⟨h.val * 128 + d.val, by omega⟩ : Fin 1024))).toReal else 0

/-- The comparison the precondition makes of one array. -/
def small (x : FVec Ideal Cert.Pre_within.S9x8192x1024 .bf16) : IVec Cert.Pre_within.S9x8192x1024 1 :=
  cmpf .ole (Host.absf ((extf .f32 · (by decide)) x : FVec Ideal Cert.Pre_within.S9x8192x1024 .f32))
    (broadcastInDim Cert.Pre_within.S9x8192x1024 ![] (by decide) (constant Cert.Pre_within.S_ .f32 0x53800000#32))

theorem small_real {v : EReal} (h : Ideal.cmp .ole (max v (-v)) (Ideal.ofBits .f32 0x53800000#32) = 1#1) :
    v = ((v.toReal : ℝ) : EReal) ∧ |v.toReal| ≤ 2 ^ 40 := by
  rw [const_two40] at h
  have h : max v (-v) ≤ (((2 : ℝ) ^ 40 : ℝ) : EReal) := by
    by_contra hn
    have h : BitVec.ofBool (decide (max v (-v) ≤ (((2 : ℝ) ^ 40 : ℝ) : EReal))) = 1#1 := h
    rw [decide_eq_false hn] at h
    exact absurd h (by decide)
  obtain ⟨h1, h2⟩ := max_le_iff.mp h
  have ht : v ≠ ⊤ := fun e => by rw [e] at h1; exact absurd h1 (not_le.mpr (EReal.coe_lt_top _))
  have hb : v ≠ ⊥ := fun e => by rw [e, EReal.neg_bot] at h2; exact absurd h2 (not_le.mpr (EReal.coe_lt_top _))
  have e := EReal.coe_toReal ht hb
  refine ⟨e.symm, abs_le.mpr ⟨?_, ?_⟩⟩
  · rw [← e, ← EReal.coe_neg, EReal.coe_le_coe_iff] at h2; linarith
  · rw [← e, EReal.coe_le_coe_iff] at h1; exact h1

variable {x : FVec Ideal Cert.Pre_within.S9x8192x1024 .bf16} (hx : small x = fun _ => 1#1)
include hx

theorem small_at (j : Cert.Pre_within.S9x8192x1024.Idx) :
    x j = (((show EReal from x j).toReal : ℝ) : EReal) ∧ |(show EReal from x j).toReal| ≤ 2 ^ 40 := by
  refine small_real ?_
  have h := congrFun hx j
  unfold small at h
  exact h

theorem valR_eq (b : Fin 9) (s : Fin 8192) (h : Fin 8) (d : Fin 128) :
    x (ix3 b s (⟨h.val * 128 + d.val, by omega⟩ : Fin 1024)) = (valR x b h s.val d : EReal) := by
  unfold valR
  rw [dif_pos s.isLt]
  exact (small_at hx _).1

theorem valR_le (b : Fin 9) (h : Fin 8) (s : Fin 8192) (d : Fin 128) : |valR x b h s.val d| ≤ 2 ^ 40 := by
  unfold valR
  rw [dif_pos s.isLt]
  exact (small_at hx _).2

omit hx in
theorem sorted_of {seg : IVec Cert.Pre_within.S9x8192 32}
    (h : cmpi .sle (extractStridedSlice Cert.Pre_within.S9x8191 ![0, 0] seg (by decide)) (extractStridedSlice Cert.Pre_within.S9x8191 ![0, 1] seg (by decide)) = fun _ => 1#1)
    (b : Fin 9) (k : Fin 8192) (hk : k.val + 1 < 8192) : (seg (ix2 b k)).toInt ≤ (seg (ix2 b (⟨k.val + 1, hk⟩ : Fin 8192))).toInt := by
  have e := congrFun h (ix2 b (⟨k.val, by omega⟩ : Fin 8191))
  have e1 : extractStridedSlice Cert.Pre_within.S9x8191 ![0, 0] seg (by decide) (ix2 b (⟨k.val, by omega⟩ : Fin 8191)) = seg (ix2 b k) := by
    pointwise
  have e2 : extractStridedSlice Cert.Pre_within.S9x8191 ![0, 1] seg (by decide) (ix2 b (⟨k.val, by omega⟩ : Fin 8191)) = seg (ix2 b (⟨k.val + 1, hk⟩ : Fin 8192)) := by
    pointwise
    exact congrArg (fun n : Fin 8192 => seg (ix2 b n)) (Fin.ext (Nat.add_comm 1 k.val))
  have e : IntOp.cmpi .sle (extractStridedSlice Cert.Pre_within.S9x8191 ![0, 0] seg (by decide) (ix2 b (⟨k.val, by omega⟩ : Fin 8191)))
    (extractStridedSlice Cert.Pre_within.S9x8191 ![0, 1] seg (by decide) (ix2 b (⟨k.val, by omega⟩ : Fin 8191))) = 1#1 := e
  rw [e1, e2] at e
  have e : BitVec.ofBool (BitVec.sle (seg (ix2 b k)) (seg (ix2 b (⟨k.val + 1, hk⟩ : Fin 8192)))) = 1#1 := e
  rw [Starts.ofBool_eq_one, BitVec.sle_iff_toInt_le] at e
  exact e

end Cert.Proof.Within
-- ==== Proof.RefGrad.lean ====
/-
  The reference's gradients over the extended reals: those of attention, head by head.
-/
module

public import proofs.«01_k».proof.Proof.RefStages
public import proofs.«01_k».proof.Proof.BlockIdeal

@[expose] public section

set_option maxRecDepth 16384

noncomputable section

namespace Cert.ReferenceIdeal.Read

open Cert.ReferenceIdeal Cert.ReferenceIdeal.Gen Idealize.ShloMosaic Idealize.ShloMosaic.TcCoe Idealize.ShloMosaic.StableHlo
open Cert.Proof Cert.Proof.KernelIdeal

/-- What one head's codes, scales and mask are. -/
structure Head (x0 x1 x2 : Arr) (x4 : (⟨S9x8192, .i32⟩ : BufTy).Contents (Elt Ideal)) (e0 : FVec Ideal S9x8192x8x128 .f32) (e1 : FVec Ideal S9x8 .f32)
    (b : Fin 9) (h : Fin 8) (Q K V D : ℕ → Fin 128 → ℝ) (qs ks vs dos : ℝ) (start : ℕ → ℕ) : Prop where
  q : ∀ (s : Fin 8192) (d : Fin 128), val_main_v63 (F := Ideal) x0 (ix4 b s h d) = (Q s.val d : EReal)
  k : ∀ (s : Fin 8192) (d : Fin 128), val_main_v94 (F := Ideal) x1 (ix4 b s h d) = (K s.val d : EReal)
  v : ∀ (s : Fin 8192) (d : Fin 128), val_main_v125 (F := Ideal) x2 (ix4 b s h d) = (V s.val d : EReal)
  d : ∀ (s : Fin 8192) (d : Fin 128), e0 (ix4 b s h d) = (D s.val d : EReal)
  qs : val_main_v56 (F := Ideal) x0 (ix2 b h) = (qs : EReal)
  ks : val_main_v87 (F := Ideal) x1 (ix2 b h) = (ks : EReal)
  vs : val_main_v118 (F := Ideal) x2 (ix2 b h) = (vs : EReal)
  dos : e1 (ix2 b h) = (dos : EReal)
  mask : ∀ q k : Fin 8192, val_main_v138 (F := Ideal) x4 (ix3 b q k) = 1#1 ↔ Lets start q.val k.val
  start_le : ∀ s < 8192, start s ≤ s

theorem fold_bot_or_coe {ι : Type} [DecidableEq ι] (f : ι → EReal) (hf : ∀ i, f i = ⊥ ∨ ∃ r : ℝ, f i = (r : EReal)) (s : Finset ι) :
    s.fold max ⊥ f = ⊥ ∨ ∃ r : ℝ, s.fold max ⊥ f = (r : EReal) := by
  induction s using Finset.induction_on with
  | empty => exact .inl rfl
  | insert a s ha ih =>
    rw [Finset.fold_insert ha]
    obtain h1 | ⟨r1, h1⟩ := hf a
    · rw [h1, max_eq_right bot_le]; exact ih
    · obtain h2 | ⟨r2, h2⟩ := ih
      · rw [h2, max_eq_left bot_le]; exact .inr ⟨r1, h1⟩
      · rw [h1, h2, coe_max']; exact .inr ⟨_, rfl⟩

theorem clip_prob (p : ℝ) (h0 : 0 ≤ p) (h1 : p ≤ 1) : min (max ((p : EReal) * Ideal.ofBits .f32 0x43800000#32) (Ideal.ofBits .f32 0xC3E00000#32))
    (Ideal.ofBits .f32 0x43E00000#32) = ((256 * p : ℝ) : EReal) := by
  rw [const_256, const_448, const_neg448, ← EReal.coe_mul, coe_max', coe_min', max_eq_left (by linarith), min_eq_left (by linarith), mul_comm]

section Head

variable {x0 x1 x2 : Arr} {x4 : (⟨S9x8192, .i32⟩ : BufTy).Contents (Elt Ideal)} {e0 : FVec Ideal S9x8192x8x128 .f32} {e1 : FVec Ideal S9x8 .f32}
variable {b : Fin 9} {h : Fin 8} {Q K V D : ℕ → Fin 128 → ℝ} {qs ks vs dos : ℝ} {start : ℕ → ℕ}
variable (H : Head x0 x1 x2 x4 e0 e1 b h Q K V D qs ks vs dos start)

include H

theorem score_eq (q k : Fin 8192) : val_main_v145 (F := Ideal) x0 x1 (ix4 b h q k) = ((Attn.sc Q K (qs * ks * rootInv)) q.val k.val : EReal) := by
  rw [v145_at, v139_at, H.qs, H.ks, const_rootInv]
  simp only [H.q, H.k, ← EReal.coe_mul, ← coe_sum]
  unfold Attn.sc
  simp only [mul_comm (K _ _)]

theorem masked_score_eq (q k : Fin 8192) : val_main_v148 (F := Ideal) x0 x1 x4 (ix4 b h q k) = Attn.msc ((Attn.sc Q K (qs * ks * rootInv)) q.val) (Lets start q.val) k.val := by
  rw [v148_at, score_eq H, const_bot]
  unfold Scalar.select Attn.msc
  by_cases hm : Lets start q.val k.val
  · rw [if_pos hm]; exact if_pos ((H.mask q k).mpr hm)
  · rw [if_neg hm]; exact if_neg fun hc => hm ((H.mask q k).mp hc)

theorem max_eq (q : Fin 8192) : ∃ r : ℝ, val_main_v149 (F := Ideal) x0 x1 x4 (ix3 b h q) = (r : EReal) := by
  rw [v149_at, const_bot]
  simp only [masked_score_eq H]
  obtain h1 | h1 := fold_bot_or_coe (fun k : Fin 8192 => Attn.msc ((Attn.sc Q K (qs * ks * rootInv)) q.val) (Lets start q.val) k.val) (fun k => by
    show Attn.msc ((Attn.sc Q K (qs * ks * rootInv)) q.val) (Lets start q.val) k.val = ⊥ ∨ ∃ r : ℝ, Attn.msc ((Attn.sc Q K (qs * ks * rootInv)) q.val) (Lets start q.val) k.val = (r : EReal)
    unfold Attn.msc
    split
    · exact .inr ⟨_, rfl⟩
    · exact .inl rfl) Finset.univ
  · exfalso
    have h2 := ((Finset.fold_max_le _).mp h1.le).2 q (Finset.mem_univ _)
    unfold Attn.msc at h2
    rw [if_pos ⟨H.start_le _ q.isLt, le_rfl⟩] at h2
    exact EReal.coe_ne_bot _ (le_bot_iff.mp h2)
  · exact h1

omit H in
theorem wt_nonneg (s : ℕ → ℝ) (M : ℕ → Prop) [DecidablePred M] (k : ℕ) : 0 ≤ Attn.wt s M k := by
  unfold Attn.wt
  split
  · exact (Real.exp_pos _).le
  · exact le_rfl

omit H in
theorem wt_le_norm (q k : ℕ) (hk : k < 8192) : Attn.wt ((Attn.sc Q K (qs * ks * rootInv)) q) (Lets start q) k ≤ (Attn.norm Q K (qs * ks * rootInv) (Lets start)) q :=
  Finset.single_le_sum (f := fun k => Attn.wt ((Attn.sc Q K (qs * ks * rootInv)) q) (Lets start q) k) (fun _ _ => wt_nonneg _ _ _) (Finset.mem_range.mpr hk)

theorem norm_pos (q : Fin 8192) : 0 < (Attn.norm Q K (qs * ks * rootInv) (Lets start)) q.val := by
  refine lt_of_lt_of_le ?_ (wt_le_norm q.val q.val q.isLt)
  unfold Attn.wt
  rw [if_pos ⟨H.start_le _ q.isLt, le_rfl⟩]
  exact Real.exp_pos _

theorem prob_nonneg (q k : Fin 8192) : 0 ≤ (Attn.prob Q K (qs * ks * rootInv) (Lets start)) q.val k.val := div_nonneg (wt_nonneg _ _ _) (norm_pos H q).le
theorem prob_le_one (q k : Fin 8192) : (Attn.prob Q K (qs * ks * rootInv) (Lets start)) q.val k.val ≤ 1 := (div_le_one (norm_pos H q)).mpr (wt_le_norm q.val k.val k.isLt)

theorem sum_eq (q : Fin 8192) (r : ℝ) (hr : val_main_v149 (F := Ideal) x0 x1 x4 (ix3 b h q) = (r : EReal)) :
    val_main_v154 (F := Ideal) x0 x1 x4 (ix3 b h q) = (((Attn.norm Q K (qs * ks * rootInv) (Lets start)) q.val * Real.exp (-r) : ℝ) : EReal) := by
  rw [v154_at]
  simp only [v153_at, hr, masked_score_eq H, Attn.exp_msc, ← coe_sum]
  rw [← Finset.sum_mul]
  unfold Attn.norm
  rw [Finset.sum_range]

/-- Both passes' probabilities are the softmax's. -/
theorem prob1_eq (q k : Fin 8192) : val_main_v157 (F := Ideal) x0 x1 x4 (ix4 b h q k) = ((Attn.prob Q K (qs * ks * rootInv) (Lets start)) q.val k.val : EReal) := by
  obtain ⟨r, hr⟩ := max_eq H q
  have hn := norm_pos H q
  rw [v157_at, v153_at, hr, masked_score_eq H, Attn.exp_msc, sum_eq H q r hr, Ideal.div_coe (mul_pos hn (Real.exp_pos _)).ne', ← EReal.coe_mul]
  refine congrArg (fun r : ℝ => (r : EReal)) ?_
  unfold Attn.prob
  have := (Real.exp_pos (-r)).ne'
  field_simp
theorem prob2_eq (q k : Fin 8192) : val_main_v197 (F := Ideal) x0 x1 x4 (ix4 b h q k) = ((Attn.prob Q K (qs * ks * rootInv) (Lets start)) q.val k.val : EReal) := by
  obtain ⟨r, hr⟩ := max_eq H q
  have hn := norm_pos H q
  have hl : (r : EReal) + Ideal.log (((Attn.norm Q K (qs * ks * rootInv) (Lets start)) q.val * Real.exp (-r) : ℝ) : EReal) = ((Real.log ((Attn.norm Q K (qs * ks * rootInv) (Lets start)) q.val) : ℝ) : EReal) := by
    rw [Ideal.log_coe, if_neg (mul_pos hn (Real.exp_pos _)).not_ge, ← EReal.coe_add, Real.log_mul hn.ne' (Real.exp_pos _).ne', Real.log_exp]
    refine congrArg (fun r : ℝ => (r : EReal)) ?_
    ring
  rw [v197_at, hr, sum_eq H q r hr, masked_score_eq H, hl, Attn.exp_msc, Real.exp_neg, Real.exp_log hn]
  rfl

theorem clipped1_eq (q k : Fin 8192) : val_main_v165 (F := Ideal) x0 x1 x4 (ix4 b h q k) = ((256 * (Attn.prob Q K (qs * ks * rootInv) (Lets start)) q.val k.val : ℝ) : EReal) := by
  rw [v165_at, prob1_eq H, clip_prob _ (prob_nonneg H q k) (prob_le_one H q k)]
theorem clipped2_eq (q k : Fin 8192) : val_main_v203 (F := Ideal) x0 x1 x4 (ix4 b h q k) = ((256 * (Attn.prob Q K (qs * ks * rootInv) (Lets start)) q.val k.val : ℝ) : EReal) := by
  rw [v203_at, prob2_eq H, clip_prob _ (prob_nonneg H q k) (prob_le_one H q k)]

theorem out_eq (q : Fin 8192) (d : Fin 128) : val_main_v166 (F := Ideal) x0 x1 x2 x4 (ix4 b h q d) = (Attn.out Q K V (qs * ks * rootInv) (Lets start) q.val d : EReal) := by
  rw [v166_at]
  simp only [clipped1_eq H, H.v, ← EReal.coe_mul, ← coe_sum]
  unfold Attn.out
  rw [Finset.sum_range]

theorem delta_eq (q : Fin 8192) : val_main_v177 (F := Ideal) x0 x1 x2 x4 e0 e1 (ix3 b h q) = ((Attn.delta Q K V D (qs * ks * rootInv) (Lets start) q.val * (dos * vs) : ℝ) : EReal) := by
  rw [v177_at]
  simp only [v176_at, out_eq H, H.d, H.dos, H.vs, const_256inv, ← EReal.coe_mul, ← coe_sum]
  refine congrArg (fun r : ℝ => (r : EReal)) ?_
  unfold Attn.delta
  rw [Finset.sum_mul, Finset.sum_mul]
  exact Finset.sum_congr rfl fun d _ => by ring

theorem diff_eq (q k : Fin 8192) : val_main_v185 (F := Ideal) x0 x1 x2 x4 e0 e1 (ix4 b h q k)
    = (((∑ d, V k.val d * D q.val d - Attn.delta Q K V D (qs * ks * rootInv) (Lets start) q.val) * (dos * vs) : ℝ) : EReal) := by
  rw [v185_at, v179_at, delta_eq H, H.dos, H.vs]
  simp only [H.d, H.v, ← EReal.coe_mul, ← coe_sum, ← EReal.coe_sub]
  rw [sub_mul]
  simp only [mul_comm (D _ _)]

theorem ds1_eq (q k : Fin 8192) : val_main_v188 (F := Ideal) x0 x1 x2 x4 e0 e1 (ix4 b h q k) = (((Attn.grad Q K V D (qs * ks * rootInv) (Lets start)) q.val k.val * (256⁻¹ * (dos * vs)) : ℝ) : EReal) := by
  rw [v188_at, prob1_eq H, diff_eq H, ← EReal.coe_mul]
  refine congrArg (fun r : ℝ => (r : EReal)) ?_
  unfold Attn.grad
  ring
theorem ds2_eq (q k : Fin 8192) : val_main_v208 (F := Ideal) x0 x1 x2 x4 e0 e1 (ix4 b h q k) = (((Attn.grad Q K V D (qs * ks * rootInv) (Lets start)) q.val k.val * (256⁻¹ * (dos * vs)) : ℝ) : EReal) := by
  rw [v208_at, v205_eq, prob2_eq H, diff_eq H, ← EReal.coe_mul]
  refine congrArg (fun r : ℝ => (r : EReal)) ?_
  unfold Attn.grad
  ring

theorem dq_eq (q : Fin 8192) (d : Fin 128) : val_main_v194 (F := Ideal) x0 x1 x2 x4 e0 e1 (ix4 b h q d)
    = ((Attn.dq Q K V D (qs * ks * rootInv) (Lets start) q.val d * (ks * rootInv * (dos * vs) * 256⁻¹) : ℝ) : EReal) := by
  rw [v194_at, v189_at, H.ks, const_rootInv]
  simp only [ds1_eq H, H.k, ← EReal.coe_mul, ← coe_sum]
  refine congrArg (fun r : ℝ => (r : EReal)) ?_
  unfold Attn.dq
  rw [Finset.sum_range, Finset.sum_mul, Finset.sum_mul]
  exact Finset.sum_congr rfl fun k _ => by ring
theorem dk_eq (k : Fin 8192) (d : Fin 128) : val_main_v220 (F := Ideal) x0 x1 x2 x4 e0 e1 (ix4 b h k d)
    = ((Attn.dk Q K V D (qs * ks * rootInv) (Lets start) k.val d * (qs * rootInv * (dos * vs) * 256⁻¹) : ℝ) : EReal) := by
  rw [v220_at, v215_at, H.qs, const_rootInv]
  simp only [ds2_eq H, H.q, ← EReal.coe_mul, ← coe_sum]
  refine congrArg (fun r : ℝ => (r : EReal)) ?_
  unfold Attn.dk
  rw [Finset.sum_range, Finset.sum_mul, Finset.sum_mul]
  exact Finset.sum_congr rfl fun q _ => by ring
theorem dv_eq (k : Fin 8192) (d : Fin 128) : val_main_v214 (F := Ideal) x0 x1 x4 e0 e1 (ix4 b h k d)
    = ((Attn.dv Q K D (qs * ks * rootInv) (Lets start) k.val d * (256⁻¹ * dos) : ℝ) : EReal) := by
  rw [v214_at, H.dos, const_256inv]
  simp only [clipped2_eq H, H.d, ← EReal.coe_mul, ← coe_sum]
  refine congrArg (fun r : ℝ => (r : EReal)) ?_
  unfold Attn.dv
  rw [Finset.sum_range]

end Head

end Cert.ReferenceIdeal.Read

end
-- ==== Proof.Agree.lean ====
/-
  The kernel's eight results are the reference's, array by array, for arguments the precondition admits.
-/
module

public import proofs.«01_k».proof.Proof.ArraysIdeal
public import proofs.«01_k».proof.Proof.Within
public import proofs.«01_k».proof.Proof.RefGrad
public import proofs.«01_k».proof.Proof.RefDoc

@[expose] public section

set_option maxRecDepth 16384

noncomputable section

namespace Cert.Proof.Agree

open Idealize.ShloMosaic Idealize.ShloMosaic.TcCoe Idealize.ShloMosaic.Pipeline
open Cert.ReferenceIdeal.Read
open Cert.Proof.KernelIdeal
open Cert.Proof.Within
open Cert.Proof.Starts (startN)

/-- A key is let in by the reference's mask when it lies between the query's document's start and the query. -/
theorem mask_iff (seg : IVec Starts.S9x8192 32) (b : Fin 9)
    (hs : ∀ (k : Fin 8192) (h : k.val + 1 < 8192), (seg (ix2 b k)).toInt ≤ (seg (ix2 b (⟨k.val + 1, h⟩ : Fin 8192))).toInt)
    (q k : Fin 8192) : val_main_v138 (F := Ideal) seg (ix3 b q k) = 1#1 ↔ Lets (startN seg b) q.val k.val := by
  rw [v138_at, ← Starts.lets_iff seg b hs q k]
  have e1 : IntOp.cmpi .sle (BitVec.ofNat 32 k.val) (BitVec.ofNat 32 q.val) = BitVec.ofBool (decide (k ≤ q)) := by
    show BitVec.ofBool (BitVec.sle _ _) = _
    rw [BitVec.sle_eq_decide, Starts.toInt_ofNat _ k.isLt, Starts.toInt_ofNat _ q.isLt]
    exact congrArg BitVec.ofBool (decide_eq_decide.mpr (by rw [Int.ofNat_le]; exact Iff.rfl))
  have e2 : IntOp.cmpi .eq (seg (ix2 b q)) (seg (ix2 b k)) = BitVec.ofBool (decide (seg (ix2 b q) = seg (ix2 b k))) := by
    show BitVec.ofBool (_ == _) = _
    exact congrArg BitVec.ofBool (beq_eq_decide _ _)
  rw [e1, e2]
  by_cases h1 : k ≤ q <;> by_cases h2 : seg (ix2 b q) = seg (ix2 b k) <;> simp only [h1, h2, decide_true, decide_false, and_self, and_true, true_and, and_false, false_and, iff_true, iff_false] <;> decide

section Reference

variable {x0 x1 x2 x3 : Arr} {seg : IVec Starts.S9x8192 32}
variable (h0 : small x0 = fun _ => 1#1) (h1 : small x1 = fun _ => 1#1) (h2 : small x2 = fun _ => 1#1) (h3 : small x3 = fun _ => 1#1)
variable (hs : ∀ (b : Fin 9) (k : Fin 8192) (h : k.val + 1 < 8192), (seg (ix2 b k)).toInt ≤ (seg (ix2 b (⟨k.val + 1, h⟩ : Fin 8192))).toInt)
include h0 h1 h2 h3 hs

/-- The reference's codes, scales and mask of one batch and head. -/
theorem headOf (b : Fin 9) (h : Fin 8) : Head x0 x1 x2 seg (codeT 0x37924925#32 0xC7600000#32 0x47600000#32 x3) (scaleT 0x37924925#32 x3) b h
    (qR (valR x0 b h)) (qR (valR x1 b h)) (qR (valR x2 b h)) (dR (valR x3 b h))
    (scaleF inv448 (valR x0 b h)) (scaleF inv448 (valR x1 b h)) (scaleF inv448 (valR x2 b h)) (scaleF inv57344 (valR x3 b h)) (startN seg b) where
  q s d := by rw [v63_eq]; exact codeT_eq (valR_eq h0) (valR_le h0) _ _ _ const_inv448 inv448_pos inv448_le const_neg448 const_448 b s h d
  k s d := by rw [v94_eq]; exact codeT_eq (valR_eq h1) (valR_le h1) _ _ _ const_inv448 inv448_pos inv448_le const_neg448 const_448 b s h d
  v s d := by rw [v125_eq]; exact codeT_eq (valR_eq h2) (valR_le h2) _ _ _ const_inv448 inv448_pos inv448_le const_neg448 const_448 b s h d
  d s d := codeT_eq (valR_eq h3) (valR_le h3) _ _ _ const_inv57344 inv57344_pos inv57344_le const_neg57344 const_57344 b s h d
  qs := by rw [v56_eq]; exact scaleT_eq (valR_eq h0) (valR_le h0) _ const_inv448 inv448_pos inv448_le b h
  ks := by rw [v87_eq]; exact scaleT_eq (valR_eq h1) (valR_le h1) _ const_inv448 inv448_pos inv448_le b h
  vs := by rw [v118_eq]; exact scaleT_eq (valR_eq h2) (valR_le h2) _ const_inv448 inv448_pos inv448_le b h
  dos := scaleT_eq (valR_eq h3) (valR_le h3) _ const_inv57344 inv57344_pos inv57344_le b h
  mask q k := mask_iff seg b (hs b) q k
  start_le := Starts.startN_le seg b

/-- The reference's row of scales. -/
theorem scales_at (b : Fin 9) (h : Fin 8) (l : Fin 128) : val_main_v239 (F := Ideal) x0 x1 x2 (scaleT 0x37924925#32 x3) (ix4 b h (0 : Fin 1) l)
    = ((if l.val = 0 then scaleF inv448 (valR x0 b h) else if l.val = 1 then scaleF inv448 (valR x1 b h) else if l.val = 2 then scaleF inv448 (valR x2 b h)
        else scaleF inv57344 (valR x3 b h) : ℝ) : EReal) := by
  have H := headOf h0 h1 h2 h3 hs b h
  refine (v239_at _ _ _ _ b h l).trans ?_
  rw [H.qs, H.ks, H.vs, H.dos]
  have lane : ∀ n : ℕ, n < 128 → ∀ a z : EReal, Scalar.select (IntOp.cmpi .eq (BitVec.ofNat 32 l.val) (BitVec.ofNat 32 n)) a z = if l.val = n then a else z := fun n hn a z => by
    have e : IntOp.cmpi .eq (BitVec.ofNat 32 l.val) (BitVec.ofNat 32 n) = BitVec.ofBool (decide (l.val = n)) := by
      show BitVec.ofBool (_ == _) = _
      refine congrArg BitVec.ofBool ((beq_eq_decide _ _).trans (decide_eq_decide.mpr ⟨fun h => ?_, fun h => congrArg _ h⟩))
      have h := congrArg BitVec.toNat h
      rw [BitVec.toNat_ofNat, BitVec.toNat_ofNat, Nat.mod_eq_of_lt (lt_trans l.isLt (by norm_num)), Nat.mod_eq_of_lt (lt_trans hn (by norm_num))] at h
      exact h
    rw [e]
    by_cases h : l.val = n
    · rw [if_pos h, decide_eq_true h]; rfl
    · rw [if_neg h, decide_eq_false h]; rfl
  rw [lane 0 (by norm_num), lane 1 (by norm_num), lane 2 (by norm_num)]
  split_ifs <;> rfl

end Reference

section Kernel

variable (m : (ℓ : Loc Cert.KernelIdeal.nD Cert.KernelIdeal.τ Cert.KernelIdeal.sig) → Buf (Elt Ideal) ℓ) (c : Dev Cert.KernelIdeal.nD)

/-- The arguments' arrays. -/
abbrev a0 : Arr := m (c, Proc.devRef .tc Cert.KernelIdeal.main_arg0)
abbrev a1 : Arr := m (c, Proc.devRef .tc Cert.KernelIdeal.main_arg1)
abbrev a2 : Arr := m (c, Proc.devRef .tc Cert.KernelIdeal.main_arg2)
abbrev a3 : Arr := m (c, Proc.devRef .tc Cert.KernelIdeal.main_arg3)

variable (h0 : small (a0 m c) = fun _ => 1#1) (h1 : small (a1 m c) = fun _ => 1#1) (h2 : small (a2 m c) = fun _ => 1#1) (h3 : small (a3 m c) = fun _ => 1#1)
variable (hs : ∀ (b : Fin 9) (k : Fin 8192) (h : k.val + 1 < 8192), (segs m c (ix2 b k)).toInt ≤ (segs m c (ix2 b (⟨k.val + 1, h⟩ : Fin 8192))).toInt)
include h0 h1 h2 h3

theorem blocksOf (t : Fin (pcf m).N) : Blocks (xB m c t) (kB m c t) (vB m c t) (dB m c t) (sB m c t) (Starts.table (segs m c)) (pt m t)
    (valR (a0 m c) (bat t) (head t)) (valR (a1 m c) (bat t) (head t)) (valR (a2 m c) (bat t) (head t)) (valR (a3 m c) (bat t) (head t)) (startN (segs m c) (bat t)) where
  x s d := (xB_at m c t s d).trans (valR_eq h0 _ _ _ _)
  k s d := (kB_at m c t s d).trans (valR_eq h1 _ _ _ _)
  v s d := (vB_at m c t s d).trans (valR_eq h2 _ _ _ _)
  d s d := (dB_at m c t s d).trans (valR_eq h3 _ _ _ _)
  bx := valR_le h0 _ _
  bk := valR_le h1 _ _
  bv := valR_le h2 _ _
  bd := valR_le h3 _ _
  st s := (sB_at m c t s).trans (Starts.starts_eq (segs m c) (bat t) s)
  start_le := Starts.startN_le (segs m c) (bat t)
  word := word_spec (segs m c) (pt m t)

theorem doc_eq (G : Buf (Elt Ideal) (((pcf m).win 11).arr.view.loc (c.tc : Thread Cert.KernelIdeal.nD Cert.KernelIdeal.τ)))
    (hG : ∀ (b : Fin 9) (s : Fin 8192) (h : Fin 8) (d : Fin 128), (G (ix3 b s (⟨h.val * 128 + d.val, lane_lt h d⟩ : Fin 1024)) : EReal) =
      codeT 0x37924925#32 0xC7600000#32 0x47600000#32 (a3 m c) (ix4 b s h d)) : (dats m 0 c).arrAt 11 (pcf m).N = G :=
  arr11 m c G fun t s d => by
    have B := blocksOf m c h0 h1 h2 h3 t
    refine Eq.trans ?_ (hG (bat t) s (head t) d).symm
    exact (dCode_at B.d B.bd s d).trans
      (codeT_eq (valR_eq h3) (valR_le h3) _ _ _ const_inv57344 inv57344_pos inv57344_le const_neg57344 const_57344 (bat t) s (head t) d).symm

theorem qc_eq : (dats m 0 c).arrAt 8 (pcf m).N = val_main_v250 (F := Ideal) (a0 m c) :=
  arr8 m c _ fun t s d => by
    have B := blocksOf m c h0 h1 h2 h3 t
    refine Eq.trans ?_ (v250_at (a0 m c) (bat t) (head t) s d).symm
    rw [v63_eq]
    exact (xCode_at B.x B.bx s d).trans
      (codeT_eq (valR_eq h0) (valR_le h0) _ _ _ const_inv448 inv448_pos inv448_le const_neg448 const_448 (bat t) s (head t) d).symm
theorem kc_eq : (dats m 0 c).arrAt 9 (pcf m).N = val_main_v252 (F := Ideal) (a1 m c) :=
  arr9 m c _ fun t s d => by
    have B := blocksOf m c h0 h1 h2 h3 t
    refine Eq.trans ?_ (v252_at (a1 m c) (bat t) (head t) s d).symm
    rw [v94_eq]
    exact (xCode_at B.k B.bk s d).trans
      (codeT_eq (valR_eq h1) (valR_le h1) _ _ _ const_inv448 inv448_pos inv448_le const_neg448 const_448 (bat t) s (head t) d).symm
theorem vc_eq : (dats m 0 c).arrAt 10 (pcf m).N = val_main_v254 (F := Ideal) (a2 m c) :=
  arr10 m c _ fun t s d => by
    have B := blocksOf m c h0 h1 h2 h3 t
    refine Eq.trans ?_ (v254_at (a2 m c) (bat t) (head t) s d).symm
    rw [v125_eq]
    exact (xCode_at B.v B.bv s d).trans
      (codeT_eq (valR_eq h2) (valR_le h2) _ _ _ const_inv448 inv448_pos inv448_le const_neg448 const_448 (bat t) s (head t) d).symm

include hs

theorem sc_eq : (dats m 0 c).arrAt 12 (pcf m).N = val_main_v239 (F := Ideal) (a0 m c) (a1 m c) (a2 m c) (scaleT 0x37924925#32 (a3 m c)) :=
  arr12 m c _ fun t l => (scaleRow_at (blocksOf m c h0 h1 h2 h3 t) l).trans (scales_at h0 h1 h2 h3 hs (bat t) (head t) l).symm

theorem dq_arr : (dats m 0 c).arrAt 5 (pcf m).N = val_main_v242 (F := Ideal) (a0 m c) (a1 m c) (a2 m c) (segs m c)
    (codeT 0x37924925#32 0xC7600000#32 0x47600000#32 (a3 m c)) (scaleT 0x37924925#32 (a3 m c)) :=
  arr5 m c _ fun t s d => by
    refine Eq.trans ?_ (v242_at _ _ _ _ _ _ (bat t) (head t) s d).symm
    refine Eq.trans ?_ (dq_eq (headOf h0 h1 h2 h3 hs (bat t) (head t)) s d).symm
    exact dqOut_at (word_ok m c (pt m t)) (blocksOf m c h0 h1 h2 h3 t) s d
theorem dk_arr : (dats m 0 c).arrAt 6 (pcf m).N = val_main_v245 (F := Ideal) (a0 m c) (a1 m c) (a2 m c) (segs m c)
    (codeT 0x37924925#32 0xC7600000#32 0x47600000#32 (a3 m c)) (scaleT 0x37924925#32 (a3 m c)) :=
  arr6 m c _ fun t s d => by
    refine Eq.trans ?_ (v245_at _ _ _ _ _ _ (bat t) (head t) s d).symm
    refine Eq.trans ?_ (dk_eq (headOf h0 h1 h2 h3 hs (bat t) (head t)) s d).symm
    exact dkOut_at (word_ok m c (pt m t)) (blocksOf m c h0 h1 h2 h3 t) s d
theorem dv_arr : (dats m 0 c).arrAt 7 (pcf m).N = val_main_v248 (F := Ideal) (a0 m c) (a1 m c) (segs m c)
    (codeT 0x37924925#32 0xC7600000#32 0x47600000#32 (a3 m c)) (scaleT 0x37924925#32 (a3 m c)) :=
  arr7 m c _ fun t s d => by
    refine Eq.trans ?_ (v248_at _ _ _ _ _ (bat t) (head t) s d).symm
    refine Eq.trans ?_ (dv_eq (headOf h0 h1 h2 h3 hs (bat t) (head t)) s d).symm
    exact dvOut_at (word_ok m c (pt m t)) (blocksOf m c h0 h1 h2 h3 t) s d

end Kernel

end Cert.Proof.Agree
-- ==== Proof.lean ====
/-
  The proof of the claims: each program's run, proved in Proof/Launch.lean, Proof/LaunchIdeal.lean and Proof/RefRun.lean, and the
  agreement of the results, proved in Proof/Agree.lean.
-/
module

public import proofs.«01_k».proof.Defs
public import proofs.«01_k».proof.Proof.Gen.Kernel
public import proofs.«01_k».proof.Proof.Gen.KernelIdeal
public import proofs.«01_k».proof.Proof.Launch
public import proofs.«01_k».proof.Proof.LaunchIdeal
public import proofs.«01_k».proof.Proof.Gen.ReferenceIdeal.Read
public import proofs.«01_k».proof.Proof.RefRun
public import proofs.«01_k».proof.Proof.Agree

@[expose] public section

set_option maxRecDepth 16384

noncomputable section

namespace Cert.Proof

open Idealize.ShloMosaic Idealize.ShloMosaic.TcCoe Idealize.SL.Sem

theorem algebraic : Cert.algebraic_KernelIdeal_ReferenceIdeal_pre_within := by
  intro m g m' g' hp ha
  have p0 : ∀ c, Within.small (Agree.a0 m c) = fun _ => 1#1 := fun c => (hp c).1
  have p1 : ∀ c, Within.small (Agree.a1 m c) = fun _ => 1#1 := fun c => (hp c).2.1
  have p2 : ∀ c, Within.small (Agree.a2 m c) = fun _ => 1#1 := fun c => (hp c).2.2.1
  have p3 : ∀ c, Within.small (Agree.a3 m c) = fun _ => 1#1 := fun c => (hp c).2.2.2.1
  have ps : ∀ c (b : Fin 9) (k : Fin 8192) (h : k.val + 1 < 8192), (KernelIdeal.segs m c (ix2 b k)).toInt ≤ (KernelIdeal.segs m c (ix2 b (⟨k.val + 1, h⟩ : Fin 8192))).toInt :=
    fun c => Within.sorted_of (hp c).2.2.2.2
  refine ⟨fun c => (KernelIdeal.dats m 0 c).arrAt 5 (KernelIdeal.pcf m).N, fun c => (KernelIdeal.dats m 0 c).arrAt 6 (KernelIdeal.pcf m).N, fun c => (KernelIdeal.dats m 0 c).arrAt 7 (KernelIdeal.pcf m).N,
    fun c => (KernelIdeal.dats m 0 c).arrAt 8 (KernelIdeal.pcf m).N, fun c => (KernelIdeal.dats m 0 c).arrAt 9 (KernelIdeal.pcf m).N, fun c => (KernelIdeal.dats m 0 c).arrAt 10 (KernelIdeal.pcf m).N,
    fun c => (KernelIdeal.dats m 0 c).arrAt 11 (KernelIdeal.pcf m).N, fun c => (KernelIdeal.dats m 0 c).arrAt 12 (KernelIdeal.pcf m).N, ?_, ?_⟩
  · exact (θ_run _ _ _).mono (fun _ h c => ⟨(h.1 c).1 5, (h.1 c).1 6, (h.1 c).1 7, (h.1 c).1 8, (h.1 c).1 9, (h.1 c).1 10, (h.1 c).1 11, (h.1 c).1 12, (h.1 c).2⟩)
      (KernelIdeal.run (F := Ideal) m g)
  · refine (θ_run _ _ _).mono (fun r h c => ?_) (Cert.ReferenceIdeal.Read.run m' g')
    obtain ⟨h0, h1, h2, h3, h4, h5, h6, h7, hr⟩ := h c
    obtain ⟨e0, e1, e2, e3, e4⟩ := ha c
    have hd := Agree.doc_eq m c (p0 c) (p1 c) (p2 c) (p3 c) (Cert.ReferenceIdeal.Value.reg_main_v32 m' c) fun b s h d =>
      (Cert.ReferenceIdeal.Read.v32_at m' c b s h d).trans (congrArg (fun x => Cert.ReferenceIdeal.Read.docT x (ix4 b s h d)) e3)
    rw [e0, e1, e2, e3, e4] at h0 h1
    rw [e0, e1, e3, e4] at h2
    rw [e0] at h3
    rw [e1] at h4
    rw [e2] at h5
    rw [e0, e1, e2, e3] at h7
    exact ⟨h0.trans (Agree.dq_arr m c (p0 c) (p1 c) (p2 c) (p3 c) (ps c)).symm,
      h1.trans (Agree.dk_arr m c (p0 c) (p1 c) (p2 c) (p3 c) (ps c)).symm,
      h2.trans (Agree.dv_arr m c (p0 c) (p1 c) (p2 c) (p3 c) (ps c)).symm,
      h3.trans (Agree.qc_eq m c (p0 c) (p1 c) (p2 c) (p3 c)).symm,
      h4.trans (Agree.kc_eq m c (p0 c) (p1 c) (p2 c) (p3 c)).symm,
      h5.trans (Agree.vc_eq m c (p0 c) (p1 c) (p2 c) (p3 c)).symm,
      h6.trans hd.symm,
      h7.trans (Agree.sc_eq m c (p0 c) (p1 c) (p2 c) (p3 c) (ps c)).symm, hr⟩

theorem claim : Cert.Claim := ⟨Cert.Kernel.Gen.facts, Cert.KernelIdeal.Gen.facts, Cert.ReferenceIdeal.Gen.facts, Within.facts,
  fun m g _ => (θ_run _ _ _).mono (fun _ h => ⟨fun c => (h.1 c).2, h.2⟩) (Cert.Proof.Kernel.run (F := Bits) m g),
  fun m g _ => (θ_run _ _ _).mono (fun _ h => ⟨fun c => (h.1 c).2, h.2⟩) (Cert.Proof.KernelIdeal.run (F := Ideal) m g),
  fun m g _ => (θ_run _ _ _).mono (fun _ h => ⟨fun c => (h.1 c).2, h.2⟩) (Cert.Proof.KernelIdeal.run (F := Ideal) m g),
  fun m g _ => Cert.ReferenceIdeal.Gen.frame m g,
  fun m g _ => Cert.ReferenceIdeal.Gen.frame m g,
  trivial,
  algebraic⟩

end Cert.Proof

end
